-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2 = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def preserves_Gla_GlaIdeal : Prop :=
  IdealRules.named_const.Statement Cert.GlaIdeal.κ "log2_e" .f32 0x3FB8AA3B#32 (((Real.log 2)⁻¹ : ℝ) : EReal)

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)) →
    ∃ (v0 : (c : Dev Cert.GlaIdeal.nD) → Buf (Elt Ideal) ((c.tc : Thread Cert.GlaIdeal.nD Cert.GlaIdeal.τ).loc Cert.GlaIdeal.main_v10_0)) (v1 : (c : Dev Cert.GlaIdeal.nD) → Buf (Elt Ideal) ((c.tc : Thread Cert.GlaIdeal.nD Cert.GlaIdeal.τ).loc Cert.GlaIdeal.main_v10_1)) (v2 : (c : Dev Cert.GlaIdeal.nD) → Buf (Elt Ideal) ((c.tc : Thread Cert.GlaIdeal.nD Cert.GlaIdeal.τ).loc Cert.GlaIdeal.main_v10_2)) (v3 : (c : Dev Cert.GlaIdeal.nD) → Buf (Elt Ideal) ((c.tc : Thread Cert.GlaIdeal.nD Cert.GlaIdeal.τ).loc Cert.GlaIdeal.main_v10_3)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v10_0) = v0 c
          ∧ r.2.mem ((c.tc : Thread Cert.GlaIdeal.nD Cert.GlaIdeal.τ).loc Cert.GlaIdeal.main_v10_1) = v1 c
          ∧ r.2.mem ((c.tc : Thread Cert.GlaIdeal.nD Cert.GlaIdeal.τ).loc Cert.GlaIdeal.main_v10_2) = v2 c
          ∧ r.2.mem ((c.tc : Thread Cert.GlaIdeal.nD Cert.GlaIdeal.τ).loc Cert.GlaIdeal.main_v10_3) = v3 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v181) = v0 c
          ∧ r.2.mem ((c.tc : Thread Cert.GlaRefIdeal.nD Cert.GlaRefIdeal.τ).loc Cert.GlaRefIdeal.main_v182) = v1 c
          ∧ r.2.mem ((c.tc : Thread Cert.GlaRefIdeal.nD Cert.GlaRefIdeal.τ).loc Cert.GlaRefIdeal.main_v183) = v2 c
          ∧ r.2.mem ((c.tc : Thread Cert.GlaRefIdeal.nD Cert.GlaRefIdeal.τ).loc Cert.GlaRefIdeal.main_v184) = v3 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7))

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v2)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v2) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v4) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v4_0)) (v1 : (c : Dev Cert.PreIdeal.nD) → Buf (Elt Ideal) ((c.tc : Thread Cert.PreIdeal.nD Cert.PreIdeal.τ).loc Cert.PreIdeal.main_v4_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v4_0) = v0 c
          ∧ r.2.mem ((c.tc : Thread Cert.PreIdeal.nD Cert.PreIdeal.τ).loc Cert.PreIdeal.main_v4_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v26) = v0 c
          ∧ r.2.mem ((c.tc : Thread Cert.PreRefIdeal.nD Cert.PreRefIdeal.τ).loc Cert.PreRefIdeal.main_v31) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hInp : Cert.Inp.Facts) (hInpIdeal : Cert.InpIdeal.Facts) (hInpRefIdeal : Cert.InpRefIdeal.Facts) (hPre : Cert.Pre.Facts) (hPreIdeal : Cert.PreIdeal.Facts) (hPreRefIdeal : Cert.PreRefIdeal.Facts) (hPre_finite : Cert.Pre_finite.Facts),
    quiescent_Gla (hGla := hGla)
    ∧ quiescent_GlaIdeal (hGlaIdeal := hGlaIdeal)
    ∧ quiescent_GlaRefIdeal (hGlaRefIdeal := hGlaRefIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Inp (hInp := hInp)
    ∧ quiescent_InpIdeal (hInpIdeal := hInpIdeal)
    ∧ quiescent_InpRefIdeal (hInpRefIdeal := hInpRefIdeal)
    ∧ quiescent_Pre (hPre := hPre)
    ∧ quiescent_PreIdeal (hPreIdeal := hPreIdeal)
    ∧ quiescent_PreRefIdeal (hPreRefIdeal := hPreRefIdeal)
    ∧ preserves_Gla_GlaIdeal
    ∧ algebraic_GlaIdeal_GlaRefIdeal (hGlaIdeal := hGlaIdeal) (hGlaRefIdeal := hGlaRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Inp_InpIdeal
    ∧ algebraic_InpIdeal_InpRefIdeal (hInpIdeal := hInpIdeal) (hInpRefIdeal := hInpRefIdeal)
    ∧ preserves_Pre_PreIdeal
    ∧ algebraic_PreIdeal_PreRefIdeal (hPreIdeal := hPreIdeal) (hPreRefIdeal := hPreRefIdeal)
-- ==== Pre_finite.lean ====
abbrev S8192x2048 : Shape := ⟨2, ![8192, 2048]⟩
abbrev S1x2048 : Shape := ⟨2, ![1, 2048]⟩
abbrev S8x8192 : Shape := ⟨2, ![8, 8192]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S1x6144 : Shape := ⟨2, ![1, 6144]⟩
abbrev S6144 : Shape := ⟨1, ![6144]⟩

class Facts : Prop where
  bcast_S_S1x2048 : S_.BroadcastsInDim S1x2048 (![] : Fin 0 → Fin S1x2048.rank)
  slices_S8x8192_S1x6144_0_2048 : S8x8192.Slices ![0, 2048] S1x6144
  shapeCasts_S1x6144_S6144 : S1x6144.ShapeCasts S6144
  bcast_S_S6144 : S_.BroadcastsInDim S6144 (![] : Fin 0 → Fin S6144.rank)
  bitsLt_bf16_f32 : FTy.bits .bf16 < FTy.bits .f32
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn_part1 {F : FTy → Type} [FloatOps F] (main_v2 : IVec S1x2048 1) (main_v7 : IVec S6144 1) (main_v11 : IVec S2048x5632 1) (main_v15 : IVec S2048x5632 1) (main_v17 : FVec F S5632x2048 .f32) (main_v18 : FVec F S5632x2048 .f32) : IVec S1x2048 1 × IVec S6144 1 × IVec S2048x5632 1 × IVec S2048x5632 1 × IVec S5632x2048 1 :=
  let main_v19 : IVec S5632x2048 1 := cmpf .olt main_v17 main_v18
  (main_v2, main_v7, main_v11, main_v15, main_v19)

def fn {F : FTy → Type} [FloatOps F] (main_arg0 : FVec F S8192x2048 .f32) (main_arg1 : FVec F S1x2048 .f32) (main_arg2 : FVec F S8x8192 .f32) (main_arg3 : FVec F S2048x5632 .bf16) (main_arg4 : FVec F S2048x5632 .bf16) (main_arg5 : FVec F S5632x2048 .bf16) (main_arg6 : FVec F S2048 .f32) : IVec S1x2048 1 × IVec S6144 1 × IVec S2048x5632 1 × IVec S2048x5632 1 × IVec S5632x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x6144 .f32 := (extractStridedSlice S1x6144 ![0, 2048] · slices_S8x8192_S1x6144_0_2048) main_arg2
  let main_v4 : FVec F S6144 .f32 := shapeCast S6144 main_v3 shapeCasts_S1x6144_S6144
  let main_v5 : FVec F S6144 .f32 := Host.absf main_v4
  let main_cst_0 : FVec F S_ .f32 := constant S_ .f32 0x7F800000#32
  let main_v6 : FVec F S6144 .f32 := broadcastInDim S6144 ![] bcast_S_S6144 main_cst_0
  let main_v7 : IVec S6144 1 := cmpf .olt main_v5 main_v6
  let main_v8 : FVec F S2048x5632 .f32 := (extf .f32 · bitsLt_bf16_f32) main_arg3
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  let main_v12 : FVec F S2048x5632 .f32 := (extf .f32 · bitsLt_bf16_f32) main_arg4
  let main_v13 : FVec F S2048x5632 .f32 := Host.absf main_v12
  let main_cst_2 : FVec F S_ .f32 := constant S_ .f32 0x7F800000#32
  let main_v14 : FVec F S2048x5632 .f32 := broadcastInDim S2048x5632 ![] bcast_S_S2048x5632 main_cst_2
  let main_v15 : IVec S2048x5632 1 := cmpf .olt main_v13 main_v14
  let main_v16 : FVec F S5632x2048 .f32 := (extf .f32 · bitsLt_bf16_f32) main_arg5
  let main_v17 : FVec F S5632x2048 .f32 := Host.absf main_v16
  let main_cst_3 : FVec F S_ .f32 := constant S_ .f32 0x7F800000#32
  let main_v18 : FVec F S5632x2048 .f32 := broadcastInDim S5632x2048 ![] bcast_S_S5632x2048 main_cst_3
  fn_part1 (F := F) main_v2 main_v7 main_v11 main_v15 main_v17 main_v18
-- ==== Gla.lean ====
abbrev S256x2048 : Shape := ⟨2, ![256, 2048]⟩
abbrev S256x128 : Shape := ⟨2, ![256, 128]⟩
abbrev S1x16x512 : Shape := ⟨3, ![1, 16, 512]⟩
abbrev S1x512 : Shape := ⟨2, ![1, 512]⟩
abbrev S4x128x256 : Shape := ⟨3, ![4, 128, 256]⟩
abbrev S_ : Shape := ⟨0, ![]⟩
abbrev S128x512 : Shape := ⟨2, ![128, 512]⟩
abbrev S16x512 : Shape := ⟨2, ![16, 512]⟩
abbrev S1 : Shape := ⟨1, ![1]⟩
abbrev S256x1024 : Shape := ⟨2, ![256, 1024]⟩
abbrev S2x4x128x256 : Shape := ⟨4, ![2, 4, 128, 256]⟩
abbrev S2x256x512 : Shape := ⟨3, ![2, 256, 512]⟩
abbrev S1x4x128x256 : Shape := ⟨4, ![1, 4, 128, 256]⟩
abbrev S256x512 : Shape := ⟨2, ![256, 512]⟩
abbrev S256x256 : Shape := ⟨2, ![256, 256]⟩
abbrev S1x256x512 : Shape := ⟨3, ![1, 256, 512]⟩
abbrev S64x128 : Shape := ⟨2, ![64, 128]⟩
abbrev S1x64x512 : Shape := ⟨3, ![1, 64, 512]⟩
abbrev S64x512 : Shape := ⟨2, ![64, 512]⟩
abbrev S1x128 : Shape := ⟨2, ![1, 128]⟩
abbrev S64x256 : Shape := ⟨2, ![64, 256]⟩
abbrev S128x128 : Shape := ⟨2, ![128, 128]⟩
abbrev S1x1x128x256 : Shape := ⟨4, ![1, 1, 128, 256]⟩
abbrev S128x256 : Shape := ⟨2, ![128, 256]⟩
abbrev S8x128 : Shape := ⟨2, ![8, 128]⟩
abbrev S128x8 : Shape := ⟨2, ![128, 8]⟩
abbrev S128x1 : Shape := ⟨2, ![128, 1]⟩

abbrev nBuf : Space → Nat
  | .hbm => 26
  | .vmem => 18
  | .smem => 0
  | _ => 0

abbrev bufTy : (tb : Table) → Fin (tcTables nBuf tb) → BufTy
  | .hbm, ⟨0, _⟩ => ⟨S256x2048, .bf16⟩
  | .hbm, ⟨1, _⟩ => ⟨S256x128, .bf16⟩
  | .hbm, ⟨2, _⟩ => ⟨S1x16x512, .f32⟩
  | .hbm, ⟨3, _⟩ => ⟨S1x512, .f32⟩
  | .hbm, ⟨4, _⟩ => ⟨S1x16x512, .f32⟩
  | .hbm, ⟨5, _⟩ => ⟨S1x512, .f32⟩
  | .hbm, ⟨6, _⟩ => ⟨S4x128x256, .f32⟩
  | .hbm, ⟨7, _⟩ => ⟨S4x128x256, .f32⟩
  | .hbm, ⟨8, _⟩ => ⟨S_, .f32⟩
  | .hbm, ⟨9, _⟩ => ⟨S128x512, .f32⟩
  | .hbm, ⟨10, _⟩ => ⟨S16x512, .f32⟩
  | .hbm, ⟨11, _⟩ => ⟨S_, .i32⟩
  | .hbm, ⟨12, _⟩ => ⟨S1, .i32⟩
  | .hbm, ⟨13, _⟩ => ⟨S128x512, .f32⟩
  | .hbm, ⟨14, _⟩ => ⟨S128x512, .bf16⟩
  | .hbm, ⟨15, _⟩ => ⟨S_, .f32⟩
  | .hbm, ⟨16, _⟩ => ⟨S128x512, .f32⟩
  | .hbm, ⟨17, _⟩ => ⟨S16x512, .f32⟩
  | .hbm, ⟨18, _⟩ => ⟨S_, .i32⟩
  | .hbm, ⟨19, _⟩ => ⟨S1, .i32⟩
  | .hbm, ⟨20, _⟩ => ⟨S128x512, .f32⟩
  | .hbm, ⟨21, _⟩ => ⟨S128x512, .bf16⟩
  | .hbm, ⟨22, _⟩ => ⟨S256x1024, .bf16⟩
  | .hbm, ⟨23, _⟩ => ⟨S256x1024, .bf16⟩
  | .hbm, ⟨24, _⟩ => ⟨S4x128x256, .f32⟩
  | .hbm, ⟨25, _⟩ => ⟨S4x128x256, .f32⟩
  | .local _ .vmem, ⟨0, _⟩ => ⟨S256x2048, .bf16⟩
  | .local _ .vmem, ⟨1, _⟩ => ⟨S256x128, .bf16⟩
  | .local _ .vmem, ⟨2, _⟩ => ⟨S256x128, .bf16⟩
  | .local _ .vmem, ⟨3, _⟩ => ⟨S256x2048, .bf16⟩
  | .local _ .vmem, ⟨4, _⟩ => ⟨S256x128, .bf16⟩
  | .local _ .vmem, ⟨5, _⟩ => ⟨S256x128, .bf16⟩
  | .local _ .vmem, ⟨6, _⟩ => ⟨S128x512, .bf16⟩
  | .local _ .vmem, ⟨7, _⟩ => ⟨S1x512, .f32⟩
  | .local _ .vmem, ⟨8, _⟩ => ⟨S128x512, .bf16⟩
  | .local _ .vmem, ⟨9, _⟩ => ⟨S1x512, .f32⟩
  | .local _ .vmem, ⟨10, _⟩ => ⟨S4x128x256, .f32⟩
  | .local _ .vmem, ⟨11, _⟩ => ⟨S4x128x256, .f32⟩
  | .local _ .vmem, ⟨12, _⟩ => ⟨S256x1024, .bf16⟩
  | .local _ .vmem, ⟨13, _⟩ => ⟨S256x1024, .bf16⟩
  | .local _ .vmem, ⟨14, _⟩ => ⟨S4x128x256, .f32⟩
  | .local _ .vmem, ⟨15, _⟩ => ⟨S4x128x256, .f32⟩
  | .local _ .vmem, ⟨16, _⟩ => ⟨S2x4x128x256, .f32⟩
  | .local _ .vmem, ⟨17, _⟩ => ⟨S2x256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_800 : BitVec 32 := 0#32
  let v1425 : BitVec 1 := Scalar.cmpi .eq arg0 c0_i32_800
  let v1426 : BitVec 32 := Scalar.extui v1425
  let c0_i32_801 : BitVec 32 := 0#32
  let v1427 : BitVec 1 := Scalar.cmpi .ne v1426 c0_i32_801
  v1427

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.minsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c_m1_i32 : BitVec 32 := 4294967295#32
  let v0 : BitVec 32 := Scalar.subi c_m1_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S4x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GlaIdeal.lean ====
variable {F : FTy → Type} [FloatOps F] [Named F]
def κ : String → Option EReal := fun
  | "log2_e" => some (((Real.log 2)⁻¹ : ℝ) : EReal)
  | _ => none
-- ==== GlaRefIdeal.lean ====
abbrev S256x2048 : Shape := ⟨2, ![256, 2048]⟩
abbrev S256x128 : Shape := ⟨2, ![256, 128]⟩
abbrev S1x16x512 : Shape := ⟨3, ![1, 16, 512]⟩
abbrev S1x512 : Shape := ⟨2, ![1, 512]⟩
abbrev S4x128x256 : Shape := ⟨3, ![4, 128, 256]⟩
abbrev S1x256x2048 : Shape := ⟨3, ![1, 256, 2048]⟩
abbrev S1x256x128 : Shape := ⟨3, ![1, 256, 128]⟩
abbrev S1x256x512 : Shape := ⟨3, ![1, 256, 512]⟩
abbrev S1x256x1024 : Shape := ⟨3, ![1, 256, 1024]⟩
abbrev S1x256x16 : Shape := ⟨3, ![1, 256, 16]⟩
abbrev S1x256x4x128 : Shape := ⟨4, ![1, 256, 4, 128]⟩
abbrev S_ : Shape := ⟨0, ![]⟩
abbrev S1x256x4x256 : Shape := ⟨4, ![1, 256, 4, 256]⟩
abbrev S16x512 : Shape := ⟨2, ![16, 512]⟩
abbrev S512 : Shape := ⟨1, ![512]⟩
abbrev S1x1x512 : Shape := ⟨3, ![1, 1, 512]⟩
abbrev S1x4x128x256 : Shape := ⟨4, ![1, 4, 128, 256]⟩
abbrev S1x4x64x4x128 : Shape := ⟨5, ![1, 4, 64, 4, 128]⟩
abbrev S1x4x4x64x128 : Shape := ⟨5, ![1, 4, 4, 64, 128]⟩
abbrev S1x4x64x4x256 : Shape := ⟨5, ![1, 4, 64, 4, 256]⟩
abbrev S1x4x4x64x256 : Shape := ⟨5, ![1, 4, 4, 64, 256]⟩
abbrev S1x4x4x1x128 : Shape := ⟨5, ![1, 4, 4, 1, 128]⟩
abbrev S64x64 : Shape := ⟨2, ![64, 64]⟩
abbrev S1x4x4x64x64 : Shape := ⟨5, ![1, 4, 4, 64, 64]⟩
abbrev S1x4x4x128x256 : Shape := ⟨5, ![1, 4, 4, 128, 256]⟩
abbrev S1x4x4x128 : Shape := ⟨4, ![1, 4, 4, 128]⟩
abbrev S1x4x1x128 : Shape := ⟨4, ![1, 4, 1, 128]⟩
abbrev S1x4x128 : Shape := ⟨3, ![1, 4, 128]⟩
abbrev S1x4x128x1 : Shape := ⟨4, ![1, 4, 128, 1]⟩
abbrev S1x4x1x128x256 : Shape := ⟨5, ![1, 4, 1, 128, 256]⟩
abbrev S256x4x256 : Shape := ⟨3, ![256, 4, 256]⟩
abbrev S256x1024 : Shape := ⟨2, ![256, 1024]⟩

abbrev nBuf : Space → Nat
  | .hbm => 256
  | .vmem => 0
  | .smem => 0
  | _ => 0

abbrev hbmTy0_0 (i : Nat) : BufTy := match i % 128 with
  | 0 => ⟨S256x2048, .bf16⟩
  | 1 => ⟨S256x128, .bf16⟩
  | 2 => ⟨S1x16x512, .f32⟩
  | 3 => ⟨S1x512, .f32⟩
  | 4 => ⟨S1x16x512, .f32⟩
  | 5 => ⟨S1x512, .f32⟩
  | 6 => ⟨S4x128x256, .f32⟩
  | 7 => ⟨S4x128x256, .f32⟩
  | 8 => ⟨S256x2048, .f32⟩
  | 9 => ⟨S1x256x2048, .f32⟩
  | 10 => ⟨S256x128, .f32⟩
  | 11 => ⟨S1x256x128, .f32⟩
  | 12 => ⟨S1x256x512, .f32⟩
  | 13 => ⟨S1x256x512, .f32⟩
  | 14 => ⟨S1x256x1024, .f32⟩
  | 15 => ⟨S1x256x16, .f32⟩
  | 16 => ⟨S1x256x16, .f32⟩
  | 17 => ⟨S1x256x4x128, .f32⟩
  | 18 => ⟨S_, .f32⟩
  | 19 => ⟨S1x256x4x128, .f32⟩
  | 20 => ⟨S1x256x4x128, .f32⟩
  | 21 => ⟨S1x256x4x128, .f32⟩
  | 22 => ⟨S1x256x4x256, .f32⟩
  | 23 => ⟨S16x512, .f32⟩
  | 24 => ⟨S1x256x512, .f32⟩
  | 25 => ⟨S512, .f32⟩
  | 26 => ⟨S1x1x512, .f32⟩
  | 27 => ⟨S1x256x512, .f32⟩
  | 28 => ⟨S1x256x512, .f32⟩
  | 29 => ⟨S1x256x512, .f32⟩
  | 30 => ⟨S_, .f32⟩
  | 31 => ⟨S1x256x512, .f32⟩
  | 32 => ⟨S1x256x512, .f32⟩
  | 33 => ⟨S1x256x512, .f32⟩
  | 34 => ⟨S1x256x512, .f32⟩
  | 35 => ⟨S1x256x512, .i1⟩
  | 36 => ⟨S1x256x512, .f32⟩
  | 37 => ⟨S1x256x512, .f32⟩
  | 38 => ⟨S1x256x512, .f32⟩
  | 39 => ⟨S1x256x512, .f32⟩
  | 40 => ⟨S1x256x512, .f32⟩
  | 41 => ⟨S1x256x512, .f32⟩
  | 42 => ⟨S1x256x512, .f32⟩
  | 43 => ⟨S1x256x512, .f32⟩
  | 44 => ⟨S1x256x512, .f32⟩
  | 45 => ⟨S_, .f32⟩
  | 46 => ⟨S1x256x512, .f32⟩
  | 47 => ⟨S1x256x512, .f32⟩
  | 48 => ⟨S1x256x4x128, .f32⟩
  | 49 => ⟨S16x512, .f32⟩
  | 50 => ⟨S1x256x512, .f32⟩
  | 51 => ⟨S512, .f32⟩
  | 52 => ⟨S1x1x512, .f32⟩
  | 53 => ⟨S1x256x512, .f32⟩
  | 54 => ⟨S1x256x512, .f32⟩
  | 55 => ⟨S1x256x512, .f32⟩
  | 56 => ⟨S_, .f32⟩
  | 57 => ⟨S1x256x512, .f32⟩
  | 58 => ⟨S1x256x512, .f32⟩
  | 59 => ⟨S1x256x512, .f32⟩
  | 60 => ⟨S1x256x512, .f32⟩
  | 61 => ⟨S1x256x512, .i1⟩
  | 62 => ⟨S1x256x512, .f32⟩
  | 63 => ⟨S1x256x512, .f32⟩
  | 64 => ⟨S1x256x512, .f32⟩
  | 65 => ⟨S1x256x512, .f32⟩
  | 66 => ⟨S1x256x512, .f32⟩
  | 67 => ⟨S1x256x512, .f32⟩
  | 68 => ⟨S1x256x512, .f32⟩
  | 69 => ⟨S1x256x512, .f32⟩
  | 70 => ⟨S1x256x512, .f32⟩
  | 71 => ⟨S_, .f32⟩
  | 72 => ⟨S1x256x512, .f32⟩
  | 73 => ⟨S1x256x512, .f32⟩
  | 74 => ⟨S1x256x4x128, .f32⟩
  | 75 => ⟨S1x4x128x256, .f32⟩
  | 76 => ⟨S1x4x64x4x128, .f32⟩
  | 77 => ⟨S1x4x4x64x128, .f32⟩
  | 78 => ⟨S1x4x64x4x128, .f32⟩
  | 79 => ⟨S1x4x4x64x128, .f32⟩
  | 80 => ⟨S1x4x64x4x256, .f32⟩
  | 81 => ⟨S1x4x4x64x256, .f32⟩
  | 82 => ⟨S1x4x64x4x128, .f32⟩
  | 83 => ⟨S1x4x4x64x128, .f32⟩
  | 84 => ⟨S_, .f32⟩
  | 85 => ⟨S_, .f32⟩
  | 86 => ⟨S1x4x4x64x128, .f32⟩
  | 87 => ⟨S1x4x4x1x128, .f32⟩
  | 88 => ⟨S1x4x4x64x128, .f32⟩
  | 89 => ⟨S1x4x4x64x128, .f32⟩
  | 90 => ⟨S1x4x4x64x128, .f32⟩
  | 91 => ⟨S1x4x4x64x128, .f32⟩
  | 92 => ⟨S1x4x4x64x128, .f32⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S1x4x4x64x64, .f32⟩
  | 105 => ⟨S_, .f32⟩
  | 106 => ⟨S_, .f32⟩
  | 107 => ⟨S1x4x4x64x64, .i1⟩
  | 108 => ⟨S1x4x4x64x64, .f32⟩
  | 109 => ⟨S1x4x4x64x64, .f32⟩
  | 110 => ⟨S1x4x4x64x256, .f32⟩
  | 111 => ⟨S1x4x4x64x128, .f32⟩
  | 112 => ⟨S1x4x4x64x128, .f32⟩
  | 113 => ⟨S1x4x4x64x128, .f32⟩
  | 114 => ⟨S1x4x4x64x128, .f32⟩
  | 115 => ⟨S1x4x4x128x256, .f32⟩
  | 116 => ⟨S1x4x4x128, .f32⟩
  | 117 => ⟨S1x4x4x128, .f32⟩
  | 118 => ⟨S1x4x1x128, .f32⟩
  | 119 => ⟨S1x4x128, .f32⟩
  | 120 => ⟨S1x4x128x1, .f32⟩
  | 121 => ⟨S1x4x128x256, .f32⟩
  | 122 => ⟨S1x4x128x256, .f32⟩
  | 123 => ⟨S1x4x1x128x256, .f32⟩
  | 124 => ⟨S1x4x128x256, .f32⟩
  | 125 => ⟨S1x4x128x256, .f32⟩
  | 126 => ⟨S1x4x1x128, .f32⟩
  | 127 => ⟨S1x4x128, .f32⟩
  | _ => ⟨S256x2048, .bf16⟩

abbrev hbmTy0_1 (i : Nat) : BufTy := match i % 128 with
  | 0 => ⟨S1x4x128x1, .f32⟩
  | 1 => ⟨S1x4x128x256, .f32⟩
  | 2 => ⟨S1x4x128x256, .f32⟩
  | 3 => ⟨S1x4x1x128x256, .f32⟩
  | 4 => ⟨S1x4x128x256, .f32⟩
  | 5 => ⟨S1x4x128x256, .f32⟩
  | 6 => ⟨S1x4x1x128, .f32⟩
  | 7 => ⟨S1x4x128, .f32⟩
  | 8 => ⟨S1x4x128x1, .f32⟩
  | 9 => ⟨S1x4x128x256, .f32⟩
  | 10 => ⟨S1x4x128x256, .f32⟩
  | 11 => ⟨S1x4x1x128x256, .f32⟩
  | 12 => ⟨S1x4x128x256, .f32⟩
  | 13 => ⟨S1x4x128x256, .f32⟩
  | 14 => ⟨S1x4x1x128, .f32⟩
  | 15 => ⟨S1x4x128, .f32⟩
  | 16 => ⟨S1x4x128x1, .f32⟩
  | 17 => ⟨S1x4x128x256, .f32⟩
  | 18 => ⟨S1x4x128x256, .f32⟩
  | 19 => ⟨S1x4x1x128x256, .f32⟩
  | 20 => ⟨S1x4x128x256, .f32⟩
  | 21 => ⟨S1x4x128x256, .f32⟩
  | 22 => ⟨S1x4x1x128x256, .f32⟩
  | 23 => ⟨S1x4x1x128x256, .f32⟩
  | 24 => ⟨S1x4x1x128x256, .f32⟩
  | 25 => ⟨S1x4x1x128x256, .f32⟩
  | 26 => ⟨S1x4x4x128x256, .f32⟩
  | 27 => ⟨S1x4x4x64x256, .f32⟩
  | 28 => ⟨S1x4x4x64x256, .f32⟩
  | 29 => ⟨S1x4x64x4x256, .f32⟩
  | 30 => ⟨S1x256x4x256, .f32⟩
  | 31 => ⟨S1x256x4x128, .f32⟩
  | 32 => ⟨S1x256x4x128, .f32⟩
  | 33 => ⟨S1x256x4x256, .f32⟩
  | 34 => ⟨S1x256x4x128, .f32⟩
  | 35 => ⟨S1x4x128x256, .f32⟩
  | 36 => ⟨S1x4x64x4x128, .f32⟩
  | 37 => ⟨S1x4x4x64x128, .f32⟩
  | 38 => ⟨S1x4x64x4x128, .f32⟩
  | 39 => ⟨S1x4x4x64x128, .f32⟩
  | 40 => ⟨S1x4x64x4x256, .f32⟩
  | 41 => ⟨S1x4x4x64x256, .f32⟩
  | 42 => ⟨S1x4x64x4x128, .f32⟩
  | 43 => ⟨S1x4x4x64x128, .f32⟩
  | 44 => ⟨S_, .f32⟩
  | 45 => ⟨S_, .f32⟩
  | 46 => ⟨S1x4x4x64x128, .f32⟩
  | 47 => ⟨S1x4x4x1x128, .f32⟩
  | 48 => ⟨S1x4x4x64x128, .f32⟩
  | 49 => ⟨S1x4x4x64x128, .f32⟩
  | 50 => ⟨S1x4x4x64x128, .f32⟩
  | 51 => ⟨S1x4x4x64x128, .f32⟩
  | 52 => ⟨S1x4x4x64x128, .f32⟩
  | 53 => ⟨S_, .i1⟩
  | 54 => ⟨S64x64, .i1⟩
  | 55 => ⟨S64x64, .i32⟩
  | 56 => ⟨S_, .i32⟩
  | 57 => ⟨S64x64, .i32⟩
  | 58 => ⟨S64x64, .i32⟩
  | 59 => ⟨S64x64, .i32⟩
  | 60 => ⟨S64x64, .i1⟩
  | 61 => ⟨S_, .i1⟩
  | 62 => ⟨S64x64, .i1⟩
  | 63 => ⟨S64x64, .i1⟩
  | 64 => ⟨S1x4x4x64x64, .f32⟩
  | 65 => ⟨S_, .f32⟩
  | 66 => ⟨S_, .f32⟩
  | 67 => ⟨S1x4x4x64x64, .i1⟩
  | 68 => ⟨S1x4x4x64x64, .f32⟩
  | 69 => ⟨S1x4x4x64x64, .f32⟩
  | 70 => ⟨S1x4x4x64x256, .f32⟩
  | 71 => ⟨S1x4x4x64x128, .f32⟩
  | 72 => ⟨S1x4x4x64x128, .f32⟩
  | 73 => ⟨S1x4x4x64x128, .f32⟩
  | 74 => ⟨S1x4x4x64x128, .f32⟩
  | 75 => ⟨S1x4x4x128x256, .f32⟩
  | 76 => ⟨S1x4x4x128, .f32⟩
  | 77 => ⟨S1x4x4x128, .f32⟩
  | 78 => ⟨S1x4x1x128, .f32⟩
  | 79 => ⟨S1x4x128, .f32⟩
  | 80 => ⟨S1x4x128x1, .f32⟩
  | 81 => ⟨S1x4x128x256, .f32⟩
  | 82 => ⟨S1x4x128x256, .f32⟩
  | 83 => ⟨S1x4x1x128x256, .f32⟩
  | 84 => ⟨S1x4x128x256, .f32⟩
  | 85 => ⟨S1x4x128x256, .f32⟩
  | 86 => ⟨S1x4x1x128, .f32⟩
  | 87 => ⟨S1x4x128, .f32⟩
  | 88 => ⟨S1x4x128x1, .f32⟩
  | 89 => ⟨S1x4x128x256, .f32⟩
  | 90 => ⟨S1x4x128x256, .f32⟩
  | 91 => ⟨S1x4x1x128x256, .f32⟩
  | 92 => ⟨S1x4x128x256, .f32⟩
  | 93 => ⟨S1x4x128x256, .f32⟩
  | 94 => ⟨S1x4x1x128, .f32⟩
  | 95 => ⟨S1x4x128, .f32⟩
  | 96 => ⟨S1x4x128x1, .f32⟩
  | 97 => ⟨S1x4x128x256, .f32⟩
  | 98 => ⟨S1x4x128x256, .f32⟩
  | 99 => ⟨S1x4x1x128x256, .f32⟩
  | 100 => ⟨S1x4x128x256, .f32⟩
  | 101 => ⟨S1x4x128x256, .f32⟩
  | 102 => ⟨S1x4x1x128, .f32⟩
  | 103 => ⟨S1x4x128, .f32⟩
  | 104 => ⟨S1x4x128x1, .f32⟩
  | 105 => ⟨S1x4x128x256, .f32⟩
  | 106 => ⟨S1x4x128x256, .f32⟩
  | 107 => ⟨S1x4x1x128x256, .f32⟩
  | 108 => ⟨S1x4x128x256, .f32⟩
  | 109 => ⟨S1x4x128x256, .f32⟩
  | 110 => ⟨S1x4x1x128x256, .f32⟩
  | 111 => ⟨S1x4x1x128x256, .f32⟩
  | 112 => ⟨S1x4x1x128x256, .f32⟩
  | 113 => ⟨S1x4x1x128x256, .f32⟩
  | 114 => ⟨S1x4x4x128x256, .f32⟩
  | 115 => ⟨S1x4x4x64x256, .f32⟩
  | 116 => ⟨S1x4x4x64x256, .f32⟩
  | 117 => ⟨S1x4x64x4x256, .f32⟩
  | 118 => ⟨S1x256x4x256, .f32⟩
  | 119 => ⟨S256x4x256, .f32⟩
  | 120 => ⟨S256x1024, .f32⟩
  | 121 => ⟨S1x256x4x256, .f32⟩
  | 122 => ⟨S256x4x256, .f32⟩
  | 123 => ⟨S256x1024, .f32⟩
  | 124 => ⟨S256x1024, .bf16⟩
  | 125 => ⟨S256x1024, .bf16⟩
  | 126 => ⟨S4x128x256, .f32⟩
  | 127 => ⟨S4x128x256, .f32⟩
  | _ => ⟨S256x2048, .bf16⟩

abbrev hbmTy (i : Nat) : BufTy := match i / 128 with
  | 0 => hbmTy0_0 i
  | 1 => hbmTy0_1 i
  | _ => ⟨S256x2048, .bf16⟩

abbrev bufTy : (tb : Table) → Fin (tcTables nBuf tb) → BufTy
  | .hbm, ⟨i, _⟩ => hbmTy i
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call1_v0 : Ref sig .tc := ⟨.hbm, 55, rfl⟩
abbrev main_call1_call0_cst : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_v7 : Ref sig .tc := ⟨.hbm, 64, rfl⟩
abbrev main_call1_call0_v8 : Ref sig .tc := ⟨.hbm, 65, rfl⟩
abbrev main_call1_call0_v9 : Ref sig .tc := ⟨.hbm, 66, rfl⟩
abbrev main_call1_call0_v10 : Ref sig .tc := ⟨.hbm, 67, rfl⟩
abbrev main_call1_call0_v11 : Ref sig .tc := ⟨.hbm, 68, rfl⟩
abbrev main_call1_v1 : Ref sig .tc := ⟨.hbm, 69, rfl⟩
abbrev main_v30 : Ref sig .tc := ⟨.hbm, 70, rfl⟩
abbrev main_cst_1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_call2_call0_cst : Ref sig .tc := ⟨.hbm, 84, rfl⟩
abbrev main_call2_call0_v0 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c : Ref sig .tc := ⟨.hbm, 93, rfl⟩
abbrev main_v50 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_c_0 : Ref sig .tc := ⟨.hbm, 101, rfl⟩
abbrev main_call3_v5 : Ref sig .tc := ⟨.hbm, 102, rfl⟩
abbrev main_v51 : Ref sig .tc := ⟨.hbm, 103, rfl⟩
abbrev main_v52 : Ref sig .tc := ⟨.hbm, 104, rfl⟩
abbrev main_cst_2 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_call9_call0_cst : Ref sig .tc := ⟨.hbm, 172, rfl⟩
abbrev main_call9_call0_v0 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_3 : Ref sig .tc := ⟨.hbm, 181, rfl⟩
abbrev main_v123 : Ref sig .tc := ⟨.hbm, 182, rfl⟩
abbrev main_call10_v0 : Ref sig .tc := ⟨.hbm, 183, rfl⟩
abbrev main_call10_c : Ref sig .tc := ⟨.hbm, 184, rfl⟩
abbrev main_call10_v1 : Ref sig .tc := ⟨.hbm, 185, rfl⟩
abbrev main_call10_v2 : Ref sig .tc := ⟨.hbm, 186, rfl⟩
abbrev main_call10_v3 : Ref sig .tc := ⟨.hbm, 187, rfl⟩
abbrev main_call10_v4 : Ref sig .tc := ⟨.hbm, 188, rfl⟩
abbrev main_call10_c_0 : Ref sig .tc := ⟨.hbm, 189, rfl⟩
abbrev main_call10_v5 : Ref sig .tc := ⟨.hbm, 190, rfl⟩
abbrev main_v124 : Ref sig .tc := ⟨.hbm, 191, rfl⟩
abbrev main_v125 : Ref sig .tc := ⟨.hbm, 192, rfl⟩
abbrev main_cst_4 : Ref sig .tc := ⟨.hbm, 193, rfl⟩
abbrev main_call11_v0 : Ref sig .tc := ⟨.hbm, 194, rfl⟩
abbrev main_call11_v1 : Ref sig .tc := ⟨.hbm, 195, rfl⟩
abbrev main_call11_v2 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S8x8192 : Shape := ⟨2, ![8, 8192]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S8x2048 : Shape := ⟨2, ![8, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩

abbrev nBuf : Space → Nat
  | .hbm => 11
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x8192, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S8192x2048 : Shape := ⟨2, ![8192, 2048]⟩
abbrev S1x2048 : Shape := ⟨2, ![1, 2048]⟩
abbrev S8x8192 : Shape := ⟨2, ![8, 8192]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x8192, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S2048x5632, .f32⟩
  | .hbm, ⟨40, _⟩ => ⟨S2048x5632, .f32⟩
  | .hbm, ⟨41, _⟩ => ⟨S5632x2048, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S_, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S8192x2048, .f32⟩
  | .hbm, ⟨74, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Inp.lean ====
abbrev S256x2048 : Shape := ⟨2, ![256, 2048]⟩
abbrev S1x2048x6176 : Shape := ⟨3, ![1, 2048, 6176]⟩
abbrev S2048x6176 : Shape := ⟨2, ![2048, 6176]⟩
abbrev S6176x2048 : Shape := ⟨2, ![6176, 2048]⟩
abbrev S1024x2048 : Shape := ⟨2, ![1024, 2048]⟩
abbrev S32x2048 : Shape := ⟨2, ![32, 2048]⟩
abbrev S256x1024 : Shape := ⟨2, ![256, 1024]⟩
abbrev S224x2048 : Shape := ⟨2, ![224, 2048]⟩

abbrev nBuf : Space → Nat
  | .hbm => 5
  | .vmem => 8
  | .smem => 0
  | _ => 0

abbrev bufTy : (tb : Table) → Fin (tcTables nBuf tb) → BufTy
  | .hbm, ⟨0, _⟩ => ⟨S256x2048, .bf16⟩
  | .hbm, ⟨1, _⟩ => ⟨S1x2048x6176, .f32⟩
  | .hbm, ⟨2, _⟩ => ⟨S2048x6176, .f32⟩
  | .hbm, ⟨3, _⟩ => ⟨S6176x2048, .f32⟩
  | .hbm, ⟨4, _⟩ => ⟨S256x2048, .bf16⟩
  | .local _ .vmem, ⟨0, _⟩ => ⟨S256x2048, .bf16⟩
  | .local _ .vmem, ⟨1, _⟩ => ⟨S1024x2048, .f32⟩
  | .local _ .vmem, ⟨2, _⟩ => ⟨S1024x2048, .f32⟩
  | .local _ .vmem, ⟨3, _⟩ => ⟨S32x2048, .f32⟩
  | .local _ .vmem, ⟨4, _⟩ => ⟨S32x2048, .f32⟩
  | .local _ .vmem, ⟨5, _⟩ => ⟨S256x1024, .bf16⟩
  | .local _ .vmem, ⟨6, _⟩ => ⟨S256x1024, .bf16⟩
  | .local _ .vmem, ⟨7, _⟩ => ⟨S1024x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InpRefIdeal.lean ====
abbrev S256x2048 : Shape := ⟨2, ![256, 2048]⟩
abbrev S1x2048x6176 : Shape := ⟨3, ![1, 2048, 6176]⟩
abbrev S2048x6176 : Shape := ⟨2, ![2048, 6176]⟩
abbrev S256x6176 : Shape := ⟨2, ![256, 6176]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1x2048x6176, .f32⟩
  | .hbm, ⟨2, _⟩ => ⟨S256x2048, .f32⟩
  | .hbm, ⟨3, _⟩ => ⟨S2048x6176, .f32⟩
  | .hbm, ⟨4, _⟩ => ⟨S256x6176, .f32⟩
  | .hbm, ⟨5, _⟩ => ⟨S256x2048, .f32⟩
  | .hbm, ⟨6, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Pre.lean ====
abbrev S256x2048 : Shape := ⟨2, ![256, 2048]⟩
abbrev S1x2048 : Shape := ⟨2, ![1, 2048]⟩
abbrev S8x4096 : Shape := ⟨2, ![8, 4096]⟩
abbrev S1x2048x6176 : Shape := ⟨3, ![1, 2048, 6176]⟩
abbrev S2048x6176 : Shape := ⟨2, ![2048, 6176]⟩
abbrev S6176x2048 : Shape := ⟨2, ![6176, 2048]⟩
abbrev S2048 : Shape := ⟨1, ![2048]⟩
abbrev S256x128 : Shape := ⟨2, ![256, 128]⟩
abbrev S8x2048 : Shape := ⟨2, ![8, 2048]⟩
abbrev S128x2048 : Shape := ⟨2, ![128, 2048]⟩
abbrev S16x2048 : Shape := ⟨2, ![16, 2048]⟩
abbrev S16 : Shape := ⟨1, ![16]⟩
abbrev S16x1 : Shape := ⟨2, ![16, 1]⟩

abbrev nBuf : Space → Nat
  | .hbm => 10
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S8x4096, .f32⟩
  | .hbm, ⟨3, _⟩ => ⟨S1x2048x6176, .f32⟩
  | .hbm, ⟨4, _⟩ => ⟨S2048x6176, .f32⟩
  | .hbm, ⟨5, _⟩ => ⟨S6176x2048, .f32⟩
  | .hbm, ⟨6, _⟩ => ⟨S2048, .f32⟩
  | .hbm, ⟨7, _⟩ => ⟨S1x2048, .f32⟩
  | .hbm, ⟨8, _⟩ => ⟨S256x2048, .bf16⟩
  | .hbm, ⟨9, _⟩ => ⟨S256x128, .bf16⟩
  | .local _ .vmem, ⟨0, _⟩ => ⟨S256x2048, .f32⟩
  | .local _ .vmem, ⟨1, _⟩ => ⟨S1x2048, .f32⟩
  | .local _ .vmem, ⟨2, _⟩ => ⟨S8x2048, .f32⟩
  | .local _ .vmem, ⟨3, _⟩ => ⟨S8x2048, .f32⟩
  | .local _ .vmem, ⟨4, _⟩ => ⟨S128x2048, .f32⟩
  | .local _ .vmem, ⟨5, _⟩ => ⟨S256x2048, .bf16⟩
  | .local _ .vmem, ⟨6, _⟩ => ⟨S256x128, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c24_i32 : BitVec 32 := 24#32
  let c0_i32 : BitVec 32 := 0#32
  let c0_i32_0 : BitVec 32 := 0#32
  ![c24_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PreRefIdeal.lean ====
abbrev S256x2048 : Shape := ⟨2, ![256, 2048]⟩
abbrev S1x2048 : Shape := ⟨2, ![1, 2048]⟩
abbrev S8x4096 : Shape := ⟨2, ![8, 4096]⟩
abbrev S1x2048x6176 : Shape := ⟨3, ![1, 2048, 6176]⟩
abbrev S2048 : Shape := ⟨1, ![2048]⟩
abbrev S_ : Shape := ⟨0, ![]⟩
abbrev S256 : Shape := ⟨1, ![256]⟩
abbrev S256x1 : Shape := ⟨2, ![256, 1]⟩
abbrev S2048x6176 : Shape := ⟨2, ![2048, 6176]⟩
abbrev S256x6176 : Shape := ⟨2, ![256, 6176]⟩
abbrev S256x128 : Shape := ⟨2, ![256, 128]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S8x4096, .f32⟩
  | .hbm, ⟨3, _⟩ => ⟨S1x2048x6176, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S256x2048, .f32⟩
  | .hbm, ⟨30, _⟩ => ⟨S256x2048, .f32⟩
  | .hbm, ⟨31, _⟩ => ⟨S1x2048, .f32⟩
  | .hbm, ⟨32, _⟩ => ⟨S256x2048, .f32⟩
  | .hbm, ⟨33, _⟩ => ⟨S256x2048, .f32⟩
  | .hbm, ⟨34, _⟩ => ⟨S256x2048, .bf16⟩
  | .hbm, ⟨35, _⟩ => ⟨S256x2048, .f32⟩
  | .hbm, ⟨36, _⟩ => ⟨S2048x6176, .f32⟩
  | .hbm, ⟨37, _⟩ => ⟨S256x6176, .f32⟩
  | .hbm, ⟨38, _⟩ => ⟨S256x128, .f32⟩
  | .hbm, ⟨39, _⟩ => ⟨S256x128, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.GlaWindow.lean ====
module

public import proofs.«01_k».proof.Proof.Gen.GlaRefIdeal.Read
public import Idealize.ShloMosaic.Lib.Pointwise

/-! Two operations of the reference read at an index: the running sum of a chunk, and the states put one beside the other. -/

@[expose] public section
set_option maxRecDepth 16384
noncomputable section
open Idealize.ShloMosaic Idealize.ShloMosaic.Pointwise Idealize.ShloMosaic.TcCoe

namespace Cert.GlaRefIdeal.Hand
open Cert.GlaRefIdeal Cert.GlaRefIdeal.Gen Cert.GlaRefIdeal.Read

/-- A fold by addition is a sum. -/
theorem foldl_sum {n : ℕ} (f : Fin n → EReal) : (List.finRange n).foldl (fun r k => r + f k) 0 = ∑ k, f k := by
  have h : ∀ (L : List (Fin n)) (v : EReal), L.foldl (fun r k => r + f k) v = v + (L.map f).sum := by
    intro L
    induction L with
    | nil => intro v; simp
    | cons a L ih => intro v; rw [List.foldl_cons, ih, List.map_cons, List.sum_cons, add_assoc]
  rw [h, zero_add, Fin.sum_univ_def]

/-- The window over one chunk. -/
abbrev Win : Shape := ⟨5, ![1, 1, 1, 64, 1]⟩

/-- The indices of the window are its 64 rows. -/
def winEquiv : Win.Idx ≃ Fin 64 where
  toFun w := w 3
  invFun k := (ix5 (0 : Fin 1) (0 : Fin 1) (0 : Fin 1) k (0 : Fin 1) : Win.Idx)
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv k := rfl

/-- The running sum of a chunk, at row `i`: the sum of its rows up to `i`. -/
theorem window_sum (X : FVec Ideal S1x4x4x64x128 .f32) (init : S_.Idx → EReal) (h0 : init (Shape.Idx.first h_S_) = 0)
    (h t : Fin 4) (i : Fin 64) (d : Fin 128) :
    Host.reduceWindowAdd (F := Ideal) (φ := .f32) ![1, 1, 1, 64, 1] ![1, 1, 1, 1, 1] ![0, 0, 0, 63, 0] ![0, 0, 0, 0, 0] X init
      reduceWindows_S1x4x4x64x128_S1x4x4x64x128_w1s1p0_0_w1s1p0_0_w1s1p0_0_w64s1p63_0_w1s1p0_0 h_S_ (ix5 0 h t i d)
      = ∑ j : Fin 64, if j.val ≤ i.val then X (ix5 0 h t j d) else 0 := by
  unfold Host.reduceWindowAdd
  simp only [FloatOps.hostReduceWindowAdd, Ideal.hostReduceWindowAdd]
  unfold Host.reduceWindow
  dsimp only
  rw [h0]
  refine (foldl_sum (n := Win.numel) _).trans ?_
  rw [← Equiv.sum_comp (winEquiv.symm.trans Win.rowMajor)]
  have hi := i.isLt
  have ht := t.isLt
  have hh := h.isLt
  have hd := d.isLt
  refine (Finset.sum_congr rfl fun k _ => (?_ : _ = if 63 ≤ i.val + k.val then X (ix5 0 h t ⟨i.val + k.val - 63, by omega⟩ d) else 0)).trans ?_
  · have hk := k.isLt
    have ew : Win.rowMajor.symm ((winEquiv.symm.trans Win.rowMajor) k) = (ix5 (0 : Fin 1) (0 : Fin 1) (0 : Fin 1) k (0 : Fin 1) : Win.Idx) :=
      Win.rowMajor.symm_apply_apply _
    generalize (winEquiv.symm.trans Win.rowMajor) k = n at ew ⊢
    by_cases hc : 63 ≤ i.val + k.val
    · rw [if_pos hc]
      refine (dif_pos ?_).trans ?_
      · intro a
        rw [show (⟨5, ![1, 1, 1, 64, 1]⟩ : Shape).rowMajor.symm n = _ from ew]
        match a with
        | ⟨0, _⟩ => show 0 ≤ 0 * 1 + 0 ∧ 0 * 1 + 0 - 0 < 1; omega
        | ⟨1, _⟩ => show 0 ≤ h.val * 1 + 0 ∧ h.val * 1 + 0 - 0 < 4; omega
        | ⟨2, _⟩ => show 0 ≤ t.val * 1 + 0 ∧ t.val * 1 + 0 - 0 < 4; omega
        | ⟨3, _⟩ => show 63 ≤ i.val * 1 + k.val ∧ i.val * 1 + k.val - 63 < 64; omega
        | ⟨4, _⟩ => show 0 ≤ d.val * 1 + 0 ∧ d.val * 1 + 0 - 0 < 128; omega
      · congr 1
        funext a
        apply Fin.ext
        have ea : ((⟨5, ![1, 1, 1, 64, 1]⟩ : Shape).rowMajor.symm n a).val = ((ix5 (0 : Fin 1) (0 : Fin 1) (0 : Fin 1) k (0 : Fin 1) : Win.Idx) a).val := congrArg (fun w : Win.Idx => (w a).val) ew
        dsimp only
        rw [ea]
        match a with
        | ⟨0, _⟩ => rfl
        | ⟨1, _⟩ => show h.val * 1 + 0 - 0 = h.val; omega
        | ⟨2, _⟩ => show t.val * 1 + 0 - 0 = t.val; omega
        | ⟨3, _⟩ => show i.val * 1 + k.val - 63 = i.val + k.val - 63; omega
        | ⟨4, _⟩ => show d.val * 1 + 0 - 0 = d.val; omega
    · rw [if_neg hc]
      refine dif_neg fun H => ?_
      have h3 := (H 3).1
      rw [show (⟨5, ![1, 1, 1, 64, 1]⟩ : Shape).rowMajor.symm n = _ from ew] at h3
      have h4 : 63 ≤ i.val * 1 + k.val := h3
      omega
  rw [← Finset.sum_filter, ← Finset.sum_filter]
  refine Finset.sum_bij' (fun k hk => (⟨i.val + k.val - 63, by omega⟩ : Fin 64)) (fun j hj => (⟨(j.val + 63 - i.val) % 64, Nat.mod_lt _ (by decide)⟩ : Fin 64)) ?_ ?_ ?_ ?_ ?_
  · intro k hk
    have := k.isLt
    simp only [Finset.mem_filter, Finset.mem_univ, true_and] at hk ⊢
    omega
  · intro j hj
    simp only [Finset.mem_filter, Finset.mem_univ, true_and] at hj ⊢
    omega
  · intro k hk
    have := k.isLt
    simp only [Finset.mem_filter, Finset.mem_univ, true_and] at hk
    apply Fin.ext
    show (i.val + k.val - 63 + 63 - i.val) % 64 = k.val
    omega
  · intro j hj
    simp only [Finset.mem_filter, Finset.mem_univ, true_and] at hj
    apply Fin.ext
    show i.val + (j.val + 63 - i.val) % 64 - 63 = j.val
    omega
  · intro k hk
    rfl

/-- The states put one beside the other, at one of them. -/
theorem beside (Y0 Y1 Y2 Y3 : FVec Ideal S1x4x1x128x256 .f32) (h : Fin 4) (d : Fin 128) (l : Fin 256) :
    (∀ t : Fin 4, concatenate S1x4x4x128x256 2 [⟨S1x4x1x128x256, Y0⟩, ⟨S1x4x1x128x256, Y1⟩, ⟨S1x4x1x128x256, Y2⟩, ⟨S1x4x1x128x256, Y3⟩]
        concatenates_S1x4x1x128x256_S1x4x1x128x256_S1x4x1x128x256_S1x4x1x128x256_S1x4x4x128x256_d2 (ix5 0 h t d l)
      = (![Y0, Y1, Y2, Y3] : Fin 4 → FVec Ideal S1x4x1x128x256 .f32) t (ix5 0 h 0 d l)) := by
  intro t
  have hx : ∀ (Y : FVec Ideal S1x4x1x128x256 .f32) (j : S1x4x1x128x256.Idx), (j 1).val = h.val → (j 3).val = d.val → (j 4).val = l.val → Y j = Y (ix5 0 h 0 d l) := by
    intro Y j h1 h3 h4
    congr 1
    funext a
    match a with
    | ⟨0, _⟩ => exact Subsingleton.elim (α := Fin 1) _ _
    | ⟨1, _⟩ => exact Fin.ext h1
    | ⟨2, _⟩ => exact Subsingleton.elim (α := Fin 1) _ _
    | ⟨3, _⟩ => exact Fin.ext h3
    | ⟨4, _⟩ => exact Fin.ext h4
  match t with
  | ⟨0, _⟩ => exact hx Y0 _ rfl rfl rfl
  | ⟨1, _⟩ => exact hx Y1 _ rfl rfl rfl
  | ⟨2, _⟩ => exact hx Y2 _ rfl rfl rfl
  | ⟨3, _⟩ => exact hx Y3 _ rfl rfl rfl

end Cert.GlaRefIdeal.Hand
-- ==== Proof.GlaChunk.lean ====
module

public import proofs.«01_k».proof.Proof.GlaWindow

/-! Gated linear attention over four chunks of sixty-four rows, in the order the scan meets them. -/

@[expose] public section
noncomputable section
open Idealize.ShloMosaic Idealize.ShloMosaic.Pointwise

namespace Cert.GlaRefIdeal.Hand

/-- Queries, keys, values and logarithms of decays, by head, chunk, row and column, and the state before the first chunk. -/
structure Ch where
  q : Fin 4 → Fin 4 → Fin 64 → Fin 128 → EReal
  k : Fin 4 → Fin 4 → Fin 64 → Fin 128 → EReal
  v : Fin 4 → Fin 4 → Fin 64 → Fin 256 → EReal
  g : Fin 4 → Fin 4 → Fin 64 → Fin 128 → EReal
  s : Fin 4 → Fin 128 → Fin 256 → EReal

/-- The running sum of the logarithms of the decays within a chunk. -/
def cum (C : Ch) (h t : Fin 4) (i : Fin 64) (d : Fin 128) : EReal := ∑ j : Fin 64, if j.val ≤ i.val then C.g h t j d else 0

/-- The state after a chunk, from the state before it. -/
def next (C : Ch) (h t : Fin 4) (S : Fin 128 → Fin 256 → EReal) (d : Fin 128) (l : Fin 256) : EReal :=
  Ideal.exp (cum C h t 63 d) * S d l + ∑ j : Fin 64, C.k h t j d * Ideal.exp (cum C h t 63 d - cum C h t j d) * C.v h t j l

/-- The state before chunk `t`. -/
def st (C : Ch) (h : Fin 4) : ℕ → Fin 128 → Fin 256 → EReal
  | 0 => C.s h
  | t + 1 => next C h ⟨t % 4, Nat.mod_lt _ (by norm_num)⟩ (st C h t)

/-- The output of a chunk, from the state before it. -/
def outc (C : Ch) (h t : Fin 4) (S : Fin 128 → Fin 256 → EReal) (i : Fin 64) (l : Fin 256) : EReal :=
  (∑ j : Fin 64, (if j.val ≤ i.val then ∑ d : Fin 128, C.q h t i d * Ideal.exp (cum C h t i d) * (C.k h t j d * Ideal.exp (-cum C h t j d)) else 0) * C.v h t j l)
    + ∑ d : Fin 128, C.q h t i d * Ideal.exp (cum C h t i d) * S d l

end Cert.GlaRefIdeal.Hand
-- ==== Proof.GlaScanF.lean ====
module

public import proofs.«01_k».proof.Proof.GlaChunk

/-! The reference's scan of the chunks, forwards, read at an index. -/

@[expose] public section
set_option maxRecDepth 16384
noncomputable section
open Idealize.ShloMosaic Idealize.ShloMosaic.Pointwise Idealize.ShloMosaic.TcCoe

namespace Cert.GlaRefIdeal.Hand
open Cert.GlaRefIdeal Cert.GlaRefIdeal.Gen Cert.GlaRefIdeal.Read

variable (x0 : (⟨S256x2048, .bf16⟩ : BufTy).Contents (Elt Ideal)) (x1 : (⟨S256x128, .bf16⟩ : BufTy).Contents (Elt Ideal)) (x2 : (⟨S1x16x512, .f32⟩ : BufTy).Contents (Elt Ideal)) (x3 : (⟨S1x512, .f32⟩ : BufTy).Contents (Elt Ideal)) (x6 : (⟨S4x128x256, .f32⟩ : BufTy).Contents (Elt Ideal))

/-- The inputs of the scan. -/
def chF : Ch where
  q h t i d := val_main_v36 (F := Ideal) x0 (ix5 0 h t i d)
  k h t i d := val_main_v38 (F := Ideal) x0 (ix5 0 h t i d)
  v h t i l := val_main_v40 (F := Ideal) x0 (ix5 0 h t i l)
  g h t i d := val_main_v42 (F := Ideal) x1 x2 x3 (ix5 0 h t i d)
  s h d l := x6 (ix3 h d l)

/-- The sum of the forward gates starts from zero. -/
theorem initF (i : S_.Idx) : val_main_call2_call0_v0 (F := Ideal) i = 0 := by
  rw [val_main_call2_call0_v0_apply, val_main_call2_call0_cst_apply]
  show Ideal.ofBits .f32 0x00000000#32 = 0; simp [Ideal.ofBits, Ideal.ieee]

/-- In the forward reference, the running sum of the gates within a chunk. -/
theorem v43F (h t : Fin 4) (i : Fin 64) (d : Fin 128) : val_main_v43 (F := Ideal) x1 x2 x3 (ix5 0 h t i d) = cum (chF x0 x1 x2 x3 x6) h t i d := by
  unfold val_main_v43
  rw [window_sum _ _ (initF _)]
  rfl

/-- In the forward reference, the query with its decay on it. -/
theorem v46F (h t : Fin 4) (i : Fin 64) (d : Fin 128) : val_main_v46 (F := Ideal) x0 x1 x2 x3 (ix5 0 h t i d) = (chF x0 x1 x2 x3 x6).q h t i d * Ideal.exp (cum (chF x0 x1 x2 x3 x6) h t i d) := by
  rw [val_main_v46_apply, val_main_v45_apply, v43F x0 x1 x2 x3 x6]
  rfl

/-- In the forward reference, the key with its decay taken off. -/
theorem v49F (h t : Fin 4) (i : Fin 64) (d : Fin 128) : val_main_v49 (F := Ideal) x0 x1 x2 x3 (ix5 0 h t i d) = (chF x0 x1 x2 x3 x6).k h t i d * Ideal.exp (-cum (chF x0 x1 x2 x3 x6) h t i d) := by
  rw [val_main_v49_apply, val_main_v48_apply, val_main_v47_apply, v43F x0 x1 x2 x3 x6]
  rfl

/-- In the forward reference, the last running sum of a chunk. -/
theorem v44F (h t : Fin 4) (d : Fin 128) : val_main_v44 (F := Ideal) x1 x2 x3 (ix5 0 h t 0 d) = cum (chF x0 x1 x2 x3 x6) h t 63 d := by
  rw [val_main_v44_apply, ← v43F x0 x1 x2 x3 x6]
  congr 1
  funext a; fin_cases a <;> rfl

/-- In the forward reference, the key with the decay from its row to the end of the chunk. -/
theorem v58F (h t : Fin 4) (i : Fin 64) (d : Fin 128) : val_main_v58 (F := Ideal) x0 x1 x2 x3 (ix5 0 h t i d) = (chF x0 x1 x2 x3 x6).k h t i d * Ideal.exp (cum (chF x0 x1 x2 x3 x6) h t 63 d - cum (chF x0 x1 x2 x3 x6) h t i d) := by
  rw [val_main_v58_apply, val_main_v57_apply, val_main_v56_apply, val_main_v55_apply, v43F x0 x1 x2 x3 x6, show idx_main_v55 (ix5 0 h t i d) = ix5 0 h t 0 d from by funext a; fin_cases a <;> rfl, v44F x0 x1 x2 x3 x6]
  rfl

/-- In the forward reference, the decay over a whole chunk. -/
theorem v61F (h t : Fin 4) (d : Fin 128) : val_main_v61 (F := Ideal) x1 x2 x3 (ix4 0 h t d) = Ideal.exp (cum (chF x0 x1 x2 x3 x6) h t 63 d) := by
  rw [val_main_v61_apply, val_main_v60_apply, show idx_main_v60 (ix4 0 h t d) = ix5 0 h t 0 d from by
    funext a
    fin_cases a <;> (apply Fin.ext; first | rfl | (simp only [ix4, ix5]; omega) | (dsimp [ix4, ix5]; omega)), v44F x0 x1 x2 x3 x6]
  rfl

/-- In the forward reference, the update of the state by a chunk. -/
theorem v59F (h t : Fin 4) (d : Fin 128) (l : Fin 256) : val_main_v59 (F := Ideal) x0 x1 x2 x3 (ix5 0 h t d l) = ∑ j : Fin 64, (chF x0 x1 x2 x3 x6).k h t j d * Ideal.exp (cum (chF x0 x1 x2 x3 x6) h t 63 d - cum (chF x0 x1 x2 x3 x6) h t j d) * (chF x0 x1 x2 x3 x6).v h t j l := by
  rw [val_main_v59_apply]
  refine Finset.sum_congr rfl fun j _ => ?_
  rw [show lidx_main_v59 (ix5 0 h t d l) j = ix5 0 h t j d from by funext a; fin_cases a <;> rfl, show ridx_main_v59 (ix5 0 h t d l) j = ix5 0 h t j l from by funext a; fin_cases a <;> rfl, v58F x0 x1 x2 x3 x6]
  rfl

/-- In the forward reference, the state before the first chunk. -/
theorem v34F (h : Fin 4) (d : Fin 128) (l : Fin 256) : val_main_v34 (F := Ideal) x6 (ix4 0 h d l) = st (chF x0 x1 x2 x3 x6) h 0 d l := by
  rw [val_main_v34_apply]
  show x6 _ = x6 _
  congr 1
  funext a; fin_cases a <;> rfl

/-- In the forward reference, the state after the first chunk. -/
theorem v69F (h : Fin 4) (d : Fin 128) (l : Fin 256) : val_main_v69 (F := Ideal) x0 x1 x2 x3 x6 (ix4 0 h d l) = st (chF x0 x1 x2 x3 x6) h 1 d l := by
  rw [val_main_v69_apply, val_main_v66_apply, val_main_v68_apply, val_main_v67_apply, val_main_v65_apply, val_main_v64_apply, val_main_v63_apply, val_main_v62_apply]
  have e1 : idx_main_v62 (idx_main_v63 (idx_main_v64 (idx_main_v65 (ix4 0 h d l)))) = ix4 0 h 0 d := by
    funext a
    fin_cases a <;> (apply Fin.ext; first | rfl | (simp only [ix4, ix5]; omega) | (dsimp [ix4, ix5]; omega))
  have e2 : idx_main_v67 (idx_main_v68 (ix4 0 h d l)) = ix5 0 h 0 d l := by
    funext a
    fin_cases a <;> (apply Fin.ext; first | rfl | (simp only [ix4, ix5]; omega) | (dsimp [ix4, ix5]; omega))
  rw [e1, e2, v61F x0 x1 x2 x3 x6, v59F x0 x1 x2 x3 x6, v34F x0 x1 x2 x3 x6]
  rfl

/-- In the forward reference, the state after the second chunk. -/
theorem v77F (h : Fin 4) (d : Fin 128) (l : Fin 256) : val_main_v77 (F := Ideal) x0 x1 x2 x3 x6 (ix4 0 h d l) = st (chF x0 x1 x2 x3 x6) h 2 d l := by
  rw [val_main_v77_apply, val_main_v74_apply, val_main_v76_apply, val_main_v75_apply, val_main_v73_apply, val_main_v72_apply, val_main_v71_apply, val_main_v70_apply]
  have e1 : idx_main_v70 (idx_main_v71 (idx_main_v72 (idx_main_v73 (ix4 0 h d l)))) = ix4 0 h 1 d := by
    funext a
    fin_cases a <;> (apply Fin.ext; first | rfl | (simp only [ix4, ix5]; omega) | (dsimp [ix4, ix5]; omega))
  have e2 : idx_main_v75 (idx_main_v76 (ix4 0 h d l)) = ix5 0 h 1 d l := by
    funext a
    fin_cases a <;> (apply Fin.ext; first | rfl | (simp only [ix4, ix5]; omega) | (dsimp [ix4, ix5]; omega))
  rw [e1, e2, v61F x0 x1 x2 x3 x6, v59F x0 x1 x2 x3 x6, v69F x0 x1 x2 x3 x6]
  rfl

/-- In the forward reference, the state after the third chunk. -/
theorem v85F (h : Fin 4) (d : Fin 128) (l : Fin 256) : val_main_v85 (F := Ideal) x0 x1 x2 x3 x6 (ix4 0 h d l) = st (chF x0 x1 x2 x3 x6) h 3 d l := by
  rw [val_main_v85_apply, val_main_v82_apply, val_main_v84_apply, val_main_v83_apply, val_main_v81_apply, val_main_v80_apply, val_main_v79_apply, val_main_v78_apply]
  have e1 : idx_main_v78 (idx_main_v79 (idx_main_v80 (idx_main_v81 (ix4 0 h d l)))) = ix4 0 h 2 d := by
    funext a
    fin_cases a <;> (apply Fin.ext; first | rfl | (simp only [ix4, ix5]; omega) | (dsimp [ix4, ix5]; omega))
  have e2 : idx_main_v83 (idx_main_v84 (ix4 0 h d l)) = ix5 0 h 2 d l := by
    funext a
    fin_cases a <;> (apply Fin.ext; first | rfl | (simp only [ix4, ix5]; omega) | (dsimp [ix4, ix5]; omega))
  rw [e1, e2, v61F x0 x1 x2 x3 x6, v59F x0 x1 x2 x3 x6, v77F x0 x1 x2 x3 x6]
  rfl

/-- In the forward reference, the state after the fourth chunk. -/
theorem v93F (h : Fin 4) (d : Fin 128) (l : Fin 256) : val_main_v93 (F := Ideal) x0 x1 x2 x3 x6 (ix4 0 h d l) = st (chF x0 x1 x2 x3 x6) h 4 d l := by
  rw [val_main_v93_apply, val_main_v90_apply, val_main_v92_apply, val_main_v91_apply, val_main_v89_apply, val_main_v88_apply, val_main_v87_apply, val_main_v86_apply]
  have e1 : idx_main_v86 (idx_main_v87 (idx_main_v88 (idx_main_v89 (ix4 0 h d l)))) = ix4 0 h 3 d := by
    funext a
    fin_cases a <;> (apply Fin.ext; first | rfl | (simp only [ix4, ix5]; omega) | (dsimp [ix4, ix5]; omega))
  have e2 : idx_main_v91 (idx_main_v92 (ix4 0 h d l)) = ix5 0 h 3 d l := by
    funext a
    fin_cases a <;> (apply Fin.ext; first | rfl | (simp only [ix4, ix5]; omega) | (dsimp [ix4, ix5]; omega))
  rw [e1, e2, v61F x0 x1 x2 x3 x6, v59F x0 x1 x2 x3 x6, v85F x0 x1 x2 x3 x6]
  rfl

/-- In the forward reference, the stacked states that the chunks start from. -/
theorem v98F (h t : Fin 4) (d : Fin 128) (l : Fin 256) : val_main_v98 (F := Ideal) x0 x1 x2 x3 x6 (ix5 0 h t d l) = st (chF x0 x1 x2 x3 x6) h t.val d l := by
  unfold val_main_v98
  rw [beside]
  fin_cases t
  · show val_main_v94 (F := Ideal) x6 (ix5 0 h 0 d l) = _
    rw [val_main_v94_apply, show idx_main_v94 (ix5 0 h 0 d l) = ix4 0 h d l from by funext a; fin_cases a <;> rfl, v34F x0 x1 x2 x3 x6]
  · show val_main_v95 (F := Ideal) x0 x1 x2 x3 x6 (ix5 0 h 0 d l) = _
    rw [val_main_v95_apply, show idx_main_v95 (ix5 0 h 0 d l) = ix4 0 h d l from by funext a; fin_cases a <;> rfl, v69F x0 x1 x2 x3 x6]
  · show val_main_v96 (F := Ideal) x0 x1 x2 x3 x6 (ix5 0 h 0 d l) = _
    rw [val_main_v96_apply, show idx_main_v96 (ix5 0 h 0 d l) = ix4 0 h d l from by funext a; fin_cases a <;> rfl, v77F x0 x1 x2 x3 x6]
  · show val_main_v97 (F := Ideal) x0 x1 x2 x3 x6 (ix5 0 h 0 d l) = _
    rw [val_main_v97_apply, show idx_main_v97 (ix5 0 h 0 d l) = ix4 0 h d l from by funext a; fin_cases a <;> rfl, v85F x0 x1 x2 x3 x6]

/-- The mask of the reference, in the forward direction. -/
theorem maskF (i j : Fin 64) : val_main_v51 (F := Ideal) (ix2 i j) = if j.val ≤ i.val then 1#1 else 0#1 := by
  rw [val_main_v51_apply, val_main_v50_apply, val_main_call3_v5_apply, val_main_call3_v4_apply, val_main_call3_v3_apply, val_main_call3_v2_apply, val_main_call3_v1_apply, val_main_call3_v0_apply, val_main_c_apply, val_main_call3_c_apply, val_main_call3_c_0_apply]
  revert i j
  decide +kernel

/-- In the forward reference, the scores under the mask. -/
theorem v53F (h t : Fin 4) (i j : Fin 64) : val_main_v53 (F := Ideal) x0 x1 x2 x3 (ix5 0 h t i j) = if j.val ≤ i.val then ∑ d : Fin 128, (chF x0 x1 x2 x3 x6).q h t i d * Ideal.exp (cum (chF x0 x1 x2 x3 x6) h t i d) * ((chF x0 x1 x2 x3 x6).k h t j d * Ideal.exp (-cum (chF x0 x1 x2 x3 x6) h t j d)) else 0 := by
  have e : val_main_v52 (F := Ideal) x0 x1 x2 x3 (ix5 0 h t i j) = ∑ d : Fin 128, (chF x0 x1 x2 x3 x6).q h t i d * Ideal.exp (cum (chF x0 x1 x2 x3 x6) h t i d) * ((chF x0 x1 x2 x3 x6).k h t j d * Ideal.exp (-cum (chF x0 x1 x2 x3 x6) h t j d)) := by
    rw [val_main_v52_apply]
    refine Finset.sum_congr rfl fun d _ => ?_
    rw [show lidx_main_v52 (ix5 0 h t i j) d = ix5 0 h t i d from by funext a; fin_cases a <;> rfl, show ridx_main_v52 (ix5 0 h t i j) d = ix5 0 h t j d from by funext a; fin_cases a <;> rfl, v46F x0 x1 x2 x3 x6, v49F x0 x1 x2 x3 x6]
  rw [val_main_v53_apply, e, val_main_call4_v1_apply, val_main_call4_v2_apply, val_main_call4_v0_apply, val_main_cst_2_apply, show idx_main_call4_v1 (ix5 0 h t i j) = ix2 i j from by funext a; fin_cases a <;> rfl, maskF]
  by_cases hj : j.val ≤ i.val
  · rw [if_pos hj, if_pos hj]; rfl
  · rw [if_neg hj, if_neg hj]; show Ideal.ofBits .f32 0x00000000#32 = 0; simp [Ideal.ofBits, Ideal.ieee]

/-- The reference's output of a chunk. -/
theorem v100F (h t : Fin 4) (i : Fin 64) (l : Fin 256) : val_main_v100 (F := Ideal) x0 x1 x2 x3 x6 (ix5 0 h t i l) = outc (chF x0 x1 x2 x3 x6) h t (st (chF x0 x1 x2 x3 x6) h t.val) i l := by
  rw [val_main_v100_apply, val_main_v54_apply, val_main_v99_apply]
  refine congrArg₂ (· + ·) (Finset.sum_congr rfl fun j _ => ?_) (Finset.sum_congr rfl fun d _ => ?_)
  · rw [show lidx_main_v54 (ix5 0 h t i l) j = ix5 0 h t i j from by funext a; fin_cases a <;> rfl, show ridx_main_v54 (ix5 0 h t i l) j = ix5 0 h t j l from by funext a; fin_cases a <;> rfl, v53F x0 x1 x2 x3 x6]
    rfl
  · rw [show lidx_main_v99 (ix5 0 h t i l) d = ix5 0 h t i d from by funext a; fin_cases a <;> rfl, show ridx_main_v99 (ix5 0 h t i l) d = ix5 0 h t d l from by funext a; fin_cases a <;> rfl, v46F x0 x1 x2 x3 x6, v98F x0 x1 x2 x3 x6]

/-- The reference's output, by row. -/
theorem v102F (h t : Fin 4) (i : Fin 64) (l : Fin 256) : val_main_v102 (F := Ideal) x0 x1 x2 x3 x6 (ix4 0 ⟨64 * t.val + i.val, by omega⟩ h l) = outc (chF x0 x1 x2 x3 x6) h t (st (chF x0 x1 x2 x3 x6) h t.val) i l := by
  rw [val_main_v102_apply, val_main_v101_apply, ← v100F x0 x1 x2 x3 x6]
  congr 1
  funext a
  fin_cases a <;> (apply Fin.ext; first | rfl | (simp only [ix4, ix5]; omega) | (dsimp [ix4, ix5]; omega))

end Cert.GlaRefIdeal.Hand
-- ==== Proof.GlaScanB.lean ====
module

public import proofs.«01_k».proof.Proof.GlaChunk

/-! The reference's scan of the chunks, backwards, read at an index. -/

@[expose] public section
set_option maxRecDepth 16384
noncomputable section
open Idealize.ShloMosaic Idealize.ShloMosaic.Pointwise Idealize.ShloMosaic.TcCoe

namespace Cert.GlaRefIdeal.Hand
open Cert.GlaRefIdeal Cert.GlaRefIdeal.Gen Cert.GlaRefIdeal.Read

variable (x0 : (⟨S256x2048, .bf16⟩ : BufTy).Contents (Elt Ideal)) (x1 : (⟨S256x128, .bf16⟩ : BufTy).Contents (Elt Ideal)) (x4 : (⟨S1x16x512, .f32⟩ : BufTy).Contents (Elt Ideal)) (x5 : (⟨S1x512, .f32⟩ : BufTy).Contents (Elt Ideal)) (x7 : (⟨S4x128x256, .f32⟩ : BufTy).Contents (Elt Ideal))

/-- The inputs of the scan. -/
def chB : Ch where
  q h t i d := val_main_v109 (F := Ideal) x0 (ix5 0 h t i d)
  k h t i d := val_main_v111 (F := Ideal) x0 (ix5 0 h t i d)
  v h t i l := val_main_v113 (F := Ideal) x0 (ix5 0 h t i l)
  g h t i d := val_main_v115 (F := Ideal) x1 x4 x5 (ix5 0 h t i d)
  s h d l := x7 (ix3 h d l)

/-- The sum of the backward gates starts from zero. -/
theorem initB (i : S_.Idx) : val_main_call9_call0_v0 (F := Ideal) i = 0 := by
  rw [val_main_call9_call0_v0_apply, val_main_call9_call0_cst_apply]
  show Ideal.ofBits .f32 0x00000000#32 = 0; simp [Ideal.ofBits, Ideal.ieee]

/-- In the backward reference, the running sum of the gates within a chunk. -/
theorem v43B (h t : Fin 4) (i : Fin 64) (d : Fin 128) : val_main_v116 (F := Ideal) x1 x4 x5 (ix5 0 h t i d) = cum (chB x0 x1 x4 x5 x7) h t i d := by
  unfold val_main_v116
  rw [window_sum _ _ (initB _)]
  rfl

/-- In the backward reference, the query with its decay on it. -/
theorem v46B (h t : Fin 4) (i : Fin 64) (d : Fin 128) : val_main_v119 (F := Ideal) x0 x1 x4 x5 (ix5 0 h t i d) = (chB x0 x1 x4 x5 x7).q h t i d * Ideal.exp (cum (chB x0 x1 x4 x5 x7) h t i d) := by
  rw [val_main_v119_apply, val_main_v118_apply, v43B x0 x1 x4 x5 x7]
  rfl

/-- In the backward reference, the key with its decay taken off. -/
theorem v49B (h t : Fin 4) (i : Fin 64) (d : Fin 128) : val_main_v122 (F := Ideal) x0 x1 x4 x5 (ix5 0 h t i d) = (chB x0 x1 x4 x5 x7).k h t i d * Ideal.exp (-cum (chB x0 x1 x4 x5 x7) h t i d) := by
  rw [val_main_v122_apply, val_main_v121_apply, val_main_v120_apply, v43B x0 x1 x4 x5 x7]
  rfl

/-- In the backward reference, the last running sum of a chunk. -/
theorem v44B (h t : Fin 4) (d : Fin 128) : val_main_v117 (F := Ideal) x1 x4 x5 (ix5 0 h t 0 d) = cum (chB x0 x1 x4 x5 x7) h t 63 d := by
  rw [val_main_v117_apply, ← v43B x0 x1 x4 x5 x7]
  congr 1
  funext a; fin_cases a <;> rfl

/-- In the backward reference, the key with the decay from its row to the end of the chunk. -/
theorem v58B (h t : Fin 4) (i : Fin 64) (d : Fin 128) : val_main_v131 (F := Ideal) x0 x1 x4 x5 (ix5 0 h t i d) = (chB x0 x1 x4 x5 x7).k h t i d * Ideal.exp (cum (chB x0 x1 x4 x5 x7) h t 63 d - cum (chB x0 x1 x4 x5 x7) h t i d) := by
  rw [val_main_v131_apply, val_main_v130_apply, val_main_v129_apply, val_main_v128_apply, v43B x0 x1 x4 x5 x7, show idx_main_v128 (ix5 0 h t i d) = ix5 0 h t 0 d from by funext a; fin_cases a <;> rfl, v44B x0 x1 x4 x5 x7]
  rfl

/-- In the backward reference, the decay over a whole chunk. -/
theorem v61B (h t : Fin 4) (d : Fin 128) : val_main_v134 (F := Ideal) x1 x4 x5 (ix4 0 h t d) = Ideal.exp (cum (chB x0 x1 x4 x5 x7) h t 63 d) := by
  rw [val_main_v134_apply, val_main_v133_apply, show idx_main_v133 (ix4 0 h t d) = ix5 0 h t 0 d from by
    funext a
    fin_cases a <;> (apply Fin.ext; first | rfl | (simp only [ix4, ix5]; omega) | (dsimp [ix4, ix5]; omega)), v44B x0 x1 x4 x5 x7]
  rfl

/-- In the backward reference, the update of the state by a chunk. -/
theorem v59B (h t : Fin 4) (d : Fin 128) (l : Fin 256) : val_main_v132 (F := Ideal) x0 x1 x4 x5 (ix5 0 h t d l) = ∑ j : Fin 64, (chB x0 x1 x4 x5 x7).k h t j d * Ideal.exp (cum (chB x0 x1 x4 x5 x7) h t 63 d - cum (chB x0 x1 x4 x5 x7) h t j d) * (chB x0 x1 x4 x5 x7).v h t j l := by
  rw [val_main_v132_apply]
  refine Finset.sum_congr rfl fun j _ => ?_
  rw [show lidx_main_v132 (ix5 0 h t d l) j = ix5 0 h t j d from by funext a; fin_cases a <;> rfl, show ridx_main_v132 (ix5 0 h t d l) j = ix5 0 h t j l from by funext a; fin_cases a <;> rfl, v58B x0 x1 x4 x5 x7]
  rfl

/-- In the backward reference, the state before the first chunk. -/
theorem v34B (h : Fin 4) (d : Fin 128) (l : Fin 256) : val_main_v107 (F := Ideal) x7 (ix4 0 h d l) = st (chB x0 x1 x4 x5 x7) h 0 d l := by
  rw [val_main_v107_apply]
  show x7 _ = x7 _
  congr 1
  funext a; fin_cases a <;> rfl

/-- In the backward reference, the state after the first chunk. -/
theorem v69B (h : Fin 4) (d : Fin 128) (l : Fin 256) : val_main_v142 (F := Ideal) x0 x1 x4 x5 x7 (ix4 0 h d l) = st (chB x0 x1 x4 x5 x7) h 1 d l := by
  rw [val_main_v142_apply, val_main_v139_apply, val_main_v141_apply, val_main_v140_apply, val_main_v138_apply, val_main_v137_apply, val_main_v136_apply, val_main_v135_apply]
  have e1 : idx_main_v135 (idx_main_v136 (idx_main_v137 (idx_main_v138 (ix4 0 h d l)))) = ix4 0 h 0 d := by
    funext a
    fin_cases a <;> (apply Fin.ext; first | rfl | (simp only [ix4, ix5]; omega) | (dsimp [ix4, ix5]; omega))
  have e2 : idx_main_v140 (idx_main_v141 (ix4 0 h d l)) = ix5 0 h 0 d l := by
    funext a
    fin_cases a <;> (apply Fin.ext; first | rfl | (simp only [ix4, ix5]; omega) | (dsimp [ix4, ix5]; omega))
  rw [e1, e2, v61B x0 x1 x4 x5 x7, v59B x0 x1 x4 x5 x7, v34B x0 x1 x4 x5 x7]
  rfl

/-- In the backward reference, the state after the second chunk. -/
theorem v77B (h : Fin 4) (d : Fin 128) (l : Fin 256) : val_main_v150 (F := Ideal) x0 x1 x4 x5 x7 (ix4 0 h d l) = st (chB x0 x1 x4 x5 x7) h 2 d l := by
  rw [val_main_v150_apply, val_main_v147_apply, val_main_v149_apply, val_main_v148_apply, val_main_v146_apply, val_main_v145_apply, val_main_v144_apply, val_main_v143_apply]
  have e1 : idx_main_v143 (idx_main_v144 (idx_main_v145 (idx_main_v146 (ix4 0 h d l)))) = ix4 0 h 1 d := by
    funext a
    fin_cases a <;> (apply Fin.ext; first | rfl | (simp only [ix4, ix5]; omega) | (dsimp [ix4, ix5]; omega))
  have e2 : idx_main_v148 (idx_main_v149 (ix4 0 h d l)) = ix5 0 h 1 d l := by
    funext a
    fin_cases a <;> (apply Fin.ext; first | rfl | (simp only [ix4, ix5]; omega) | (dsimp [ix4, ix5]; omega))
  rw [e1, e2, v61B x0 x1 x4 x5 x7, v59B x0 x1 x4 x5 x7, v69B x0 x1 x4 x5 x7]
  rfl

/-- In the backward reference, the state after the third chunk. -/
theorem v85B (h : Fin 4) (d : Fin 128) (l : Fin 256) : val_main_v158 (F := Ideal) x0 x1 x4 x5 x7 (ix4 0 h d l) = st (chB x0 x1 x4 x5 x7) h 3 d l := by
  rw [val_main_v158_apply, val_main_v155_apply, val_main_v157_apply, val_main_v156_apply, val_main_v154_apply, val_main_v153_apply, val_main_v152_apply, val_main_v151_apply]
  have e1 : idx_main_v151 (idx_main_v152 (idx_main_v153 (idx_main_v154 (ix4 0 h d l)))) = ix4 0 h 2 d := by
    funext a
    fin_cases a <;> (apply Fin.ext; first | rfl | (simp only [ix4, ix5]; omega) | (dsimp [ix4, ix5]; omega))
  have e2 : idx_main_v156 (idx_main_v157 (ix4 0 h d l)) = ix5 0 h 2 d l := by
    funext a
    fin_cases a <;> (apply Fin.ext; first | rfl | (simp only [ix4, ix5]; omega) | (dsimp [ix4, ix5]; omega))
  rw [e1, e2, v61B x0 x1 x4 x5 x7, v59B x0 x1 x4 x5 x7, v77B x0 x1 x4 x5 x7]
  rfl

/-- In the backward reference, the state after the fourth chunk. -/
theorem v93B (h : Fin 4) (d : Fin 128) (l : Fin 256) : val_main_v166 (F := Ideal) x0 x1 x4 x5 x7 (ix4 0 h d l) = st (chB x0 x1 x4 x5 x7) h 4 d l := by
  rw [val_main_v166_apply, val_main_v163_apply, val_main_v165_apply, val_main_v164_apply, val_main_v162_apply, val_main_v161_apply, val_main_v160_apply, val_main_v159_apply]
  have e1 : idx_main_v159 (idx_main_v160 (idx_main_v161 (idx_main_v162 (ix4 0 h d l)))) = ix4 0 h 3 d := by
    funext a
    fin_cases a <;> (apply Fin.ext; first | rfl | (simp only [ix4, ix5]; omega) | (dsimp [ix4, ix5]; omega))
  have e2 : idx_main_v164 (idx_main_v165 (ix4 0 h d l)) = ix5 0 h 3 d l := by
    funext a
    fin_cases a <;> (apply Fin.ext; first | rfl | (simp only [ix4, ix5]; omega) | (dsimp [ix4, ix5]; omega))
  rw [e1, e2, v61B x0 x1 x4 x5 x7, v59B x0 x1 x4 x5 x7, v85B x0 x1 x4 x5 x7]
  rfl

/-- In the backward reference, the stacked states that the chunks start from. -/
theorem v98B (h t : Fin 4) (d : Fin 128) (l : Fin 256) : val_main_v171 (F := Ideal) x0 x1 x4 x5 x7 (ix5 0 h t d l) = st (chB x0 x1 x4 x5 x7) h t.val d l := by
  unfold val_main_v171
  rw [beside]
  fin_cases t
  · show val_main_v167 (F := Ideal) x7 (ix5 0 h 0 d l) = _
    rw [val_main_v167_apply, show idx_main_v167 (ix5 0 h 0 d l) = ix4 0 h d l from by funext a; fin_cases a <;> rfl, v34B x0 x1 x4 x5 x7]
  · show val_main_v168 (F := Ideal) x0 x1 x4 x5 x7 (ix5 0 h 0 d l) = _
    rw [val_main_v168_apply, show idx_main_v168 (ix5 0 h 0 d l) = ix4 0 h d l from by funext a; fin_cases a <;> rfl, v69B x0 x1 x4 x5 x7]
  · show val_main_v169 (F := Ideal) x0 x1 x4 x5 x7 (ix5 0 h 0 d l) = _
    rw [val_main_v169_apply, show idx_main_v169 (ix5 0 h 0 d l) = ix4 0 h d l from by funext a; fin_cases a <;> rfl, v77B x0 x1 x4 x5 x7]
  · show val_main_v170 (F := Ideal) x0 x1 x4 x5 x7 (ix5 0 h 0 d l) = _
    rw [val_main_v170_apply, show idx_main_v170 (ix5 0 h 0 d l) = ix4 0 h d l from by funext a; fin_cases a <;> rfl, v85B x0 x1 x4 x5 x7]

/-- The mask of the reference, in the backward direction. -/
theorem maskB (i j : Fin 64) : val_main_v124 (F := Ideal) (ix2 i j) = if j.val ≤ i.val then 1#1 else 0#1 := by
  rw [val_main_v124_apply, val_main_v123_apply, val_main_call10_v5_apply, val_main_call10_v4_apply, val_main_call10_v3_apply, val_main_call10_v2_apply, val_main_call10_v1_apply, val_main_call10_v0_apply, val_main_c_3_apply, val_main_call10_c_apply, val_main_call10_c_0_apply]
  revert i j
  decide +kernel

/-- In the backward reference, the scores under the mask. -/
theorem v53B (h t : Fin 4) (i j : Fin 64) : val_main_v126 (F := Ideal) x0 x1 x4 x5 (ix5 0 h t i j) = if j.val ≤ i.val then ∑ d : Fin 128, (chB x0 x1 x4 x5 x7).q h t i d * Ideal.exp (cum (chB x0 x1 x4 x5 x7) h t i d) * ((chB x0 x1 x4 x5 x7).k h t j d * Ideal.exp (-cum (chB x0 x1 x4 x5 x7) h t j d)) else 0 := by
  have e : val_main_v125 (F := Ideal) x0 x1 x4 x5 (ix5 0 h t i j) = ∑ d : Fin 128, (chB x0 x1 x4 x5 x7).q h t i d * Ideal.exp (cum (chB x0 x1 x4 x5 x7) h t i d) * ((chB x0 x1 x4 x5 x7).k h t j d * Ideal.exp (-cum (chB x0 x1 x4 x5 x7) h t j d)) := by
    rw [val_main_v125_apply]
    refine Finset.sum_congr rfl fun d _ => ?_
    rw [show lidx_main_v125 (ix5 0 h t i j) d = ix5 0 h t i d from by funext a; fin_cases a <;> rfl, show ridx_main_v125 (ix5 0 h t i j) d = ix5 0 h t j d from by funext a; fin_cases a <;> rfl, v46B x0 x1 x4 x5 x7, v49B x0 x1 x4 x5 x7]
  rw [val_main_v126_apply, e, val_main_call11_v1_apply, val_main_call11_v2_apply, val_main_call11_v0_apply, val_main_cst_4_apply, show idx_main_call11_v1 (ix5 0 h t i j) = ix2 i j from by funext a; fin_cases a <;> rfl, maskB]
  by_cases hj : j.val ≤ i.val
  · rw [if_pos hj, if_pos hj]; rfl
  · rw [if_neg hj, if_neg hj]; show Ideal.ofBits .f32 0x00000000#32 = 0; simp [Ideal.ofBits, Ideal.ieee]

/-- The reference's output of a chunk. -/
theorem v100B (h t : Fin 4) (i : Fin 64) (l : Fin 256) : val_main_v173 (F := Ideal) x0 x1 x4 x5 x7 (ix5 0 h t i l) = outc (chB x0 x1 x4 x5 x7) h t (st (chB x0 x1 x4 x5 x7) h t.val) i l := by
  rw [val_main_v173_apply, val_main_v127_apply, val_main_v172_apply]
  refine congrArg₂ (· + ·) (Finset.sum_congr rfl fun j _ => ?_) (Finset.sum_congr rfl fun d _ => ?_)
  · rw [show lidx_main_v127 (ix5 0 h t i l) j = ix5 0 h t i j from by funext a; fin_cases a <;> rfl, show ridx_main_v127 (ix5 0 h t i l) j = ix5 0 h t j l from by funext a; fin_cases a <;> rfl, v53B x0 x1 x4 x5 x7]
    rfl
  · rw [show lidx_main_v172 (ix5 0 h t i l) d = ix5 0 h t i d from by funext a; fin_cases a <;> rfl, show ridx_main_v172 (ix5 0 h t i l) d = ix5 0 h t d l from by funext a; fin_cases a <;> rfl, v46B x0 x1 x4 x5 x7, v98B x0 x1 x4 x5 x7]

/-- The reference's output, by row. -/
theorem v102B (h t : Fin 4) (i : Fin 64) (l : Fin 256) : val_main_v175 (F := Ideal) x0 x1 x4 x5 x7 (ix4 0 ⟨64 * t.val + i.val, by omega⟩ h l) = outc (chB x0 x1 x4 x5 x7) h t (st (chB x0 x1 x4 x5 x7) h t.val) i l := by
  rw [val_main_v175_apply, val_main_v174_apply, ← v100B x0 x1 x4 x5 x7]
  congr 1
  funext a
  fin_cases a <;> (apply Fin.ext; first | rfl | (simp only [ix4, ix5]; omega) | (dsimp [ix4, ix5]; omega))

end Cert.GlaRefIdeal.Hand
-- ==== Proof.GlaBlock.lean ====
module

public import proofs.«01_k».proof.Proof.Gen.GlaIdeal.Frame
public import Idealize.ShloMosaic.Lib.Pointwise

/-! One chunk of the gated linear attention: the arrays the kernel computes of a chunk's rows, read at an index. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

/-- The scaled queries times the decay so far. -/
def qe (Q : Vec Ideal S64x512 .bf16) (C : Vec Ideal S1x64x512 .f32) : FVec Ideal S64x512 .bf16 :=
  truncf .bf16 (mulf (mulf (extf .f32 Q bitsLt_bf16_f32) (broadcast S64x512 (FloatOps.ofBits .f32 0x3DB504F3#32)))
    (exp2 (shapeCast S64x512 C shapeCasts_S1x64x512_S64x512))) bitsLt_bf16_f32

/-- The keys over the decay so far. -/
def ke (K : Vec Ideal S64x512 .bf16) (C : Vec Ideal S1x64x512 .f32) : FVec Ideal S64x512 .bf16 :=
  truncf .bf16 (mulf (extf .f32 K bitsLt_bf16_f32)
    (exp2 (subf (broadcast S64x512 (FloatOps.ofBits .f32 0x00000000#32)) (shapeCast S64x512 C shapeCasts_S1x64x512_S64x512)))) bitsLt_bf16_f32

/-- The row of a chunk's decays that belongs to its last row, row `o`. -/
def lastRow (C : Vec Ideal S1x64x512 .f32) (o : ℕ) (h : S64x512.Slices ![o, 0] S1x512) : FVec Ideal S1x512 .f32 :=
  extractStridedSlice S1x512 ![o, 0] (shapeCast S64x512 C shapeCasts_S1x64x512_S64x512) h

/-- The keys times the decay still to come. -/
def kd (K : Vec Ideal S64x512 .bf16) (C : Vec Ideal S1x64x512 .f32) (o : ℕ) (h : S64x512.Slices ![o, 0] S1x512) : FVec Ideal S64x512 .bf16 :=
  truncf .bf16 (mulf (extf .f32 K bitsLt_bf16_f32)
    (exp2 (subf (broadcastTo S64x512 (lastRow C o h) broadcasts_S1x512_S64x512) (shapeCast S64x512 C shapeCasts_S1x64x512_S64x512)))) bitsLt_bf16_f32

/-- A head's columns. -/
abbrev hd (X : FVec Ideal S64x512 .bf16) (o : ℕ) (h : S64x512.Slices ![0, o] S64x128) : FVec Ideal S64x128 .bf16 := extractStridedSlice S64x128 ![0, o] X h

/-- The products of queries and keys, the keys padded with zero rows. -/
def sc (Q K : FVec Ideal S64x128 .bf16) : FVec Ideal S64x128 .f32 :=
  matmul dot_S64x128_S128x128_S64x128_1_1_0_0_n_n none Q
    (concatenate S128x128 0 [⟨S64x128, K⟩, ⟨S64x128, broadcast S64x128 (FloatOps.ofBits .bf16 0x0000#16 : Ideal .bf16)⟩] concatenates_S64x128_S64x128_S128x128_d0)
    (constant S64x128 .f32 0x00000000#32)

/-- The chunk's output: the masked products against the values, and the queries against the state. -/
def out (mask : IVec S64x128 1) (Q K : FVec Ideal S64x128 .bf16) (V : FVec Ideal S64x256 .bf16) (S : Vec Ideal S1x1x128x256 .f32) : FVec Ideal S64x256 .bf16 :=
  truncf .bf16 (matmul dot_S64x256_S256x256_S64x256_1_0_0_1_n_n none
    (concatenate S64x256 1 [⟨S64x128, truncf .bf16 (select mask (sc Q K) (broadcast S64x128 (FloatOps.ofBits .f32 0x00000000#32))) bitsLt_bf16_f32⟩, ⟨S64x128, Q⟩] concatenates_S64x128_S64x128_S64x256_d1)
    (concatenate S256x256 0 [⟨S64x256, V⟩, ⟨S64x256, broadcast S64x256 (FloatOps.ofBits .bf16 0x0000#16 : Ideal .bf16)⟩,
      ⟨S128x256, truncf .bf16 (shapeCast S128x256 S shapeCasts_S1x1x128x256_S128x256) bitsLt_bf16_f32⟩] concatenates_S64x256_S64x256_S128x256_S256x256_d0)
    (constant S64x256 .f32 0x00000000#32)) bitsLt_bf16_f32

/-- The state after the chunk. -/
def st (KD : FVec Ideal S64x128 .bf16) (L : FVec Ideal S1x128 .f32) (V : FVec Ideal S64x256 .bf16) (S : Vec Ideal S1x1x128x256 .f32) : FVec Ideal S1x1x128x256 .f32 :=
  shapeCast S1x1x128x256 (addf (mulf (broadcastTo S128x256 (extractStridedSlice S128x1 ![0, 0] (transpose S128x8 [1, 0]
    (broadcastTo S8x128 (shapeCast S1x128 L shapeCasts_S1x128_S1x128) broadcasts_S1x128_S8x128) transposes_S8x128_p1_0_S128x8) slices_S128x8_o0_0_S128x1) broadcasts_S128x1_S128x256)
      (shapeCast S128x256 S shapeCasts_S1x1x128x256_S128x256))
    (matmul dot_S64x128_S64x256_S128x256_0_0_1_1_n_n none KD V (constant S128x256 .f32 0x00000000#32))) shapeCasts_S128x256_S1x1x128x256

/-- The kernel's scale of the queries. -/
abbrev scale : EReal := Ideal.ofBits .f32 0x3DB504F3#32

/-- The decayed query at an index. -/
theorem qe_apply (Q : Vec Ideal S64x512 .bf16) (C : Vec Ideal S1x64x512 .f32) (r : Fin 64) (l : Fin 512) :
    qe Q C (ix2 r l) = Q (ix2 r l) * scale * Ideal.exp2 (C (ix3 0 r l)) := by
  pointwise [qe]
  rfl

/-- The key with its decay taken off, at an index. -/
theorem ke_apply (K : Vec Ideal S64x512 .bf16) (C : Vec Ideal S1x64x512 .f32) (r : Fin 64) (l : Fin 512) :
    ke K C (ix2 r l) = K (ix2 r l) * Ideal.exp2 (-(C (ix3 0 r l))) := by
  pointwise [ke]
  rw [zero_sub]
  rfl

/-- The last running decay of a step at an index. -/
theorem lastRow_apply (C : Vec Ideal S1x64x512 .f32) (o : ℕ) (ho : o < 64) (h : S64x512.Slices ![o, 0] S1x512) (l : Fin 512) :
    lastRow C o h (ix2 0 l) = C (ix3 0 ⟨o, ho⟩ l) := by pointwise [lastRow]

/-- The key decayed to the end of its step, at an index. -/
theorem kd_apply (K : Vec Ideal S64x512 .bf16) (C : Vec Ideal S1x64x512 .f32) (o : ℕ) (ho : o < 64) (h : S64x512.Slices ![o, 0] S1x512) (r : Fin 64) (l : Fin 512) :
    kd K C o h (ix2 r l) = K (ix2 r l) * Ideal.exp2 (C (ix3 0 ⟨o, ho⟩ l) - C (ix3 0 r l)) := by
  pointwise [kd, lastRow]
  rfl

/-- A head of a wide block at an index. -/
theorem hd_apply (X : FVec Ideal S64x512 .bf16) (o : ℕ) (ho : o + 128 ≤ 512) (h : S64x512.Slices ![0, o] S64x128) (r : Fin 64) (l : Fin 128) :
    hd X o h (ix2 r l) = X (ix2 r ⟨o + l.val, by omega⟩) := by pointwise

/-- The masked scores at an index. -/
theorem sc_apply (Q K : FVec Ideal S64x128 .bf16) (r j : Fin 64) :
    sc Q K (ix2 r ⟨j.val, by omega⟩) = ∑ d : Fin 128, Q (ix2 r d) * K (ix2 j d) := by
  pointwise [sc]

/-- The next state at an index. -/
theorem st_apply (KD : FVec Ideal S64x128 .bf16) (L : FVec Ideal S1x128 .f32) (V : FVec Ideal S64x256 .bf16) (S : Vec Ideal S1x1x128x256 .f32) (d : Fin 128) (l : Fin 256) :
    st KD L V S (ix4 0 0 d l) = L (ix2 0 d) * S (ix4 0 0 d l) + ∑ j : Fin 64, KD (ix2 j d) * V (ix2 j l) := by
  pointwise [st]

/-- A sum over 256 cut at 64 and at 128. -/
theorem sum_parts (f : Fin 256 → EReal) : ∑ x, f x = ((∑ j : Fin 64, f ⟨j.val, by omega⟩) + ∑ j : Fin 64, f ⟨64 + j.val, by omega⟩) + ∑ d : Fin 128, f ⟨128 + d.val, by omega⟩ := by
  rw [Fin.sum_univ_add (a := 128) (b := 128) f]
  congr 1
  exact Fin.sum_univ_add (a := 64) (b := 64) fun i : Fin 128 => f (Fin.castAdd 128 i)

/-- The output of a step at an index. -/
theorem out_apply (mask : IVec S64x128 1) (Q K : FVec Ideal S64x128 .bf16) (V : FVec Ideal S64x256 .bf16) (S : Vec Ideal S1x1x128x256 .f32) (r : Fin 64) (l : Fin 256) :
    out mask Q K V S (ix2 r l) = (∑ j : Fin 64, (if mask (ix2 r ⟨j.val, by omega⟩) = 1#1 then ∑ d : Fin 128, Q (ix2 r d) * K (ix2 j d) else 0) * V (ix2 j l))
      + ∑ d : Fin 128, Q (ix2 r d) * S (ix4 0 0 d l) := by
  generalize hs : sc Q K = s
  pointwise [out, hs]
  rw [sum_parts]
  refine congrArg₂ (· + ·) ?_ (Finset.sum_congr rfl fun d _ => ?_)
  · refine (congrArg₂ (· + ·) (Finset.sum_congr rfl fun j _ => ?_) (Finset.sum_eq_zero fun j _ => ?_)).trans (add_zero _)
    · have hj : j.val < 128 := by omega
      have e := (congrFun hs (ix2 r ⟨j.val, hj⟩)).symm.trans (sc_apply Q K r j)
      rw [dif_pos hj, dif_pos j.isLt]
      exact congrArg (· * V (ix2 j l)) (congrArg (fun z => if mask (ix2 r ⟨j.val, hj⟩) = 1#1 then z else 0) e)
    · refine (congrArg (_ * ·) ?_).trans (mul_zero _)
      rw [dif_neg (by show ¬ 64 + j.val < 64; omega), dif_pos (by show 64 + j.val - 64 < 64; omega)]
  · have e : (⟨128 + d.val - 128, by omega⟩ : Fin 128) = d := Fin.ext (by show 128 + d.val - 128 = d.val; omega)
    have e' : (⟨128 + d.val - 64 - 64, by omega⟩ : Fin 128) = d := Fin.ext (by show 128 + d.val - 64 - 64 = d.val; omega)
    rw [dif_neg (by show ¬ 128 + d.val < 128; omega), dif_neg (by show ¬ 128 + d.val < 64; omega), dif_neg (by show ¬ 128 + d.val - 64 < 64; omega)]
    exact congrArg₂ (· * ·) (congrArg (fun x => Q (ix2 r x)) e) (congrArg (fun x => S (ix4 0 0 x l)) e')

end Cert.GlaIdeal.Hand
-- ==== Proof.GlaStep.lean ====
module

public import proofs.«01_k».proof.Proof.GlaBlock
public import Idealize.ShloMosaic.Lib.WholeRead
public import Idealize.ShloMosaic.Lib.Pipeline.ReadBack

/-! One step of the recurrence for one head, written with the kernel's block of queries, keys and values and its array of running decays. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

/-- Row `n` of a block of 256 rows. -/
def row (n : ℕ) : Fin 256 := ⟨n % 256, Nat.mod_lt _ (by decide)⟩
/-- Column `n` of 512. -/
def col (n : ℕ) : Fin 512 := ⟨n % 512, Nat.mod_lt _ (by decide)⟩
/-- Column `n` of 2048. -/
def wide (n : ℕ) : Fin 2048 := ⟨n % 2048, Nat.mod_lt _ (by decide)⟩

/-- Whether row `i` of a chunk sees row `j`: going backwards it sees the later rows. -/
def sees (rev : Bool) (i j : Fin 64) : Bool := if rev then i.val ≤ j.val else j.val ≤ i.val

/-- The state of head `h` after the chunk that begins at row `b` and whose last row is row `o` of it. -/
def stepSt (X : Vec Ideal S256x2048 .bf16) (C : Vec Ideal S1x256x512 .f32) (b o h : ℕ) (S : Fin 128 → Fin 256 → EReal) (d : Fin 128) (l : Fin 256) : EReal :=
  Ideal.exp2 (C (ix3 0 (row (b + o)) (col (128 * h + d.val)))) * S d l
    + ∑ j : Fin 64, X (ix2 (row (b + j.val)) (wide (512 + 128 * h + d.val)))
        * Ideal.exp2 (C (ix3 0 (row (b + o)) (col (128 * h + d.val))) - C (ix3 0 (row (b + j.val)) (col (128 * h + d.val))))
        * X (ix2 (row (b + j.val)) (wide (1024 + 256 * h + l.val)))

/-- The output of head `h` on the chunk that begins at row `b`. -/
def stepOut (rev : Bool) (X : Vec Ideal S256x2048 .bf16) (C : Vec Ideal S1x256x512 .f32) (b h : ℕ) (S : Fin 128 → Fin 256 → EReal) (r : Fin 64) (l : Fin 256) : EReal :=
  (∑ j : Fin 64, (if sees rev r j = true then
      ∑ d : Fin 128, (X (ix2 (row (b + r.val)) (wide (128 * h + d.val))) * scale * Ideal.exp2 (C (ix3 0 (row (b + r.val)) (col (128 * h + d.val)))))
        * (X (ix2 (row (b + j.val)) (wide (512 + 128 * h + d.val))) * Ideal.exp2 (-(C (ix3 0 (row (b + j.val)) (col (128 * h + d.val)))))) else 0)
      * X (ix2 (row (b + j.val)) (wide (1024 + 256 * h + l.val))))
    + ∑ d : Fin 128, (X (ix2 (row (b + r.val)) (wide (128 * h + d.val))) * scale * Ideal.exp2 (C (ix3 0 (row (b + r.val)) (col (128 * h + d.val))))) * S d l

/-- A load of the queries' or the keys' rows of a chunk. -/
abbrev ldK (M : Memref sig .tc .vmem S256x2048 .bf16) (hM : M.IsWhole) (X : Vec Ideal S256x2048 .bf16) (p b : ℕ)
    (h1 : ∀ a, (![0, p] : Fin 2 → ℕ) a + S256x512.size a ≤ S256x2048.size a) (h2 : ∀ a, (![b, 0] : Fin 2 → ℕ) a + S64x512.size a ≤ S256x512.size a) : Vec Ideal S64x512 .bf16 :=
  View.readAt (Elt Ideal) M.view ((Rect.unit (s := S256x2048) ![0, p] S256x512.size h1).withinL (Rect.unit (s := S256x512) ![b, 0] S64x512.size h2).toLoadRect (fun _ => rfl)) (hM.unread X)

/-- A load of one head's values of a chunk. -/
abbrev ldV (M : Memref sig .tc .vmem S256x2048 .bf16) (hM : M.IsWhole) (X : Vec Ideal S256x2048 .bf16) (b q : ℕ)
    (h2 : ∀ a, (![b, q] : Fin 2 → ℕ) a + S64x256.size a ≤ S256x1024.size a) : Vec Ideal S64x256 .bf16 :=
  View.readAt (Elt Ideal) M.view ((Rect.unit (s := S256x2048) ![0, 1024] S256x1024.size inb_S256x2048_S256x1024_0_1024).withinL (Rect.unit (s := S256x1024) ![b, q] S64x256.size h2).toLoadRect (fun _ => rfl)) (hM.unread X)

/-- A load of queries or keys at an index. -/
theorem ldK_apply (M : Memref sig .tc .vmem S256x2048 .bf16) (hM : M.IsWhole) (X : Vec Ideal S256x2048 .bf16) (p b : ℕ)
    (h1 : ∀ a, (![0, p] : Fin 2 → ℕ) a + S256x512.size a ≤ S256x2048.size a) (h2 : ∀ a, (![b, 0] : Fin 2 → ℕ) a + S64x512.size a ≤ S256x512.size a) (j : Fin 64) (l : Fin 512) :
    ldK M hM X p b h1 h2 (ix2 j l) = X (ix2 (row (b + j.val)) (wide (p + l.val))) := by
  refine (hM.readAt_unread X _ _).trans (congrArg X ?_)
  have e1 : p + 512 ≤ 2048 := h1 1
  have e2 : b + 64 ≤ 256 := h2 0
  funext a
  match a with
  | ⟨0, _⟩ => apply Fin.ext; show 0 + b + 1 * j.val = (b + j.val) % 256; omega
  | ⟨1, _⟩ => apply Fin.ext; show p + 0 + 1 * l.val = (p + l.val) % 2048; omega

/-- A load of values at an index. -/
theorem ldV_apply (M : Memref sig .tc .vmem S256x2048 .bf16) (hM : M.IsWhole) (X : Vec Ideal S256x2048 .bf16) (b q : ℕ)
    (h2 : ∀ a, (![b, q] : Fin 2 → ℕ) a + S64x256.size a ≤ S256x1024.size a) (j : Fin 64) (l : Fin 256) :
    ldV M hM X b q h2 (ix2 j l) = X (ix2 (row (b + j.val)) (wide (1024 + q + l.val))) := by
  refine (hM.readAt_unread X _ _).trans (congrArg X ?_)
  have e1 : q + 256 ≤ 1024 := h2 1
  have e2 : b + 64 ≤ 256 := h2 0
  funext a
  match a with
  | ⟨0, _⟩ => apply Fin.ext; show 0 + b + 1 * j.val = (b + j.val) % 256; omega
  | ⟨1, _⟩ => apply Fin.ext; show 1024 + q + 1 * l.val = (1024 + q + l.val) % 2048; omega

/-- A load of a chunk's rows from the scratch that holds both directions' decays. -/
theorem ldC_apply (v : View sig .tc .vmem S2x256x512 .f32) (B F : Vec Ideal S1x256x512 .f32) (g b : ℕ)
    (i1 : ∀ a, (![1, 0, 0] : Fin 3 → ℕ) a + S1x256x512.size a ≤ S2x256x512.size a) (i0 : ∀ a, (![0, 0, 0] : Fin 3 → ℕ) a + S1x256x512.size a ≤ S2x256x512.size a)
    (h : ∀ a, (![g, b, 0] : Fin 3 → ℕ) a + S1x64x512.size a ≤ S2x256x512.size a) (j : Fin 64) (l : Fin 512) :
    v.readCov (Val := Elt Ideal) [⟨Rect.unit (s := S2x256x512) ![1, 0, 0] S1x256x512.size i1, B⟩, ⟨Rect.unit (s := S2x256x512) ![0, 0, 0] S1x256x512.size i0, F⟩]
      (Rect.unit (s := S2x256x512) ![g, b, 0] S1x64x512.size h).toLoadRect (ix3 0 j l) = (if g = 1 then B else F) (ix3 0 (row (b + j.val)) l) := by
  rw [View.readCov_eq_canon']
  have e2 : b + 64 ≤ 256 := h 1
  have e1 : g + 1 ≤ 2 := h 0
  have hi : (Rect.unit (s := S2x256x512) ![g, b, 0] S1x64x512.size h).toLoadRect.idx (ix3 0 j l) = ix3 ⟨g, by omega⟩ (row (b + j.val)) l := by
    funext a
    match a with
    | ⟨0, _⟩ => apply Fin.ext; show g + 1 * 0 = g; omega
    | ⟨1, _⟩ => apply Fin.ext; show b + 1 * j.val = (b + j.val) % 256; omega
    | ⟨2, _⟩ => apply Fin.ext; show 0 + 1 * l.val = l.val; omega
  show View.canon _ ((Rect.unit (s := S2x256x512) ![g, b, 0] S1x64x512.size h).toLoadRect.idx (ix3 0 j l)) = _
  rw [hi]
  by_cases hg : g = 1
  · subst hg
    rw [if_pos rfl]
    have e : (ix3 ⟨1, by omega⟩ (row (b + j.val)) l : S2x256x512.Idx) = (Rect.unit (s := S2x256x512) ![1, 0, 0] S1x256x512.size i1).emb (ix3 0 (row (b + j.val)) l) := by
      funext a
      match a with
      | ⟨0, _⟩ => apply Fin.ext; show 1 = 1 + 1 * 0; omega
      | ⟨1, _⟩ => apply Fin.ext; show (row (b + j.val)).val = 0 + 1 * (row (b + j.val)).val; omega
      | ⟨2, _⟩ => apply Fin.ext; show l.val = 0 + 1 * l.val; omega
    rw [e]
    exact View.canon_cons_emb _ _ _ _
  · have hg0 : g = 0 := by omega
    subst hg0
    rw [if_neg (by decide)]
    have e : (ix3 ⟨0, by omega⟩ (row (b + j.val)) l : S2x256x512.Idx) = (Rect.unit (s := S2x256x512) ![0, 0, 0] S1x256x512.size i0).emb (ix3 0 (row (b + j.val)) l) := by
      funext a
      match a with
      | ⟨0, _⟩ => apply Fin.ext; show 0 = 0 + 1 * 0; omega
      | ⟨1, _⟩ => apply Fin.ext; show (row (b + j.val)).val = 0 + 1 * (row (b + j.val)).val; omega
      | ⟨2, _⟩ => apply Fin.ext; show l.val = 0 + 1 * l.val; omega
    rw [View.canon_cons_of_not_mem (Val := Elt Ideal) ⟨Rect.unit (s := S2x256x512) ![1, 0, 0] S1x256x512.size i1, B⟩ [⟨Rect.unit (s := S2x256x512) ![0, 0, 0] S1x256x512.size i0, F⟩] (by
      rw [Rect.mem_set_unit]
      intro hm
      exact absurd (hm 0).1 (by show ¬ 1 ≤ 0; omega)), e]
    exact View.canon_cons_emb _ _ _ _

/-- The state the kernel stores, by its own loads, is one step of the recurrence. -/
theorem st_val {w : Vec Ideal S1x1x128x256 .f32} {X : Vec Ideal S256x2048 .bf16} {CC : Vec Ideal S1x256x512 .f32} {K : Vec Ideal S64x512 .bf16} {C : Vec Ideal S1x64x512 .f32}
    {V : Vec Ideal S64x256 .bf16} {S : Vec Ideal S1x1x128x256 .f32} {b o h p : ℕ} (ho : o < 64) (hh : h < 4) (hp : p = 128 * h)
    {h1 : S64x512.Slices ![o, 0] S1x512} {h2 : S64x512.Slices ![0, p] S64x128} {h3 : S1x512.Slices ![0, p] S1x128}
    (e : w = st (hd (kd K C o h1) p h2) (extractStridedSlice S1x128 ![0, p] (exp2 (lastRow C o h1)) h3) V S)
    (eK : ∀ (j : Fin 64) (l : Fin 512), K (ix2 j l) = X (ix2 (row (b + j.val)) (wide (512 + l.val))))
    (eC : ∀ (j : Fin 64) (l : Fin 512), C (ix3 0 j l) = CC (ix3 0 (row (b + j.val)) l))
    (eV : ∀ (j : Fin 64) (l : Fin 256), V (ix2 j l) = X (ix2 (row (b + j.val)) (wide (1024 + 256 * h + l.val)))) (d : Fin 128) (l : Fin 256) :
    w (ix4 0 0 d l) = stepSt X CC b o h (fun d l => S (ix4 0 0 d l)) d l := by
  subst hp
  have hl : (extractStridedSlice S1x128 ![0, 128 * h] (exp2 (lastRow C o h1)) h3 : FVec Ideal S1x128 .f32) (ix2 0 d) = Ideal.exp2 (C (ix3 0 ⟨o, ho⟩ ⟨128 * h + d.val, by omega⟩)) := by
    generalize hx : lastRow C o h1 = x
    pointwise
    rw [← hx]
    exact congrArg Ideal.exp2 (lastRow_apply C o ho h1 _)
  have hc : (⟨128 * h + d.val, by omega⟩ : Fin 512) = col (128 * h + d.val) := Fin.ext (Nat.mod_eq_of_lt (by omega)).symm
  rw [e, st_apply, hl, eC, hc]
  refine congrArg₂ (· + ·) rfl (Finset.sum_congr rfl fun j _ => ?_)
  rw [hd_apply _ _ (by omega), kd_apply _ _ _ ho, eK, eC, eC, eV, hc]
  have hw : (col (128 * h + d.val)).val = 128 * h + d.val := Nat.mod_eq_of_lt (by omega)
  rw [hw, ← Nat.add_assoc]

/-- The output the kernel stores, by its own loads, is one step of the recurrence. -/
theorem out_val {w : FVec Ideal S64x256 .bf16} {rev : Bool} {mask : IVec S64x128 1} {X : Vec Ideal S256x2048 .bf16} {CC : Vec Ideal S1x256x512 .f32} {Q K : Vec Ideal S64x512 .bf16} {C : Vec Ideal S1x64x512 .f32}
    {V : Vec Ideal S64x256 .bf16} {S : Vec Ideal S1x1x128x256 .f32} {b h p : ℕ} (hh : h < 4) (hp : p = 128 * h) {h2 : S64x512.Slices ![0, p] S64x128}
    (e : w = out mask (hd (qe Q C) p h2) (hd (ke K C) p h2) V S)
    (em : ∀ (i j : Fin 64), mask (ix2 i ⟨j.val, by omega⟩) = 1#1 ↔ sees rev i j = true)
    (eQ : ∀ (j : Fin 64) (l : Fin 512), Q (ix2 j l) = X (ix2 (row (b + j.val)) (wide (0 + l.val))))
    (eK : ∀ (j : Fin 64) (l : Fin 512), K (ix2 j l) = X (ix2 (row (b + j.val)) (wide (512 + l.val))))
    (eC : ∀ (j : Fin 64) (l : Fin 512), C (ix3 0 j l) = CC (ix3 0 (row (b + j.val)) l))
    (eV : ∀ (j : Fin 64) (l : Fin 256), V (ix2 j l) = X (ix2 (row (b + j.val)) (wide (1024 + 256 * h + l.val)))) (r : Fin 64) (l : Fin 256) :
    w (ix2 r l) = stepOut rev X CC b h (fun d l => S (ix4 0 0 d l)) r l := by
  subst hp
  have hc : ∀ d : Fin 128, (⟨128 * h + d.val, by omega⟩ : Fin 512) = col (128 * h + d.val) := fun d => Fin.ext (Nat.mod_eq_of_lt (by omega)).symm
  have hw : ∀ d : Fin 128, (col (128 * h + d.val)).val = 128 * h + d.val := fun d => Nat.mod_eq_of_lt (by omega)
  have hq : ∀ (i : Fin 64) (d : Fin 128), hd (qe Q C) (128 * h) h2 (ix2 i d) = X (ix2 (row (b + i.val)) (wide (128 * h + d.val))) * scale * Ideal.exp2 (CC (ix3 0 (row (b + i.val)) (col (128 * h + d.val)))) := by
    intro i d
    rw [hd_apply _ _ (by omega), qe_apply, eQ, eC, hc, hw, Nat.zero_add]
  have hk : ∀ (i : Fin 64) (d : Fin 128), hd (ke K C) (128 * h) h2 (ix2 i d) = X (ix2 (row (b + i.val)) (wide (512 + 128 * h + d.val))) * Ideal.exp2 (-(CC (ix3 0 (row (b + i.val)) (col (128 * h + d.val))))) := by
    intro i d
    rw [hd_apply _ _ (by omega), ke_apply, eK, eC, hc, hw, ← Nat.add_assoc]
  rw [e, out_apply]
  refine congrArg₂ (· + ·) (Finset.sum_congr rfl fun j _ => ?_) (Finset.sum_congr rfl fun d _ => ?_)
  · rw [eV]
    refine congrArg (· * _) ?_
    simp only [em, hq, hk]
  · rw [hq]

/-- A load of one head's state skips a store of another head's. -/
theorem rc_skip (v : View sig .tc .vmem S2x4x128x256 .f32) (H : List (View.Piece (Elt Ideal) S2x4x128x256 .f32)) (g h g' h' : ℕ) (w : Vec Ideal S1x1x128x256 .f32)
    (i : ∀ a, (![g, h, 0, 0] : Fin 4 → ℕ) a + S1x1x128x256.size a ≤ S2x4x128x256.size a) (i' : ∀ a, (![g', h', 0, 0] : Fin 4 → ℕ) a + S1x1x128x256.size a ≤ S2x4x128x256.size a)
    (hd : LoadRect.disj (Rect.unit (s := S2x4x128x256) ![g', h', 0, 0] S1x1x128x256.size i') (Rect.unit (s := S2x4x128x256) ![g, h, 0, 0] S1x1x128x256.size i).toLoadRect = true) :
    v.readCov (Val := Elt Ideal) (⟨Rect.unit (s := S2x4x128x256) ![g', h', 0, 0] S1x1x128x256.size i', w⟩ :: H) (Rect.unit (s := S2x4x128x256) ![g, h, 0, 0] S1x1x128x256.size i).toLoadRect
      = v.readCov (Val := Elt Ideal) H (Rect.unit (s := S2x4x128x256) ![g, h, 0, 0] S1x1x128x256.size i).toLoadRect :=
  View.readCov_skip v (Rect.unit (s := S2x4x128x256) ![g', h', 0, 0] S1x1x128x256.size i') w H (Rect.unit (s := S2x4x128x256) ![g, h, 0, 0] S1x1x128x256.size i).toLoadRect hd

/-- A load of one head's state reads the last store of it. -/
theorem rc_hit (v : View sig .tc .vmem S2x4x128x256 .f32) (H : List (View.Piece (Elt Ideal) S2x4x128x256 .f32)) (g h : ℕ) (w : Vec Ideal S1x1x128x256 .f32)
    (i : ∀ a, (![g, h, 0, 0] : Fin 4 → ℕ) a + S1x1x128x256.size a ≤ S2x4x128x256.size a) :
    v.readCov (Val := Elt Ideal) (⟨Rect.unit (s := S2x4x128x256) ![g, h, 0, 0] S1x1x128x256.size i, w⟩ :: H) (Rect.unit (s := S2x4x128x256) ![g, h, 0, 0] S1x1x128x256.size i).toLoadRect = w :=
  View.readCov_cons_toLoadRect v (Rect.unit (s := S2x4x128x256) ![g, h, 0, 0] S1x1x128x256.size i) w H

/-- A load of one head's state from the initial stores of both directions. -/
theorem rc_init (v : View sig .tc .vmem S2x4x128x256 .f32) (B F : Vec Ideal S1x4x128x256 .f32) (g h : ℕ) (hh : h < 4)
    (i1 : ∀ a, (![1, 0, 0, 0] : Fin 4 → ℕ) a + S1x4x128x256.size a ≤ S2x4x128x256.size a) (i0 : ∀ a, (![0, 0, 0, 0] : Fin 4 → ℕ) a + S1x4x128x256.size a ≤ S2x4x128x256.size a)
    (i : ∀ a, (![g, h, 0, 0] : Fin 4 → ℕ) a + S1x1x128x256.size a ≤ S2x4x128x256.size a) (d : Fin 128) (l : Fin 256) :
    v.readCov (Val := Elt Ideal) [⟨Rect.unit (s := S2x4x128x256) ![1, 0, 0, 0] S1x4x128x256.size i1, B⟩, ⟨Rect.unit (s := S2x4x128x256) ![0, 0, 0, 0] S1x4x128x256.size i0, F⟩]
      (Rect.unit (s := S2x4x128x256) ![g, h, 0, 0] S1x1x128x256.size i).toLoadRect (ix4 0 0 d l) = (if g = 1 then B else F) (ix4 0 ⟨h, hh⟩ d l) := by
  rw [View.readCov_eq_canon']
  have e1 : g + 1 ≤ 2 := i 0
  have hi : (Rect.unit (s := S2x4x128x256) ![g, h, 0, 0] S1x1x128x256.size i).toLoadRect.idx (ix4 0 0 d l) = ix4 ⟨g, by omega⟩ ⟨h, hh⟩ d l := by
    funext a
    match a with
    | ⟨0, _⟩ => apply Fin.ext; show g + 1 * 0 = g; omega
    | ⟨1, _⟩ => apply Fin.ext; show h + 1 * 0 = h; omega
    | ⟨2, _⟩ => apply Fin.ext; show 0 + 1 * d.val = d.val; omega
    | ⟨3, _⟩ => apply Fin.ext; show 0 + 1 * l.val = l.val; omega
  show View.canon _ ((Rect.unit (s := S2x4x128x256) ![g, h, 0, 0] S1x1x128x256.size i).toLoadRect.idx (ix4 0 0 d l)) = _
  rw [hi]
  have ee : ∀ (n : ℕ) (hn : n < 2) (k : ∀ a, (![n, 0, 0, 0] : Fin 4 → ℕ) a + S1x4x128x256.size a ≤ S2x4x128x256.size a),
      (ix4 ⟨n, hn⟩ ⟨h, hh⟩ d l : S2x4x128x256.Idx) = (Rect.unit (s := S2x4x128x256) ![n, 0, 0, 0] S1x4x128x256.size k).emb (ix4 0 ⟨h, hh⟩ d l) := by
    intro n hn k
    funext a
    match a with
    | ⟨0, _⟩ => apply Fin.ext; show n = n + 1 * 0; omega
    | ⟨1, _⟩ => apply Fin.ext; show h = 0 + 1 * h; omega
    | ⟨2, _⟩ => apply Fin.ext; show d.val = 0 + 1 * d.val; omega
    | ⟨3, _⟩ => apply Fin.ext; show l.val = 0 + 1 * l.val; omega
  by_cases hg : g = 1
  · subst hg
    rw [if_pos rfl, ee 1 (by omega) i1]
    exact View.canon_cons_emb _ _ _ _
  · have hg0 : g = 0 := by omega
    subst hg0
    rw [if_neg (by decide)]
    rw [View.canon_cons_of_not_mem (Val := Elt Ideal) ⟨Rect.unit (s := S2x4x128x256) ![1, 0, 0, 0] S1x4x128x256.size i1, B⟩ [⟨Rect.unit (s := S2x4x128x256) ![0, 0, 0, 0] S1x4x128x256.size i0, F⟩] (by
      rw [Rect.mem_set_unit]
      intro hm
      exact absurd (hm 0).1 (by show ¬ 1 ≤ 0; omega)), ee 0 (by omega) i0]
    exact View.canon_cons_emb _ _ _ _

/-- The initial states as the kernel stores them, a block of one more axis. -/
theorem init_apply {M : Memref sig .tc .vmem S4x128x256 .f32} (hM : M.IsWhole) (X : Vec Ideal S4x128x256 .f32) (h : Fin 4) (d : Fin 128) (l : Fin 256) :
    (shapeCast S1x4x128x256 (View.readAt (Elt Ideal) M.view (Rect.unit (s := S4x128x256) ![0, 0, 0] S4x128x256.size inb_S4x128x256_S4x128x256_0_0_0).toLoadRect (hM.unread X) : Vec Ideal S4x128x256 .f32)
      shapeCasts_S4x128x256_S1x4x128x256) (ix4 0 h d l) = X (ix3 h d l) := by
  have hr : (View.readAt (Elt Ideal) M.view (Rect.unit (s := S4x128x256) ![0, 0, 0] S4x128x256.size inb_S4x128x256_S4x128x256_0_0_0).toLoadRect (hM.unread X) : Vec Ideal S4x128x256 .f32) = X := by
    funext j
    refine (hM.readAt_unread X _ j).trans (congrArg X ?_)
    funext a
    match a with
    | ⟨0, _⟩ => apply Fin.ext; show 0 + 1 * (j 0).val = (j 0).val; omega
    | ⟨1, _⟩ => apply Fin.ext; show 0 + 1 * (j 1).val = (j 1).val; omega
    | ⟨2, _⟩ => apply Fin.ext; show 0 + 1 * (j 2).val = (j 2).val; omega
  rw [hr]
  pointwise

end Cert.GlaIdeal.Hand
-- ==== Proof.GlaGate.lean ====
module

public import proofs.«01_k».proof.Proof.GlaStep

/-! Arithmetic of the extended reals that the decays and their sums need. -/

@[expose] public section
set_option maxRecDepth 16384
noncomputable section
open Idealize.ShloMosaic Idealize.ShloMosaic.Pointwise Idealize.ShloMosaic.TcCoe

namespace Cert.GlaIdeal.Hand

/-- The greater of two reals, among the extended reals. -/
theorem coe_max (a b : ℝ) : ((max a b : ℝ) : EReal) = max (a : EReal) b := EReal.coe_strictMono.monotone.map_max
/-- The smaller of two reals, among the extended reals. -/
theorem coe_min (a b : ℝ) : ((min a b : ℝ) : EReal) = min (a : EReal) b := EReal.coe_strictMono.monotone.map_min

/-- The logarithm of a decay whose logit is `z`: a sixteenth of the logarithm of `z`'s sigmoid. -/
def gate (z : EReal) : EReal :=
  -(max (-z) 0 + Ideal.log1p (Ideal.exp (-(max (-z) (- -z))))) * (((1 / 16 : ℝ) : ℝ) : EReal)

/-- The constant one sixteenth. -/
theorem bits_sixteenth : Ideal.ofBits FTy.f32 0x3D800000#32 = (((1 / 16 : ℝ) : ℝ) : EReal) := by
  simp [Ideal.ofBits, Ideal.ieee, -EReal.coe_mul]; norm_num
/-- The constant sixteen. -/
theorem bits_sixteen : Ideal.ofBits FTy.f32 0x41800000#32 = ((16 : ℝ) : EReal) := by
  simp [Ideal.ofBits, Ideal.ieee, -EReal.coe_mul]; norm_num

/-- The logarithm of the logistic function on the reals. -/
theorem log_soft (r : ℝ) : Ideal.log (1 + Ideal.exp (r : EReal)) = ((Real.log (1 + Real.exp r) : ℝ) : EReal) := by
  have h : ¬ (1 + Real.exp r ≤ 0) := by have := Real.exp_pos r; linarith
  rw [Ideal.exp_coe, ← EReal.coe_one, ← EReal.coe_add, Ideal.log_coe, if_neg h]

/-- The logarithm of one. -/
theorem log_one : Ideal.log (1 : EReal) = 0 := by
  rw [← EReal.coe_one, Ideal.log_coe, if_neg (by norm_num), Real.log_one, EReal.coe_zero]

/-- The kernel's form of the decay's logarithm. -/
theorem gate_kernel (z : EReal) :
    (min z 0 - Ideal.log (1 + Ideal.exp (0 - max z (-z)))) * Ideal.ofBits FTy.f32 0x3D800000#32 = gate z := by
  rw [bits_sixteenth, gate]
  congr 1
  rw [Ideal.log1p, neg_neg, max_comm (-z) z, zero_sub]
  induction z using EReal.rec with
  | bot => simp [log_one]
  | top => simp [log_one]
  | coe r =>
    have e : -(max (r : EReal) (-(r : EReal))) = ((-(max r (-r)) : ℝ) : EReal) := by
      rw [EReal.coe_neg, coe_max, EReal.coe_neg]
    rw [e, log_soft]
    have e2 : min (r : EReal) 0 = ((min r 0 : ℝ) : EReal) := by rw [coe_min, EReal.coe_zero]
    have e3 : max (-(r : EReal)) 0 = ((max (-r) 0 : ℝ) : EReal) := by rw [coe_max, EReal.coe_neg, EReal.coe_zero]
    rw [e2, e3, ← EReal.coe_sub, ← EReal.coe_add, ← EReal.coe_neg]
    congr 1
    generalize Real.log (1 + Real.exp (-max r (-r))) = w
    rcases le_total r 0 with h | h
    · rw [min_eq_left h, max_eq_left (by linarith : (0 : ℝ) ≤ -r)]; ring
    · rw [min_eq_right h, max_eq_right (by linarith : -r ≤ (0 : ℝ))]; ring

/-- A gate is never plus infinity. -/
theorem gate_ne_top (z : EReal) : gate z ≠ ⊤ := by
  have hc : (0 : ℝ) < 1 / 16 := by norm_num
  unfold gate
  rw [Ideal.log1p]
  induction z using EReal.rec with
  | bot => rw [EReal.neg_bot, max_eq_left le_top, max_eq_left le_top, EReal.neg_top, Ideal.exp_bot, add_zero, log_one, add_zero, EReal.neg_top, EReal.bot_mul_coe_of_pos hc]; exact bot_ne_top
  | top => simp [log_one]
  | coe r =>
    have e : -(max (-(r : EReal)) (- -(r : EReal))) = ((-(max (-r) r) : ℝ) : EReal) := by
      rw [EReal.coe_neg, coe_max, neg_neg, EReal.coe_neg]
    have e3 : max (-(r : EReal)) 0 = ((max (-r) 0 : ℝ) : EReal) := by rw [coe_max, EReal.coe_neg, EReal.coe_zero]
    rw [e, log_soft, e3, ← EReal.coe_add, ← EReal.coe_neg, ← EReal.coe_mul]
    exact EReal.coe_ne_top _

/-- A power of two at a number divided by the logarithm of two is its exponential. -/
theorem exp2_scaled (x : EReal) : Ideal.exp2 (x * (((Real.log 2)⁻¹ : ℝ) : EReal)) = Ideal.exp x := by
  have hc : (0 : ℝ) < (Real.log 2)⁻¹ := inv_pos.2 (Real.log_pos (by norm_num))
  induction x using EReal.rec with
  | bot => rw [EReal.bot_mul_coe_of_pos hc]; rfl
  | top => rw [EReal.top_mul_coe_of_pos hc]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    have : Real.log 2 ≠ 0 := (Real.log_pos (by norm_num)).ne'
    field_simp

/-- A difference of scaled values is the scaled difference. -/
theorem sub_scaled (x y : EReal) {c : ℝ} (hc : 0 < c) : x * (c : EReal) - y * (c : EReal) = (x - y) * (c : EReal) := by
  induction x using EReal.rec with
  | bot => simp [EReal.bot_mul_coe_of_pos hc]
  | top =>
    induction y using EReal.rec with
    | bot => simp [EReal.bot_mul_coe_of_pos hc, EReal.top_mul_coe_of_pos hc]
    | top => simp [EReal.bot_mul_coe_of_pos hc, EReal.top_mul_coe_of_pos hc]
    | coe s => rw [EReal.top_mul_coe_of_pos hc, ← EReal.coe_mul, EReal.top_sub_coe, EReal.top_sub_coe, EReal.top_mul_coe_of_pos hc]
  | coe r =>
    induction y using EReal.rec with
    | bot => rw [EReal.bot_mul_coe_of_pos hc, ← EReal.coe_mul, EReal.coe_sub_bot, EReal.coe_sub_bot, EReal.top_mul_coe_of_pos hc]
    | top => simp [EReal.bot_mul_coe_of_pos hc, EReal.top_mul_coe_of_pos hc]
    | coe s => rw [← EReal.coe_mul, ← EReal.coe_mul, ← EReal.coe_sub, ← EReal.coe_sub, ← EReal.coe_mul]; congr 1; ring

/-- A scaled negative. -/
theorem neg_scaled (x c : EReal) : -(x * c) = -x * c := (EReal.neg_mul x c).symm

/-- A number and what is left of it, summed over the rows a test admits, sum to the numbers alone. -/
theorem hi_lo {ι : Type} [Fintype ι] [DecidableEq ι] (p : ι → Prop) [DecidablePred p] (g : ι → EReal) (hg : ∀ i, g i ≠ ⊤) :
    (∑ i, if p i then g i else 0) + (∑ i, if p i then g i - g i else 0) = ∑ i, if p i then g i else 0 := by
  by_cases h : ∃ i, p i ∧ g i = ⊥
  · obtain ⟨i, hp, hi⟩ := h
    have e : (∑ i, if p i then g i else 0) = ⊥ := by
      rw [← Finset.add_sum_erase Finset.univ _ (Finset.mem_univ i), if_pos hp, hi, EReal.bot_add]
    rw [e, EReal.bot_add]
  · have e : (∑ i, if p i then g i - g i else 0) = 0 := by
      refine Finset.sum_eq_zero fun i _ => ?_
      split
      · next hp => exact EReal.sub_self (hg i) fun hb => h ⟨i, hp, hb⟩
      · rfl
    rw [e, add_zero]

/-- A sum over the rows of one chunk of the array, as a sum over the chunk's rows. -/
theorem sum_chunk (t : Fin 4) (p : Fin 256 → Prop) [DecidablePred p] (f : Fin 256 → EReal) :
    (∑ x : Fin 256, if x.val / 64 = t.val ∧ p x then f x else 0) = ∑ j : Fin 64, if p (row (64 * t.val + j.val)) then f (row (64 * t.val + j.val)) else 0 := by
  rw [← Equiv.sum_comp (finProdFinEquiv : Fin 4 × Fin 64 ≃ Fin 256), Fintype.sum_prod_type]
  rw [Finset.sum_eq_single t]
  · refine Finset.sum_congr rfl fun j _ => ?_
    have hj := j.isLt
    have ht := t.isLt
    have e : (finProdFinEquiv (t, j) : Fin 256) = row (64 * t.val + j.val) := by
      apply Fin.ext
      show j.val + 64 * t.val = (64 * t.val + j.val) % 256
      omega
    rw [e]
    refine if_congr ?_ rfl rfl
    have : (row (64 * t.val + j.val)).val / 64 = t.val := by
      show (64 * t.val + j.val) % 256 / 64 = t.val
      omega
    simp [this]
  · intro t' _ hne
    refine Finset.sum_eq_zero fun j _ => if_neg fun h => hne (Fin.ext ?_)
    have hj := j.isLt
    have h1 : (j.val + 64 * t'.val) / 64 = t.val := h.1
    omega
  · intro h; exact absurd (Finset.mem_univ t) h

end Cert.GlaIdeal.Hand
-- ==== Proof.GlaRows.lean ====
module

public import proofs.«01_k».proof.Proof.GlaChunk
public import proofs.«01_k».proof.Proof.GlaGate

/-! The reference's queries, keys, values and decays, row by row. -/

@[expose] public section
set_option maxRecDepth 16384
noncomputable section
open Idealize.ShloMosaic Idealize.ShloMosaic.Pointwise Idealize.ShloMosaic.TcCoe

namespace Cert.GlaRefIdeal.Hand
open Cert.GlaRefIdeal Cert.GlaRefIdeal.Gen Cert.GlaRefIdeal.Read
open Cert.GlaIdeal.Hand (row col wide scale gate)

variable (x0 : (⟨S256x2048, .bf16⟩ : BufTy).Contents (Elt Ideal)) (x1 : (⟨S256x128, .bf16⟩ : BufTy).Contents (Elt Ideal)) (x2 : (⟨S1x16x512, .f32⟩ : BufTy).Contents (Elt Ideal)) (x3 : (⟨S1x512, .f32⟩ : BufTy).Contents (Elt Ideal)) (x4 : (⟨S1x16x512, .f32⟩ : BufTy).Contents (Elt Ideal)) (x5 : (⟨S1x512, .f32⟩ : BufTy).Contents (Elt Ideal))

/-- The row of a wide input. -/
theorem wide_row (r : Fin 256) (l : Fin 2048) : val_main_v1 (F := Ideal) x0 (ix3 0 r l) = x0 (ix2 r l) := by
  rw [val_main_v1_apply, val_main_v0_apply]
  show x0 _ = x0 _
  congr 1
  funext a; fin_cases a <;> (apply Fin.ext; first | rfl | (simp only [ix2, ix3, ix4, ix5]; omega) | (dsimp [ix2, ix3, ix4, ix5]; omega))

/-- The row of a gate input. -/
theorem low_row (r : Fin 256) (l : Fin 128) : val_main_v3 (F := Ideal) x1 (ix3 0 r l) = x1 (ix2 r l) := by
  rw [val_main_v3_apply, val_main_v2_apply]
  show x1 _ = x1 _
  congr 1
  funext a; fin_cases a <;> (apply Fin.ext; first | rfl | (simp only [ix2, ix3, ix4, ix5]; omega) | (dsimp [ix2, ix3, ix4, ix5]; omega))

/-- The query's row, scaled. -/
theorem q_row (r : Fin 256) (h : Fin 4) (d : Fin 128) : val_main_v11 (F := Ideal) x0 (ix4 0 r h d) = (x0 (ix2 r (wide (128 * h.val + d.val))) : EReal) * scale := by
  have e : idx_main_v4 (idx_main_v9 (ix4 0 r h d)) = ix3 0 r (wide (128 * h.val + d.val)) := by
    funext a; fin_cases a <;> (apply Fin.ext; first | rfl | (simp only [ix2, ix3, ix4, ix5]; omega) | (dsimp [ix2, ix3, ix4, ix5]; omega) | (change _ = _ % 2048; dsimp [ix4]; omega) | (change _ = _ % 2048; omega))
  rw [val_main_v11_apply, val_main_v9_apply, val_main_v10_apply, val_main_cst_apply, val_main_v4_apply, e, wide_row]
  rfl

/-- The keys among the columns. -/
theorem k_row (r : Fin 256) (h : Fin 4) (d : Fin 128) : val_main_v12 (F := Ideal) x0 (ix4 0 r h d) = x0 (ix2 r (wide (512 + 128 * h.val + d.val))) := by
  have e : idx_main_v5 (idx_main_v12 (ix4 0 r h d)) = ix3 0 r (wide (512 + 128 * h.val + d.val)) := by
    funext a; fin_cases a <;> (apply Fin.ext; first | rfl | (simp only [ix2, ix3, ix4, ix5]; omega) | (dsimp [ix2, ix3, ix4, ix5]; omega) | (change _ = _ % 2048; dsimp [ix4]; omega) | (change _ = _ % 2048; omega))
  rw [val_main_v12_apply, val_main_v5_apply, e, wide_row]

/-- The values among the columns. -/
theorem v_row (r : Fin 256) (h : Fin 4) (l : Fin 256) : val_main_v13 (F := Ideal) x0 (ix4 0 r h l) = x0 (ix2 r (wide (1024 + 256 * h.val + l.val))) := by
  have e : idx_main_v6 (idx_main_v13 (ix4 0 r h l)) = ix3 0 r (wide (1024 + 256 * h.val + l.val)) := by
    funext a; fin_cases a <;> (apply Fin.ext; first | rfl | (simp only [ix2, ix3, ix4, ix5]; omega) | (dsimp [ix2, ix3, ix4, ix5]; omega) | (change _ = _ % 2048; dsimp [ix4]; omega) | (change _ = _ % 2048; omega))
  rw [val_main_v13_apply, val_main_v6_apply, e, wide_row]

/-- A value differs from itself nowhere. -/
theorem une_self (y : EReal) : FloatOps.cmpf (F := Ideal) (φ := .f32) .une y y = 0#1 := by
  show Ideal.cmp .une y y = 0#1
  simp [Ideal.cmp]

/-- The reference's form of the decay's logarithm. -/
theorem gate_ref (z : EReal) : Ideal.div (-(max (-z) (Ideal.ofBits .f32 0x00000000#32) + Ideal.log1p (Ideal.exp (-(max (-z - Ideal.ofBits .f32 0x00000000#32) (-(-z - Ideal.ofBits .f32 0x00000000#32))))))) (Ideal.ofBits .f32 0x41800000#32) = gate z := by
  have h0 : Ideal.ofBits .f32 0x00000000#32 = 0 := by simp [Ideal.ofBits, Ideal.ieee]
  rw [h0, Cert.GlaIdeal.Hand.bits_sixteen, Ideal.div_coe (by norm_num), sub_zero]
  rfl

/-- A row's logit, forwards. -/
def lgtF (r : Fin 256) (l : Fin 512) : EReal :=
  (∑ k : Fin 16, (x1 (ix2 r ⟨k.val, by omega⟩) : EReal) * x2 (ix3 0 k l)) + x3 (ix2 0 l)

/-- The forward logit of the reference. -/
theorem lgtF_eq (r : Fin 256) (l : Fin 512) : val_main_v19 (F := Ideal) x1 x2 x3 (ix3 0 r l) = lgtF x1 x2 x3 r l := by
  rw [val_main_v19_apply, val_main_v15_apply, val_main_v18_apply, val_main_v17_apply, val_main_v16_apply]
  refine congrArg₂ (· + ·) (Finset.sum_congr rfl fun k _ => ?_) (congrArg x3 ?_)
  · have e1 : idx_main_v7 (lidx_main_v15 (ix3 0 r l) k) = ix3 0 r ⟨k.val, by omega⟩ := by
      funext a; fin_cases a <;> (apply Fin.ext; first | rfl | (simp only [ix2, ix3, ix4, ix5]; omega) | (dsimp [ix2, ix3, ix4, ix5]; omega))
    have e2 : idx_main_v14 (ridx_main_v15 (ix3 0 r l) k) = ix3 0 k l := by
      funext a; fin_cases a <;> (apply Fin.ext; first | rfl | (simp only [ix2, ix3, ix4, ix5]; omega) | (dsimp [ix2, ix3, ix4, ix5]; omega))
    rw [val_main_v7_apply, val_main_v14_apply, e1, e2, low_row]
  · funext a; fin_cases a <;> (apply Fin.ext; first | rfl | (simp only [ix2, ix3, ix4, ix5]; omega) | (dsimp [ix2, ix3, ix4, ix5]; omega))

/-- The logarithm of a decay, forwards. -/
theorem gF_row (r : Fin 256) (h : Fin 4) (d : Fin 128) : val_main_v23 (F := Ideal) x1 x2 x3 (ix4 0 r h d) = gate (lgtF x1 x2 x3 r (col (128 * h.val + d.val))) := by
  have e : idx_main_v23 (ix4 0 r h d) = ix3 0 r (col (128 * h.val + d.val)) := by
    funext a; fin_cases a <;> (apply Fin.ext; first | rfl | (simp only [ix2, ix3, ix4, ix5]; omega) | (dsimp [ix2, ix3, ix4, ix5]; omega) | (change _ = _ % 512; dsimp [ix4]; omega) | (change _ = _ % 512; omega))
  rw [val_main_v23_apply, e, ← lgtF_eq, val_main_v22_apply, val_main_v20_apply, val_main_v21_apply, val_main_cst_0_apply, val_main_call0_v1_apply, val_main_call0_call0_v4_apply]
  rw [une_self, val_main_call0_call0_v11_apply, val_main_call0_call0_v10_apply, val_main_call0_call0_v9_apply, val_main_call0_call0_v8_apply, val_main_call0_call0_v7_apply, val_main_call0_call0_v3_apply, val_main_call0_call0_v2_apply, val_main_call0_call0_v1_apply, val_main_call0_call0_v0_apply, val_main_call0_call0_cst_apply, val_main_call0_v0_apply, ← gate_ref]
  rfl

/-- A row's logit, backwards. -/
def lgtB (r : Fin 256) (l : Fin 512) : EReal :=
  (∑ k : Fin 16, (x1 (ix2 r ⟨16 + k.val, by omega⟩) : EReal) * x4 (ix3 0 k l)) + x5 (ix2 0 l)

/-- The backward logit of the reference. -/
theorem lgtB_eq (r : Fin 256) (l : Fin 512) : val_main_v29 (F := Ideal) x1 x4 x5 (ix3 0 r l) = lgtB x1 x4 x5 r l := by
  rw [val_main_v29_apply, val_main_v25_apply, val_main_v28_apply, val_main_v27_apply, val_main_v26_apply]
  refine congrArg₂ (· + ·) (Finset.sum_congr rfl fun k _ => ?_) (congrArg x5 ?_)
  · have e1 : idx_main_v8 (lidx_main_v25 (ix3 0 r l) k) = ix3 0 r ⟨16 + k.val, by omega⟩ := by
      funext a; fin_cases a <;> (apply Fin.ext; first | rfl | (simp only [ix2, ix3, ix4, ix5]; omega) | (dsimp [ix2, ix3, ix4, ix5]; omega))
    have e2 : idx_main_v24 (ridx_main_v25 (ix3 0 r l) k) = ix3 0 k l := by
      funext a; fin_cases a <;> (apply Fin.ext; first | rfl | (simp only [ix2, ix3, ix4, ix5]; omega) | (dsimp [ix2, ix3, ix4, ix5]; omega))
    rw [val_main_v8_apply, val_main_v24_apply, e1, e2, low_row]
  · funext a; fin_cases a <;> (apply Fin.ext; first | rfl | (simp only [ix2, ix3, ix4, ix5]; omega) | (dsimp [ix2, ix3, ix4, ix5]; omega))

/-- The logarithm of a decay, backwards. -/
theorem gB_row (r : Fin 256) (h : Fin 4) (d : Fin 128) : val_main_v33 (F := Ideal) x1 x4 x5 (ix4 0 r h d) = gate (lgtB x1 x4 x5 r (col (128 * h.val + d.val))) := by
  have e : idx_main_v33 (ix4 0 r h d) = ix3 0 r (col (128 * h.val + d.val)) := by
    funext a; fin_cases a <;> (apply Fin.ext; first | rfl | (simp only [ix2, ix3, ix4, ix5]; omega) | (dsimp [ix2, ix3, ix4, ix5]; omega) | (change _ = _ % 512; dsimp [ix4]; omega) | (change _ = _ % 512; omega))
  rw [val_main_v33_apply, e, ← lgtB_eq, val_main_v32_apply, val_main_v30_apply, val_main_v31_apply, val_main_cst_1_apply, val_main_call1_v1_apply, val_main_call1_call0_v4_apply]
  rw [une_self, val_main_call1_call0_v11_apply, val_main_call1_call0_v10_apply, val_main_call1_call0_v9_apply, val_main_call1_call0_v8_apply, val_main_call1_call0_v7_apply, val_main_call1_call0_v3_apply, val_main_call1_call0_v2_apply, val_main_call1_call0_v1_apply, val_main_call1_call0_v0_apply, val_main_call1_call0_cst_apply, val_main_call1_v0_apply, ← gate_ref]
  rfl

end Cert.GlaRefIdeal.Hand
-- ==== Proof.GlaNames.lean ====
module

public import proofs.«01_k».proof.Proof.GlaStep
public import Idealize.ShloMosaic.Lib.Pipeline.ReadBack
/-! What the kernel stores in its state and its outputs, store by store, as steps of the recurrence. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

/-- The buffers of the grid point and what its input blocks hold. -/
structure Pt where
  c : Dev nD
  arg1 : Memref sig .tc .vmem S256x2048 .bf16
  harg1 : arg1.IsWhole
  arg2 : Memref sig .tc .vmem S256x128 .bf16
  harg2 : arg2.IsWhole
  arg4 : Memref sig .tc .vmem S256x2048 .bf16
  harg4 : arg4.IsWhole
  arg5 : Memref sig .tc .vmem S256x128 .bf16
  harg5 : arg5.IsWhole
  arg7 : Memref sig .tc .vmem S128x512 .bf16
  harg7 : arg7.IsWhole
  arg8 : Memref sig .tc .vmem S1x512 .f32
  harg8 : arg8.IsWhole
  arg9 : Memref sig .tc .vmem S128x512 .bf16
  harg9 : arg9.IsWhole
  arg10 : Memref sig .tc .vmem S1x512 .f32
  harg10 : arg10.IsWhole
  arg11 : Memref sig .tc .vmem S4x128x256 .f32
  harg11 : arg11.IsWhole
  arg12 : Memref sig .tc .vmem S4x128x256 .f32
  harg12 : arg12.IsWhole
  arg17 : Memref sig .tc .vmem S2x4x128x256 .f32
  harg17 : arg17.IsWhole
  arg18 : Memref sig .tc .vmem S2x256x512 .f32
  harg18 : arg18.IsWhole
  x0 : Vec Ideal S256x2048 .bf16
  x1 : Vec Ideal S256x128 .bf16
  x3 : Vec Ideal S256x2048 .bf16
  x4 : Vec Ideal S256x128 .bf16
  x6 : Vec Ideal S128x512 .bf16
  x7 : Vec Ideal S1x512 .f32
  x8 : Vec Ideal S128x512 .bf16
  x9 : Vec Ideal S1x512 .f32
  x10 : Vec Ideal S4x128x256 .f32
  x11 : Vec Ideal S4x128x256 .f32

variable (P : Pt)

/-- The running decays of the forward and of the backward direction, and both directions as the scratch's stores. -/
noncomputable def cumF : Vec Ideal S1x256x512 .f32 :=
  k0_pay13 (kernelRun0_A.sl.v1455 P.c P.arg2 P.harg2 P.arg7 P.harg7 P.arg8 P.harg8 P.x1 P.x6 P.x7) (kernelRun0_A.sl.v1458 P.c P.arg2 P.harg2 P.arg7 P.harg7 P.arg8 P.harg8 P.x1 P.x6 P.x7) kernelRun0_A.sl.v1459 kernelRun0_A.sl.v1460 kernelRun0_A.sl.v1484 (divsi kernelRun0_A.sl.v1460 kernelRun0_A.sl.v1461) (andi kernelRun0_A.sl.v1500 kernelRun0_A.sl.v1504) kernelRun0_A.sl.v1475
/-- The chunk's backward running decays. -/
noncomputable def cumB : Vec Ideal S1x256x512 .f32 :=
  k0_pay20 (kernelRun0_A.sl.r P.c P.arg5 P.harg5 P.arg9 P.harg9 P.arg10 P.harg10 P.x4 P.x8 P.x9) (kernelRun0_A.sl.r_1 P.c P.arg5 P.harg5 P.arg9 P.harg9 P.arg10 P.harg10 P.x4 P.x8 P.x9) kernelRun0_A.sl.v1459 kernelRun0_A.sl.v1460 kernelRun0_A.sl.v1484 (divsi kernelRun0_A.sl.v1460 kernelRun0_A.sl.v1461) (andi kernelRun0_A.sl.v1500 kernelRun0_A.sl.v1504)
/-- The two stores of the running decays. -/
noncomputable def HC : List (View.Piece (Elt Ideal) S2x256x512 .f32) := kernelRun0_A.sl.HS1_2 P.c P.arg2 P.harg2 P.arg5 P.harg5 P.arg7 P.harg7 P.arg8 P.harg8 P.arg9 P.harg9 P.arg10 P.harg10 P.x1 P.x4 P.x6 P.x7 P.x8 P.x9

/-- The stores of the running decays, written out. -/
theorem HC_eq : HC P = [⟨Rect.unit (s := S2x256x512) ![1, 0, 0] S1x256x512.size inb_S2x256x512_S1x256x512_1_0_0, cumB P⟩,
    ⟨Rect.unit (s := S2x256x512) ![0, 0, 0] S1x256x512.size inb_S2x256x512_S1x256x512_0_0_0, cumF P⟩] := rfl

/-- A load of a chunk's running decays. -/
noncomputable def ldC (g b : ℕ) (h : ∀ a, (![g, b, 0] : Fin 3 → ℕ) a + S1x64x512.size a ≤ S2x256x512.size a) : Vec Ideal S1x64x512 .f32 :=
  P.arg18.view.readCov (Val := Elt Ideal) (HC P) (Rect.unit (s := S2x256x512) ![g, b, 0] S1x64x512.size h).toLoadRect

/-- A load of the forward decays reads the forward sums. -/
theorem ldC_F (b : ℕ) (h : ∀ a, (![0, b, 0] : Fin 3 → ℕ) a + S1x64x512.size a ≤ S2x256x512.size a) (j : Fin 64) (l : Fin 512) :
    ldC P 0 b h (ix3 0 j l) = cumF P (ix3 0 (row (b + j.val)) l) :=
  (ldC_apply P.arg18.view (cumB P) (cumF P) 0 b inb_S2x256x512_S1x256x512_1_0_0 inb_S2x256x512_S1x256x512_0_0_0 h j l).trans (congrFun (if_neg (by decide)) _)

/-- A load of the backward decays reads the backward sums. -/
theorem ldC_B (b : ℕ) (h : ∀ a, (![1, b, 0] : Fin 3 → ℕ) a + S1x64x512.size a ≤ S2x256x512.size a) (j : Fin 64) (l : Fin 512) :
    ldC P 1 b h (ix3 0 j l) = cumB P (ix3 0 (row (b + j.val)) l) :=
  (ldC_apply P.arg18.view (cumB P) (cumF P) 1 b inb_S2x256x512_S1x256x512_1_0_0 inb_S2x256x512_S1x256x512_0_0_0 h j l).trans (congrFun (if_pos rfl) _)

/-- The kernel's masks: a row sees the earlier rows going forwards, the later ones going backwards. -/
noncomputable def maskF : IVec S64x128 1 := cmpi .sle kernelRun0_A.sl.v4 kernelRun0_A.sl.v3
/-- The mask of the backward direction. -/
noncomputable def maskB : IVec S64x128 1 := kernelRun0_A.sl.v83

/-- The forward mask holds on the row and those before it. -/
theorem maskF_eq : ∀ (i j : Fin 64), maskF (ix2 i ⟨j.val, by omega⟩) = 1#1 ↔ sees false i j = true := by decide +kernel
/-- The backward mask holds on the row and those after it. -/
theorem maskB_eq : ∀ (i j : Fin 64), maskB (ix2 i ⟨j.val, by omega⟩) = 1#1 ↔ sees true i j = true := by decide +kernel

/-- The stores into the state, the last first. -/
noncomputable def H2 : List (View.Piece (Elt Ideal) S2x4x128x256 .f32) := kernelRun0_A.sl.HS0_2 P.c P.arg11 P.harg11 P.arg12 P.harg12 P.x10 P.x11
/-- The stores into the states up to number 3, the last first. -/
noncomputable def H3 : List (View.Piece (Elt Ideal) S2x4x128x256 .f32) := kernelRun0_A.sl.HS0_3 P.c P.arg1 P.harg1 P.arg2 P.harg2 P.arg5 P.harg5 P.arg7 P.harg7 P.arg8 P.harg8 P.arg9 P.harg9 P.arg10 P.harg10 P.arg11 P.harg11 P.arg12 P.harg12 P.arg17 P.arg18 P.x0 P.x1 P.x4 P.x6 P.x7 P.x8 P.x9 P.x10 P.x11
/-- The stores into the states up to number 4, the last first. -/
noncomputable def H4 : List (View.Piece (Elt Ideal) S2x4x128x256 .f32) := kernelRun0_A.sl.HS0_4 P.c P.arg1 P.harg1 P.arg2 P.harg2 P.arg5 P.harg5 P.arg7 P.harg7 P.arg8 P.harg8 P.arg9 P.harg9 P.arg10 P.harg10 P.arg11 P.harg11 P.arg12 P.harg12 P.arg17 P.arg18 P.x0 P.x1 P.x4 P.x6 P.x7 P.x8 P.x9 P.x10 P.x11
/-- The stores into the states up to number 5, the last first. -/
noncomputable def H5 : List (View.Piece (Elt Ideal) S2x4x128x256 .f32) := kernelRun0_A.sl.HS0_5 P.c P.arg1 P.harg1 P.arg2 P.harg2 P.arg5 P.harg5 P.arg7 P.harg7 P.arg8 P.harg8 P.arg9 P.harg9 P.arg10 P.harg10 P.arg11 P.harg11 P.arg12 P.harg12 P.arg17 P.arg18 P.x0 P.x1 P.x4 P.x6 P.x7 P.x8 P.x9 P.x10 P.x11
/-- The stores into the states up to number 6, the last first. -/
noncomputable def H6 : List (View.Piece (Elt Ideal) S2x4x128x256 .f32) := kernelRun0_A.sl.HS0_6 P.c P.arg1 P.harg1 P.arg2 P.harg2 P.arg5 P.harg5 P.arg7 P.harg7 P.arg8 P.harg8 P.arg9 P.harg9 P.arg10 P.harg10 P.arg11 P.harg11 P.arg12 P.harg12 P.arg17 P.arg18 P.x0 P.x1 P.x4 P.x6 P.x7 P.x8 P.x9 P.x10 P.x11
/-- The stores into the states up to number 7, the last first. -/
noncomputable def H7 : List (View.Piece (Elt Ideal) S2x4x128x256 .f32) := kernelRun0_A.sl.HS0_7 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 8, the last first. -/
noncomputable def H8 : List (View.Piece (Elt Ideal) S2x4x128x256 .f32) := kernelRun0_A.sl.HS0_8 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 9, the last first. -/
noncomputable def H9 : List (View.Piece (Elt Ideal) S2x4x128x256 .f32) := kernelRun0_A.sl.HS0_9 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 10, the last first. -/
noncomputable def H10 : List (View.Piece (Elt Ideal) S2x4x128x256 .f32) := kernelRun0_A.sl.HS0_10 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 11, the last first. -/
noncomputable def H11 : List (View.Piece (Elt Ideal) S2x4x128x256 .f32) := kernelRun0_A.sl.HS0_11 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 12, the last first. -/
noncomputable def H12 : List (View.Piece (Elt Ideal) S2x4x128x256 .f32) := kernelRun0_A.sl.HS0_12 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 13, the last first. -/
noncomputable def H13 : List (View.Piece (Elt Ideal) S2x4x128x256 .f32) := kernelRun0_A.sl.HS0_13 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 14, the last first. -/
noncomputable def H14 : List (View.Piece (Elt Ideal) S2x4x128x256 .f32) := kernelRun0_A.sl.HS0_14 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 15, the last first. -/
noncomputable def H15 : List (View.Piece (Elt Ideal) S2x4x128x256 .f32) := kernelRun0_A.sl.HS0_15 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 16, the last first. -/
noncomputable def H16 : List (View.Piece (Elt Ideal) S2x4x128x256 .f32) := kernelRun0_A.sl.HS0_16 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 17, the last first. -/
noncomputable def H17 : List (View.Piece (Elt Ideal) S2x4x128x256 .f32) := kernelRun0_A.sl.HS0_17 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 18, the last first. -/
noncomputable def H18 : List (View.Piece (Elt Ideal) S2x4x128x256 .f32) := kernelRun0_A.sl.HS0_18 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 19, the last first. -/
noncomputable def H19 : List (View.Piece (Elt Ideal) S2x4x128x256 .f32) := kernelRun0_A.sl.HS0_19 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 20, the last first. -/
noncomputable def H20 : List (View.Piece (Elt Ideal) S2x4x128x256 .f32) := kernelRun0_A.sl.HS0_20 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 21, the last first. -/
noncomputable def H21 : List (View.Piece (Elt Ideal) S2x4x128x256 .f32) := kernelRun0_A.sl.HS0_21 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 22, the last first. -/
noncomputable def H22 : List (View.Piece (Elt Ideal) S2x4x128x256 .f32) := kernelRun0_A.sl.HS0_22 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 23, the last first. -/
noncomputable def H23 : List (View.Piece (Elt Ideal) S2x4x128x256 .f32) := kernelRun0_A.sl.HS0_23 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 24, the last first. -/
noncomputable def H24 : List (View.Piece (Elt Ideal) S2x4x128x256 .f32) := kernelRun0_A.sl.HS0_24 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 25, the last first. -/
noncomputable def H25 : List (View.Piece (Elt Ideal) S2x4x128x256 .f32) := kernelRun0_A.sl.HS0_25 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 26, the last first. -/
noncomputable def H26 : List (View.Piece (Elt Ideal) S2x4x128x256 .f32) := kernelRun0_A.sl.HS0_26 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 27, the last first. -/
noncomputable def H27 : List (View.Piece (Elt Ideal) S2x4x128x256 .f32) := kernelRun0_A.sl.HS0_27 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 28, the last first. -/
noncomputable def H28 : List (View.Piece (Elt Ideal) S2x4x128x256 .f32) := kernelRun0_A.sl.HS0_28 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 29, the last first. -/
noncomputable def H29 : List (View.Piece (Elt Ideal) S2x4x128x256 .f32) := kernelRun0_A.sl.HS0_29 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 30, the last first. -/
noncomputable def H30 : List (View.Piece (Elt Ideal) S2x4x128x256 .f32) := kernelRun0_A.sl.HS0_30 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 31, the last first. -/
noncomputable def H31 : List (View.Piece (Elt Ideal) S2x4x128x256 .f32) := kernelRun0_A.sl.HS0_31 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 32, the last first. -/
noncomputable def H32 : List (View.Piece (Elt Ideal) S2x4x128x256 .f32) := kernelRun0_A.sl.HS0_32 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 33, the last first. -/
noncomputable def H33 : List (View.Piece (Elt Ideal) S2x4x128x256 .f32) := kernelRun0_A.sl.HS0_33 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11
/-- The stores into the states up to number 34, the last first. -/
noncomputable def H34 : List (View.Piece (Elt Ideal) S2x4x128x256 .f32) := kernelRun0_A.sl.HS0_34 P.c P.arg1 P.harg1 P.arg2 P.harg2 P.arg4 P.harg4 P.arg5 P.harg5 P.arg7 P.harg7 P.arg8 P.harg8 P.arg9 P.harg9 P.arg10 P.harg10 P.arg11 P.harg11 P.arg12 P.harg12 P.arg17 P.arg18 P.x0 P.x1 P.x3 P.x4 P.x6 P.x7 P.x8 P.x9 P.x10 P.x11

/-- A load of one head's state. -/
noncomputable def ldS (H : List (View.Piece (Elt Ideal) S2x4x128x256 .f32)) (g h : ℕ) (i : ∀ a, (![g, h, 0, 0] : Fin 4 → ℕ) a + S1x1x128x256.size a ≤ S2x4x128x256.size a) : Vec Ideal S1x1x128x256 .f32 :=
  P.arg17.view.readCov (Val := Elt Ideal) H (Rect.unit (s := S2x4x128x256) ![g, h, 0, 0] S1x1x128x256.size i).toLoadRect

end Cert.GlaIdeal.Hand
-- ==== Proof.GlaAt0F.lean ====
module

public import proofs.«01_k».proof.Proof.GlaNames

/-! Step 0 of the forward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 0 of the forward direction, head 0, over the state loaded. -/
noncomputable def w3 (S : Vec Ideal S1x1x128x256 .f32) : Vec Ideal S1x1x128x256 .f32 :=
  st (hd (kd (ldK P.arg1 P.harg1 P.x0 512 0 inb_S256x2048_S256x512_0_512 inb_S256x512_S64x512_0_0) (ldC P 0 0 inb_S2x256x512_S1x64x512_0_0_0) 63 slices_S64x512_o63_0_S1x512) 0 slices_S64x512_o0_0_S64x128) (extractStridedSlice S1x128 ![0, 0] (exp2 (lastRow (ldC P 0 0 inb_S2x256x512_S1x64x512_0_0_0) 63 slices_S64x512_o63_0_S1x512)) slices_S1x512_o0_0_S1x128) (ldV P.arg1 P.harg1 P.x0 0 0 inb_S256x1024_S64x256_0_0) S
/-- The output of store number 3 of the states, over the state loaded. -/
noncomputable def o3 (S : Vec Ideal S1x1x128x256 .f32) : Vec Ideal S64x256 .bf16 :=
  out maskF (hd (qe (ldK P.arg1 P.harg1 P.x0 0 0 inb_S256x2048_S256x512_0_0 inb_S256x512_S64x512_0_0) (ldC P 0 0 inb_S2x256x512_S1x64x512_0_0_0)) 0 slices_S64x512_o0_0_S64x128) (hd (ke (ldK P.arg1 P.harg1 P.x0 512 0 inb_S256x2048_S256x512_0_512 inb_S256x512_S64x512_0_0) (ldC P 0 0 inb_S2x256x512_S1x64x512_0_0_0)) 0 slices_S64x512_o0_0_S64x128) (ldV P.arg1 P.harg1 P.x0 0 0 inb_S256x1024_S64x256_0_0) S
/-- The stores into the states up to number 3, from those before. -/
theorem hs3 : H3 P = ⟨Rect.unit (s := S2x4x128x256) ![0, 0, 0, 0] S1x1x128x256.size inb_S2x4x128x256_S1x1x128x256_0_0_0_0, w3 P (ldS P (H2 P) 0 0 inb_S2x4x128x256_S1x1x128x256_0_0_0_0)⟩ :: H2 P := rfl
/-- That state is the next state of its step and head. -/
theorem w3_apply (S : Vec Ideal S1x1x128x256 .f32) (d : Fin 128) (l : Fin 256) : w3 P S (ix4 0 0 d l) = stepSt P.x0 (cumF P) 0 63 0 (fun d l => S (ix4 0 0 d l)) d l :=
  st_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 0 inb_S256x1024_S64x256_0_0)) (S := S) (b := 0) (o := 63) (h := 0) (p := 0) (by decide) (by decide) (by decide) rfl (ldK_apply _ _ _ _ _ _ _) (ldC_F P _ _) (ldV_apply _ _ _ _ _ _) d l
/-- That output is the output of its step and head. -/
theorem o3_apply (S : Vec Ideal S1x1x128x256 .f32) (r : Fin 64) (l : Fin 256) : o3 P S (ix2 r l) = stepOut false P.x0 (cumF P) 0 0 (fun d l => S (ix4 0 0 d l)) r l :=
  out_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 0 inb_S256x1024_S64x256_0_0)) (S := S) (b := 0) (Q := (ldK P.arg1 P.harg1 P.x0 0 0 inb_S256x2048_S256x512_0_0 inb_S256x512_S64x512_0_0)) (h := 0) (p := 0) (by decide) (by decide) rfl maskF_eq (ldK_apply _ _ _ _ _ _ _) (ldK_apply _ _ _ _ _ _ _) (ldC_F P _ _) (ldV_apply _ _ _ _ _ _) r l

/-- The state stored and the output written at step 0 of the forward direction, head 1, over the state loaded. -/
noncomputable def w4 (S : Vec Ideal S1x1x128x256 .f32) : Vec Ideal S1x1x128x256 .f32 :=
  st (hd (kd (ldK P.arg1 P.harg1 P.x0 512 0 inb_S256x2048_S256x512_0_512 inb_S256x512_S64x512_0_0) (ldC P 0 0 inb_S2x256x512_S1x64x512_0_0_0) 63 slices_S64x512_o63_0_S1x512) 128 slices_S64x512_o0_128_S64x128) (extractStridedSlice S1x128 ![0, 128] (exp2 (lastRow (ldC P 0 0 inb_S2x256x512_S1x64x512_0_0_0) 63 slices_S64x512_o63_0_S1x512)) slices_S1x512_o0_128_S1x128) (ldV P.arg1 P.harg1 P.x0 0 256 inb_S256x1024_S64x256_0_256) S
/-- The output of store number 4 of the states, over the state loaded. -/
noncomputable def o4 (S : Vec Ideal S1x1x128x256 .f32) : Vec Ideal S64x256 .bf16 :=
  out maskF (hd (qe (ldK P.arg1 P.harg1 P.x0 0 0 inb_S256x2048_S256x512_0_0 inb_S256x512_S64x512_0_0) (ldC P 0 0 inb_S2x256x512_S1x64x512_0_0_0)) 128 slices_S64x512_o0_128_S64x128) (hd (ke (ldK P.arg1 P.harg1 P.x0 512 0 inb_S256x2048_S256x512_0_512 inb_S256x512_S64x512_0_0) (ldC P 0 0 inb_S2x256x512_S1x64x512_0_0_0)) 128 slices_S64x512_o0_128_S64x128) (ldV P.arg1 P.harg1 P.x0 0 256 inb_S256x1024_S64x256_0_256) S
/-- The stores into the states up to number 4, from those before. -/
theorem hs4 : H4 P = ⟨Rect.unit (s := S2x4x128x256) ![0, 1, 0, 0] S1x1x128x256.size inb_S2x4x128x256_S1x1x128x256_0_1_0_0, w4 P (ldS P (H3 P) 0 1 inb_S2x4x128x256_S1x1x128x256_0_1_0_0)⟩ :: H3 P := rfl
/-- That state is the next state of its step and head. -/
theorem w4_apply (S : Vec Ideal S1x1x128x256 .f32) (d : Fin 128) (l : Fin 256) : w4 P S (ix4 0 0 d l) = stepSt P.x0 (cumF P) 0 63 1 (fun d l => S (ix4 0 0 d l)) d l :=
  st_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 256 inb_S256x1024_S64x256_0_256)) (S := S) (b := 0) (o := 63) (h := 1) (p := 128) (by decide) (by decide) (by decide) rfl (ldK_apply _ _ _ _ _ _ _) (ldC_F P _ _) (ldV_apply _ _ _ _ _ _) d l
/-- That output is the output of its step and head. -/
theorem o4_apply (S : Vec Ideal S1x1x128x256 .f32) (r : Fin 64) (l : Fin 256) : o4 P S (ix2 r l) = stepOut false P.x0 (cumF P) 0 1 (fun d l => S (ix4 0 0 d l)) r l :=
  out_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 256 inb_S256x1024_S64x256_0_256)) (S := S) (b := 0) (Q := (ldK P.arg1 P.harg1 P.x0 0 0 inb_S256x2048_S256x512_0_0 inb_S256x512_S64x512_0_0)) (h := 1) (p := 128) (by decide) (by decide) rfl maskF_eq (ldK_apply _ _ _ _ _ _ _) (ldK_apply _ _ _ _ _ _ _) (ldC_F P _ _) (ldV_apply _ _ _ _ _ _) r l

/-- The state stored and the output written at step 0 of the forward direction, head 2, over the state loaded. -/
noncomputable def w5 (S : Vec Ideal S1x1x128x256 .f32) : Vec Ideal S1x1x128x256 .f32 :=
  st (hd (kd (ldK P.arg1 P.harg1 P.x0 512 0 inb_S256x2048_S256x512_0_512 inb_S256x512_S64x512_0_0) (ldC P 0 0 inb_S2x256x512_S1x64x512_0_0_0) 63 slices_S64x512_o63_0_S1x512) 256 slices_S64x512_o0_256_S64x128) (extractStridedSlice S1x128 ![0, 256] (exp2 (lastRow (ldC P 0 0 inb_S2x256x512_S1x64x512_0_0_0) 63 slices_S64x512_o63_0_S1x512)) slices_S1x512_o0_256_S1x128) (ldV P.arg1 P.harg1 P.x0 0 512 inb_S256x1024_S64x256_0_512) S
/-- The output of store number 5 of the states, over the state loaded. -/
noncomputable def o5 (S : Vec Ideal S1x1x128x256 .f32) : Vec Ideal S64x256 .bf16 :=
  out maskF (hd (qe (ldK P.arg1 P.harg1 P.x0 0 0 inb_S256x2048_S256x512_0_0 inb_S256x512_S64x512_0_0) (ldC P 0 0 inb_S2x256x512_S1x64x512_0_0_0)) 256 slices_S64x512_o0_256_S64x128) (hd (ke (ldK P.arg1 P.harg1 P.x0 512 0 inb_S256x2048_S256x512_0_512 inb_S256x512_S64x512_0_0) (ldC P 0 0 inb_S2x256x512_S1x64x512_0_0_0)) 256 slices_S64x512_o0_256_S64x128) (ldV P.arg1 P.harg1 P.x0 0 512 inb_S256x1024_S64x256_0_512) S
/-- The stores into the states up to number 5, from those before. -/
theorem hs5 : H5 P = ⟨Rect.unit (s := S2x4x128x256) ![0, 2, 0, 0] S1x1x128x256.size inb_S2x4x128x256_S1x1x128x256_0_2_0_0, w5 P (ldS P (H4 P) 0 2 inb_S2x4x128x256_S1x1x128x256_0_2_0_0)⟩ :: H4 P := rfl
/-- That state is the next state of its step and head. -/
theorem w5_apply (S : Vec Ideal S1x1x128x256 .f32) (d : Fin 128) (l : Fin 256) : w5 P S (ix4 0 0 d l) = stepSt P.x0 (cumF P) 0 63 2 (fun d l => S (ix4 0 0 d l)) d l :=
  st_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 512 inb_S256x1024_S64x256_0_512)) (S := S) (b := 0) (o := 63) (h := 2) (p := 256) (by decide) (by decide) (by decide) rfl (ldK_apply _ _ _ _ _ _ _) (ldC_F P _ _) (ldV_apply _ _ _ _ _ _) d l
/-- That output is the output of its step and head. -/
theorem o5_apply (S : Vec Ideal S1x1x128x256 .f32) (r : Fin 64) (l : Fin 256) : o5 P S (ix2 r l) = stepOut false P.x0 (cumF P) 0 2 (fun d l => S (ix4 0 0 d l)) r l :=
  out_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 512 inb_S256x1024_S64x256_0_512)) (S := S) (b := 0) (Q := (ldK P.arg1 P.harg1 P.x0 0 0 inb_S256x2048_S256x512_0_0 inb_S256x512_S64x512_0_0)) (h := 2) (p := 256) (by decide) (by decide) rfl maskF_eq (ldK_apply _ _ _ _ _ _ _) (ldK_apply _ _ _ _ _ _ _) (ldC_F P _ _) (ldV_apply _ _ _ _ _ _) r l

/-- The state stored and the output written at step 0 of the forward direction, head 3, over the state loaded. -/
noncomputable def w6 (S : Vec Ideal S1x1x128x256 .f32) : Vec Ideal S1x1x128x256 .f32 :=
  st (hd (kd (ldK P.arg1 P.harg1 P.x0 512 0 inb_S256x2048_S256x512_0_512 inb_S256x512_S64x512_0_0) (ldC P 0 0 inb_S2x256x512_S1x64x512_0_0_0) 63 slices_S64x512_o63_0_S1x512) 384 slices_S64x512_o0_384_S64x128) (extractStridedSlice S1x128 ![0, 384] (exp2 (lastRow (ldC P 0 0 inb_S2x256x512_S1x64x512_0_0_0) 63 slices_S64x512_o63_0_S1x512)) slices_S1x512_o0_384_S1x128) (ldV P.arg1 P.harg1 P.x0 0 768 inb_S256x1024_S64x256_0_768) S
/-- The output of store number 6 of the states, over the state loaded. -/
noncomputable def o6 (S : Vec Ideal S1x1x128x256 .f32) : Vec Ideal S64x256 .bf16 :=
  out maskF (hd (qe (ldK P.arg1 P.harg1 P.x0 0 0 inb_S256x2048_S256x512_0_0 inb_S256x512_S64x512_0_0) (ldC P 0 0 inb_S2x256x512_S1x64x512_0_0_0)) 384 slices_S64x512_o0_384_S64x128) (hd (ke (ldK P.arg1 P.harg1 P.x0 512 0 inb_S256x2048_S256x512_0_512 inb_S256x512_S64x512_0_0) (ldC P 0 0 inb_S2x256x512_S1x64x512_0_0_0)) 384 slices_S64x512_o0_384_S64x128) (ldV P.arg1 P.harg1 P.x0 0 768 inb_S256x1024_S64x256_0_768) S
/-- The stores into the states up to number 6, from those before. -/
theorem hs6 : H6 P = ⟨Rect.unit (s := S2x4x128x256) ![0, 3, 0, 0] S1x1x128x256.size inb_S2x4x128x256_S1x1x128x256_0_3_0_0, w6 P (ldS P (H5 P) 0 3 inb_S2x4x128x256_S1x1x128x256_0_3_0_0)⟩ :: H5 P := rfl
/-- That state is the next state of its step and head. -/
theorem w6_apply (S : Vec Ideal S1x1x128x256 .f32) (d : Fin 128) (l : Fin 256) : w6 P S (ix4 0 0 d l) = stepSt P.x0 (cumF P) 0 63 3 (fun d l => S (ix4 0 0 d l)) d l :=
  st_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 768 inb_S256x1024_S64x256_0_768)) (S := S) (b := 0) (o := 63) (h := 3) (p := 384) (by decide) (by decide) (by decide) rfl (ldK_apply _ _ _ _ _ _ _) (ldC_F P _ _) (ldV_apply _ _ _ _ _ _) d l
/-- That output is the output of its step and head. -/
theorem o6_apply (S : Vec Ideal S1x1x128x256 .f32) (r : Fin 64) (l : Fin 256) : o6 P S (ix2 r l) = stepOut false P.x0 (cumF P) 0 3 (fun d l => S (ix4 0 0 d l)) r l :=
  out_val (X := P.x0) (CC := cumF P) (K := (ldK P.arg1 P.harg1 P.x0 512 0 inb_S256x2048_S256x512_0_512 inb_S256x512_S64x512_0_0)) (C := (ldC P 0 0 inb_S2x256x512_S1x64x512_0_0_0)) (V := (ldV P.arg1 P.harg1 P.x0 0 768 inb_S256x1024_S64x256_0_768)) (S := S) (b := 0) (Q := (ldK P.arg1 P.harg1 P.x0 0 0 inb_S256x2048_S256x512_0_0 inb_S256x512_S64x512_0_0)) (h := 3) (p := 384) (by decide) (by decide) rfl maskF_eq (ldK_apply _ _ _ _ _ _ _) (ldK_apply _ _ _ _ _ _ _) (ldC_F P _ _) (ldV_apply _ _ _ _ _ _) r l

end Cert.GlaIdeal.Hand
-- ==== Proof.GlaAt0B.lean ====
module

public import proofs.«01_k».proof.Proof.GlaNames

/-! Step 0 of the backward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 0 of the backward direction, head 0, over the state loaded. -/
noncomputable def w7 (S : Vec Ideal S1x1x128x256 .f32) : Vec Ideal S1x1x128x256 .f32 :=
  st (hd (kd (ldK P.arg4 P.harg4 P.x3 512 192 inb_S256x2048_S256x512_0_512 inb_S256x512_S64x512_192_0) (ldC P 1 192 inb_S2x256x512_S1x64x512_1_192_0) 0 slices_S64x512_o0_0_S1x512) 0 slices_S64x512_o0_0_S64x128) (extractStridedSlice S1x128 ![0, 0] (exp2 (lastRow (ldC P 1 192 inb_S2x256x512_S1x64x512_1_192_0) 0 slices_S64x512_o0_0_S1x512)) slices_S1x512_o0_0_S1x128) (ldV P.arg4 P.harg4 P.x3 192 0 inb_S256x1024_S64x256_192_0) S
/-- The output of store number 7 of the states, over the state loaded. -/
noncomputable def o7 (S : Vec Ideal S1x1x128x256 .f32) : Vec Ideal S64x256 .bf16 :=
  out maskB (hd (qe (ldK P.arg4 P.harg4 P.x3 0 192 inb_S256x2048_S256x512_0_0 inb_S256x512_S64x512_192_0) (ldC P 1 192 inb_S2x256x512_S1x64x512_1_192_0)) 0 slices_S64x512_o0_0_S64x128) (hd (ke (ldK P.arg4 P.harg4 P.x3 512 192 inb_S256x2048_S256x512_0_512 inb_S256x512_S64x512_192_0) (ldC P 1 192 inb_S2x256x512_S1x64x512_1_192_0)) 0 slices_S64x512_o0_0_S64x128) (ldV P.arg4 P.harg4 P.x3 192 0 inb_S256x1024_S64x256_192_0) S
/-- The stores into the states up to number 7, from those before. -/
theorem hs7 : H7 P = ⟨Rect.unit (s := S2x4x128x256) ![1, 0, 0, 0] S1x1x128x256.size inb_S2x4x128x256_S1x1x128x256_1_0_0_0, w7 P (ldS P (H6 P) 1 0 inb_S2x4x128x256_S1x1x128x256_1_0_0_0)⟩ :: H6 P := rfl
/-- That state is the next state of its step and head. -/
theorem w7_apply (S : Vec Ideal S1x1x128x256 .f32) (d : Fin 128) (l : Fin 256) : w7 P S (ix4 0 0 d l) = stepSt P.x3 (cumB P) 192 0 0 (fun d l => S (ix4 0 0 d l)) d l :=
  st_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 0 inb_S256x1024_S64x256_192_0)) (S := S) (b := 192) (o := 0) (h := 0) (p := 0) (by decide) (by decide) (by decide) rfl (ldK_apply _ _ _ _ _ _ _) (ldC_B P _ _) (ldV_apply _ _ _ _ _ _) d l
/-- That output is the output of its step and head. -/
theorem o7_apply (S : Vec Ideal S1x1x128x256 .f32) (r : Fin 64) (l : Fin 256) : o7 P S (ix2 r l) = stepOut true P.x3 (cumB P) 192 0 (fun d l => S (ix4 0 0 d l)) r l :=
  out_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 0 inb_S256x1024_S64x256_192_0)) (S := S) (b := 192) (Q := (ldK P.arg4 P.harg4 P.x3 0 192 inb_S256x2048_S256x512_0_0 inb_S256x512_S64x512_192_0)) (h := 0) (p := 0) (by decide) (by decide) rfl maskB_eq (ldK_apply _ _ _ _ _ _ _) (ldK_apply _ _ _ _ _ _ _) (ldC_B P _ _) (ldV_apply _ _ _ _ _ _) r l

/-- The state stored and the output written at step 0 of the backward direction, head 1, over the state loaded. -/
noncomputable def w8 (S : Vec Ideal S1x1x128x256 .f32) : Vec Ideal S1x1x128x256 .f32 :=
  st (hd (kd (ldK P.arg4 P.harg4 P.x3 512 192 inb_S256x2048_S256x512_0_512 inb_S256x512_S64x512_192_0) (ldC P 1 192 inb_S2x256x512_S1x64x512_1_192_0) 0 slices_S64x512_o0_0_S1x512) 128 slices_S64x512_o0_128_S64x128) (extractStridedSlice S1x128 ![0, 128] (exp2 (lastRow (ldC P 1 192 inb_S2x256x512_S1x64x512_1_192_0) 0 slices_S64x512_o0_0_S1x512)) slices_S1x512_o0_128_S1x128) (ldV P.arg4 P.harg4 P.x3 192 256 inb_S256x1024_S64x256_192_256) S
/-- The output of store number 8 of the states, over the state loaded. -/
noncomputable def o8 (S : Vec Ideal S1x1x128x256 .f32) : Vec Ideal S64x256 .bf16 :=
  out maskB (hd (qe (ldK P.arg4 P.harg4 P.x3 0 192 inb_S256x2048_S256x512_0_0 inb_S256x512_S64x512_192_0) (ldC P 1 192 inb_S2x256x512_S1x64x512_1_192_0)) 128 slices_S64x512_o0_128_S64x128) (hd (ke (ldK P.arg4 P.harg4 P.x3 512 192 inb_S256x2048_S256x512_0_512 inb_S256x512_S64x512_192_0) (ldC P 1 192 inb_S2x256x512_S1x64x512_1_192_0)) 128 slices_S64x512_o0_128_S64x128) (ldV P.arg4 P.harg4 P.x3 192 256 inb_S256x1024_S64x256_192_256) S
/-- The stores into the states up to number 8, from those before. -/
theorem hs8 : H8 P = ⟨Rect.unit (s := S2x4x128x256) ![1, 1, 0, 0] S1x1x128x256.size inb_S2x4x128x256_S1x1x128x256_1_1_0_0, w8 P (ldS P (H7 P) 1 1 inb_S2x4x128x256_S1x1x128x256_1_1_0_0)⟩ :: H7 P := rfl
/-- That state is the next state of its step and head. -/
theorem w8_apply (S : Vec Ideal S1x1x128x256 .f32) (d : Fin 128) (l : Fin 256) : w8 P S (ix4 0 0 d l) = stepSt P.x3 (cumB P) 192 0 1 (fun d l => S (ix4 0 0 d l)) d l :=
  st_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 256 inb_S256x1024_S64x256_192_256)) (S := S) (b := 192) (o := 0) (h := 1) (p := 128) (by decide) (by decide) (by decide) rfl (ldK_apply _ _ _ _ _ _ _) (ldC_B P _ _) (ldV_apply _ _ _ _ _ _) d l
/-- That output is the output of its step and head. -/
theorem o8_apply (S : Vec Ideal S1x1x128x256 .f32) (r : Fin 64) (l : Fin 256) : o8 P S (ix2 r l) = stepOut true P.x3 (cumB P) 192 1 (fun d l => S (ix4 0 0 d l)) r l :=
  out_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 256 inb_S256x1024_S64x256_192_256)) (S := S) (b := 192) (Q := (ldK P.arg4 P.harg4 P.x3 0 192 inb_S256x2048_S256x512_0_0 inb_S256x512_S64x512_192_0)) (h := 1) (p := 128) (by decide) (by decide) rfl maskB_eq (ldK_apply _ _ _ _ _ _ _) (ldK_apply _ _ _ _ _ _ _) (ldC_B P _ _) (ldV_apply _ _ _ _ _ _) r l

/-- The state stored and the output written at step 0 of the backward direction, head 2, over the state loaded. -/
noncomputable def w9 (S : Vec Ideal S1x1x128x256 .f32) : Vec Ideal S1x1x128x256 .f32 :=
  st (hd (kd (ldK P.arg4 P.harg4 P.x3 512 192 inb_S256x2048_S256x512_0_512 inb_S256x512_S64x512_192_0) (ldC P 1 192 inb_S2x256x512_S1x64x512_1_192_0) 0 slices_S64x512_o0_0_S1x512) 256 slices_S64x512_o0_256_S64x128) (extractStridedSlice S1x128 ![0, 256] (exp2 (lastRow (ldC P 1 192 inb_S2x256x512_S1x64x512_1_192_0) 0 slices_S64x512_o0_0_S1x512)) slices_S1x512_o0_256_S1x128) (ldV P.arg4 P.harg4 P.x3 192 512 inb_S256x1024_S64x256_192_512) S
/-- The output of store number 9 of the states, over the state loaded. -/
noncomputable def o9 (S : Vec Ideal S1x1x128x256 .f32) : Vec Ideal S64x256 .bf16 :=
  out maskB (hd (qe (ldK P.arg4 P.harg4 P.x3 0 192 inb_S256x2048_S256x512_0_0 inb_S256x512_S64x512_192_0) (ldC P 1 192 inb_S2x256x512_S1x64x512_1_192_0)) 256 slices_S64x512_o0_256_S64x128) (hd (ke (ldK P.arg4 P.harg4 P.x3 512 192 inb_S256x2048_S256x512_0_512 inb_S256x512_S64x512_192_0) (ldC P 1 192 inb_S2x256x512_S1x64x512_1_192_0)) 256 slices_S64x512_o0_256_S64x128) (ldV P.arg4 P.harg4 P.x3 192 512 inb_S256x1024_S64x256_192_512) S
/-- The stores into the states up to number 9, from those before. -/
theorem hs9 : H9 P = ⟨Rect.unit (s := S2x4x128x256) ![1, 2, 0, 0] S1x1x128x256.size inb_S2x4x128x256_S1x1x128x256_1_2_0_0, w9 P (ldS P (H8 P) 1 2 inb_S2x4x128x256_S1x1x128x256_1_2_0_0)⟩ :: H8 P := rfl
/-- That state is the next state of its step and head. -/
theorem w9_apply (S : Vec Ideal S1x1x128x256 .f32) (d : Fin 128) (l : Fin 256) : w9 P S (ix4 0 0 d l) = stepSt P.x3 (cumB P) 192 0 2 (fun d l => S (ix4 0 0 d l)) d l :=
  st_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 512 inb_S256x1024_S64x256_192_512)) (S := S) (b := 192) (o := 0) (h := 2) (p := 256) (by decide) (by decide) (by decide) rfl (ldK_apply _ _ _ _ _ _ _) (ldC_B P _ _) (ldV_apply _ _ _ _ _ _) d l
/-- That output is the output of its step and head. -/
theorem o9_apply (S : Vec Ideal S1x1x128x256 .f32) (r : Fin 64) (l : Fin 256) : o9 P S (ix2 r l) = stepOut true P.x3 (cumB P) 192 2 (fun d l => S (ix4 0 0 d l)) r l :=
  out_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 512 inb_S256x1024_S64x256_192_512)) (S := S) (b := 192) (Q := (ldK P.arg4 P.harg4 P.x3 0 192 inb_S256x2048_S256x512_0_0 inb_S256x512_S64x512_192_0)) (h := 2) (p := 256) (by decide) (by decide) rfl maskB_eq (ldK_apply _ _ _ _ _ _ _) (ldK_apply _ _ _ _ _ _ _) (ldC_B P _ _) (ldV_apply _ _ _ _ _ _) r l

/-- The state stored and the output written at step 0 of the backward direction, head 3, over the state loaded. -/
noncomputable def w10 (S : Vec Ideal S1x1x128x256 .f32) : Vec Ideal S1x1x128x256 .f32 :=
  st (hd (kd (ldK P.arg4 P.harg4 P.x3 512 192 inb_S256x2048_S256x512_0_512 inb_S256x512_S64x512_192_0) (ldC P 1 192 inb_S2x256x512_S1x64x512_1_192_0) 0 slices_S64x512_o0_0_S1x512) 384 slices_S64x512_o0_384_S64x128) (extractStridedSlice S1x128 ![0, 384] (exp2 (lastRow (ldC P 1 192 inb_S2x256x512_S1x64x512_1_192_0) 0 slices_S64x512_o0_0_S1x512)) slices_S1x512_o0_384_S1x128) (ldV P.arg4 P.harg4 P.x3 192 768 inb_S256x1024_S64x256_192_768) S
/-- The output of store number 10 of the states, over the state loaded. -/
noncomputable def o10 (S : Vec Ideal S1x1x128x256 .f32) : Vec Ideal S64x256 .bf16 :=
  out maskB (hd (qe (ldK P.arg4 P.harg4 P.x3 0 192 inb_S256x2048_S256x512_0_0 inb_S256x512_S64x512_192_0) (ldC P 1 192 inb_S2x256x512_S1x64x512_1_192_0)) 384 slices_S64x512_o0_384_S64x128) (hd (ke (ldK P.arg4 P.harg4 P.x3 512 192 inb_S256x2048_S256x512_0_512 inb_S256x512_S64x512_192_0) (ldC P 1 192 inb_S2x256x512_S1x64x512_1_192_0)) 384 slices_S64x512_o0_384_S64x128) (ldV P.arg4 P.harg4 P.x3 192 768 inb_S256x1024_S64x256_192_768) S
/-- The stores into the states up to number 10, from those before. -/
theorem hs10 : H10 P = ⟨Rect.unit (s := S2x4x128x256) ![1, 3, 0, 0] S1x1x128x256.size inb_S2x4x128x256_S1x1x128x256_1_3_0_0, w10 P (ldS P (H9 P) 1 3 inb_S2x4x128x256_S1x1x128x256_1_3_0_0)⟩ :: H9 P := rfl
/-- That state is the next state of its step and head. -/
theorem w10_apply (S : Vec Ideal S1x1x128x256 .f32) (d : Fin 128) (l : Fin 256) : w10 P S (ix4 0 0 d l) = stepSt P.x3 (cumB P) 192 0 3 (fun d l => S (ix4 0 0 d l)) d l :=
  st_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 768 inb_S256x1024_S64x256_192_768)) (S := S) (b := 192) (o := 0) (h := 3) (p := 384) (by decide) (by decide) (by decide) rfl (ldK_apply _ _ _ _ _ _ _) (ldC_B P _ _) (ldV_apply _ _ _ _ _ _) d l
/-- That output is the output of its step and head. -/
theorem o10_apply (S : Vec Ideal S1x1x128x256 .f32) (r : Fin 64) (l : Fin 256) : o10 P S (ix2 r l) = stepOut true P.x3 (cumB P) 192 3 (fun d l => S (ix4 0 0 d l)) r l :=
  out_val (X := P.x3) (CC := cumB P) (K := (ldK P.arg4 P.harg4 P.x3 512 192 inb_S256x2048_S256x512_0_512 inb_S256x512_S64x512_192_0)) (C := (ldC P 1 192 inb_S2x256x512_S1x64x512_1_192_0)) (V := (ldV P.arg4 P.harg4 P.x3 192 768 inb_S256x1024_S64x256_192_768)) (S := S) (b := 192) (Q := (ldK P.arg4 P.harg4 P.x3 0 192 inb_S256x2048_S256x512_0_0 inb_S256x512_S64x512_192_0)) (h := 3) (p := 384) (by decide) (by decide) rfl maskB_eq (ldK_apply _ _ _ _ _ _ _) (ldK_apply _ _ _ _ _ _ _) (ldC_B P _ _) (ldV_apply _ _ _ _ _ _) r l

end Cert.GlaIdeal.Hand
-- ==== Proof.GlaAt1F.lean ====
module

public import proofs.«01_k».proof.Proof.GlaNames

/-! Step 1 of the forward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 1 of the forward direction, head 0, over the state loaded. -/
noncomputable def w11 (S : Vec Ideal S1x1x128x256 .f32) : Vec Ideal S1x1x128x256 .f32 :=
  st (hd (kd (ldK P.arg1 P.harg1 P.x0 512 64 inb_S256x2048_S256x512_0_512 inb_S256x512_S64x512_64_0) (ldC P 0 64 inb_S2x256x512_S1x64x512_0_64_0) 63 slices_S64x512_o63_0_S1x512) 0 slices_S64x512_o0_0_S64x128) (extractStridedSlice S1x128 ![0, 0] (exp2 (lastRow (ldC P 0 64 inb_S2x256x512_S1x64x512_0_64_0) 63 slices_S64x512_o63_0_S1x512)) slices_S1x512_o0_0_S1x128) (ldV P.arg1 P.harg1 P.x0 64 0 inb_S256x1024_S64x256_64_0) S
/-- The output of store number 11 of the states, over the state loaded. -/
noncomputable def o11 (S : Vec Ideal S1x1x128x256 .f32) : Vec Ideal S64x256 .bf16 :=
  out maskF (hd (qe (ldK P.arg1 P.harg1 P.x0 0 64 inb_S256x2048_S256x512_0_0 inb_S256x512_S64x512_64_0) (ldC P 0 64 inb_S2x256x512_S1x64x512_0_64_0)) 0 slices_S64x512_o0_0_S64x128) (hd (ke (ldK P.arg1 P.harg1 P.x0 512 64 inb_S256x2048_S256x512_0_512 inb_S256x512_S64x512_64_0) (ldC P 0 64 inb_S2x256x512_S1x64x512_0_64_0)) 0 slices_S64x512_o0_0_S64x128) (ldV P.arg1 P.harg1 P.x0 64 0 inb_S256x1024_S64x256_64_0) S
/-- The stores into the states up to number 11, from those before. -/
theorem hs11 : H11 P = ⟨Rect.unit (s := S2x4x128x256) ![0, 0, 0, 0] S1x1x128x256.size inb_S2x4x128x256_S1x1x128x256_0_0_0_0, w11 P (ldS P (H10 P) 0 0 inb_S2x4x128x256_S1x1x128x256_0_0_0_0)⟩ :: H10 P := rfl
/-- That state is the next state of its step and head. -/
theorem w11_apply (S : Vec Ideal S1x1x128x256 .f32) (d : Fin 128) (l : Fin 256) : w11 P S (ix4 0 0 d l) = stepSt P.x0 (cumF P) 64 63 0 (fun d l => S (ix4 0 0 d l)) d l :=
  st_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 0 inb_S256x1024_S64x256_64_0)) (S := S) (b := 64) (o := 63) (h := 0) (p := 0) (by decide) (by decide) (by decide) rfl (ldK_apply _ _ _ _ _ _ _) (ldC_F P _ _) (ldV_apply _ _ _ _ _ _) d l
/-- That output is the output of its step and head. -/
theorem o11_apply (S : Vec Ideal S1x1x128x256 .f32) (r : Fin 64) (l : Fin 256) : o11 P S (ix2 r l) = stepOut false P.x0 (cumF P) 64 0 (fun d l => S (ix4 0 0 d l)) r l :=
  out_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 0 inb_S256x1024_S64x256_64_0)) (S := S) (b := 64) (Q := (ldK P.arg1 P.harg1 P.x0 0 64 inb_S256x2048_S256x512_0_0 inb_S256x512_S64x512_64_0)) (h := 0) (p := 0) (by decide) (by decide) rfl maskF_eq (ldK_apply _ _ _ _ _ _ _) (ldK_apply _ _ _ _ _ _ _) (ldC_F P _ _) (ldV_apply _ _ _ _ _ _) r l

/-- The state stored and the output written at step 1 of the forward direction, head 1, over the state loaded. -/
noncomputable def w12 (S : Vec Ideal S1x1x128x256 .f32) : Vec Ideal S1x1x128x256 .f32 :=
  st (hd (kd (ldK P.arg1 P.harg1 P.x0 512 64 inb_S256x2048_S256x512_0_512 inb_S256x512_S64x512_64_0) (ldC P 0 64 inb_S2x256x512_S1x64x512_0_64_0) 63 slices_S64x512_o63_0_S1x512) 128 slices_S64x512_o0_128_S64x128) (extractStridedSlice S1x128 ![0, 128] (exp2 (lastRow (ldC P 0 64 inb_S2x256x512_S1x64x512_0_64_0) 63 slices_S64x512_o63_0_S1x512)) slices_S1x512_o0_128_S1x128) (ldV P.arg1 P.harg1 P.x0 64 256 inb_S256x1024_S64x256_64_256) S
/-- The output of store number 12 of the states, over the state loaded. -/
noncomputable def o12 (S : Vec Ideal S1x1x128x256 .f32) : Vec Ideal S64x256 .bf16 :=
  out maskF (hd (qe (ldK P.arg1 P.harg1 P.x0 0 64 inb_S256x2048_S256x512_0_0 inb_S256x512_S64x512_64_0) (ldC P 0 64 inb_S2x256x512_S1x64x512_0_64_0)) 128 slices_S64x512_o0_128_S64x128) (hd (ke (ldK P.arg1 P.harg1 P.x0 512 64 inb_S256x2048_S256x512_0_512 inb_S256x512_S64x512_64_0) (ldC P 0 64 inb_S2x256x512_S1x64x512_0_64_0)) 128 slices_S64x512_o0_128_S64x128) (ldV P.arg1 P.harg1 P.x0 64 256 inb_S256x1024_S64x256_64_256) S
/-- The stores into the states up to number 12, from those before. -/
theorem hs12 : H12 P = ⟨Rect.unit (s := S2x4x128x256) ![0, 1, 0, 0] S1x1x128x256.size inb_S2x4x128x256_S1x1x128x256_0_1_0_0, w12 P (ldS P (H11 P) 0 1 inb_S2x4x128x256_S1x1x128x256_0_1_0_0)⟩ :: H11 P := rfl
/-- That state is the next state of its step and head. -/
theorem w12_apply (S : Vec Ideal S1x1x128x256 .f32) (d : Fin 128) (l : Fin 256) : w12 P S (ix4 0 0 d l) = stepSt P.x0 (cumF P) 64 63 1 (fun d l => S (ix4 0 0 d l)) d l :=
  st_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 256 inb_S256x1024_S64x256_64_256)) (S := S) (b := 64) (o := 63) (h := 1) (p := 128) (by decide) (by decide) (by decide) rfl (ldK_apply _ _ _ _ _ _ _) (ldC_F P _ _) (ldV_apply _ _ _ _ _ _) d l
/-- That output is the output of its step and head. -/
theorem o12_apply (S : Vec Ideal S1x1x128x256 .f32) (r : Fin 64) (l : Fin 256) : o12 P S (ix2 r l) = stepOut false P.x0 (cumF P) 64 1 (fun d l => S (ix4 0 0 d l)) r l :=
  out_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 256 inb_S256x1024_S64x256_64_256)) (S := S) (b := 64) (Q := (ldK P.arg1 P.harg1 P.x0 0 64 inb_S256x2048_S256x512_0_0 inb_S256x512_S64x512_64_0)) (h := 1) (p := 128) (by decide) (by decide) rfl maskF_eq (ldK_apply _ _ _ _ _ _ _) (ldK_apply _ _ _ _ _ _ _) (ldC_F P _ _) (ldV_apply _ _ _ _ _ _) r l

/-- The state stored and the output written at step 1 of the forward direction, head 2, over the state loaded. -/
noncomputable def w13 (S : Vec Ideal S1x1x128x256 .f32) : Vec Ideal S1x1x128x256 .f32 :=
  st (hd (kd (ldK P.arg1 P.harg1 P.x0 512 64 inb_S256x2048_S256x512_0_512 inb_S256x512_S64x512_64_0) (ldC P 0 64 inb_S2x256x512_S1x64x512_0_64_0) 63 slices_S64x512_o63_0_S1x512) 256 slices_S64x512_o0_256_S64x128) (extractStridedSlice S1x128 ![0, 256] (exp2 (lastRow (ldC P 0 64 inb_S2x256x512_S1x64x512_0_64_0) 63 slices_S64x512_o63_0_S1x512)) slices_S1x512_o0_256_S1x128) (ldV P.arg1 P.harg1 P.x0 64 512 inb_S256x1024_S64x256_64_512) S
/-- The output of store number 13 of the states, over the state loaded. -/
noncomputable def o13 (S : Vec Ideal S1x1x128x256 .f32) : Vec Ideal S64x256 .bf16 :=
  out maskF (hd (qe (ldK P.arg1 P.harg1 P.x0 0 64 inb_S256x2048_S256x512_0_0 inb_S256x512_S64x512_64_0) (ldC P 0 64 inb_S2x256x512_S1x64x512_0_64_0)) 256 slices_S64x512_o0_256_S64x128) (hd (ke (ldK P.arg1 P.harg1 P.x0 512 64 inb_S256x2048_S256x512_0_512 inb_S256x512_S64x512_64_0) (ldC P 0 64 inb_S2x256x512_S1x64x512_0_64_0)) 256 slices_S64x512_o0_256_S64x128) (ldV P.arg1 P.harg1 P.x0 64 512 inb_S256x1024_S64x256_64_512) S
/-- The stores into the states up to number 13, from those before. -/
theorem hs13 : H13 P = ⟨Rect.unit (s := S2x4x128x256) ![0, 2, 0, 0] S1x1x128x256.size inb_S2x4x128x256_S1x1x128x256_0_2_0_0, w13 P (ldS P (H12 P) 0 2 inb_S2x4x128x256_S1x1x128x256_0_2_0_0)⟩ :: H12 P := rfl
/-- That state is the next state of its step and head. -/
theorem w13_apply (S : Vec Ideal S1x1x128x256 .f32) (d : Fin 128) (l : Fin 256) : w13 P S (ix4 0 0 d l) = stepSt P.x0 (cumF P) 64 63 2 (fun d l => S (ix4 0 0 d l)) d l :=
  st_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 512 inb_S256x1024_S64x256_64_512)) (S := S) (b := 64) (o := 63) (h := 2) (p := 256) (by decide) (by decide) (by decide) rfl (ldK_apply _ _ _ _ _ _ _) (ldC_F P _ _) (ldV_apply _ _ _ _ _ _) d l
/-- That output is the output of its step and head. -/
theorem o13_apply (S : Vec Ideal S1x1x128x256 .f32) (r : Fin 64) (l : Fin 256) : o13 P S (ix2 r l) = stepOut false P.x0 (cumF P) 64 2 (fun d l => S (ix4 0 0 d l)) r l :=
  out_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 512 inb_S256x1024_S64x256_64_512)) (S := S) (b := 64) (Q := (ldK P.arg1 P.harg1 P.x0 0 64 inb_S256x2048_S256x512_0_0 inb_S256x512_S64x512_64_0)) (h := 2) (p := 256) (by decide) (by decide) rfl maskF_eq (ldK_apply _ _ _ _ _ _ _) (ldK_apply _ _ _ _ _ _ _) (ldC_F P _ _) (ldV_apply _ _ _ _ _ _) r l

/-- The state stored and the output written at step 1 of the forward direction, head 3, over the state loaded. -/
noncomputable def w14 (S : Vec Ideal S1x1x128x256 .f32) : Vec Ideal S1x1x128x256 .f32 :=
  st (hd (kd (ldK P.arg1 P.harg1 P.x0 512 64 inb_S256x2048_S256x512_0_512 inb_S256x512_S64x512_64_0) (ldC P 0 64 inb_S2x256x512_S1x64x512_0_64_0) 63 slices_S64x512_o63_0_S1x512) 384 slices_S64x512_o0_384_S64x128) (extractStridedSlice S1x128 ![0, 384] (exp2 (lastRow (ldC P 0 64 inb_S2x256x512_S1x64x512_0_64_0) 63 slices_S64x512_o63_0_S1x512)) slices_S1x512_o0_384_S1x128) (ldV P.arg1 P.harg1 P.x0 64 768 inb_S256x1024_S64x256_64_768) S
/-- The output of store number 14 of the states, over the state loaded. -/
noncomputable def o14 (S : Vec Ideal S1x1x128x256 .f32) : Vec Ideal S64x256 .bf16 :=
  out maskF (hd (qe (ldK P.arg1 P.harg1 P.x0 0 64 inb_S256x2048_S256x512_0_0 inb_S256x512_S64x512_64_0) (ldC P 0 64 inb_S2x256x512_S1x64x512_0_64_0)) 384 slices_S64x512_o0_384_S64x128) (hd (ke (ldK P.arg1 P.harg1 P.x0 512 64 inb_S256x2048_S256x512_0_512 inb_S256x512_S64x512_64_0) (ldC P 0 64 inb_S2x256x512_S1x64x512_0_64_0)) 384 slices_S64x512_o0_384_S64x128) (ldV P.arg1 P.harg1 P.x0 64 768 inb_S256x1024_S64x256_64_768) S
/-- The stores into the states up to number 14, from those before. -/
theorem hs14 : H14 P = ⟨Rect.unit (s := S2x4x128x256) ![0, 3, 0, 0] S1x1x128x256.size inb_S2x4x128x256_S1x1x128x256_0_3_0_0, w14 P (ldS P (H13 P) 0 3 inb_S2x4x128x256_S1x1x128x256_0_3_0_0)⟩ :: H13 P := rfl
/-- That state is the next state of its step and head. -/
theorem w14_apply (S : Vec Ideal S1x1x128x256 .f32) (d : Fin 128) (l : Fin 256) : w14 P S (ix4 0 0 d l) = stepSt P.x0 (cumF P) 64 63 3 (fun d l => S (ix4 0 0 d l)) d l :=
  st_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 768 inb_S256x1024_S64x256_64_768)) (S := S) (b := 64) (o := 63) (h := 3) (p := 384) (by decide) (by decide) (by decide) rfl (ldK_apply _ _ _ _ _ _ _) (ldC_F P _ _) (ldV_apply _ _ _ _ _ _) d l
/-- That output is the output of its step and head. -/
theorem o14_apply (S : Vec Ideal S1x1x128x256 .f32) (r : Fin 64) (l : Fin 256) : o14 P S (ix2 r l) = stepOut false P.x0 (cumF P) 64 3 (fun d l => S (ix4 0 0 d l)) r l :=
  out_val (X := P.x0) (CC := cumF P) (K := (ldK P.arg1 P.harg1 P.x0 512 64 inb_S256x2048_S256x512_0_512 inb_S256x512_S64x512_64_0)) (C := (ldC P 0 64 inb_S2x256x512_S1x64x512_0_64_0)) (V := (ldV P.arg1 P.harg1 P.x0 64 768 inb_S256x1024_S64x256_64_768)) (S := S) (b := 64) (Q := (ldK P.arg1 P.harg1 P.x0 0 64 inb_S256x2048_S256x512_0_0 inb_S256x512_S64x512_64_0)) (h := 3) (p := 384) (by decide) (by decide) rfl maskF_eq (ldK_apply _ _ _ _ _ _ _) (ldK_apply _ _ _ _ _ _ _) (ldC_F P _ _) (ldV_apply _ _ _ _ _ _) r l

end Cert.GlaIdeal.Hand
-- ==== Proof.GlaAt1B.lean ====
module

public import proofs.«01_k».proof.Proof.GlaNames

/-! Step 1 of the backward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 1 of the backward direction, head 0, over the state loaded. -/
noncomputable def w15 (S : Vec Ideal S1x1x128x256 .f32) : Vec Ideal S1x1x128x256 .f32 :=
  st (hd (kd (ldK P.arg4 P.harg4 P.x3 512 128 inb_S256x2048_S256x512_0_512 inb_S256x512_S64x512_128_0) (ldC P 1 128 inb_S2x256x512_S1x64x512_1_128_0) 0 slices_S64x512_o0_0_S1x512) 0 slices_S64x512_o0_0_S64x128) (extractStridedSlice S1x128 ![0, 0] (exp2 (lastRow (ldC P 1 128 inb_S2x256x512_S1x64x512_1_128_0) 0 slices_S64x512_o0_0_S1x512)) slices_S1x512_o0_0_S1x128) (ldV P.arg4 P.harg4 P.x3 128 0 inb_S256x1024_S64x256_128_0) S
/-- The output of store number 15 of the states, over the state loaded. -/
noncomputable def o15 (S : Vec Ideal S1x1x128x256 .f32) : Vec Ideal S64x256 .bf16 :=
  out maskB (hd (qe (ldK P.arg4 P.harg4 P.x3 0 128 inb_S256x2048_S256x512_0_0 inb_S256x512_S64x512_128_0) (ldC P 1 128 inb_S2x256x512_S1x64x512_1_128_0)) 0 slices_S64x512_o0_0_S64x128) (hd (ke (ldK P.arg4 P.harg4 P.x3 512 128 inb_S256x2048_S256x512_0_512 inb_S256x512_S64x512_128_0) (ldC P 1 128 inb_S2x256x512_S1x64x512_1_128_0)) 0 slices_S64x512_o0_0_S64x128) (ldV P.arg4 P.harg4 P.x3 128 0 inb_S256x1024_S64x256_128_0) S
/-- The stores into the states up to number 15, from those before. -/
theorem hs15 : H15 P = ⟨Rect.unit (s := S2x4x128x256) ![1, 0, 0, 0] S1x1x128x256.size inb_S2x4x128x256_S1x1x128x256_1_0_0_0, w15 P (ldS P (H14 P) 1 0 inb_S2x4x128x256_S1x1x128x256_1_0_0_0)⟩ :: H14 P := rfl
/-- That state is the next state of its step and head. -/
theorem w15_apply (S : Vec Ideal S1x1x128x256 .f32) (d : Fin 128) (l : Fin 256) : w15 P S (ix4 0 0 d l) = stepSt P.x3 (cumB P) 128 0 0 (fun d l => S (ix4 0 0 d l)) d l :=
  st_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 0 inb_S256x1024_S64x256_128_0)) (S := S) (b := 128) (o := 0) (h := 0) (p := 0) (by decide) (by decide) (by decide) rfl (ldK_apply _ _ _ _ _ _ _) (ldC_B P _ _) (ldV_apply _ _ _ _ _ _) d l
/-- That output is the output of its step and head. -/
theorem o15_apply (S : Vec Ideal S1x1x128x256 .f32) (r : Fin 64) (l : Fin 256) : o15 P S (ix2 r l) = stepOut true P.x3 (cumB P) 128 0 (fun d l => S (ix4 0 0 d l)) r l :=
  out_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 0 inb_S256x1024_S64x256_128_0)) (S := S) (b := 128) (Q := (ldK P.arg4 P.harg4 P.x3 0 128 inb_S256x2048_S256x512_0_0 inb_S256x512_S64x512_128_0)) (h := 0) (p := 0) (by decide) (by decide) rfl maskB_eq (ldK_apply _ _ _ _ _ _ _) (ldK_apply _ _ _ _ _ _ _) (ldC_B P _ _) (ldV_apply _ _ _ _ _ _) r l

/-- The state stored and the output written at step 1 of the backward direction, head 1, over the state loaded. -/
noncomputable def w16 (S : Vec Ideal S1x1x128x256 .f32) : Vec Ideal S1x1x128x256 .f32 :=
  st (hd (kd (ldK P.arg4 P.harg4 P.x3 512 128 inb_S256x2048_S256x512_0_512 inb_S256x512_S64x512_128_0) (ldC P 1 128 inb_S2x256x512_S1x64x512_1_128_0) 0 slices_S64x512_o0_0_S1x512) 128 slices_S64x512_o0_128_S64x128) (extractStridedSlice S1x128 ![0, 128] (exp2 (lastRow (ldC P 1 128 inb_S2x256x512_S1x64x512_1_128_0) 0 slices_S64x512_o0_0_S1x512)) slices_S1x512_o0_128_S1x128) (ldV P.arg4 P.harg4 P.x3 128 256 inb_S256x1024_S64x256_128_256) S
/-- The output of store number 16 of the states, over the state loaded. -/
noncomputable def o16 (S : Vec Ideal S1x1x128x256 .f32) : Vec Ideal S64x256 .bf16 :=
  out maskB (hd (qe (ldK P.arg4 P.harg4 P.x3 0 128 inb_S256x2048_S256x512_0_0 inb_S256x512_S64x512_128_0) (ldC P 1 128 inb_S2x256x512_S1x64x512_1_128_0)) 128 slices_S64x512_o0_128_S64x128) (hd (ke (ldK P.arg4 P.harg4 P.x3 512 128 inb_S256x2048_S256x512_0_512 inb_S256x512_S64x512_128_0) (ldC P 1 128 inb_S2x256x512_S1x64x512_1_128_0)) 128 slices_S64x512_o0_128_S64x128) (ldV P.arg4 P.harg4 P.x3 128 256 inb_S256x1024_S64x256_128_256) S
/-- The stores into the states up to number 16, from those before. -/
theorem hs16 : H16 P = ⟨Rect.unit (s := S2x4x128x256) ![1, 1, 0, 0] S1x1x128x256.size inb_S2x4x128x256_S1x1x128x256_1_1_0_0, w16 P (ldS P (H15 P) 1 1 inb_S2x4x128x256_S1x1x128x256_1_1_0_0)⟩ :: H15 P := rfl
/-- That state is the next state of its step and head. -/
theorem w16_apply (S : Vec Ideal S1x1x128x256 .f32) (d : Fin 128) (l : Fin 256) : w16 P S (ix4 0 0 d l) = stepSt P.x3 (cumB P) 128 0 1 (fun d l => S (ix4 0 0 d l)) d l :=
  st_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 256 inb_S256x1024_S64x256_128_256)) (S := S) (b := 128) (o := 0) (h := 1) (p := 128) (by decide) (by decide) (by decide) rfl (ldK_apply _ _ _ _ _ _ _) (ldC_B P _ _) (ldV_apply _ _ _ _ _ _) d l
/-- That output is the output of its step and head. -/
theorem o16_apply (S : Vec Ideal S1x1x128x256 .f32) (r : Fin 64) (l : Fin 256) : o16 P S (ix2 r l) = stepOut true P.x3 (cumB P) 128 1 (fun d l => S (ix4 0 0 d l)) r l :=
  out_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 256 inb_S256x1024_S64x256_128_256)) (S := S) (b := 128) (Q := (ldK P.arg4 P.harg4 P.x3 0 128 inb_S256x2048_S256x512_0_0 inb_S256x512_S64x512_128_0)) (h := 1) (p := 128) (by decide) (by decide) rfl maskB_eq (ldK_apply _ _ _ _ _ _ _) (ldK_apply _ _ _ _ _ _ _) (ldC_B P _ _) (ldV_apply _ _ _ _ _ _) r l

/-- The state stored and the output written at step 1 of the backward direction, head 2, over the state loaded. -/
noncomputable def w17 (S : Vec Ideal S1x1x128x256 .f32) : Vec Ideal S1x1x128x256 .f32 :=
  st (hd (kd (ldK P.arg4 P.harg4 P.x3 512 128 inb_S256x2048_S256x512_0_512 inb_S256x512_S64x512_128_0) (ldC P 1 128 inb_S2x256x512_S1x64x512_1_128_0) 0 slices_S64x512_o0_0_S1x512) 256 slices_S64x512_o0_256_S64x128) (extractStridedSlice S1x128 ![0, 256] (exp2 (lastRow (ldC P 1 128 inb_S2x256x512_S1x64x512_1_128_0) 0 slices_S64x512_o0_0_S1x512)) slices_S1x512_o0_256_S1x128) (ldV P.arg4 P.harg4 P.x3 128 512 inb_S256x1024_S64x256_128_512) S
/-- The output of store number 17 of the states, over the state loaded. -/
noncomputable def o17 (S : Vec Ideal S1x1x128x256 .f32) : Vec Ideal S64x256 .bf16 :=
  out maskB (hd (qe (ldK P.arg4 P.harg4 P.x3 0 128 inb_S256x2048_S256x512_0_0 inb_S256x512_S64x512_128_0) (ldC P 1 128 inb_S2x256x512_S1x64x512_1_128_0)) 256 slices_S64x512_o0_256_S64x128) (hd (ke (ldK P.arg4 P.harg4 P.x3 512 128 inb_S256x2048_S256x512_0_512 inb_S256x512_S64x512_128_0) (ldC P 1 128 inb_S2x256x512_S1x64x512_1_128_0)) 256 slices_S64x512_o0_256_S64x128) (ldV P.arg4 P.harg4 P.x3 128 512 inb_S256x1024_S64x256_128_512) S
/-- The stores into the states up to number 17, from those before. -/
theorem hs17 : H17 P = ⟨Rect.unit (s := S2x4x128x256) ![1, 2, 0, 0] S1x1x128x256.size inb_S2x4x128x256_S1x1x128x256_1_2_0_0, w17 P (ldS P (H16 P) 1 2 inb_S2x4x128x256_S1x1x128x256_1_2_0_0)⟩ :: H16 P := rfl
/-- That state is the next state of its step and head. -/
theorem w17_apply (S : Vec Ideal S1x1x128x256 .f32) (d : Fin 128) (l : Fin 256) : w17 P S (ix4 0 0 d l) = stepSt P.x3 (cumB P) 128 0 2 (fun d l => S (ix4 0 0 d l)) d l :=
  st_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 512 inb_S256x1024_S64x256_128_512)) (S := S) (b := 128) (o := 0) (h := 2) (p := 256) (by decide) (by decide) (by decide) rfl (ldK_apply _ _ _ _ _ _ _) (ldC_B P _ _) (ldV_apply _ _ _ _ _ _) d l
/-- That output is the output of its step and head. -/
theorem o17_apply (S : Vec Ideal S1x1x128x256 .f32) (r : Fin 64) (l : Fin 256) : o17 P S (ix2 r l) = stepOut true P.x3 (cumB P) 128 2 (fun d l => S (ix4 0 0 d l)) r l :=
  out_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 512 inb_S256x1024_S64x256_128_512)) (S := S) (b := 128) (Q := (ldK P.arg4 P.harg4 P.x3 0 128 inb_S256x2048_S256x512_0_0 inb_S256x512_S64x512_128_0)) (h := 2) (p := 256) (by decide) (by decide) rfl maskB_eq (ldK_apply _ _ _ _ _ _ _) (ldK_apply _ _ _ _ _ _ _) (ldC_B P _ _) (ldV_apply _ _ _ _ _ _) r l

/-- The state stored and the output written at step 1 of the backward direction, head 3, over the state loaded. -/
noncomputable def w18 (S : Vec Ideal S1x1x128x256 .f32) : Vec Ideal S1x1x128x256 .f32 :=
  st (hd (kd (ldK P.arg4 P.harg4 P.x3 512 128 inb_S256x2048_S256x512_0_512 inb_S256x512_S64x512_128_0) (ldC P 1 128 inb_S2x256x512_S1x64x512_1_128_0) 0 slices_S64x512_o0_0_S1x512) 384 slices_S64x512_o0_384_S64x128) (extractStridedSlice S1x128 ![0, 384] (exp2 (lastRow (ldC P 1 128 inb_S2x256x512_S1x64x512_1_128_0) 0 slices_S64x512_o0_0_S1x512)) slices_S1x512_o0_384_S1x128) (ldV P.arg4 P.harg4 P.x3 128 768 inb_S256x1024_S64x256_128_768) S
/-- The output of store number 18 of the states, over the state loaded. -/
noncomputable def o18 (S : Vec Ideal S1x1x128x256 .f32) : Vec Ideal S64x256 .bf16 :=
  out maskB (hd (qe (ldK P.arg4 P.harg4 P.x3 0 128 inb_S256x2048_S256x512_0_0 inb_S256x512_S64x512_128_0) (ldC P 1 128 inb_S2x256x512_S1x64x512_1_128_0)) 384 slices_S64x512_o0_384_S64x128) (hd (ke (ldK P.arg4 P.harg4 P.x3 512 128 inb_S256x2048_S256x512_0_512 inb_S256x512_S64x512_128_0) (ldC P 1 128 inb_S2x256x512_S1x64x512_1_128_0)) 384 slices_S64x512_o0_384_S64x128) (ldV P.arg4 P.harg4 P.x3 128 768 inb_S256x1024_S64x256_128_768) S
/-- The stores into the states up to number 18, from those before. -/
theorem hs18 : H18 P = ⟨Rect.unit (s := S2x4x128x256) ![1, 3, 0, 0] S1x1x128x256.size inb_S2x4x128x256_S1x1x128x256_1_3_0_0, w18 P (ldS P (H17 P) 1 3 inb_S2x4x128x256_S1x1x128x256_1_3_0_0)⟩ :: H17 P := rfl
/-- That state is the next state of its step and head. -/
theorem w18_apply (S : Vec Ideal S1x1x128x256 .f32) (d : Fin 128) (l : Fin 256) : w18 P S (ix4 0 0 d l) = stepSt P.x3 (cumB P) 128 0 3 (fun d l => S (ix4 0 0 d l)) d l :=
  st_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 768 inb_S256x1024_S64x256_128_768)) (S := S) (b := 128) (o := 0) (h := 3) (p := 384) (by decide) (by decide) (by decide) rfl (ldK_apply _ _ _ _ _ _ _) (ldC_B P _ _) (ldV_apply _ _ _ _ _ _) d l
/-- That output is the output of its step and head. -/
theorem o18_apply (S : Vec Ideal S1x1x128x256 .f32) (r : Fin 64) (l : Fin 256) : o18 P S (ix2 r l) = stepOut true P.x3 (cumB P) 128 3 (fun d l => S (ix4 0 0 d l)) r l :=
  out_val (X := P.x3) (CC := cumB P) (K := (ldK P.arg4 P.harg4 P.x3 512 128 inb_S256x2048_S256x512_0_512 inb_S256x512_S64x512_128_0)) (C := (ldC P 1 128 inb_S2x256x512_S1x64x512_1_128_0)) (V := (ldV P.arg4 P.harg4 P.x3 128 768 inb_S256x1024_S64x256_128_768)) (S := S) (b := 128) (Q := (ldK P.arg4 P.harg4 P.x3 0 128 inb_S256x2048_S256x512_0_0 inb_S256x512_S64x512_128_0)) (h := 3) (p := 384) (by decide) (by decide) rfl maskB_eq (ldK_apply _ _ _ _ _ _ _) (ldK_apply _ _ _ _ _ _ _) (ldC_B P _ _) (ldV_apply _ _ _ _ _ _) r l

end Cert.GlaIdeal.Hand
-- ==== Proof.GlaAt2F.lean ====
module

public import proofs.«01_k».proof.Proof.GlaNames

/-! Step 2 of the forward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 2 of the forward direction, head 0, over the state loaded. -/
noncomputable def w19 (S : Vec Ideal S1x1x128x256 .f32) : Vec Ideal S1x1x128x256 .f32 :=
  st (hd (kd (ldK P.arg1 P.harg1 P.x0 512 128 inb_S256x2048_S256x512_0_512 inb_S256x512_S64x512_128_0) (ldC P 0 128 inb_S2x256x512_S1x64x512_0_128_0) 63 slices_S64x512_o63_0_S1x512) 0 slices_S64x512_o0_0_S64x128) (extractStridedSlice S1x128 ![0, 0] (exp2 (lastRow (ldC P 0 128 inb_S2x256x512_S1x64x512_0_128_0) 63 slices_S64x512_o63_0_S1x512)) slices_S1x512_o0_0_S1x128) (ldV P.arg1 P.harg1 P.x0 128 0 inb_S256x1024_S64x256_128_0) S
/-- The output of store number 19 of the states, over the state loaded. -/
noncomputable def o19 (S : Vec Ideal S1x1x128x256 .f32) : Vec Ideal S64x256 .bf16 :=
  out maskF (hd (qe (ldK P.arg1 P.harg1 P.x0 0 128 inb_S256x2048_S256x512_0_0 inb_S256x512_S64x512_128_0) (ldC P 0 128 inb_S2x256x512_S1x64x512_0_128_0)) 0 slices_S64x512_o0_0_S64x128) (hd (ke (ldK P.arg1 P.harg1 P.x0 512 128 inb_S256x2048_S256x512_0_512 inb_S256x512_S64x512_128_0) (ldC P 0 128 inb_S2x256x512_S1x64x512_0_128_0)) 0 slices_S64x512_o0_0_S64x128) (ldV P.arg1 P.harg1 P.x0 128 0 inb_S256x1024_S64x256_128_0) S
/-- The stores into the states up to number 19, from those before. -/
theorem hs19 : H19 P = ⟨Rect.unit (s := S2x4x128x256) ![0, 0, 0, 0] S1x1x128x256.size inb_S2x4x128x256_S1x1x128x256_0_0_0_0, w19 P (ldS P (H18 P) 0 0 inb_S2x4x128x256_S1x1x128x256_0_0_0_0)⟩ :: H18 P := rfl
/-- That state is the next state of its step and head. -/
theorem w19_apply (S : Vec Ideal S1x1x128x256 .f32) (d : Fin 128) (l : Fin 256) : w19 P S (ix4 0 0 d l) = stepSt P.x0 (cumF P) 128 63 0 (fun d l => S (ix4 0 0 d l)) d l :=
  st_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 0 inb_S256x1024_S64x256_128_0)) (S := S) (b := 128) (o := 63) (h := 0) (p := 0) (by decide) (by decide) (by decide) rfl (ldK_apply _ _ _ _ _ _ _) (ldC_F P _ _) (ldV_apply _ _ _ _ _ _) d l
/-- That output is the output of its step and head. -/
theorem o19_apply (S : Vec Ideal S1x1x128x256 .f32) (r : Fin 64) (l : Fin 256) : o19 P S (ix2 r l) = stepOut false P.x0 (cumF P) 128 0 (fun d l => S (ix4 0 0 d l)) r l :=
  out_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 0 inb_S256x1024_S64x256_128_0)) (S := S) (b := 128) (Q := (ldK P.arg1 P.harg1 P.x0 0 128 inb_S256x2048_S256x512_0_0 inb_S256x512_S64x512_128_0)) (h := 0) (p := 0) (by decide) (by decide) rfl maskF_eq (ldK_apply _ _ _ _ _ _ _) (ldK_apply _ _ _ _ _ _ _) (ldC_F P _ _) (ldV_apply _ _ _ _ _ _) r l

/-- The state stored and the output written at step 2 of the forward direction, head 1, over the state loaded. -/
noncomputable def w20 (S : Vec Ideal S1x1x128x256 .f32) : Vec Ideal S1x1x128x256 .f32 :=
  st (hd (kd (ldK P.arg1 P.harg1 P.x0 512 128 inb_S256x2048_S256x512_0_512 inb_S256x512_S64x512_128_0) (ldC P 0 128 inb_S2x256x512_S1x64x512_0_128_0) 63 slices_S64x512_o63_0_S1x512) 128 slices_S64x512_o0_128_S64x128) (extractStridedSlice S1x128 ![0, 128] (exp2 (lastRow (ldC P 0 128 inb_S2x256x512_S1x64x512_0_128_0) 63 slices_S64x512_o63_0_S1x512)) slices_S1x512_o0_128_S1x128) (ldV P.arg1 P.harg1 P.x0 128 256 inb_S256x1024_S64x256_128_256) S
/-- The output of store number 20 of the states, over the state loaded. -/
noncomputable def o20 (S : Vec Ideal S1x1x128x256 .f32) : Vec Ideal S64x256 .bf16 :=
  out maskF (hd (qe (ldK P.arg1 P.harg1 P.x0 0 128 inb_S256x2048_S256x512_0_0 inb_S256x512_S64x512_128_0) (ldC P 0 128 inb_S2x256x512_S1x64x512_0_128_0)) 128 slices_S64x512_o0_128_S64x128) (hd (ke (ldK P.arg1 P.harg1 P.x0 512 128 inb_S256x2048_S256x512_0_512 inb_S256x512_S64x512_128_0) (ldC P 0 128 inb_S2x256x512_S1x64x512_0_128_0)) 128 slices_S64x512_o0_128_S64x128) (ldV P.arg1 P.harg1 P.x0 128 256 inb_S256x1024_S64x256_128_256) S
/-- The stores into the states up to number 20, from those before. -/
theorem hs20 : H20 P = ⟨Rect.unit (s := S2x4x128x256) ![0, 1, 0, 0] S1x1x128x256.size inb_S2x4x128x256_S1x1x128x256_0_1_0_0, w20 P (ldS P (H19 P) 0 1 inb_S2x4x128x256_S1x1x128x256_0_1_0_0)⟩ :: H19 P := rfl
/-- That state is the next state of its step and head. -/
theorem w20_apply (S : Vec Ideal S1x1x128x256 .f32) (d : Fin 128) (l : Fin 256) : w20 P S (ix4 0 0 d l) = stepSt P.x0 (cumF P) 128 63 1 (fun d l => S (ix4 0 0 d l)) d l :=
  st_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 256 inb_S256x1024_S64x256_128_256)) (S := S) (b := 128) (o := 63) (h := 1) (p := 128) (by decide) (by decide) (by decide) rfl (ldK_apply _ _ _ _ _ _ _) (ldC_F P _ _) (ldV_apply _ _ _ _ _ _) d l
/-- That output is the output of its step and head. -/
theorem o20_apply (S : Vec Ideal S1x1x128x256 .f32) (r : Fin 64) (l : Fin 256) : o20 P S (ix2 r l) = stepOut false P.x0 (cumF P) 128 1 (fun d l => S (ix4 0 0 d l)) r l :=
  out_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 256 inb_S256x1024_S64x256_128_256)) (S := S) (b := 128) (Q := (ldK P.arg1 P.harg1 P.x0 0 128 inb_S256x2048_S256x512_0_0 inb_S256x512_S64x512_128_0)) (h := 1) (p := 128) (by decide) (by decide) rfl maskF_eq (ldK_apply _ _ _ _ _ _ _) (ldK_apply _ _ _ _ _ _ _) (ldC_F P _ _) (ldV_apply _ _ _ _ _ _) r l

/-- The state stored and the output written at step 2 of the forward direction, head 2, over the state loaded. -/
noncomputable def w21 (S : Vec Ideal S1x1x128x256 .f32) : Vec Ideal S1x1x128x256 .f32 :=
  st (hd (kd (ldK P.arg1 P.harg1 P.x0 512 128 inb_S256x2048_S256x512_0_512 inb_S256x512_S64x512_128_0) (ldC P 0 128 inb_S2x256x512_S1x64x512_0_128_0) 63 slices_S64x512_o63_0_S1x512) 256 slices_S64x512_o0_256_S64x128) (extractStridedSlice S1x128 ![0, 256] (exp2 (lastRow (ldC P 0 128 inb_S2x256x512_S1x64x512_0_128_0) 63 slices_S64x512_o63_0_S1x512)) slices_S1x512_o0_256_S1x128) (ldV P.arg1 P.harg1 P.x0 128 512 inb_S256x1024_S64x256_128_512) S
/-- The output of store number 21 of the states, over the state loaded. -/
noncomputable def o21 (S : Vec Ideal S1x1x128x256 .f32) : Vec Ideal S64x256 .bf16 :=
  out maskF (hd (qe (ldK P.arg1 P.harg1 P.x0 0 128 inb_S256x2048_S256x512_0_0 inb_S256x512_S64x512_128_0) (ldC P 0 128 inb_S2x256x512_S1x64x512_0_128_0)) 256 slices_S64x512_o0_256_S64x128) (hd (ke (ldK P.arg1 P.harg1 P.x0 512 128 inb_S256x2048_S256x512_0_512 inb_S256x512_S64x512_128_0) (ldC P 0 128 inb_S2x256x512_S1x64x512_0_128_0)) 256 slices_S64x512_o0_256_S64x128) (ldV P.arg1 P.harg1 P.x0 128 512 inb_S256x1024_S64x256_128_512) S
/-- The stores into the states up to number 21, from those before. -/
theorem hs21 : H21 P = ⟨Rect.unit (s := S2x4x128x256) ![0, 2, 0, 0] S1x1x128x256.size inb_S2x4x128x256_S1x1x128x256_0_2_0_0, w21 P (ldS P (H20 P) 0 2 inb_S2x4x128x256_S1x1x128x256_0_2_0_0)⟩ :: H20 P := rfl
/-- That state is the next state of its step and head. -/
theorem w21_apply (S : Vec Ideal S1x1x128x256 .f32) (d : Fin 128) (l : Fin 256) : w21 P S (ix4 0 0 d l) = stepSt P.x0 (cumF P) 128 63 2 (fun d l => S (ix4 0 0 d l)) d l :=
  st_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 512 inb_S256x1024_S64x256_128_512)) (S := S) (b := 128) (o := 63) (h := 2) (p := 256) (by decide) (by decide) (by decide) rfl (ldK_apply _ _ _ _ _ _ _) (ldC_F P _ _) (ldV_apply _ _ _ _ _ _) d l
/-- That output is the output of its step and head. -/
theorem o21_apply (S : Vec Ideal S1x1x128x256 .f32) (r : Fin 64) (l : Fin 256) : o21 P S (ix2 r l) = stepOut false P.x0 (cumF P) 128 2 (fun d l => S (ix4 0 0 d l)) r l :=
  out_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 512 inb_S256x1024_S64x256_128_512)) (S := S) (b := 128) (Q := (ldK P.arg1 P.harg1 P.x0 0 128 inb_S256x2048_S256x512_0_0 inb_S256x512_S64x512_128_0)) (h := 2) (p := 256) (by decide) (by decide) rfl maskF_eq (ldK_apply _ _ _ _ _ _ _) (ldK_apply _ _ _ _ _ _ _) (ldC_F P _ _) (ldV_apply _ _ _ _ _ _) r l

/-- The state stored and the output written at step 2 of the forward direction, head 3, over the state loaded. -/
noncomputable def w22 (S : Vec Ideal S1x1x128x256 .f32) : Vec Ideal S1x1x128x256 .f32 :=
  st (hd (kd (ldK P.arg1 P.harg1 P.x0 512 128 inb_S256x2048_S256x512_0_512 inb_S256x512_S64x512_128_0) (ldC P 0 128 inb_S2x256x512_S1x64x512_0_128_0) 63 slices_S64x512_o63_0_S1x512) 384 slices_S64x512_o0_384_S64x128) (extractStridedSlice S1x128 ![0, 384] (exp2 (lastRow (ldC P 0 128 inb_S2x256x512_S1x64x512_0_128_0) 63 slices_S64x512_o63_0_S1x512)) slices_S1x512_o0_384_S1x128) (ldV P.arg1 P.harg1 P.x0 128 768 inb_S256x1024_S64x256_128_768) S
/-- The output of store number 22 of the states, over the state loaded. -/
noncomputable def o22 (S : Vec Ideal S1x1x128x256 .f32) : Vec Ideal S64x256 .bf16 :=
  out maskF (hd (qe (ldK P.arg1 P.harg1 P.x0 0 128 inb_S256x2048_S256x512_0_0 inb_S256x512_S64x512_128_0) (ldC P 0 128 inb_S2x256x512_S1x64x512_0_128_0)) 384 slices_S64x512_o0_384_S64x128) (hd (ke (ldK P.arg1 P.harg1 P.x0 512 128 inb_S256x2048_S256x512_0_512 inb_S256x512_S64x512_128_0) (ldC P 0 128 inb_S2x256x512_S1x64x512_0_128_0)) 384 slices_S64x512_o0_384_S64x128) (ldV P.arg1 P.harg1 P.x0 128 768 inb_S256x1024_S64x256_128_768) S
/-- The stores into the states up to number 22, from those before. -/
theorem hs22 : H22 P = ⟨Rect.unit (s := S2x4x128x256) ![0, 3, 0, 0] S1x1x128x256.size inb_S2x4x128x256_S1x1x128x256_0_3_0_0, w22 P (ldS P (H21 P) 0 3 inb_S2x4x128x256_S1x1x128x256_0_3_0_0)⟩ :: H21 P := rfl
/-- That state is the next state of its step and head. -/
theorem w22_apply (S : Vec Ideal S1x1x128x256 .f32) (d : Fin 128) (l : Fin 256) : w22 P S (ix4 0 0 d l) = stepSt P.x0 (cumF P) 128 63 3 (fun d l => S (ix4 0 0 d l)) d l :=
  st_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 768 inb_S256x1024_S64x256_128_768)) (S := S) (b := 128) (o := 63) (h := 3) (p := 384) (by decide) (by decide) (by decide) rfl (ldK_apply _ _ _ _ _ _ _) (ldC_F P _ _) (ldV_apply _ _ _ _ _ _) d l
/-- That output is the output of its step and head. -/
theorem o22_apply (S : Vec Ideal S1x1x128x256 .f32) (r : Fin 64) (l : Fin 256) : o22 P S (ix2 r l) = stepOut false P.x0 (cumF P) 128 3 (fun d l => S (ix4 0 0 d l)) r l :=
  out_val (X := P.x0) (CC := cumF P) (K := (ldK P.arg1 P.harg1 P.x0 512 128 inb_S256x2048_S256x512_0_512 inb_S256x512_S64x512_128_0)) (C := (ldC P 0 128 inb_S2x256x512_S1x64x512_0_128_0)) (V := (ldV P.arg1 P.harg1 P.x0 128 768 inb_S256x1024_S64x256_128_768)) (S := S) (b := 128) (Q := (ldK P.arg1 P.harg1 P.x0 0 128 inb_S256x2048_S256x512_0_0 inb_S256x512_S64x512_128_0)) (h := 3) (p := 384) (by decide) (by decide) rfl maskF_eq (ldK_apply _ _ _ _ _ _ _) (ldK_apply _ _ _ _ _ _ _) (ldC_F P _ _) (ldV_apply _ _ _ _ _ _) r l

end Cert.GlaIdeal.Hand
-- ==== Proof.GlaAt2B.lean ====
module

public import proofs.«01_k».proof.Proof.GlaNames

/-! Step 2 of the backward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 2 of the backward direction, head 0, over the state loaded. -/
noncomputable def w23 (S : Vec Ideal S1x1x128x256 .f32) : Vec Ideal S1x1x128x256 .f32 :=
  st (hd (kd (ldK P.arg4 P.harg4 P.x3 512 64 inb_S256x2048_S256x512_0_512 inb_S256x512_S64x512_64_0) (ldC P 1 64 inb_S2x256x512_S1x64x512_1_64_0) 0 slices_S64x512_o0_0_S1x512) 0 slices_S64x512_o0_0_S64x128) (extractStridedSlice S1x128 ![0, 0] (exp2 (lastRow (ldC P 1 64 inb_S2x256x512_S1x64x512_1_64_0) 0 slices_S64x512_o0_0_S1x512)) slices_S1x512_o0_0_S1x128) (ldV P.arg4 P.harg4 P.x3 64 0 inb_S256x1024_S64x256_64_0) S
/-- The output of store number 23 of the states, over the state loaded. -/
noncomputable def o23 (S : Vec Ideal S1x1x128x256 .f32) : Vec Ideal S64x256 .bf16 :=
  out maskB (hd (qe (ldK P.arg4 P.harg4 P.x3 0 64 inb_S256x2048_S256x512_0_0 inb_S256x512_S64x512_64_0) (ldC P 1 64 inb_S2x256x512_S1x64x512_1_64_0)) 0 slices_S64x512_o0_0_S64x128) (hd (ke (ldK P.arg4 P.harg4 P.x3 512 64 inb_S256x2048_S256x512_0_512 inb_S256x512_S64x512_64_0) (ldC P 1 64 inb_S2x256x512_S1x64x512_1_64_0)) 0 slices_S64x512_o0_0_S64x128) (ldV P.arg4 P.harg4 P.x3 64 0 inb_S256x1024_S64x256_64_0) S
/-- The stores into the states up to number 23, from those before. -/
theorem hs23 : H23 P = ⟨Rect.unit (s := S2x4x128x256) ![1, 0, 0, 0] S1x1x128x256.size inb_S2x4x128x256_S1x1x128x256_1_0_0_0, w23 P (ldS P (H22 P) 1 0 inb_S2x4x128x256_S1x1x128x256_1_0_0_0)⟩ :: H22 P := rfl
/-- That state is the next state of its step and head. -/
theorem w23_apply (S : Vec Ideal S1x1x128x256 .f32) (d : Fin 128) (l : Fin 256) : w23 P S (ix4 0 0 d l) = stepSt P.x3 (cumB P) 64 0 0 (fun d l => S (ix4 0 0 d l)) d l :=
  st_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 0 inb_S256x1024_S64x256_64_0)) (S := S) (b := 64) (o := 0) (h := 0) (p := 0) (by decide) (by decide) (by decide) rfl (ldK_apply _ _ _ _ _ _ _) (ldC_B P _ _) (ldV_apply _ _ _ _ _ _) d l
/-- That output is the output of its step and head. -/
theorem o23_apply (S : Vec Ideal S1x1x128x256 .f32) (r : Fin 64) (l : Fin 256) : o23 P S (ix2 r l) = stepOut true P.x3 (cumB P) 64 0 (fun d l => S (ix4 0 0 d l)) r l :=
  out_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 0 inb_S256x1024_S64x256_64_0)) (S := S) (b := 64) (Q := (ldK P.arg4 P.harg4 P.x3 0 64 inb_S256x2048_S256x512_0_0 inb_S256x512_S64x512_64_0)) (h := 0) (p := 0) (by decide) (by decide) rfl maskB_eq (ldK_apply _ _ _ _ _ _ _) (ldK_apply _ _ _ _ _ _ _) (ldC_B P _ _) (ldV_apply _ _ _ _ _ _) r l

/-- The state stored and the output written at step 2 of the backward direction, head 1, over the state loaded. -/
noncomputable def w24 (S : Vec Ideal S1x1x128x256 .f32) : Vec Ideal S1x1x128x256 .f32 :=
  st (hd (kd (ldK P.arg4 P.harg4 P.x3 512 64 inb_S256x2048_S256x512_0_512 inb_S256x512_S64x512_64_0) (ldC P 1 64 inb_S2x256x512_S1x64x512_1_64_0) 0 slices_S64x512_o0_0_S1x512) 128 slices_S64x512_o0_128_S64x128) (extractStridedSlice S1x128 ![0, 128] (exp2 (lastRow (ldC P 1 64 inb_S2x256x512_S1x64x512_1_64_0) 0 slices_S64x512_o0_0_S1x512)) slices_S1x512_o0_128_S1x128) (ldV P.arg4 P.harg4 P.x3 64 256 inb_S256x1024_S64x256_64_256) S
/-- The output of store number 24 of the states, over the state loaded. -/
noncomputable def o24 (S : Vec Ideal S1x1x128x256 .f32) : Vec Ideal S64x256 .bf16 :=
  out maskB (hd (qe (ldK P.arg4 P.harg4 P.x3 0 64 inb_S256x2048_S256x512_0_0 inb_S256x512_S64x512_64_0) (ldC P 1 64 inb_S2x256x512_S1x64x512_1_64_0)) 128 slices_S64x512_o0_128_S64x128) (hd (ke (ldK P.arg4 P.harg4 P.x3 512 64 inb_S256x2048_S256x512_0_512 inb_S256x512_S64x512_64_0) (ldC P 1 64 inb_S2x256x512_S1x64x512_1_64_0)) 128 slices_S64x512_o0_128_S64x128) (ldV P.arg4 P.harg4 P.x3 64 256 inb_S256x1024_S64x256_64_256) S
/-- The stores into the states up to number 24, from those before. -/
theorem hs24 : H24 P = ⟨Rect.unit (s := S2x4x128x256) ![1, 1, 0, 0] S1x1x128x256.size inb_S2x4x128x256_S1x1x128x256_1_1_0_0, w24 P (ldS P (H23 P) 1 1 inb_S2x4x128x256_S1x1x128x256_1_1_0_0)⟩ :: H23 P := rfl
/-- That state is the next state of its step and head. -/
theorem w24_apply (S : Vec Ideal S1x1x128x256 .f32) (d : Fin 128) (l : Fin 256) : w24 P S (ix4 0 0 d l) = stepSt P.x3 (cumB P) 64 0 1 (fun d l => S (ix4 0 0 d l)) d l :=
  st_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 256 inb_S256x1024_S64x256_64_256)) (S := S) (b := 64) (o := 0) (h := 1) (p := 128) (by decide) (by decide) (by decide) rfl (ldK_apply _ _ _ _ _ _ _) (ldC_B P _ _) (ldV_apply _ _ _ _ _ _) d l
/-- That output is the output of its step and head. -/
theorem o24_apply (S : Vec Ideal S1x1x128x256 .f32) (r : Fin 64) (l : Fin 256) : o24 P S (ix2 r l) = stepOut true P.x3 (cumB P) 64 1 (fun d l => S (ix4 0 0 d l)) r l :=
  out_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 256 inb_S256x1024_S64x256_64_256)) (S := S) (b := 64) (Q := (ldK P.arg4 P.harg4 P.x3 0 64 inb_S256x2048_S256x512_0_0 inb_S256x512_S64x512_64_0)) (h := 1) (p := 128) (by decide) (by decide) rfl maskB_eq (ldK_apply _ _ _ _ _ _ _) (ldK_apply _ _ _ _ _ _ _) (ldC_B P _ _) (ldV_apply _ _ _ _ _ _) r l

/-- The state stored and the output written at step 2 of the backward direction, head 2, over the state loaded. -/
noncomputable def w25 (S : Vec Ideal S1x1x128x256 .f32) : Vec Ideal S1x1x128x256 .f32 :=
  st (hd (kd (ldK P.arg4 P.harg4 P.x3 512 64 inb_S256x2048_S256x512_0_512 inb_S256x512_S64x512_64_0) (ldC P 1 64 inb_S2x256x512_S1x64x512_1_64_0) 0 slices_S64x512_o0_0_S1x512) 256 slices_S64x512_o0_256_S64x128) (extractStridedSlice S1x128 ![0, 256] (exp2 (lastRow (ldC P 1 64 inb_S2x256x512_S1x64x512_1_64_0) 0 slices_S64x512_o0_0_S1x512)) slices_S1x512_o0_256_S1x128) (ldV P.arg4 P.harg4 P.x3 64 512 inb_S256x1024_S64x256_64_512) S
/-- The output of store number 25 of the states, over the state loaded. -/
noncomputable def o25 (S : Vec Ideal S1x1x128x256 .f32) : Vec Ideal S64x256 .bf16 :=
  out maskB (hd (qe (ldK P.arg4 P.harg4 P.x3 0 64 inb_S256x2048_S256x512_0_0 inb_S256x512_S64x512_64_0) (ldC P 1 64 inb_S2x256x512_S1x64x512_1_64_0)) 256 slices_S64x512_o0_256_S64x128) (hd (ke (ldK P.arg4 P.harg4 P.x3 512 64 inb_S256x2048_S256x512_0_512 inb_S256x512_S64x512_64_0) (ldC P 1 64 inb_S2x256x512_S1x64x512_1_64_0)) 256 slices_S64x512_o0_256_S64x128) (ldV P.arg4 P.harg4 P.x3 64 512 inb_S256x1024_S64x256_64_512) S
/-- The stores into the states up to number 25, from those before. -/
theorem hs25 : H25 P = ⟨Rect.unit (s := S2x4x128x256) ![1, 2, 0, 0] S1x1x128x256.size inb_S2x4x128x256_S1x1x128x256_1_2_0_0, w25 P (ldS P (H24 P) 1 2 inb_S2x4x128x256_S1x1x128x256_1_2_0_0)⟩ :: H24 P := rfl
/-- That state is the next state of its step and head. -/
theorem w25_apply (S : Vec Ideal S1x1x128x256 .f32) (d : Fin 128) (l : Fin 256) : w25 P S (ix4 0 0 d l) = stepSt P.x3 (cumB P) 64 0 2 (fun d l => S (ix4 0 0 d l)) d l :=
  st_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 512 inb_S256x1024_S64x256_64_512)) (S := S) (b := 64) (o := 0) (h := 2) (p := 256) (by decide) (by decide) (by decide) rfl (ldK_apply _ _ _ _ _ _ _) (ldC_B P _ _) (ldV_apply _ _ _ _ _ _) d l
/-- That output is the output of its step and head. -/
theorem o25_apply (S : Vec Ideal S1x1x128x256 .f32) (r : Fin 64) (l : Fin 256) : o25 P S (ix2 r l) = stepOut true P.x3 (cumB P) 64 2 (fun d l => S (ix4 0 0 d l)) r l :=
  out_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 512 inb_S256x1024_S64x256_64_512)) (S := S) (b := 64) (Q := (ldK P.arg4 P.harg4 P.x3 0 64 inb_S256x2048_S256x512_0_0 inb_S256x512_S64x512_64_0)) (h := 2) (p := 256) (by decide) (by decide) rfl maskB_eq (ldK_apply _ _ _ _ _ _ _) (ldK_apply _ _ _ _ _ _ _) (ldC_B P _ _) (ldV_apply _ _ _ _ _ _) r l

/-- The state stored and the output written at step 2 of the backward direction, head 3, over the state loaded. -/
noncomputable def w26 (S : Vec Ideal S1x1x128x256 .f32) : Vec Ideal S1x1x128x256 .f32 :=
  st (hd (kd (ldK P.arg4 P.harg4 P.x3 512 64 inb_S256x2048_S256x512_0_512 inb_S256x512_S64x512_64_0) (ldC P 1 64 inb_S2x256x512_S1x64x512_1_64_0) 0 slices_S64x512_o0_0_S1x512) 384 slices_S64x512_o0_384_S64x128) (extractStridedSlice S1x128 ![0, 384] (exp2 (lastRow (ldC P 1 64 inb_S2x256x512_S1x64x512_1_64_0) 0 slices_S64x512_o0_0_S1x512)) slices_S1x512_o0_384_S1x128) (ldV P.arg4 P.harg4 P.x3 64 768 inb_S256x1024_S64x256_64_768) S
/-- The output of store number 26 of the states, over the state loaded. -/
noncomputable def o26 (S : Vec Ideal S1x1x128x256 .f32) : Vec Ideal S64x256 .bf16 :=
  out maskB (hd (qe (ldK P.arg4 P.harg4 P.x3 0 64 inb_S256x2048_S256x512_0_0 inb_S256x512_S64x512_64_0) (ldC P 1 64 inb_S2x256x512_S1x64x512_1_64_0)) 384 slices_S64x512_o0_384_S64x128) (hd (ke (ldK P.arg4 P.harg4 P.x3 512 64 inb_S256x2048_S256x512_0_512 inb_S256x512_S64x512_64_0) (ldC P 1 64 inb_S2x256x512_S1x64x512_1_64_0)) 384 slices_S64x512_o0_384_S64x128) (ldV P.arg4 P.harg4 P.x3 64 768 inb_S256x1024_S64x256_64_768) S
/-- The stores into the states up to number 26, from those before. -/
theorem hs26 : H26 P = ⟨Rect.unit (s := S2x4x128x256) ![1, 3, 0, 0] S1x1x128x256.size inb_S2x4x128x256_S1x1x128x256_1_3_0_0, w26 P (ldS P (H25 P) 1 3 inb_S2x4x128x256_S1x1x128x256_1_3_0_0)⟩ :: H25 P := rfl
/-- That state is the next state of its step and head. -/
theorem w26_apply (S : Vec Ideal S1x1x128x256 .f32) (d : Fin 128) (l : Fin 256) : w26 P S (ix4 0 0 d l) = stepSt P.x3 (cumB P) 64 0 3 (fun d l => S (ix4 0 0 d l)) d l :=
  st_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 768 inb_S256x1024_S64x256_64_768)) (S := S) (b := 64) (o := 0) (h := 3) (p := 384) (by decide) (by decide) (by decide) rfl (ldK_apply _ _ _ _ _ _ _) (ldC_B P _ _) (ldV_apply _ _ _ _ _ _) d l
/-- That output is the output of its step and head. -/
theorem o26_apply (S : Vec Ideal S1x1x128x256 .f32) (r : Fin 64) (l : Fin 256) : o26 P S (ix2 r l) = stepOut true P.x3 (cumB P) 64 3 (fun d l => S (ix4 0 0 d l)) r l :=
  out_val (X := P.x3) (CC := cumB P) (K := (ldK P.arg4 P.harg4 P.x3 512 64 inb_S256x2048_S256x512_0_512 inb_S256x512_S64x512_64_0)) (C := (ldC P 1 64 inb_S2x256x512_S1x64x512_1_64_0)) (V := (ldV P.arg4 P.harg4 P.x3 64 768 inb_S256x1024_S64x256_64_768)) (S := S) (b := 64) (Q := (ldK P.arg4 P.harg4 P.x3 0 64 inb_S256x2048_S256x512_0_0 inb_S256x512_S64x512_64_0)) (h := 3) (p := 384) (by decide) (by decide) rfl maskB_eq (ldK_apply _ _ _ _ _ _ _) (ldK_apply _ _ _ _ _ _ _) (ldC_B P _ _) (ldV_apply _ _ _ _ _ _) r l

end Cert.GlaIdeal.Hand
-- ==== Proof.GlaAt3F.lean ====
module

public import proofs.«01_k».proof.Proof.GlaNames

/-! Step 3 of the forward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 3 of the forward direction, head 0, over the state loaded. -/
noncomputable def w27 (S : Vec Ideal S1x1x128x256 .f32) : Vec Ideal S1x1x128x256 .f32 :=
  st (hd (kd (ldK P.arg1 P.harg1 P.x0 512 192 inb_S256x2048_S256x512_0_512 inb_S256x512_S64x512_192_0) (ldC P 0 192 inb_S2x256x512_S1x64x512_0_192_0) 63 slices_S64x512_o63_0_S1x512) 0 slices_S64x512_o0_0_S64x128) (extractStridedSlice S1x128 ![0, 0] (exp2 (lastRow (ldC P 0 192 inb_S2x256x512_S1x64x512_0_192_0) 63 slices_S64x512_o63_0_S1x512)) slices_S1x512_o0_0_S1x128) (ldV P.arg1 P.harg1 P.x0 192 0 inb_S256x1024_S64x256_192_0) S
/-- The output of store number 27 of the states, over the state loaded. -/
noncomputable def o27 (S : Vec Ideal S1x1x128x256 .f32) : Vec Ideal S64x256 .bf16 :=
  out maskF (hd (qe (ldK P.arg1 P.harg1 P.x0 0 192 inb_S256x2048_S256x512_0_0 inb_S256x512_S64x512_192_0) (ldC P 0 192 inb_S2x256x512_S1x64x512_0_192_0)) 0 slices_S64x512_o0_0_S64x128) (hd (ke (ldK P.arg1 P.harg1 P.x0 512 192 inb_S256x2048_S256x512_0_512 inb_S256x512_S64x512_192_0) (ldC P 0 192 inb_S2x256x512_S1x64x512_0_192_0)) 0 slices_S64x512_o0_0_S64x128) (ldV P.arg1 P.harg1 P.x0 192 0 inb_S256x1024_S64x256_192_0) S
/-- The stores into the states up to number 27, from those before. -/
theorem hs27 : H27 P = ⟨Rect.unit (s := S2x4x128x256) ![0, 0, 0, 0] S1x1x128x256.size inb_S2x4x128x256_S1x1x128x256_0_0_0_0, w27 P (ldS P (H26 P) 0 0 inb_S2x4x128x256_S1x1x128x256_0_0_0_0)⟩ :: H26 P := rfl
/-- That state is the next state of its step and head. -/
theorem w27_apply (S : Vec Ideal S1x1x128x256 .f32) (d : Fin 128) (l : Fin 256) : w27 P S (ix4 0 0 d l) = stepSt P.x0 (cumF P) 192 63 0 (fun d l => S (ix4 0 0 d l)) d l :=
  st_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 0 inb_S256x1024_S64x256_192_0)) (S := S) (b := 192) (o := 63) (h := 0) (p := 0) (by decide) (by decide) (by decide) rfl (ldK_apply _ _ _ _ _ _ _) (ldC_F P _ _) (ldV_apply _ _ _ _ _ _) d l
/-- That output is the output of its step and head. -/
theorem o27_apply (S : Vec Ideal S1x1x128x256 .f32) (r : Fin 64) (l : Fin 256) : o27 P S (ix2 r l) = stepOut false P.x0 (cumF P) 192 0 (fun d l => S (ix4 0 0 d l)) r l :=
  out_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 0 inb_S256x1024_S64x256_192_0)) (S := S) (b := 192) (Q := (ldK P.arg1 P.harg1 P.x0 0 192 inb_S256x2048_S256x512_0_0 inb_S256x512_S64x512_192_0)) (h := 0) (p := 0) (by decide) (by decide) rfl maskF_eq (ldK_apply _ _ _ _ _ _ _) (ldK_apply _ _ _ _ _ _ _) (ldC_F P _ _) (ldV_apply _ _ _ _ _ _) r l

/-- The state stored and the output written at step 3 of the forward direction, head 1, over the state loaded. -/
noncomputable def w28 (S : Vec Ideal S1x1x128x256 .f32) : Vec Ideal S1x1x128x256 .f32 :=
  st (hd (kd (ldK P.arg1 P.harg1 P.x0 512 192 inb_S256x2048_S256x512_0_512 inb_S256x512_S64x512_192_0) (ldC P 0 192 inb_S2x256x512_S1x64x512_0_192_0) 63 slices_S64x512_o63_0_S1x512) 128 slices_S64x512_o0_128_S64x128) (extractStridedSlice S1x128 ![0, 128] (exp2 (lastRow (ldC P 0 192 inb_S2x256x512_S1x64x512_0_192_0) 63 slices_S64x512_o63_0_S1x512)) slices_S1x512_o0_128_S1x128) (ldV P.arg1 P.harg1 P.x0 192 256 inb_S256x1024_S64x256_192_256) S
/-- The output of store number 28 of the states, over the state loaded. -/
noncomputable def o28 (S : Vec Ideal S1x1x128x256 .f32) : Vec Ideal S64x256 .bf16 :=
  out maskF (hd (qe (ldK P.arg1 P.harg1 P.x0 0 192 inb_S256x2048_S256x512_0_0 inb_S256x512_S64x512_192_0) (ldC P 0 192 inb_S2x256x512_S1x64x512_0_192_0)) 128 slices_S64x512_o0_128_S64x128) (hd (ke (ldK P.arg1 P.harg1 P.x0 512 192 inb_S256x2048_S256x512_0_512 inb_S256x512_S64x512_192_0) (ldC P 0 192 inb_S2x256x512_S1x64x512_0_192_0)) 128 slices_S64x512_o0_128_S64x128) (ldV P.arg1 P.harg1 P.x0 192 256 inb_S256x1024_S64x256_192_256) S
/-- The stores into the states up to number 28, from those before. -/
theorem hs28 : H28 P = ⟨Rect.unit (s := S2x4x128x256) ![0, 1, 0, 0] S1x1x128x256.size inb_S2x4x128x256_S1x1x128x256_0_1_0_0, w28 P (ldS P (H27 P) 0 1 inb_S2x4x128x256_S1x1x128x256_0_1_0_0)⟩ :: H27 P := rfl
/-- That state is the next state of its step and head. -/
theorem w28_apply (S : Vec Ideal S1x1x128x256 .f32) (d : Fin 128) (l : Fin 256) : w28 P S (ix4 0 0 d l) = stepSt P.x0 (cumF P) 192 63 1 (fun d l => S (ix4 0 0 d l)) d l :=
  st_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 256 inb_S256x1024_S64x256_192_256)) (S := S) (b := 192) (o := 63) (h := 1) (p := 128) (by decide) (by decide) (by decide) rfl (ldK_apply _ _ _ _ _ _ _) (ldC_F P _ _) (ldV_apply _ _ _ _ _ _) d l
/-- That output is the output of its step and head. -/
theorem o28_apply (S : Vec Ideal S1x1x128x256 .f32) (r : Fin 64) (l : Fin 256) : o28 P S (ix2 r l) = stepOut false P.x0 (cumF P) 192 1 (fun d l => S (ix4 0 0 d l)) r l :=
  out_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 256 inb_S256x1024_S64x256_192_256)) (S := S) (b := 192) (Q := (ldK P.arg1 P.harg1 P.x0 0 192 inb_S256x2048_S256x512_0_0 inb_S256x512_S64x512_192_0)) (h := 1) (p := 128) (by decide) (by decide) rfl maskF_eq (ldK_apply _ _ _ _ _ _ _) (ldK_apply _ _ _ _ _ _ _) (ldC_F P _ _) (ldV_apply _ _ _ _ _ _) r l

/-- The state stored and the output written at step 3 of the forward direction, head 2, over the state loaded. -/
noncomputable def w29 (S : Vec Ideal S1x1x128x256 .f32) : Vec Ideal S1x1x128x256 .f32 :=
  st (hd (kd (ldK P.arg1 P.harg1 P.x0 512 192 inb_S256x2048_S256x512_0_512 inb_S256x512_S64x512_192_0) (ldC P 0 192 inb_S2x256x512_S1x64x512_0_192_0) 63 slices_S64x512_o63_0_S1x512) 256 slices_S64x512_o0_256_S64x128) (extractStridedSlice S1x128 ![0, 256] (exp2 (lastRow (ldC P 0 192 inb_S2x256x512_S1x64x512_0_192_0) 63 slices_S64x512_o63_0_S1x512)) slices_S1x512_o0_256_S1x128) (ldV P.arg1 P.harg1 P.x0 192 512 inb_S256x1024_S64x256_192_512) S
/-- The output of store number 29 of the states, over the state loaded. -/
noncomputable def o29 (S : Vec Ideal S1x1x128x256 .f32) : Vec Ideal S64x256 .bf16 :=
  out maskF (hd (qe (ldK P.arg1 P.harg1 P.x0 0 192 inb_S256x2048_S256x512_0_0 inb_S256x512_S64x512_192_0) (ldC P 0 192 inb_S2x256x512_S1x64x512_0_192_0)) 256 slices_S64x512_o0_256_S64x128) (hd (ke (ldK P.arg1 P.harg1 P.x0 512 192 inb_S256x2048_S256x512_0_512 inb_S256x512_S64x512_192_0) (ldC P 0 192 inb_S2x256x512_S1x64x512_0_192_0)) 256 slices_S64x512_o0_256_S64x128) (ldV P.arg1 P.harg1 P.x0 192 512 inb_S256x1024_S64x256_192_512) S
/-- The stores into the states up to number 29, from those before. -/
theorem hs29 : H29 P = ⟨Rect.unit (s := S2x4x128x256) ![0, 2, 0, 0] S1x1x128x256.size inb_S2x4x128x256_S1x1x128x256_0_2_0_0, w29 P (ldS P (H28 P) 0 2 inb_S2x4x128x256_S1x1x128x256_0_2_0_0)⟩ :: H28 P := rfl
/-- That state is the next state of its step and head. -/
theorem w29_apply (S : Vec Ideal S1x1x128x256 .f32) (d : Fin 128) (l : Fin 256) : w29 P S (ix4 0 0 d l) = stepSt P.x0 (cumF P) 192 63 2 (fun d l => S (ix4 0 0 d l)) d l :=
  st_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 512 inb_S256x1024_S64x256_192_512)) (S := S) (b := 192) (o := 63) (h := 2) (p := 256) (by decide) (by decide) (by decide) rfl (ldK_apply _ _ _ _ _ _ _) (ldC_F P _ _) (ldV_apply _ _ _ _ _ _) d l
/-- That output is the output of its step and head. -/
theorem o29_apply (S : Vec Ideal S1x1x128x256 .f32) (r : Fin 64) (l : Fin 256) : o29 P S (ix2 r l) = stepOut false P.x0 (cumF P) 192 2 (fun d l => S (ix4 0 0 d l)) r l :=
  out_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 512 inb_S256x1024_S64x256_192_512)) (S := S) (b := 192) (Q := (ldK P.arg1 P.harg1 P.x0 0 192 inb_S256x2048_S256x512_0_0 inb_S256x512_S64x512_192_0)) (h := 2) (p := 256) (by decide) (by decide) rfl maskF_eq (ldK_apply _ _ _ _ _ _ _) (ldK_apply _ _ _ _ _ _ _) (ldC_F P _ _) (ldV_apply _ _ _ _ _ _) r l

/-- The state stored and the output written at step 3 of the forward direction, head 3, over the state loaded. -/
noncomputable def w30 (S : Vec Ideal S1x1x128x256 .f32) : Vec Ideal S1x1x128x256 .f32 :=
  st (hd (kd (ldK P.arg1 P.harg1 P.x0 512 192 inb_S256x2048_S256x512_0_512 inb_S256x512_S64x512_192_0) (ldC P 0 192 inb_S2x256x512_S1x64x512_0_192_0) 63 slices_S64x512_o63_0_S1x512) 384 slices_S64x512_o0_384_S64x128) (extractStridedSlice S1x128 ![0, 384] (exp2 (lastRow (ldC P 0 192 inb_S2x256x512_S1x64x512_0_192_0) 63 slices_S64x512_o63_0_S1x512)) slices_S1x512_o0_384_S1x128) (ldV P.arg1 P.harg1 P.x0 192 768 inb_S256x1024_S64x256_192_768) S
/-- The output of store number 30 of the states, over the state loaded. -/
noncomputable def o30 (S : Vec Ideal S1x1x128x256 .f32) : Vec Ideal S64x256 .bf16 :=
  out maskF (hd (qe (ldK P.arg1 P.harg1 P.x0 0 192 inb_S256x2048_S256x512_0_0 inb_S256x512_S64x512_192_0) (ldC P 0 192 inb_S2x256x512_S1x64x512_0_192_0)) 384 slices_S64x512_o0_384_S64x128) (hd (ke (ldK P.arg1 P.harg1 P.x0 512 192 inb_S256x2048_S256x512_0_512 inb_S256x512_S64x512_192_0) (ldC P 0 192 inb_S2x256x512_S1x64x512_0_192_0)) 384 slices_S64x512_o0_384_S64x128) (ldV P.arg1 P.harg1 P.x0 192 768 inb_S256x1024_S64x256_192_768) S
/-- The stores into the states up to number 30, from those before. -/
theorem hs30 : H30 P = ⟨Rect.unit (s := S2x4x128x256) ![0, 3, 0, 0] S1x1x128x256.size inb_S2x4x128x256_S1x1x128x256_0_3_0_0, w30 P (ldS P (H29 P) 0 3 inb_S2x4x128x256_S1x1x128x256_0_3_0_0)⟩ :: H29 P := rfl
/-- That state is the next state of its step and head. -/
theorem w30_apply (S : Vec Ideal S1x1x128x256 .f32) (d : Fin 128) (l : Fin 256) : w30 P S (ix4 0 0 d l) = stepSt P.x0 (cumF P) 192 63 3 (fun d l => S (ix4 0 0 d l)) d l :=
  st_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 768 inb_S256x1024_S64x256_192_768)) (S := S) (b := 192) (o := 63) (h := 3) (p := 384) (by decide) (by decide) (by decide) rfl (ldK_apply _ _ _ _ _ _ _) (ldC_F P _ _) (ldV_apply _ _ _ _ _ _) d l
/-- That output is the output of its step and head. -/
theorem o30_apply (S : Vec Ideal S1x1x128x256 .f32) (r : Fin 64) (l : Fin 256) : o30 P S (ix2 r l) = stepOut false P.x0 (cumF P) 192 3 (fun d l => S (ix4 0 0 d l)) r l :=
  out_val (X := P.x0) (CC := cumF P) (K := (ldK P.arg1 P.harg1 P.x0 512 192 inb_S256x2048_S256x512_0_512 inb_S256x512_S64x512_192_0)) (C := (ldC P 0 192 inb_S2x256x512_S1x64x512_0_192_0)) (V := (ldV P.arg1 P.harg1 P.x0 192 768 inb_S256x1024_S64x256_192_768)) (S := S) (b := 192) (Q := (ldK P.arg1 P.harg1 P.x0 0 192 inb_S256x2048_S256x512_0_0 inb_S256x512_S64x512_192_0)) (h := 3) (p := 384) (by decide) (by decide) rfl maskF_eq (ldK_apply _ _ _ _ _ _ _) (ldK_apply _ _ _ _ _ _ _) (ldC_F P _ _) (ldV_apply _ _ _ _ _ _) r l

end Cert.GlaIdeal.Hand
-- ==== Proof.GlaAt3B.lean ====
module

public import proofs.«01_k».proof.Proof.GlaNames

/-! Step 3 of the backward direction: its four stores into the state and its four outputs. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- The state stored and the output written at step 3 of the backward direction, head 0, over the state loaded. -/
noncomputable def w31 (S : Vec Ideal S1x1x128x256 .f32) : Vec Ideal S1x1x128x256 .f32 :=
  st (hd (kd (ldK P.arg4 P.harg4 P.x3 512 0 inb_S256x2048_S256x512_0_512 inb_S256x512_S64x512_0_0) (ldC P 1 0 inb_S2x256x512_S1x64x512_1_0_0) 0 slices_S64x512_o0_0_S1x512) 0 slices_S64x512_o0_0_S64x128) (extractStridedSlice S1x128 ![0, 0] (exp2 (lastRow (ldC P 1 0 inb_S2x256x512_S1x64x512_1_0_0) 0 slices_S64x512_o0_0_S1x512)) slices_S1x512_o0_0_S1x128) (ldV P.arg4 P.harg4 P.x3 0 0 inb_S256x1024_S64x256_0_0) S
/-- The output of store number 31 of the states, over the state loaded. -/
noncomputable def o31 (S : Vec Ideal S1x1x128x256 .f32) : Vec Ideal S64x256 .bf16 :=
  out maskB (hd (qe (ldK P.arg4 P.harg4 P.x3 0 0 inb_S256x2048_S256x512_0_0 inb_S256x512_S64x512_0_0) (ldC P 1 0 inb_S2x256x512_S1x64x512_1_0_0)) 0 slices_S64x512_o0_0_S64x128) (hd (ke (ldK P.arg4 P.harg4 P.x3 512 0 inb_S256x2048_S256x512_0_512 inb_S256x512_S64x512_0_0) (ldC P 1 0 inb_S2x256x512_S1x64x512_1_0_0)) 0 slices_S64x512_o0_0_S64x128) (ldV P.arg4 P.harg4 P.x3 0 0 inb_S256x1024_S64x256_0_0) S
/-- The stores into the states up to number 31, from those before. -/
theorem hs31 : H31 P = ⟨Rect.unit (s := S2x4x128x256) ![1, 0, 0, 0] S1x1x128x256.size inb_S2x4x128x256_S1x1x128x256_1_0_0_0, w31 P (ldS P (H30 P) 1 0 inb_S2x4x128x256_S1x1x128x256_1_0_0_0)⟩ :: H30 P := rfl
/-- That state is the next state of its step and head. -/
theorem w31_apply (S : Vec Ideal S1x1x128x256 .f32) (d : Fin 128) (l : Fin 256) : w31 P S (ix4 0 0 d l) = stepSt P.x3 (cumB P) 0 0 0 (fun d l => S (ix4 0 0 d l)) d l :=
  st_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 0 inb_S256x1024_S64x256_0_0)) (S := S) (b := 0) (o := 0) (h := 0) (p := 0) (by decide) (by decide) (by decide) rfl (ldK_apply _ _ _ _ _ _ _) (ldC_B P _ _) (ldV_apply _ _ _ _ _ _) d l
/-- That output is the output of its step and head. -/
theorem o31_apply (S : Vec Ideal S1x1x128x256 .f32) (r : Fin 64) (l : Fin 256) : o31 P S (ix2 r l) = stepOut true P.x3 (cumB P) 0 0 (fun d l => S (ix4 0 0 d l)) r l :=
  out_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 0 inb_S256x1024_S64x256_0_0)) (S := S) (b := 0) (Q := (ldK P.arg4 P.harg4 P.x3 0 0 inb_S256x2048_S256x512_0_0 inb_S256x512_S64x512_0_0)) (h := 0) (p := 0) (by decide) (by decide) rfl maskB_eq (ldK_apply _ _ _ _ _ _ _) (ldK_apply _ _ _ _ _ _ _) (ldC_B P _ _) (ldV_apply _ _ _ _ _ _) r l

/-- The state stored and the output written at step 3 of the backward direction, head 1, over the state loaded. -/
noncomputable def w32 (S : Vec Ideal S1x1x128x256 .f32) : Vec Ideal S1x1x128x256 .f32 :=
  st (hd (kd (ldK P.arg4 P.harg4 P.x3 512 0 inb_S256x2048_S256x512_0_512 inb_S256x512_S64x512_0_0) (ldC P 1 0 inb_S2x256x512_S1x64x512_1_0_0) 0 slices_S64x512_o0_0_S1x512) 128 slices_S64x512_o0_128_S64x128) (extractStridedSlice S1x128 ![0, 128] (exp2 (lastRow (ldC P 1 0 inb_S2x256x512_S1x64x512_1_0_0) 0 slices_S64x512_o0_0_S1x512)) slices_S1x512_o0_128_S1x128) (ldV P.arg4 P.harg4 P.x3 0 256 inb_S256x1024_S64x256_0_256) S
/-- The output of store number 32 of the states, over the state loaded. -/
noncomputable def o32 (S : Vec Ideal S1x1x128x256 .f32) : Vec Ideal S64x256 .bf16 :=
  out maskB (hd (qe (ldK P.arg4 P.harg4 P.x3 0 0 inb_S256x2048_S256x512_0_0 inb_S256x512_S64x512_0_0) (ldC P 1 0 inb_S2x256x512_S1x64x512_1_0_0)) 128 slices_S64x512_o0_128_S64x128) (hd (ke (ldK P.arg4 P.harg4 P.x3 512 0 inb_S256x2048_S256x512_0_512 inb_S256x512_S64x512_0_0) (ldC P 1 0 inb_S2x256x512_S1x64x512_1_0_0)) 128 slices_S64x512_o0_128_S64x128) (ldV P.arg4 P.harg4 P.x3 0 256 inb_S256x1024_S64x256_0_256) S
/-- The stores into the states up to number 32, from those before. -/
theorem hs32 : H32 P = ⟨Rect.unit (s := S2x4x128x256) ![1, 1, 0, 0] S1x1x128x256.size inb_S2x4x128x256_S1x1x128x256_1_1_0_0, w32 P (ldS P (H31 P) 1 1 inb_S2x4x128x256_S1x1x128x256_1_1_0_0)⟩ :: H31 P := rfl
/-- That state is the next state of its step and head. -/
theorem w32_apply (S : Vec Ideal S1x1x128x256 .f32) (d : Fin 128) (l : Fin 256) : w32 P S (ix4 0 0 d l) = stepSt P.x3 (cumB P) 0 0 1 (fun d l => S (ix4 0 0 d l)) d l :=
  st_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 256 inb_S256x1024_S64x256_0_256)) (S := S) (b := 0) (o := 0) (h := 1) (p := 128) (by decide) (by decide) (by decide) rfl (ldK_apply _ _ _ _ _ _ _) (ldC_B P _ _) (ldV_apply _ _ _ _ _ _) d l
/-- That output is the output of its step and head. -/
theorem o32_apply (S : Vec Ideal S1x1x128x256 .f32) (r : Fin 64) (l : Fin 256) : o32 P S (ix2 r l) = stepOut true P.x3 (cumB P) 0 1 (fun d l => S (ix4 0 0 d l)) r l :=
  out_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 256 inb_S256x1024_S64x256_0_256)) (S := S) (b := 0) (Q := (ldK P.arg4 P.harg4 P.x3 0 0 inb_S256x2048_S256x512_0_0 inb_S256x512_S64x512_0_0)) (h := 1) (p := 128) (by decide) (by decide) rfl maskB_eq (ldK_apply _ _ _ _ _ _ _) (ldK_apply _ _ _ _ _ _ _) (ldC_B P _ _) (ldV_apply _ _ _ _ _ _) r l

/-- The state stored and the output written at step 3 of the backward direction, head 2, over the state loaded. -/
noncomputable def w33 (S : Vec Ideal S1x1x128x256 .f32) : Vec Ideal S1x1x128x256 .f32 :=
  st (hd (kd (ldK P.arg4 P.harg4 P.x3 512 0 inb_S256x2048_S256x512_0_512 inb_S256x512_S64x512_0_0) (ldC P 1 0 inb_S2x256x512_S1x64x512_1_0_0) 0 slices_S64x512_o0_0_S1x512) 256 slices_S64x512_o0_256_S64x128) (extractStridedSlice S1x128 ![0, 256] (exp2 (lastRow (ldC P 1 0 inb_S2x256x512_S1x64x512_1_0_0) 0 slices_S64x512_o0_0_S1x512)) slices_S1x512_o0_256_S1x128) (ldV P.arg4 P.harg4 P.x3 0 512 inb_S256x1024_S64x256_0_512) S
/-- The output of store number 33 of the states, over the state loaded. -/
noncomputable def o33 (S : Vec Ideal S1x1x128x256 .f32) : Vec Ideal S64x256 .bf16 :=
  out maskB (hd (qe (ldK P.arg4 P.harg4 P.x3 0 0 inb_S256x2048_S256x512_0_0 inb_S256x512_S64x512_0_0) (ldC P 1 0 inb_S2x256x512_S1x64x512_1_0_0)) 256 slices_S64x512_o0_256_S64x128) (hd (ke (ldK P.arg4 P.harg4 P.x3 512 0 inb_S256x2048_S256x512_0_512 inb_S256x512_S64x512_0_0) (ldC P 1 0 inb_S2x256x512_S1x64x512_1_0_0)) 256 slices_S64x512_o0_256_S64x128) (ldV P.arg4 P.harg4 P.x3 0 512 inb_S256x1024_S64x256_0_512) S
/-- The stores into the states up to number 33, from those before. -/
theorem hs33 : H33 P = ⟨Rect.unit (s := S2x4x128x256) ![1, 2, 0, 0] S1x1x128x256.size inb_S2x4x128x256_S1x1x128x256_1_2_0_0, w33 P (ldS P (H32 P) 1 2 inb_S2x4x128x256_S1x1x128x256_1_2_0_0)⟩ :: H32 P := rfl
/-- That state is the next state of its step and head. -/
theorem w33_apply (S : Vec Ideal S1x1x128x256 .f32) (d : Fin 128) (l : Fin 256) : w33 P S (ix4 0 0 d l) = stepSt P.x3 (cumB P) 0 0 2 (fun d l => S (ix4 0 0 d l)) d l :=
  st_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 512 inb_S256x1024_S64x256_0_512)) (S := S) (b := 0) (o := 0) (h := 2) (p := 256) (by decide) (by decide) (by decide) rfl (ldK_apply _ _ _ _ _ _ _) (ldC_B P _ _) (ldV_apply _ _ _ _ _ _) d l
/-- That output is the output of its step and head. -/
theorem o33_apply (S : Vec Ideal S1x1x128x256 .f32) (r : Fin 64) (l : Fin 256) : o33 P S (ix2 r l) = stepOut true P.x3 (cumB P) 0 2 (fun d l => S (ix4 0 0 d l)) r l :=
  out_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 512 inb_S256x1024_S64x256_0_512)) (S := S) (b := 0) (Q := (ldK P.arg4 P.harg4 P.x3 0 0 inb_S256x2048_S256x512_0_0 inb_S256x512_S64x512_0_0)) (h := 2) (p := 256) (by decide) (by decide) rfl maskB_eq (ldK_apply _ _ _ _ _ _ _) (ldK_apply _ _ _ _ _ _ _) (ldC_B P _ _) (ldV_apply _ _ _ _ _ _) r l

/-- The state stored and the output written at step 3 of the backward direction, head 3, over the state loaded. -/
noncomputable def w34 (S : Vec Ideal S1x1x128x256 .f32) : Vec Ideal S1x1x128x256 .f32 :=
  st (hd (kd (ldK P.arg4 P.harg4 P.x3 512 0 inb_S256x2048_S256x512_0_512 inb_S256x512_S64x512_0_0) (ldC P 1 0 inb_S2x256x512_S1x64x512_1_0_0) 0 slices_S64x512_o0_0_S1x512) 384 slices_S64x512_o0_384_S64x128) (extractStridedSlice S1x128 ![0, 384] (exp2 (lastRow (ldC P 1 0 inb_S2x256x512_S1x64x512_1_0_0) 0 slices_S64x512_o0_0_S1x512)) slices_S1x512_o0_384_S1x128) (ldV P.arg4 P.harg4 P.x3 0 768 inb_S256x1024_S64x256_0_768) S
/-- The output of store number 34 of the states, over the state loaded. -/
noncomputable def o34 (S : Vec Ideal S1x1x128x256 .f32) : Vec Ideal S64x256 .bf16 :=
  out maskB (hd (qe (ldK P.arg4 P.harg4 P.x3 0 0 inb_S256x2048_S256x512_0_0 inb_S256x512_S64x512_0_0) (ldC P 1 0 inb_S2x256x512_S1x64x512_1_0_0)) 384 slices_S64x512_o0_384_S64x128) (hd (ke (ldK P.arg4 P.harg4 P.x3 512 0 inb_S256x2048_S256x512_0_512 inb_S256x512_S64x512_0_0) (ldC P 1 0 inb_S2x256x512_S1x64x512_1_0_0)) 384 slices_S64x512_o0_384_S64x128) (ldV P.arg4 P.harg4 P.x3 0 768 inb_S256x1024_S64x256_0_768) S
/-- The stores into the states up to number 34, from those before. -/
theorem hs34 : H34 P = ⟨Rect.unit (s := S2x4x128x256) ![1, 3, 0, 0] S1x1x128x256.size inb_S2x4x128x256_S1x1x128x256_1_3_0_0, w34 P (ldS P (H33 P) 1 3 inb_S2x4x128x256_S1x1x128x256_1_3_0_0)⟩ :: H33 P := rfl
/-- That state is the next state of its step and head. -/
theorem w34_apply (S : Vec Ideal S1x1x128x256 .f32) (d : Fin 128) (l : Fin 256) : w34 P S (ix4 0 0 d l) = stepSt P.x3 (cumB P) 0 0 3 (fun d l => S (ix4 0 0 d l)) d l :=
  st_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 768 inb_S256x1024_S64x256_0_768)) (S := S) (b := 0) (o := 0) (h := 3) (p := 384) (by decide) (by decide) (by decide) rfl (ldK_apply _ _ _ _ _ _ _) (ldC_B P _ _) (ldV_apply _ _ _ _ _ _) d l
/-- That output is the output of its step and head. -/
theorem o34_apply (S : Vec Ideal S1x1x128x256 .f32) (r : Fin 64) (l : Fin 256) : o34 P S (ix2 r l) = stepOut true P.x3 (cumB P) 0 3 (fun d l => S (ix4 0 0 d l)) r l :=
  out_val (X := P.x3) (CC := cumB P) (K := (ldK P.arg4 P.harg4 P.x3 512 0 inb_S256x2048_S256x512_0_512 inb_S256x512_S64x512_0_0)) (C := (ldC P 1 0 inb_S2x256x512_S1x64x512_1_0_0)) (V := (ldV P.arg4 P.harg4 P.x3 0 768 inb_S256x1024_S64x256_0_768)) (S := S) (b := 0) (Q := (ldK P.arg4 P.harg4 P.x3 0 0 inb_S256x2048_S256x512_0_0 inb_S256x512_S64x512_0_0)) (h := 3) (p := 384) (by decide) (by decide) rfl maskB_eq (ldK_apply _ _ _ _ _ _ _) (ldK_apply _ _ _ _ _ _ _) (ldC_B P _ _) (ldV_apply _ _ _ _ _ _) r l

end Cert.GlaIdeal.Hand
-- ==== Proof.GlaState.lean ====
module

public import proofs.«01_k».proof.Proof.GlaAt0F
public import proofs.«01_k».proof.Proof.GlaAt0B
public import proofs.«01_k».proof.Proof.GlaAt1F
public import proofs.«01_k».proof.Proof.GlaAt1B
public import proofs.«01_k».proof.Proof.GlaAt2F
public import proofs.«01_k».proof.Proof.GlaAt2B
public import proofs.«01_k».proof.Proof.GlaAt3F
public import proofs.«01_k».proof.Proof.GlaAt3B

/-! The chain of states: every load of a state reads what the step before stored, so the states are the recurrence run from the initial state. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (P : Pt)

/-- A load past a store into another head or direction. -/
theorem ldS_skip (H : List (View.Piece (Elt Ideal) S2x4x128x256 .f32)) (g h g' h' : ℕ) (w : Vec Ideal S1x1x128x256 .f32)
    (i : ∀ a, (![g, h, 0, 0] : Fin 4 → ℕ) a + S1x1x128x256.size a ≤ S2x4x128x256.size a) (i' : ∀ a, (![g', h', 0, 0] : Fin 4 → ℕ) a + S1x1x128x256.size a ≤ S2x4x128x256.size a)
    (hd : LoadRect.disj (Rect.unit (s := S2x4x128x256) ![g', h', 0, 0] S1x1x128x256.size i') (Rect.unit (s := S2x4x128x256) ![g, h, 0, 0] S1x1x128x256.size i).toLoadRect = true) :
    ldS P (⟨Rect.unit (s := S2x4x128x256) ![g', h', 0, 0] S1x1x128x256.size i', w⟩ :: H) g h i = ldS P H g h i :=
  rc_skip P.arg17.view H g h g' h' w i i' hd

/-- A load of what was stored last. -/
theorem ldS_hit (H : List (View.Piece (Elt Ideal) S2x4x128x256 .f32)) (g h : ℕ) (w : Vec Ideal S1x1x128x256 .f32)
    (i i' : ∀ a, (![g, h, 0, 0] : Fin 4 → ℕ) a + S1x1x128x256.size a ≤ S2x4x128x256.size a) :
    ldS P (⟨Rect.unit (s := S2x4x128x256) ![g, h, 0, 0] S1x1x128x256.size i', w⟩ :: H) g h i = w :=
  rc_hit P.arg17.view H g h w i

/-- The states of the forward and the backward recurrence of a head, chunk by chunk. -/
def SF (h : ℕ) : ℕ → Fin 128 → Fin 256 → EReal
  | 0 => fun d l => P.x10 (ix3 ⟨h % 4, Nat.mod_lt _ (by decide)⟩ d l)
  | t + 1 => stepSt P.x0 (cumF P) (64 * t) 63 h (SF h t)
/-- The backward state of a head after a number of steps. -/
def SB (h : ℕ) : ℕ → Fin 128 → Fin 256 → EReal
  | 0 => fun d l => P.x11 (ix3 ⟨h % 4, Nat.mod_lt _ (by decide)⟩ d l)
  | t + 1 => stepSt P.x3 (cumB P) (64 * (3 - t)) 0 h (SB h t)

/-- The forward initial state, loaded. -/
theorem init_F (d : Fin 128) (l : Fin 256) (h : ℕ) (hh : h < 4) (i : ∀ a, (![0, h, 0, 0] : Fin 4 → ℕ) a + S1x1x128x256.size a ≤ S2x4x128x256.size a) :
    ldS P (H2 P) 0 h i (ix4 0 0 d l) = P.x10 (ix3 ⟨h % 4, Nat.mod_lt _ (by decide)⟩ d l) := by
  have hm : (⟨h % 4, Nat.mod_lt _ (by decide)⟩ : Fin 4) = ⟨h, hh⟩ := Fin.ext (Nat.mod_eq_of_lt hh)
  rw [hm]
  exact (rc_init P.arg17.view (kernelRun0_A.sl.v1435 P.c P.arg12 P.harg12 P.x11) (kernelRun0_A.sl.v1431 P.c P.arg11 P.harg11 P.x10) 0 h hh
    inb_S2x4x128x256_S1x4x128x256_1_0_0_0 inb_S2x4x128x256_S1x4x128x256_0_0_0_0 i d l).trans
    ((congrFun (if_neg (by decide)) _).trans (init_apply P.harg11 P.x10 ⟨h, hh⟩ d l))

/-- The backward initial state, loaded. -/
theorem init_B (d : Fin 128) (l : Fin 256) (h : ℕ) (hh : h < 4) (i : ∀ a, (![1, h, 0, 0] : Fin 4 → ℕ) a + S1x1x128x256.size a ≤ S2x4x128x256.size a) :
    ldS P (H2 P) 1 h i (ix4 0 0 d l) = P.x11 (ix3 ⟨h % 4, Nat.mod_lt _ (by decide)⟩ d l) := by
  have hm : (⟨h % 4, Nat.mod_lt _ (by decide)⟩ : Fin 4) = ⟨h, hh⟩ := Fin.ext (Nat.mod_eq_of_lt hh)
  rw [hm]
  exact (rc_init P.arg17.view (kernelRun0_A.sl.v1435 P.c P.arg12 P.harg12 P.x11) (kernelRun0_A.sl.v1431 P.c P.arg11 P.harg11 P.x10) 1 h hh
    inb_S2x4x128x256_S1x4x128x256_1_0_0_0 inb_S2x4x128x256_S1x4x128x256_0_0_0_0 i d l).trans
    ((congrFun (if_pos rfl) _).trans (init_apply P.harg12 P.x11 ⟨h, hh⟩ d l))

/-! Every load of a state, going back over the stores of the other heads. -/

/-- The state loaded before store number 3 is the state of its step and head. -/
theorem in3 : (fun (d : Fin 128) (l : Fin 256) => ldS P (H2 P) 0 0 inb_S2x4x128x256_S1x1x128x256_0_0_0_0 (ix4 0 0 d l)) = SF P 0 0 := by
  funext d l
  exact init_F P d l 0 (by decide) _
/-- The state loaded before store number 4 is the state of its step and head. -/
theorem in4 : (fun (d : Fin 128) (l : Fin 256) => ldS P (H3 P) 0 1 inb_S2x4x128x256_S1x1x128x256_0_1_0_0 (ix4 0 0 d l)) = SF P 1 0 := by
  funext d l
  rw [hs3, ldS_skip P _ 0 1 0 0 _ _ _ (by decide)]
  exact init_F P d l 1 (by decide) _
/-- The state loaded before store number 5 is the state of its step and head. -/
theorem in5 : (fun (d : Fin 128) (l : Fin 256) => ldS P (H4 P) 0 2 inb_S2x4x128x256_S1x1x128x256_0_2_0_0 (ix4 0 0 d l)) = SF P 2 0 := by
  funext d l
  rw [hs4, ldS_skip P _ 0 2 0 1 _ _ _ (by decide),
    hs3, ldS_skip P _ 0 2 0 0 _ _ _ (by decide)]
  exact init_F P d l 2 (by decide) _
/-- The state loaded before store number 6 is the state of its step and head. -/
theorem in6 : (fun (d : Fin 128) (l : Fin 256) => ldS P (H5 P) 0 3 inb_S2x4x128x256_S1x1x128x256_0_3_0_0 (ix4 0 0 d l)) = SF P 3 0 := by
  funext d l
  rw [hs5, ldS_skip P _ 0 3 0 2 _ _ _ (by decide),
    hs4, ldS_skip P _ 0 3 0 1 _ _ _ (by decide),
    hs3, ldS_skip P _ 0 3 0 0 _ _ _ (by decide)]
  exact init_F P d l 3 (by decide) _
/-- The state loaded before store number 7 is the state of its step and head. -/
theorem in7 : (fun (d : Fin 128) (l : Fin 256) => ldS P (H6 P) 1 0 inb_S2x4x128x256_S1x1x128x256_1_0_0_0 (ix4 0 0 d l)) = SB P 0 0 := by
  funext d l
  rw [hs6, ldS_skip P _ 1 0 0 3 _ _ _ (by decide),
    hs5, ldS_skip P _ 1 0 0 2 _ _ _ (by decide),
    hs4, ldS_skip P _ 1 0 0 1 _ _ _ (by decide),
    hs3, ldS_skip P _ 1 0 0 0 _ _ _ (by decide)]
  exact init_B P d l 0 (by decide) _
/-- The state loaded before store number 8 is the state of its step and head. -/
theorem in8 : (fun (d : Fin 128) (l : Fin 256) => ldS P (H7 P) 1 1 inb_S2x4x128x256_S1x1x128x256_1_1_0_0 (ix4 0 0 d l)) = SB P 1 0 := by
  funext d l
  rw [hs7, ldS_skip P _ 1 1 1 0 _ _ _ (by decide),
    hs6, ldS_skip P _ 1 1 0 3 _ _ _ (by decide),
    hs5, ldS_skip P _ 1 1 0 2 _ _ _ (by decide),
    hs4, ldS_skip P _ 1 1 0 1 _ _ _ (by decide),
    hs3, ldS_skip P _ 1 1 0 0 _ _ _ (by decide)]
  exact init_B P d l 1 (by decide) _
/-- The state loaded before store number 9 is the state of its step and head. -/
theorem in9 : (fun (d : Fin 128) (l : Fin 256) => ldS P (H8 P) 1 2 inb_S2x4x128x256_S1x1x128x256_1_2_0_0 (ix4 0 0 d l)) = SB P 2 0 := by
  funext d l
  rw [hs8, ldS_skip P _ 1 2 1 1 _ _ _ (by decide),
    hs7, ldS_skip P _ 1 2 1 0 _ _ _ (by decide),
    hs6, ldS_skip P _ 1 2 0 3 _ _ _ (by decide),
    hs5, ldS_skip P _ 1 2 0 2 _ _ _ (by decide),
    hs4, ldS_skip P _ 1 2 0 1 _ _ _ (by decide),
    hs3, ldS_skip P _ 1 2 0 0 _ _ _ (by decide)]
  exact init_B P d l 2 (by decide) _
/-- The state loaded before store number 10 is the state of its step and head. -/
theorem in10 : (fun (d : Fin 128) (l : Fin 256) => ldS P (H9 P) 1 3 inb_S2x4x128x256_S1x1x128x256_1_3_0_0 (ix4 0 0 d l)) = SB P 3 0 := by
  funext d l
  rw [hs9, ldS_skip P _ 1 3 1 2 _ _ _ (by decide),
    hs8, ldS_skip P _ 1 3 1 1 _ _ _ (by decide),
    hs7, ldS_skip P _ 1 3 1 0 _ _ _ (by decide),
    hs6, ldS_skip P _ 1 3 0 3 _ _ _ (by decide),
    hs5, ldS_skip P _ 1 3 0 2 _ _ _ (by decide),
    hs4, ldS_skip P _ 1 3 0 1 _ _ _ (by decide),
    hs3, ldS_skip P _ 1 3 0 0 _ _ _ (by decide)]
  exact init_B P d l 3 (by decide) _
/-- The state loaded before store number 11 is the state of its step and head. -/
theorem in11 : (fun (d : Fin 128) (l : Fin 256) => ldS P (H10 P) 0 0 inb_S2x4x128x256_S1x1x128x256_0_0_0_0 (ix4 0 0 d l)) = SF P 0 1 := by
  rw [hs10, ldS_skip P _ 0 0 1 3 _ _ _ (by decide),
    hs9, ldS_skip P _ 0 0 1 2 _ _ _ (by decide),
    hs8, ldS_skip P _ 0 0 1 1 _ _ _ (by decide),
    hs7, ldS_skip P _ 0 0 1 0 _ _ _ (by decide),
    hs6, ldS_skip P _ 0 0 0 3 _ _ _ (by decide),
    hs5, ldS_skip P _ 0 0 0 2 _ _ _ (by decide),
    hs4, ldS_skip P _ 0 0 0 1 _ _ _ (by decide),
    hs3, ldS_hit]
  funext d l
  rw [w3_apply, in3]
  rfl
/-- The state loaded before store number 12 is the state of its step and head. -/
theorem in12 : (fun (d : Fin 128) (l : Fin 256) => ldS P (H11 P) 0 1 inb_S2x4x128x256_S1x1x128x256_0_1_0_0 (ix4 0 0 d l)) = SF P 1 1 := by
  rw [hs11, ldS_skip P _ 0 1 0 0 _ _ _ (by decide),
    hs10, ldS_skip P _ 0 1 1 3 _ _ _ (by decide),
    hs9, ldS_skip P _ 0 1 1 2 _ _ _ (by decide),
    hs8, ldS_skip P _ 0 1 1 1 _ _ _ (by decide),
    hs7, ldS_skip P _ 0 1 1 0 _ _ _ (by decide),
    hs6, ldS_skip P _ 0 1 0 3 _ _ _ (by decide),
    hs5, ldS_skip P _ 0 1 0 2 _ _ _ (by decide),
    hs4, ldS_hit]
  funext d l
  rw [w4_apply, in4]
  rfl
/-- The state loaded before store number 13 is the state of its step and head. -/
theorem in13 : (fun (d : Fin 128) (l : Fin 256) => ldS P (H12 P) 0 2 inb_S2x4x128x256_S1x1x128x256_0_2_0_0 (ix4 0 0 d l)) = SF P 2 1 := by
  rw [hs12, ldS_skip P _ 0 2 0 1 _ _ _ (by decide),
    hs11, ldS_skip P _ 0 2 0 0 _ _ _ (by decide),
    hs10, ldS_skip P _ 0 2 1 3 _ _ _ (by decide),
    hs9, ldS_skip P _ 0 2 1 2 _ _ _ (by decide),
    hs8, ldS_skip P _ 0 2 1 1 _ _ _ (by decide),
    hs7, ldS_skip P _ 0 2 1 0 _ _ _ (by decide),
    hs6, ldS_skip P _ 0 2 0 3 _ _ _ (by decide),
    hs5, ldS_hit]
  funext d l
  rw [w5_apply, in5]
  rfl
/-- The state loaded before store number 14 is the state of its step and head. -/
theorem in14 : (fun (d : Fin 128) (l : Fin 256) => ldS P (H13 P) 0 3 inb_S2x4x128x256_S1x1x128x256_0_3_0_0 (ix4 0 0 d l)) = SF P 3 1 := by
  rw [hs13, ldS_skip P _ 0 3 0 2 _ _ _ (by decide),
    hs12, ldS_skip P _ 0 3 0 1 _ _ _ (by decide),
    hs11, ldS_skip P _ 0 3 0 0 _ _ _ (by decide),
    hs10, ldS_skip P _ 0 3 1 3 _ _ _ (by decide),
    hs9, ldS_skip P _ 0 3 1 2 _ _ _ (by decide),
    hs8, ldS_skip P _ 0 3 1 1 _ _ _ (by decide),
    hs7, ldS_skip P _ 0 3 1 0 _ _ _ (by decide),
    hs6, ldS_hit]
  funext d l
  rw [w6_apply, in6]
  rfl
/-- The state loaded before store number 15 is the state of its step and head. -/
theorem in15 : (fun (d : Fin 128) (l : Fin 256) => ldS P (H14 P) 1 0 inb_S2x4x128x256_S1x1x128x256_1_0_0_0 (ix4 0 0 d l)) = SB P 0 1 := by
  rw [hs14, ldS_skip P _ 1 0 0 3 _ _ _ (by decide),
    hs13, ldS_skip P _ 1 0 0 2 _ _ _ (by decide),
    hs12, ldS_skip P _ 1 0 0 1 _ _ _ (by decide),
    hs11, ldS_skip P _ 1 0 0 0 _ _ _ (by decide),
    hs10, ldS_skip P _ 1 0 1 3 _ _ _ (by decide),
    hs9, ldS_skip P _ 1 0 1 2 _ _ _ (by decide),
    hs8, ldS_skip P _ 1 0 1 1 _ _ _ (by decide),
    hs7, ldS_hit]
  funext d l
  rw [w7_apply, in7]
  rfl
/-- The state loaded before store number 16 is the state of its step and head. -/
theorem in16 : (fun (d : Fin 128) (l : Fin 256) => ldS P (H15 P) 1 1 inb_S2x4x128x256_S1x1x128x256_1_1_0_0 (ix4 0 0 d l)) = SB P 1 1 := by
  rw [hs15, ldS_skip P _ 1 1 1 0 _ _ _ (by decide),
    hs14, ldS_skip P _ 1 1 0 3 _ _ _ (by decide),
    hs13, ldS_skip P _ 1 1 0 2 _ _ _ (by decide),
    hs12, ldS_skip P _ 1 1 0 1 _ _ _ (by decide),
    hs11, ldS_skip P _ 1 1 0 0 _ _ _ (by decide),
    hs10, ldS_skip P _ 1 1 1 3 _ _ _ (by decide),
    hs9, ldS_skip P _ 1 1 1 2 _ _ _ (by decide),
    hs8, ldS_hit]
  funext d l
  rw [w8_apply, in8]
  rfl
/-- The state loaded before store number 17 is the state of its step and head. -/
theorem in17 : (fun (d : Fin 128) (l : Fin 256) => ldS P (H16 P) 1 2 inb_S2x4x128x256_S1x1x128x256_1_2_0_0 (ix4 0 0 d l)) = SB P 2 1 := by
  rw [hs16, ldS_skip P _ 1 2 1 1 _ _ _ (by decide),
    hs15, ldS_skip P _ 1 2 1 0 _ _ _ (by decide),
    hs14, ldS_skip P _ 1 2 0 3 _ _ _ (by decide),
    hs13, ldS_skip P _ 1 2 0 2 _ _ _ (by decide),
    hs12, ldS_skip P _ 1 2 0 1 _ _ _ (by decide),
    hs11, ldS_skip P _ 1 2 0 0 _ _ _ (by decide),
    hs10, ldS_skip P _ 1 2 1 3 _ _ _ (by decide),
    hs9, ldS_hit]
  funext d l
  rw [w9_apply, in9]
  rfl
/-- The state loaded before store number 18 is the state of its step and head. -/
theorem in18 : (fun (d : Fin 128) (l : Fin 256) => ldS P (H17 P) 1 3 inb_S2x4x128x256_S1x1x128x256_1_3_0_0 (ix4 0 0 d l)) = SB P 3 1 := by
  rw [hs17, ldS_skip P _ 1 3 1 2 _ _ _ (by decide),
    hs16, ldS_skip P _ 1 3 1 1 _ _ _ (by decide),
    hs15, ldS_skip P _ 1 3 1 0 _ _ _ (by decide),
    hs14, ldS_skip P _ 1 3 0 3 _ _ _ (by decide),
    hs13, ldS_skip P _ 1 3 0 2 _ _ _ (by decide),
    hs12, ldS_skip P _ 1 3 0 1 _ _ _ (by decide),
    hs11, ldS_skip P _ 1 3 0 0 _ _ _ (by decide),
    hs10, ldS_hit]
  funext d l
  rw [w10_apply, in10]
  rfl
/-- The state loaded before store number 19 is the state of its step and head. -/
theorem in19 : (fun (d : Fin 128) (l : Fin 256) => ldS P (H18 P) 0 0 inb_S2x4x128x256_S1x1x128x256_0_0_0_0 (ix4 0 0 d l)) = SF P 0 2 := by
  rw [hs18, ldS_skip P _ 0 0 1 3 _ _ _ (by decide),
    hs17, ldS_skip P _ 0 0 1 2 _ _ _ (by decide),
    hs16, ldS_skip P _ 0 0 1 1 _ _ _ (by decide),
    hs15, ldS_skip P _ 0 0 1 0 _ _ _ (by decide),
    hs14, ldS_skip P _ 0 0 0 3 _ _ _ (by decide),
    hs13, ldS_skip P _ 0 0 0 2 _ _ _ (by decide),
    hs12, ldS_skip P _ 0 0 0 1 _ _ _ (by decide),
    hs11, ldS_hit]
  funext d l
  rw [w11_apply, in11]
  rfl
/-- The state loaded before store number 20 is the state of its step and head. -/
theorem in20 : (fun (d : Fin 128) (l : Fin 256) => ldS P (H19 P) 0 1 inb_S2x4x128x256_S1x1x128x256_0_1_0_0 (ix4 0 0 d l)) = SF P 1 2 := by
  rw [hs19, ldS_skip P _ 0 1 0 0 _ _ _ (by decide),
    hs18, ldS_skip P _ 0 1 1 3 _ _ _ (by decide),
    hs17, ldS_skip P _ 0 1 1 2 _ _ _ (by decide),
    hs16, ldS_skip P _ 0 1 1 1 _ _ _ (by decide),
    hs15, ldS_skip P _ 0 1 1 0 _ _ _ (by decide),
    hs14, ldS_skip P _ 0 1 0 3 _ _ _ (by decide),
    hs13, ldS_skip P _ 0 1 0 2 _ _ _ (by decide),
    hs12, ldS_hit]
  funext d l
  rw [w12_apply, in12]
  rfl
/-- The state loaded before store number 21 is the state of its step and head. -/
theorem in21 : (fun (d : Fin 128) (l : Fin 256) => ldS P (H20 P) 0 2 inb_S2x4x128x256_S1x1x128x256_0_2_0_0 (ix4 0 0 d l)) = SF P 2 2 := by
  rw [hs20, ldS_skip P _ 0 2 0 1 _ _ _ (by decide),
    hs19, ldS_skip P _ 0 2 0 0 _ _ _ (by decide),
    hs18, ldS_skip P _ 0 2 1 3 _ _ _ (by decide),
    hs17, ldS_skip P _ 0 2 1 2 _ _ _ (by decide),
    hs16, ldS_skip P _ 0 2 1 1 _ _ _ (by decide),
    hs15, ldS_skip P _ 0 2 1 0 _ _ _ (by decide),
    hs14, ldS_skip P _ 0 2 0 3 _ _ _ (by decide),
    hs13, ldS_hit]
  funext d l
  rw [w13_apply, in13]
  rfl
/-- The state loaded before store number 22 is the state of its step and head. -/
theorem in22 : (fun (d : Fin 128) (l : Fin 256) => ldS P (H21 P) 0 3 inb_S2x4x128x256_S1x1x128x256_0_3_0_0 (ix4 0 0 d l)) = SF P 3 2 := by
  rw [hs21, ldS_skip P _ 0 3 0 2 _ _ _ (by decide),
    hs20, ldS_skip P _ 0 3 0 1 _ _ _ (by decide),
    hs19, ldS_skip P _ 0 3 0 0 _ _ _ (by decide),
    hs18, ldS_skip P _ 0 3 1 3 _ _ _ (by decide),
    hs17, ldS_skip P _ 0 3 1 2 _ _ _ (by decide),
    hs16, ldS_skip P _ 0 3 1 1 _ _ _ (by decide),
    hs15, ldS_skip P _ 0 3 1 0 _ _ _ (by decide),
    hs14, ldS_hit]
  funext d l
  rw [w14_apply, in14]
  rfl
/-- The state loaded before store number 23 is the state of its step and head. -/
theorem in23 : (fun (d : Fin 128) (l : Fin 256) => ldS P (H22 P) 1 0 inb_S2x4x128x256_S1x1x128x256_1_0_0_0 (ix4 0 0 d l)) = SB P 0 2 := by
  rw [hs22, ldS_skip P _ 1 0 0 3 _ _ _ (by decide),
    hs21, ldS_skip P _ 1 0 0 2 _ _ _ (by decide),
    hs20, ldS_skip P _ 1 0 0 1 _ _ _ (by decide),
    hs19, ldS_skip P _ 1 0 0 0 _ _ _ (by decide),
    hs18, ldS_skip P _ 1 0 1 3 _ _ _ (by decide),
    hs17, ldS_skip P _ 1 0 1 2 _ _ _ (by decide),
    hs16, ldS_skip P _ 1 0 1 1 _ _ _ (by decide),
    hs15, ldS_hit]
  funext d l
  rw [w15_apply, in15]
  rfl
/-- The state loaded before store number 24 is the state of its step and head. -/
theorem in24 : (fun (d : Fin 128) (l : Fin 256) => ldS P (H23 P) 1 1 inb_S2x4x128x256_S1x1x128x256_1_1_0_0 (ix4 0 0 d l)) = SB P 1 2 := by
  rw [hs23, ldS_skip P _ 1 1 1 0 _ _ _ (by decide),
    hs22, ldS_skip P _ 1 1 0 3 _ _ _ (by decide),
    hs21, ldS_skip P _ 1 1 0 2 _ _ _ (by decide),
    hs20, ldS_skip P _ 1 1 0 1 _ _ _ (by decide),
    hs19, ldS_skip P _ 1 1 0 0 _ _ _ (by decide),
    hs18, ldS_skip P _ 1 1 1 3 _ _ _ (by decide),
    hs17, ldS_skip P _ 1 1 1 2 _ _ _ (by decide),
    hs16, ldS_hit]
  funext d l
  rw [w16_apply, in16]
  rfl
/-- The state loaded before store number 25 is the state of its step and head. -/
theorem in25 : (fun (d : Fin 128) (l : Fin 256) => ldS P (H24 P) 1 2 inb_S2x4x128x256_S1x1x128x256_1_2_0_0 (ix4 0 0 d l)) = SB P 2 2 := by
  rw [hs24, ldS_skip P _ 1 2 1 1 _ _ _ (by decide),
    hs23, ldS_skip P _ 1 2 1 0 _ _ _ (by decide),
    hs22, ldS_skip P _ 1 2 0 3 _ _ _ (by decide),
    hs21, ldS_skip P _ 1 2 0 2 _ _ _ (by decide),
    hs20, ldS_skip P _ 1 2 0 1 _ _ _ (by decide),
    hs19, ldS_skip P _ 1 2 0 0 _ _ _ (by decide),
    hs18, ldS_skip P _ 1 2 1 3 _ _ _ (by decide),
    hs17, ldS_hit]
  funext d l
  rw [w17_apply, in17]
  rfl
/-- The state loaded before store number 26 is the state of its step and head. -/
theorem in26 : (fun (d : Fin 128) (l : Fin 256) => ldS P (H25 P) 1 3 inb_S2x4x128x256_S1x1x128x256_1_3_0_0 (ix4 0 0 d l)) = SB P 3 2 := by
  rw [hs25, ldS_skip P _ 1 3 1 2 _ _ _ (by decide),
    hs24, ldS_skip P _ 1 3 1 1 _ _ _ (by decide),
    hs23, ldS_skip P _ 1 3 1 0 _ _ _ (by decide),
    hs22, ldS_skip P _ 1 3 0 3 _ _ _ (by decide),
    hs21, ldS_skip P _ 1 3 0 2 _ _ _ (by decide),
    hs20, ldS_skip P _ 1 3 0 1 _ _ _ (by decide),
    hs19, ldS_skip P _ 1 3 0 0 _ _ _ (by decide),
    hs18, ldS_hit]
  funext d l
  rw [w18_apply, in18]
  rfl
/-- The state loaded before store number 27 is the state of its step and head. -/
theorem in27 : (fun (d : Fin 128) (l : Fin 256) => ldS P (H26 P) 0 0 inb_S2x4x128x256_S1x1x128x256_0_0_0_0 (ix4 0 0 d l)) = SF P 0 3 := by
  rw [hs26, ldS_skip P _ 0 0 1 3 _ _ _ (by decide),
    hs25, ldS_skip P _ 0 0 1 2 _ _ _ (by decide),
    hs24, ldS_skip P _ 0 0 1 1 _ _ _ (by decide),
    hs23, ldS_skip P _ 0 0 1 0 _ _ _ (by decide),
    hs22, ldS_skip P _ 0 0 0 3 _ _ _ (by decide),
    hs21, ldS_skip P _ 0 0 0 2 _ _ _ (by decide),
    hs20, ldS_skip P _ 0 0 0 1 _ _ _ (by decide),
    hs19, ldS_hit]
  funext d l
  rw [w19_apply, in19]
  rfl
/-- The state loaded before store number 28 is the state of its step and head. -/
theorem in28 : (fun (d : Fin 128) (l : Fin 256) => ldS P (H27 P) 0 1 inb_S2x4x128x256_S1x1x128x256_0_1_0_0 (ix4 0 0 d l)) = SF P 1 3 := by
  rw [hs27, ldS_skip P _ 0 1 0 0 _ _ _ (by decide),
    hs26, ldS_skip P _ 0 1 1 3 _ _ _ (by decide),
    hs25, ldS_skip P _ 0 1 1 2 _ _ _ (by decide),
    hs24, ldS_skip P _ 0 1 1 1 _ _ _ (by decide),
    hs23, ldS_skip P _ 0 1 1 0 _ _ _ (by decide),
    hs22, ldS_skip P _ 0 1 0 3 _ _ _ (by decide),
    hs21, ldS_skip P _ 0 1 0 2 _ _ _ (by decide),
    hs20, ldS_hit]
  funext d l
  rw [w20_apply, in20]
  rfl
/-- The state loaded before store number 29 is the state of its step and head. -/
theorem in29 : (fun (d : Fin 128) (l : Fin 256) => ldS P (H28 P) 0 2 inb_S2x4x128x256_S1x1x128x256_0_2_0_0 (ix4 0 0 d l)) = SF P 2 3 := by
  rw [hs28, ldS_skip P _ 0 2 0 1 _ _ _ (by decide),
    hs27, ldS_skip P _ 0 2 0 0 _ _ _ (by decide),
    hs26, ldS_skip P _ 0 2 1 3 _ _ _ (by decide),
    hs25, ldS_skip P _ 0 2 1 2 _ _ _ (by decide),
    hs24, ldS_skip P _ 0 2 1 1 _ _ _ (by decide),
    hs23, ldS_skip P _ 0 2 1 0 _ _ _ (by decide),
    hs22, ldS_skip P _ 0 2 0 3 _ _ _ (by decide),
    hs21, ldS_hit]
  funext d l
  rw [w21_apply, in21]
  rfl
/-- The state loaded before store number 30 is the state of its step and head. -/
theorem in30 : (fun (d : Fin 128) (l : Fin 256) => ldS P (H29 P) 0 3 inb_S2x4x128x256_S1x1x128x256_0_3_0_0 (ix4 0 0 d l)) = SF P 3 3 := by
  rw [hs29, ldS_skip P _ 0 3 0 2 _ _ _ (by decide),
    hs28, ldS_skip P _ 0 3 0 1 _ _ _ (by decide),
    hs27, ldS_skip P _ 0 3 0 0 _ _ _ (by decide),
    hs26, ldS_skip P _ 0 3 1 3 _ _ _ (by decide),
    hs25, ldS_skip P _ 0 3 1 2 _ _ _ (by decide),
    hs24, ldS_skip P _ 0 3 1 1 _ _ _ (by decide),
    hs23, ldS_skip P _ 0 3 1 0 _ _ _ (by decide),
    hs22, ldS_hit]
  funext d l
  rw [w22_apply, in22]
  rfl
/-- The state loaded before store number 31 is the state of its step and head. -/
theorem in31 : (fun (d : Fin 128) (l : Fin 256) => ldS P (H30 P) 1 0 inb_S2x4x128x256_S1x1x128x256_1_0_0_0 (ix4 0 0 d l)) = SB P 0 3 := by
  rw [hs30, ldS_skip P _ 1 0 0 3 _ _ _ (by decide),
    hs29, ldS_skip P _ 1 0 0 2 _ _ _ (by decide),
    hs28, ldS_skip P _ 1 0 0 1 _ _ _ (by decide),
    hs27, ldS_skip P _ 1 0 0 0 _ _ _ (by decide),
    hs26, ldS_skip P _ 1 0 1 3 _ _ _ (by decide),
    hs25, ldS_skip P _ 1 0 1 2 _ _ _ (by decide),
    hs24, ldS_skip P _ 1 0 1 1 _ _ _ (by decide),
    hs23, ldS_hit]
  funext d l
  rw [w23_apply, in23]
  rfl
/-- The state loaded before store number 32 is the state of its step and head. -/
theorem in32 : (fun (d : Fin 128) (l : Fin 256) => ldS P (H31 P) 1 1 inb_S2x4x128x256_S1x1x128x256_1_1_0_0 (ix4 0 0 d l)) = SB P 1 3 := by
  rw [hs31, ldS_skip P _ 1 1 1 0 _ _ _ (by decide),
    hs30, ldS_skip P _ 1 1 0 3 _ _ _ (by decide),
    hs29, ldS_skip P _ 1 1 0 2 _ _ _ (by decide),
    hs28, ldS_skip P _ 1 1 0 1 _ _ _ (by decide),
    hs27, ldS_skip P _ 1 1 0 0 _ _ _ (by decide),
    hs26, ldS_skip P _ 1 1 1 3 _ _ _ (by decide),
    hs25, ldS_skip P _ 1 1 1 2 _ _ _ (by decide),
    hs24, ldS_hit]
  funext d l
  rw [w24_apply, in24]
  rfl
/-- The state loaded before store number 33 is the state of its step and head. -/
theorem in33 : (fun (d : Fin 128) (l : Fin 256) => ldS P (H32 P) 1 2 inb_S2x4x128x256_S1x1x128x256_1_2_0_0 (ix4 0 0 d l)) = SB P 2 3 := by
  rw [hs32, ldS_skip P _ 1 2 1 1 _ _ _ (by decide),
    hs31, ldS_skip P _ 1 2 1 0 _ _ _ (by decide),
    hs30, ldS_skip P _ 1 2 0 3 _ _ _ (by decide),
    hs29, ldS_skip P _ 1 2 0 2 _ _ _ (by decide),
    hs28, ldS_skip P _ 1 2 0 1 _ _ _ (by decide),
    hs27, ldS_skip P _ 1 2 0 0 _ _ _ (by decide),
    hs26, ldS_skip P _ 1 2 1 3 _ _ _ (by decide),
    hs25, ldS_hit]
  funext d l
  rw [w25_apply, in25]
  rfl
/-- The state loaded before store number 34 is the state of its step and head. -/
theorem in34 : (fun (d : Fin 128) (l : Fin 256) => ldS P (H33 P) 1 3 inb_S2x4x128x256_S1x1x128x256_1_3_0_0 (ix4 0 0 d l)) = SB P 3 3 := by
  rw [hs33, ldS_skip P _ 1 3 1 2 _ _ _ (by decide),
    hs32, ldS_skip P _ 1 3 1 1 _ _ _ (by decide),
    hs31, ldS_skip P _ 1 3 1 0 _ _ _ (by decide),
    hs30, ldS_skip P _ 1 3 0 3 _ _ _ (by decide),
    hs29, ldS_skip P _ 1 3 0 2 _ _ _ (by decide),
    hs28, ldS_skip P _ 1 3 0 1 _ _ _ (by decide),
    hs27, ldS_skip P _ 1 3 0 0 _ _ _ (by decide),
    hs26, ldS_hit]
  funext d l
  rw [w26_apply, in26]
  rfl
/-- The state loaded before store number 35 is the state of its step and head. -/
theorem in35 : (fun (d : Fin 128) (l : Fin 256) => ldS P (H34 P) 0 0 inb_S2x4x128x256_S1x1x128x256_0_0_0_0 (ix4 0 0 d l)) = SF P 0 4 := by
  rw [hs34, ldS_skip P _ 0 0 1 3 _ _ _ (by decide),
    hs33, ldS_skip P _ 0 0 1 2 _ _ _ (by decide),
    hs32, ldS_skip P _ 0 0 1 1 _ _ _ (by decide),
    hs31, ldS_skip P _ 0 0 1 0 _ _ _ (by decide),
    hs30, ldS_skip P _ 0 0 0 3 _ _ _ (by decide),
    hs29, ldS_skip P _ 0 0 0 2 _ _ _ (by decide),
    hs28, ldS_skip P _ 0 0 0 1 _ _ _ (by decide),
    hs27, ldS_hit]
  funext d l
  rw [w27_apply, in27]
  rfl
/-- The state loaded before store number 36 is the state of its step and head. -/
theorem in36 : (fun (d : Fin 128) (l : Fin 256) => ldS P (H34 P) 0 1 inb_S2x4x128x256_S1x1x128x256_0_1_0_0 (ix4 0 0 d l)) = SF P 1 4 := by
  rw [hs34, ldS_skip P _ 0 1 1 3 _ _ _ (by decide),
    hs33, ldS_skip P _ 0 1 1 2 _ _ _ (by decide),
    hs32, ldS_skip P _ 0 1 1 1 _ _ _ (by decide),
    hs31, ldS_skip P _ 0 1 1 0 _ _ _ (by decide),
    hs30, ldS_skip P _ 0 1 0 3 _ _ _ (by decide),
    hs29, ldS_skip P _ 0 1 0 2 _ _ _ (by decide),
    hs28, ldS_hit]
  funext d l
  rw [w28_apply, in28]
  rfl
/-- The state loaded before store number 37 is the state of its step and head. -/
theorem in37 : (fun (d : Fin 128) (l : Fin 256) => ldS P (H34 P) 0 2 inb_S2x4x128x256_S1x1x128x256_0_2_0_0 (ix4 0 0 d l)) = SF P 2 4 := by
  rw [hs34, ldS_skip P _ 0 2 1 3 _ _ _ (by decide),
    hs33, ldS_skip P _ 0 2 1 2 _ _ _ (by decide),
    hs32, ldS_skip P _ 0 2 1 1 _ _ _ (by decide),
    hs31, ldS_skip P _ 0 2 1 0 _ _ _ (by decide),
    hs30, ldS_skip P _ 0 2 0 3 _ _ _ (by decide),
    hs29, ldS_hit]
  funext d l
  rw [w29_apply, in29]
  rfl
/-- The state loaded before store number 38 is the state of its step and head. -/
theorem in38 : (fun (d : Fin 128) (l : Fin 256) => ldS P (H34 P) 0 3 inb_S2x4x128x256_S1x1x128x256_0_3_0_0 (ix4 0 0 d l)) = SF P 3 4 := by
  rw [hs34, ldS_skip P _ 0 3 1 3 _ _ _ (by decide),
    hs33, ldS_skip P _ 0 3 1 2 _ _ _ (by decide),
    hs32, ldS_skip P _ 0 3 1 1 _ _ _ (by decide),
    hs31, ldS_skip P _ 0 3 1 0 _ _ _ (by decide),
    hs30, ldS_hit]
  funext d l
  rw [w30_apply, in30]
  rfl
/-- The state loaded before store number 39 is the state of its step and head. -/
theorem in39 : (fun (d : Fin 128) (l : Fin 256) => ldS P (H34 P) 1 0 inb_S2x4x128x256_S1x1x128x256_1_0_0_0 (ix4 0 0 d l)) = SB P 0 4 := by
  rw [hs34, ldS_skip P _ 1 0 1 3 _ _ _ (by decide),
    hs33, ldS_skip P _ 1 0 1 2 _ _ _ (by decide),
    hs32, ldS_skip P _ 1 0 1 1 _ _ _ (by decide),
    hs31, ldS_hit]
  funext d l
  rw [w31_apply, in31]
  rfl
/-- The state loaded before store number 40 is the state of its step and head. -/
theorem in40 : (fun (d : Fin 128) (l : Fin 256) => ldS P (H34 P) 1 1 inb_S2x4x128x256_S1x1x128x256_1_1_0_0 (ix4 0 0 d l)) = SB P 1 4 := by
  rw [hs34, ldS_skip P _ 1 1 1 3 _ _ _ (by decide),
    hs33, ldS_skip P _ 1 1 1 2 _ _ _ (by decide),
    hs32, ldS_hit]
  funext d l
  rw [w32_apply, in32]
  rfl
/-- The state loaded before store number 41 is the state of its step and head. -/
theorem in41 : (fun (d : Fin 128) (l : Fin 256) => ldS P (H34 P) 1 2 inb_S2x4x128x256_S1x1x128x256_1_2_0_0 (ix4 0 0 d l)) = SB P 2 4 := by
  rw [hs34, ldS_skip P _ 1 2 1 3 _ _ _ (by decide),
    hs33, ldS_hit]
  funext d l
  rw [w33_apply, in33]
  rfl
/-- The state loaded before store number 42 is the state of its step and head. -/
theorem in42 : (fun (d : Fin 128) (l : Fin 256) => ldS P (H34 P) 1 3 inb_S2x4x128x256_S1x1x128x256_1_3_0_0 (ix4 0 0 d l)) = SB P 3 4 := by
  rw [hs34, ldS_hit]
  funext d l
  rw [w34_apply, in34]
  rfl

end Cert.GlaIdeal.Hand
-- ==== Proof.GlaOut.lean ====
module

public import proofs.«01_k».proof.Proof.GlaState

/-! The blocks the grid point leaves: the outputs of both directions and the final states. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

/-- Column `n` of 1024. -/
def vcol (n : ℕ) : Fin 1024 := ⟨n % 1024, Nat.mod_lt _ (by decide)⟩

/-- An output block inside the store made last. -/
theorem canonO_hit (H : List (View.Piece (Elt Ideal) S256x1024 .bf16)) (b q : ℕ) (w : Vec Ideal S64x256 .bf16)
    (i : ∀ a, (![b, q] : Fin 2 → ℕ) a + S64x256.size a ≤ S256x1024.size a) (r : Fin 64) (l : Fin 256) :
    View.canon (Val := Elt Ideal) (⟨Rect.unit (s := S256x1024) ![b, q] S64x256.size i, w⟩ :: H) (ix2 (row (b + r.val)) (vcol (q + l.val))) = w (ix2 r l) := by
  have e0 : b + 64 ≤ 256 := i 0
  have e1 : q + 256 ≤ 1024 := i 1
  have e : (ix2 (row (b + r.val)) (vcol (q + l.val)) : S256x1024.Idx) = (Rect.unit (s := S256x1024) ![b, q] S64x256.size i).emb (ix2 r l) := by
    funext a
    match a with
    | ⟨0, _⟩ => apply Fin.ext; show (b + r.val) % 256 = b + 1 * r.val; omega
    | ⟨1, _⟩ => apply Fin.ext; show (q + l.val) % 1024 = q + 1 * l.val; omega
  rw [e]
  exact View.canon_cons_emb _ _ _ _

/-- An output block outside the store made last. -/
theorem canonO_skip (H : List (View.Piece (Elt Ideal) S256x1024 .bf16)) (b q b' q' : ℕ) (w : Vec Ideal S64x256 .bf16)
    (i' : ∀ a, (![b', q'] : Fin 2 → ℕ) a + S64x256.size a ≤ S256x1024.size a) (hb : b + 64 ≤ 256) (hq : q + 256 ≤ 1024)
    (hd : b' + 64 ≤ b ∨ b + 64 ≤ b' ∨ q' + 256 ≤ q ∨ q + 256 ≤ q') (r : Fin 64) (l : Fin 256) :
    View.canon (Val := Elt Ideal) (⟨Rect.unit (s := S256x1024) ![b', q'] S64x256.size i', w⟩ :: H) (ix2 (row (b + r.val)) (vcol (q + l.val)))
      = View.canon (Val := Elt Ideal) H (ix2 (row (b + r.val)) (vcol (q + l.val))) := by
  refine View.canon_cons_of_not_mem (Val := Elt Ideal) ⟨Rect.unit (s := S256x1024) ![b', q'] S64x256.size i', w⟩ H ?_
  rw [Rect.mem_set_unit]
  intro hm
  have h0 : b' ≤ (b + r.val) % 256 ∧ (b + r.val) % 256 < b' + 64 := hm 0
  have h1 : q' ≤ (q + l.val) % 1024 ∧ (q + l.val) % 1024 < q' + 256 := hm 1
  omega

/-- A load of a direction's states reads each head's. -/
theorem rc_half (v : View sig .tc .vmem S2x4x128x256 .f32) (H : List (View.Piece (Elt Ideal) S2x4x128x256 .f32)) (g h : ℕ) (hh : h < 4)
    (i : ∀ a, (![g, 0, 0, 0] : Fin 4 → ℕ) a + S1x4x128x256.size a ≤ S2x4x128x256.size a) (i' : ∀ a, (![g, h, 0, 0] : Fin 4 → ℕ) a + S1x1x128x256.size a ≤ S2x4x128x256.size a) (d : Fin 128) (l : Fin 256) :
    v.readCov (Val := Elt Ideal) H (Rect.unit (s := S2x4x128x256) ![g, 0, 0, 0] S1x4x128x256.size i).toLoadRect (ix4 0 ⟨h, hh⟩ d l)
      = v.readCov (Val := Elt Ideal) H (Rect.unit (s := S2x4x128x256) ![g, h, 0, 0] S1x1x128x256.size i').toLoadRect (ix4 0 0 d l) := by
  rw [View.readCov_eq_canon', View.readCov_eq_canon']
  show View.canon H ((Rect.unit (s := S2x4x128x256) ![g, 0, 0, 0] S1x4x128x256.size i).toLoadRect.idx (ix4 0 ⟨h, hh⟩ d l)) = View.canon H ((Rect.unit (s := S2x4x128x256) ![g, h, 0, 0] S1x1x128x256.size i').toLoadRect.idx (ix4 0 0 d l))
  refine congrArg (View.canon H) ?_
  funext a
  match a with
  | ⟨0, _⟩ => rfl
  | ⟨1, _⟩ => apply Fin.ext; show 0 + 1 * h = h + 1 * 0; omega
  | ⟨2, _⟩ => rfl
  | ⟨3, _⟩ => rfl

/-- A block of states stored whole. -/
theorem canonS (w : Vec Ideal S4x128x256 .f32) (i : ∀ a, (![0, 0, 0] : Fin 3 → ℕ) a + S4x128x256.size a ≤ S4x128x256.size a) (y : S4x128x256.Idx) :
    View.canon (Val := Elt Ideal) [⟨Rect.unit (s := S4x128x256) ![0, 0, 0] S4x128x256.size i, w⟩] y = w y := by
  have e : y = (Rect.unit (s := S4x128x256) ![0, 0, 0] S4x128x256.size i).emb y := by
    funext a
    match a with
    | ⟨0, _⟩ => apply Fin.ext; show (y 0).val = 0 + 1 * (y 0).val; omega
    | ⟨1, _⟩ => apply Fin.ext; show (y 1).val = 0 + 1 * (y 1).val; omega
    | ⟨2, _⟩ => apply Fin.ext; show (y 2).val = 0 + 1 * (y 2).val; omega
  exact (congrArg (View.canon (Val := Elt Ideal) [⟨Rect.unit (s := S4x128x256) ![0, 0, 0] S4x128x256.size i, w⟩]) e).trans (View.canon_cons_emb _ _ _ _)

/-- A state read out at an index, forward. -/
theorem pay2_apply (X : Vec Ideal S1x4x128x256 .f32) (h : Fin 4) (d : Fin 128) (l : Fin 256) : k0_pay2 X (ix3 h d l) = X (ix4 0 h d l) := by pointwise [k0_pay2]
/-- A state read out at an index, backward. -/
theorem pay3_apply (X : Vec Ideal S1x4x128x256 .f32) (h : Fin 4) (d : Fin 128) (l : Fin 256) : k0_pay3 X (ix3 h d l) = X (ix4 0 h d l) := by pointwise [k0_pay3]

section
variable (P : Pt)

/-- The outputs the recurrence gives, chunk by chunk. -/
def OF (t h : ℕ) : Fin 64 → Fin 256 → EReal := stepOut false P.x0 (cumF P) (64 * t) h (SF P h t)
/-- The backward output of a step and a head. -/
def OB (t h : ℕ) : Fin 64 → Fin 256 → EReal := stepOut true P.x3 (cumB P) (64 * (3 - t)) h (SB P h t)

/-- The stores into the forward output, the last first. -/
noncomputable def M12 : List (View.Piece (Elt Ideal) S256x1024 .bf16) :=
  [⟨Rect.unit (s := S256x1024) ![192, 768] S64x256.size inb_S256x1024_S64x256_192_768, o30 P (ldS P (H29 P) 0 3 inb_S2x4x128x256_S1x1x128x256_0_3_0_0)⟩,
   ⟨Rect.unit (s := S256x1024) ![192, 512] S64x256.size inb_S256x1024_S64x256_192_512, o29 P (ldS P (H28 P) 0 2 inb_S2x4x128x256_S1x1x128x256_0_2_0_0)⟩,
   ⟨Rect.unit (s := S256x1024) ![192, 256] S64x256.size inb_S256x1024_S64x256_192_256, o28 P (ldS P (H27 P) 0 1 inb_S2x4x128x256_S1x1x128x256_0_1_0_0)⟩,
   ⟨Rect.unit (s := S256x1024) ![192, 0] S64x256.size inb_S256x1024_S64x256_192_0, o27 P (ldS P (H26 P) 0 0 inb_S2x4x128x256_S1x1x128x256_0_0_0_0)⟩,
   ⟨Rect.unit (s := S256x1024) ![128, 768] S64x256.size inb_S256x1024_S64x256_128_768, o22 P (ldS P (H21 P) 0 3 inb_S2x4x128x256_S1x1x128x256_0_3_0_0)⟩,
   ⟨Rect.unit (s := S256x1024) ![128, 512] S64x256.size inb_S256x1024_S64x256_128_512, o21 P (ldS P (H20 P) 0 2 inb_S2x4x128x256_S1x1x128x256_0_2_0_0)⟩,
   ⟨Rect.unit (s := S256x1024) ![128, 256] S64x256.size inb_S256x1024_S64x256_128_256, o20 P (ldS P (H19 P) 0 1 inb_S2x4x128x256_S1x1x128x256_0_1_0_0)⟩,
   ⟨Rect.unit (s := S256x1024) ![128, 0] S64x256.size inb_S256x1024_S64x256_128_0, o19 P (ldS P (H18 P) 0 0 inb_S2x4x128x256_S1x1x128x256_0_0_0_0)⟩,
   ⟨Rect.unit (s := S256x1024) ![64, 768] S64x256.size inb_S256x1024_S64x256_64_768, o14 P (ldS P (H13 P) 0 3 inb_S2x4x128x256_S1x1x128x256_0_3_0_0)⟩,
   ⟨Rect.unit (s := S256x1024) ![64, 512] S64x256.size inb_S256x1024_S64x256_64_512, o13 P (ldS P (H12 P) 0 2 inb_S2x4x128x256_S1x1x128x256_0_2_0_0)⟩,
   ⟨Rect.unit (s := S256x1024) ![64, 256] S64x256.size inb_S256x1024_S64x256_64_256, o12 P (ldS P (H11 P) 0 1 inb_S2x4x128x256_S1x1x128x256_0_1_0_0)⟩,
   ⟨Rect.unit (s := S256x1024) ![64, 0] S64x256.size inb_S256x1024_S64x256_64_0, o11 P (ldS P (H10 P) 0 0 inb_S2x4x128x256_S1x1x128x256_0_0_0_0)⟩,
   ⟨Rect.unit (s := S256x1024) ![0, 768] S64x256.size inb_S256x1024_S64x256_0_768, o6 P (ldS P (H5 P) 0 3 inb_S2x4x128x256_S1x1x128x256_0_3_0_0)⟩,
   ⟨Rect.unit (s := S256x1024) ![0, 512] S64x256.size inb_S256x1024_S64x256_0_512, o5 P (ldS P (H4 P) 0 2 inb_S2x4x128x256_S1x1x128x256_0_2_0_0)⟩,
   ⟨Rect.unit (s := S256x1024) ![0, 256] S64x256.size inb_S256x1024_S64x256_0_256, o4 P (ldS P (H3 P) 0 1 inb_S2x4x128x256_S1x1x128x256_0_1_0_0)⟩,
   ⟨Rect.unit (s := S256x1024) ![0, 0] S64x256.size inb_S256x1024_S64x256_0_0, o3 P (ldS P (H2 P) 0 0 inb_S2x4x128x256_S1x1x128x256_0_0_0_0)⟩]

/-- The forward output at step 3 and head 3. -/
theorem M12_3_3 (r : Fin 64) (l : Fin 256) : View.canon (Val := Elt Ideal) (M12 P) (ix2 (row (192 + r.val)) (vcol (768 + l.val))) = OF P 3 3 r l := by
  unfold M12
  refine (canonO_hit _ 192 768 _ _ r l).trans ?_
  rw [o30_apply, in30]
  rfl
/-- The forward output at step 3 and head 2. -/
theorem M12_3_2 (r : Fin 64) (l : Fin 256) : View.canon (Val := Elt Ideal) (M12 P) (ix2 (row (192 + r.val)) (vcol (512 + l.val))) = OF P 3 2 r l := by
  unfold M12
  refine (canonO_skip _ 192 512 192 768 _ _ (by decide) (by decide) (by decide) r l).trans ?_
  refine (canonO_hit _ 192 512 _ _ r l).trans ?_
  rw [o29_apply, in29]
  rfl
/-- The forward output at step 3 and head 1. -/
theorem M12_3_1 (r : Fin 64) (l : Fin 256) : View.canon (Val := Elt Ideal) (M12 P) (ix2 (row (192 + r.val)) (vcol (256 + l.val))) = OF P 3 1 r l := by
  unfold M12
  refine (canonO_skip _ 192 256 192 768 _ _ (by decide) (by decide) (by decide) r l).trans ?_
  refine (canonO_skip _ 192 256 192 512 _ _ (by decide) (by decide) (by decide) r l).trans ?_
  refine (canonO_hit _ 192 256 _ _ r l).trans ?_
  rw [o28_apply, in28]
  rfl
/-- The forward output at step 3 and head 0. -/
theorem M12_3_0 (r : Fin 64) (l : Fin 256) : View.canon (Val := Elt Ideal) (M12 P) (ix2 (row (192 + r.val)) (vcol (0 + l.val))) = OF P 3 0 r l := by
  unfold M12
  refine (canonO_skip _ 192 0 192 768 _ _ (by decide) (by decide) (by decide) r l).trans ?_
  refine (canonO_skip _ 192 0 192 512 _ _ (by decide) (by decide) (by decide) r l).trans ?_
  refine (canonO_skip _ 192 0 192 256 _ _ (by decide) (by decide) (by decide) r l).trans ?_
  refine (canonO_hit _ 192 0 _ _ r l).trans ?_
  rw [o27_apply, in27]
  rfl
/-- The forward output at step 2 and head 3. -/
theorem M12_2_3 (r : Fin 64) (l : Fin 256) : View.canon (Val := Elt Ideal) (M12 P) (ix2 (row (128 + r.val)) (vcol (768 + l.val))) = OF P 2 3 r l := by
  unfold M12
  refine (canonO_skip _ 128 768 192 768 _ _ (by decide) (by decide) (by decide) r l).trans ?_
  refine (canonO_skip _ 128 768 192 512 _ _ (by decide) (by decide) (by decide) r l).trans ?_
  refine (canonO_skip _ 128 768 192 256 _ _ (by decide) (by decide) (by decide) r l).trans ?_
  refine (canonO_skip _ 128 768 192 0 _ _ (by decide) (by decide) (by decide) r l).trans ?_
  refine (canonO_hit _ 128 768 _ _ r l).trans ?_
  rw [o22_apply, in22]
  rfl
/-- The forward output at step 2 and head 2. -/
theorem M12_2_2 (r : Fin 64) (l : Fin 256) : View.canon (Val := Elt Ideal) (M12 P) (ix2 (row (128 + r.val)) (vcol (512 + l.val))) = OF P 2 2 r l := by
  unfold M12
  refine (canonO_skip _ 128 512 192 768 _ _ (by decide) (by decide) (by decide) r l).trans ?_
  refine (canonO_skip _ 128 512 192 512 _ _ (by decide) (by decide) (by decide) r l).trans ?_
  refine (canonO_skip _ 128 512 192 256 _ _ (by decide) (by decide) (by decide) r l).trans ?_
  refine (canonO_skip _ 128 512 192 0 _ _ (by decide) (by decide) (by decide) r l).trans ?_
  refine (canonO_skip _ 128 512 128 768 _ _ (by decide) (by decide) (by decide) r l).trans ?_
  refine (canonO_hit _ 128 512 _ _ r l).trans ?_
  rw [o21_apply, in21]
  rfl
/-- The forward output at step 2 and head 1. -/
theorem M12_2_1 (r : Fin 64) (l : Fin 256) : View.canon (Val := Elt Ideal) (M12 P) (ix2 (row (128 + r.val)) (vcol (256 + l.val))) = OF P 2 1 r l := by
  unfold M12
  refine (canonO_skip _ 128 256 192 768 _ _ (by decide) (by decide) (by decide) r l).trans ?_
  refine (canonO_skip _ 128 256 192 512 _ _ (by decide) (by decide) (by decide) r l).trans ?_
  refine (canonO_skip _ 128 256 192 256 _ _ (by decide) (by decide) (by decide) r l).trans ?_
  refine (canonO_skip _ 128 256 192 0 _ _ (by decide) (by decide) (by decide) r l).trans ?_
  refine (canonO_skip _ 128 256 128 768 _ _ (by decide) (by decide) (by decide) r l).trans ?_
  refine (canonO_skip _ 128 256 128 512 _ _ (by decide) (by decide) (by decide) r l).trans ?_
  refine (canonO_hit _ 128 256 _ _ r l).trans ?_
  rw [o20_apply, in20]
  rfl
/-- The forward output at step 2 and head 0. -/
theorem M12_2_0 (r : Fin 64) (l : Fin 256) : View.canon (Val := Elt Ideal) (M12 P) (ix2 (row (128 + r.val)) (vcol (0 + l.val))) = OF P 2 0 r l := by
  unfold M12
  refine (canonO_skip _ 128 0 192 768 _ _ (by decide) (by decide) (by decide) r l).trans ?_
  refine (canonO_skip _ 128 0 192 512 _ _ (by decide) (by decide) (by decide) r l).trans ?_
  refine (canonO_skip _ 128 0 192 256 _ _ (by decide) (by decide) (by decide) r l).trans ?_
  refine (canonO_skip _ 128 0 192 0 _ _ (by decide) (by decide) (by decide) r l).trans ?_
  refine (canonO_skip _ 128 0 128 768 _ _ (by decide) (by decide) (by decide) r l).trans ?_
  refine (canonO_skip _ 128 0 128 512 _ _ (by decide) (by decide) (by decide) r l).trans ?_
  refine (canonO_skip _ 128 0 128 256 _ _ (by decide) (by decide) (by decide) r l).trans ?_
  refine (canonO_hit _ 128 0 _ _ r l).trans ?_
  rw [o19_apply, in19]
  rfl
/-- The forward output at step 1 and head 3. -/
theorem M12_1_3 (r : Fin 64) (l : Fin 256) : View.canon (Val := Elt Ideal) (M12 P) (ix2 (row (64 + r.val)) (vcol (768 + l.val))) = OF P 1 3 r l := by
  unfold M12
  refine (canonO_skip _ 64 768 192 768 _ _ (by decide) (by decide) (by decide) r l).trans ?_
  refine (canonO_skip _ 64 768 192 512 _ _ (by decide) (by decide) (by decide) r l).trans ?_
  refine (canonO_skip _ 64 768 192 256 _ _ (by decide) (by decide) (by decide) r l).trans ?_
  refine (canonO_skip _ 64 768 192 0 _ _ (by decide) (by decide) (by decide) r l).trans ?_
  refine (canonO_skip _ 64 768 128 768 _ _ (by decide) (by decide) (by decide) r l).trans ?_
  refine (canonO_skip _ 64 768 128 512 _ _ (by decide) (by decide) (by decide) r l).trans ?_
  refine (canonO_skip _ 64 768 128 256 _ _ (by decide) (by decide) (by decide) r l).trans ?_
  refine (canonO_skip _ 64 768 128 0 _ _ (by decide) (by decide) (by decide) r l).trans ?_
  refine (canonO_hit _ 64 768 _ _ r l).trans ?_
  rw [o14_apply, in14]
  rfl
/-- The forward output at step 1 and head 2. -/
theorem M12_1_2 (r : Fin 64) (l : Fin 256) : View.canon (Val := Elt Ideal) (M12 P) (ix2 (row (64 + r.val)) (vcol (512 + l.val))) = OF P 1 2 r l := by
  unfold M12
  refine (canonO_skip _ 64 512 192 768 _ _ (by decide) (by decide) (by decide) r l).trans ?_
  refine (canonO_skip _ 64 512 192 512 _ _ (by decide) (by decide) (by decide) r l).trans ?_
  refine (canonO_skip _ 64 512 192 256 _ _ (by decide) (by decide) (by decide) r l).trans ?_
  refine (canonO_skip _ 64 512 192 0 _ _ (by decide) (by decide) (by decide) r l).trans ?_
  refine (canonO_skip _ 64 512 128 768 _ _ (by decide) (by decide) (by decide) r l).trans ?_
  refine (canonO_skip _ 64 512 128 512 _ _ (by decide) (by decide) (by decide) r l).trans ?_
  refine (canonO_skip _ 64 512 128 256 _ _ (by decide) (by decide) (by decide) r l).trans ?_
  refine (canonO_skip _ 64 512 128 0 _ _ (by decide) (by decide) (by decide) r l).trans ?_
  refine (canonO_skip _ 64 512 64 768 _ _ (by decide) (by decide) (by decide) r l).trans ?_
  refine (canonO_hit _ 64 512 _ _ r l).trans ?_
  rw [o13_apply, in13]
  rfl
/-- The forward output at step 1 and head 1. -/
theorem M12_1_1 (r : Fin 64) (l : Fin 256) : View.canon (Val := Elt Ideal) (M12 P) (ix2 (row (64 + r.val)) (vcol (256 + l.val))) = OF P 1 1 r l := by
  unfold M12
  refine (canonO_skip _ 64 256 192 768 _ _ (by decide) (by decide) (by decide) r l).trans ?_
  refine (canonO_skip _ 64 256 192 512 _ _ (by decide) (by decide) (by decide) r l).trans ?_
  refine (canonO_skip _ 64 256 192 256 _ _ (by decide) (by decide) (by decide) r l).trans ?_
  refine (canonO_skip _ 64 256 192 0 _ _ (by decide) (by decide) (by decide) r l).trans ?_
  refine (canonO_skip _ 64 256 128 768 _ _ (by decide) (by decide) (by decide) r l).trans ?_
  refine (canonO_skip _ 64 256 128 512 _ _ (by decide) (by decide) (by decide) r l).trans ?_
  refine (canonO_skip _ 64 256 128 256 _ _ (by decide) (by decide) (by decide) r l).trans ?_
  refine (canonO_skip _ 64 256 128 0 _ _ (by decide) (by decide) (by decide) r l).trans ?_
  refine (canonO_skip _ 64 256 64 768 _ _ (by decide) (by decide) (by decide) r l).trans ?_
  refine (canonO_skip _ 64 256 64 512 _ _ (by decide) (by decide) (by decide) r l).trans ?_
  refine (canonO_hit _ 64 256 _ _ r l).trans ?_
  rw [o12_apply, in12]
  rfl
/-- The forward output at step 1 and head 0. -/
theorem M12_1_0 (r : Fin 64) (l : Fin 256) : View.canon (Val := Elt Ideal) (M12 P) (ix2 (row (64 + r.val)) (vcol (0 + l.val))) = OF P 1 0 r l := by
  unfold M12
  refine (canonO_skip _ 64 0 192 768 _ _ (by decide) (by decide) (by decide) r l).trans ?_
  refine (canonO_skip _ 64 0 192 512 _ _ (by decide) (by decide) (by decide) r l).trans ?_
  refine (canonO_skip _ 64 0 192 256 _ _ (by decide) (by decide) (by decide) r l).trans ?_
  refine (canonO_skip _ 64 0 192 0 _ _ (by decide) (by decide) (by decide) r l).trans ?_
  refine (canonO_skip _ 64 0 128 768 _ _ (by decide) (by decide) (by decide) r l).trans ?_
  refine (canonO_skip _ 64 0 128 512 _ _ (by decide) (by decide) (by decide) r l).trans ?_
  refine (canonO_skip _ 64 0 128 256 _ _ (by decide) (by decide) (by decide) r l).trans ?_
  refine (canonO_skip _ 64 0 128 0 _ _ (by decide) (by decide) (by decide) r l).trans ?_
  refine (canonO_skip _ 64 0 64 768 _ _ (by decide) (by decide) (by decide) r l).trans ?_
  refine (canonO_skip _ 64 0 64 512 _ _ (by decide) (by decide) (by decide) r l).trans ?_
  refine (canonO_skip _ 64 0 64 256 _ _ (by decide) (by decide) (by decide) r l).trans ?_
  refine (canonO_hit _ 64 0 _ _ r l).trans ?_
  rw [o11_apply, in11]
  rfl
/-- The forward output at step 0 and head 3. -/
theorem M12_0_3 (r : Fin 64) (l : Fin 256) : View.canon (Val := Elt Ideal) (M12 P) (ix2 (row (0 + r.val)) (vcol (768 + l.val))) = OF P 0 3 r l := by
  unfold M12
  refine (canonO_skip _ 0 768 192 768 _ _ (by decide) (by decide) (by decide) r l).trans ?_
  refine (canonO_skip _ 0 768 192 512 _ _ (by decide) (by decide) (by decide) r l).trans ?_
  refine (canonO_skip _ 0 768 192 256 _ _ (by decide) (by decide) (by decide) r l).trans ?_
  refine (canonO_skip _ 0 768 192 0 _ _ (by decide) (by decide) (by decide) r l).trans ?_
  refine (canonO_skip _ 0 768 128 768 _ _ (by decide) (by decide) (by decide) r l).trans ?_
  refine (canonO_skip _ 0 768 128 512 _ _ (by decide) (by decide) (by decide) r l).trans ?_
  refine (canonO_skip _ 0 768 128 256 _ _ (by decide) (by decide) (by decide) r l).trans ?_
  refine (canonO_skip _ 0 768 128 0 _ _ (by decide) (by decide) (by decide) r l).trans ?_
  refine (canonO_skip _ 0 768 64 768 _ _ (by decide) (by decide) (by decide) r l).trans ?_
  refine (canonO_skip _ 0 768 64 512 _ _ (by decide) (by decide) (by decide) r l).trans ?_
  refine (canonO_skip _ 0 768 64 256 _ _ (by decide) (by decide) (by decide) r l).trans ?_
  refine (canonO_skip _ 0 768 64 0 _ _ (by decide) (by decide) (by decide) r l).trans ?_
  refine (canonO_hit _ 0 768 _ _ r l).trans ?_
  rw [o6_apply, in6]
  rfl
/-- The forward output at step 0 and head 2. -/
theorem M12_0_2 (r : Fin 64) (l : Fin 256) : View.canon (Val := Elt Ideal) (M12 P) (ix2 (row (0 + r.val)) (vcol (512 + l.val))) = OF P 0 2 r l := by
  unfold M12
  refine (canonO_skip _ 0 512 192 768 _ _ (by decide) (by decide) (by decide) r l).trans ?_
  refine (canonO_skip _ 0 512 192 512 _ _ (by decide) (by decide) (by decide) r l).trans ?_
  refine (canonO_skip _ 0 512 192 256 _ _ (by decide) (by decide) (by decide) r l).trans ?_
  refine (canonO_skip _ 0 512 192 0 _ _ (by decide) (by decide) (by decide) r l).trans ?_
  refine (canonO_skip _ 0 512 128 768 _ _ (by decide) (by decide) (by decide) r l).trans ?_
  refine (canonO_skip _ 0 512 128 512 _ _ (by decide) (by decide) (by decide) r l).trans ?_
  refine (canonO_skip _ 0 512 128 256 _ _ (by decide) (by decide) (by decide) r l).trans ?_
  refine (canonO_skip _ 0 512 128 0 _ _ (by decide) (by decide) (by decide) r l).trans ?_
  refine (canonO_skip _ 0 512 64 768 _ _ (by decide) (by decide) (by decide) r l).trans ?_
  refine (canonO_skip _ 0 512 64 512 _ _ (by decide) (by decide) (by decide) r l).trans ?_
  refine (canonO_skip _ 0 512 64 256 _ _ (by decide) (by decide) (by decide) r l).trans ?_
  refine (canonO_skip _ 0 512 64 0 _ _ (by decide) (by decide) (by decide) r l).trans ?_
  refine (canonO_skip _ 0 512 0 768 _ _ (by decide) (by decide) (by decide) r l).trans ?_
  refine (canonO_hit _ 0 512 _ _ r l).trans ?_
  rw [o5_apply, in5]
  rfl
/-- The forward output at step 0 and head 1. -/
theorem M12_0_1 (r : Fin 64) (l : Fin 256) : View.canon (Val := Elt Ideal) (M12 P) (ix2 (row (0 + r.val)) (vcol (256 + l.val))) = OF P 0 1 r l := by
  unfold M12
  refine (canonO_skip _ 0 256 192 768 _ _ (by decide) (by decide) (by decide) r l).trans ?_
  refine (canonO_skip _ 0 256 192 512 _ _ (by decide) (by decide) (by decide) r l).trans ?_
  refine (canonO_skip _ 0 256 192 256 _ _ (by decide) (by decide) (by decide) r l).trans ?_
  refine (canonO_skip _ 0 256 192 0 _ _ (by decide) (by decide) (by decide) r l).trans ?_
  refine (canonO_skip _ 0 256 128 768 _ _ (by decide) (by decide) (by decide) r l).trans ?_
  refine (canonO_skip _ 0 256 128 512 _ _ (by decide) (by decide) (by decide) r l).trans ?_
  refine (canonO_skip _ 0 256 128 256 _ _ (by decide) (by decide) (by decide) r l).trans ?_
  refine (canonO_skip _ 0 256 128 0 _ _ (by decide) (by decide) (by decide) r l).trans ?_
  refine (canonO_skip _ 0 256 64 768 _ _ (by decide) (by decide) (by decide) r l).trans ?_
  refine (canonO_skip _ 0 256 64 512 _ _ (by decide) (by decide) (by decide) r l).trans ?_
  refine (canonO_skip _ 0 256 64 256 _ _ (by decide) (by decide) (by decide) r l).trans ?_
  refine (canonO_skip _ 0 256 64 0 _ _ (by decide) (by decide) (by decide) r l).trans ?_
  refine (canonO_skip _ 0 256 0 768 _ _ (by decide) (by decide) (by decide) r l).trans ?_
  refine (canonO_skip _ 0 256 0 512 _ _ (by decide) (by decide) (by decide) r l).trans ?_
  refine (canonO_hit _ 0 256 _ _ r l).trans ?_
  rw [o4_apply, in4]
  rfl
/-- The forward output at step 0 and head 0. -/
theorem M12_0_0 (r : Fin 64) (l : Fin 256) : View.canon (Val := Elt Ideal) (M12 P) (ix2 (row (0 + r.val)) (vcol (0 + l.val))) = OF P 0 0 r l := by
  unfold M12
  refine (canonO_skip _ 0 0 192 768 _ _ (by decide) (by decide) (by decide) r l).trans ?_
  refine (canonO_skip _ 0 0 192 512 _ _ (by decide) (by decide) (by decide) r l).trans ?_
  refine (canonO_skip _ 0 0 192 256 _ _ (by decide) (by decide) (by decide) r l).trans ?_
  refine (canonO_skip _ 0 0 192 0 _ _ (by decide) (by decide) (by decide) r l).trans ?_
  refine (canonO_skip _ 0 0 128 768 _ _ (by decide) (by decide) (by decide) r l).trans ?_
  refine (canonO_skip _ 0 0 128 512 _ _ (by decide) (by decide) (by decide) r l).trans ?_
  refine (canonO_skip _ 0 0 128 256 _ _ (by decide) (by decide) (by decide) r l).trans ?_
  refine (canonO_skip _ 0 0 128 0 _ _ (by decide) (by decide) (by decide) r l).trans ?_
  refine (canonO_skip _ 0 0 64 768 _ _ (by decide) (by decide) (by decide) r l).trans ?_
  refine (canonO_skip _ 0 0 64 512 _ _ (by decide) (by decide) (by decide) r l).trans ?_
  refine (canonO_skip _ 0 0 64 256 _ _ (by decide) (by decide) (by decide) r l).trans ?_
  refine (canonO_skip _ 0 0 64 0 _ _ (by decide) (by decide) (by decide) r l).trans ?_
  refine (canonO_skip _ 0 0 0 768 _ _ (by decide) (by decide) (by decide) r l).trans ?_
  refine (canonO_skip _ 0 0 0 512 _ _ (by decide) (by decide) (by decide) r l).trans ?_
  refine (canonO_skip _ 0 0 0 256 _ _ (by decide) (by decide) (by decide) r l).trans ?_
  refine (canonO_hit _ 0 0 _ _ r l).trans ?_
  rw [o3_apply, in3]
  rfl

/-- The forward output at every step and head. -/
theorem M12_apply : ∀ (t h : Fin 4) (r : Fin 64) (l : Fin 256), View.canon (Val := Elt Ideal) (M12 P) (ix2 (row (64 * t.val + r.val)) (vcol (256 * h.val + l.val))) = OF P t.val h.val r l
  | ⟨0, _⟩, ⟨0, _⟩, r, l => M12_0_0 P r l
  | ⟨0, _⟩, ⟨1, _⟩, r, l => M12_0_1 P r l
  | ⟨0, _⟩, ⟨2, _⟩, r, l => M12_0_2 P r l
  | ⟨0, _⟩, ⟨3, _⟩, r, l => M12_0_3 P r l
  | ⟨1, _⟩, ⟨0, _⟩, r, l => M12_1_0 P r l
  | ⟨1, _⟩, ⟨1, _⟩, r, l => M12_1_1 P r l
  | ⟨1, _⟩, ⟨2, _⟩, r, l => M12_1_2 P r l
  | ⟨1, _⟩, ⟨3, _⟩, r, l => M12_1_3 P r l
  | ⟨2, _⟩, ⟨0, _⟩, r, l => M12_2_0 P r l
  | ⟨2, _⟩, ⟨1, _⟩, r, l => M12_2_1 P r l
  | ⟨2, _⟩, ⟨2, _⟩, r, l => M12_2_2 P r l
  | ⟨2, _⟩, ⟨3, _⟩, r, l => M12_2_3 P r l
  | ⟨3, _⟩, ⟨0, _⟩, r, l => M12_3_0 P r l
  | ⟨3, _⟩, ⟨1, _⟩, r, l => M12_3_1 P r l
  | ⟨3, _⟩, ⟨2, _⟩, r, l => M12_3_2 P r l
  | ⟨3, _⟩, ⟨3, _⟩, r, l => M12_3_3 P r l

/-- The stores into the backward output, the last first. -/
noncomputable def M13 : List (View.Piece (Elt Ideal) S256x1024 .bf16) :=
  [⟨Rect.unit (s := S256x1024) ![0, 768] S64x256.size inb_S256x1024_S64x256_0_768, o34 P (ldS P (H33 P) 1 3 inb_S2x4x128x256_S1x1x128x256_1_3_0_0)⟩,
   ⟨Rect.unit (s := S256x1024) ![0, 512] S64x256.size inb_S256x1024_S64x256_0_512, o33 P (ldS P (H32 P) 1 2 inb_S2x4x128x256_S1x1x128x256_1_2_0_0)⟩,
   ⟨Rect.unit (s := S256x1024) ![0, 256] S64x256.size inb_S256x1024_S64x256_0_256, o32 P (ldS P (H31 P) 1 1 inb_S2x4x128x256_S1x1x128x256_1_1_0_0)⟩,
   ⟨Rect.unit (s := S256x1024) ![0, 0] S64x256.size inb_S256x1024_S64x256_0_0, o31 P (ldS P (H30 P) 1 0 inb_S2x4x128x256_S1x1x128x256_1_0_0_0)⟩,
   ⟨Rect.unit (s := S256x1024) ![64, 768] S64x256.size inb_S256x1024_S64x256_64_768, o26 P (ldS P (H25 P) 1 3 inb_S2x4x128x256_S1x1x128x256_1_3_0_0)⟩,
   ⟨Rect.unit (s := S256x1024) ![64, 512] S64x256.size inb_S256x1024_S64x256_64_512, o25 P (ldS P (H24 P) 1 2 inb_S2x4x128x256_S1x1x128x256_1_2_0_0)⟩,
   ⟨Rect.unit (s := S256x1024) ![64, 256] S64x256.size inb_S256x1024_S64x256_64_256, o24 P (ldS P (H23 P) 1 1 inb_S2x4x128x256_S1x1x128x256_1_1_0_0)⟩,
   ⟨Rect.unit (s := S256x1024) ![64, 0] S64x256.size inb_S256x1024_S64x256_64_0, o23 P (ldS P (H22 P) 1 0 inb_S2x4x128x256_S1x1x128x256_1_0_0_0)⟩,
   ⟨Rect.unit (s := S256x1024) ![128, 768] S64x256.size inb_S256x1024_S64x256_128_768, o18 P (ldS P (H17 P) 1 3 inb_S2x4x128x256_S1x1x128x256_1_3_0_0)⟩,
   ⟨Rect.unit (s := S256x1024) ![128, 512] S64x256.size inb_S256x1024_S64x256_128_512, o17 P (ldS P (H16 P) 1 2 inb_S2x4x128x256_S1x1x128x256_1_2_0_0)⟩,
   ⟨Rect.unit (s := S256x1024) ![128, 256] S64x256.size inb_S256x1024_S64x256_128_256, o16 P (ldS P (H15 P) 1 1 inb_S2x4x128x256_S1x1x128x256_1_1_0_0)⟩,
   ⟨Rect.unit (s := S256x1024) ![128, 0] S64x256.size inb_S256x1024_S64x256_128_0, o15 P (ldS P (H14 P) 1 0 inb_S2x4x128x256_S1x1x128x256_1_0_0_0)⟩,
   ⟨Rect.unit (s := S256x1024) ![192, 768] S64x256.size inb_S256x1024_S64x256_192_768, o10 P (ldS P (H9 P) 1 3 inb_S2x4x128x256_S1x1x128x256_1_3_0_0)⟩,
   ⟨Rect.unit (s := S256x1024) ![192, 512] S64x256.size inb_S256x1024_S64x256_192_512, o9 P (ldS P (H8 P) 1 2 inb_S2x4x128x256_S1x1x128x256_1_2_0_0)⟩,
   ⟨Rect.unit (s := S256x1024) ![192, 256] S64x256.size inb_S256x1024_S64x256_192_256, o8 P (ldS P (H7 P) 1 1 inb_S2x4x128x256_S1x1x128x256_1_1_0_0)⟩,
   ⟨Rect.unit (s := S256x1024) ![192, 0] S64x256.size inb_S256x1024_S64x256_192_0, o7 P (ldS P (H6 P) 1 0 inb_S2x4x128x256_S1x1x128x256_1_0_0_0)⟩]

/-- The backward output at step 3 and head 3. -/
theorem M13_3_3 (r : Fin 64) (l : Fin 256) : View.canon (Val := Elt Ideal) (M13 P) (ix2 (row (0 + r.val)) (vcol (768 + l.val))) = OB P 3 3 r l := by
  unfold M13
  refine (canonO_hit _ 0 768 _ _ r l).trans ?_
  rw [o34_apply, in34]
  rfl
/-- The backward output at step 3 and head 2. -/
theorem M13_3_2 (r : Fin 64) (l : Fin 256) : View.canon (Val := Elt Ideal) (M13 P) (ix2 (row (0 + r.val)) (vcol (512 + l.val))) = OB P 3 2 r l := by
  unfold M13
  refine (canonO_skip _ 0 512 0 768 _ _ (by decide) (by decide) (by decide) r l).trans ?_
  refine (canonO_hit _ 0 512 _ _ r l).trans ?_
  rw [o33_apply, in33]
  rfl
/-- The backward output at step 3 and head 1. -/
theorem M13_3_1 (r : Fin 64) (l : Fin 256) : View.canon (Val := Elt Ideal) (M13 P) (ix2 (row (0 + r.val)) (vcol (256 + l.val))) = OB P 3 1 r l := by
  unfold M13
  refine (canonO_skip _ 0 256 0 768 _ _ (by decide) (by decide) (by decide) r l).trans ?_
  refine (canonO_skip _ 0 256 0 512 _ _ (by decide) (by decide) (by decide) r l).trans ?_
  refine (canonO_hit _ 0 256 _ _ r l).trans ?_
  rw [o32_apply, in32]
  rfl
/-- The backward output at step 3 and head 0. -/
theorem M13_3_0 (r : Fin 64) (l : Fin 256) : View.canon (Val := Elt Ideal) (M13 P) (ix2 (row (0 + r.val)) (vcol (0 + l.val))) = OB P 3 0 r l := by
  unfold M13
  refine (canonO_skip _ 0 0 0 768 _ _ (by decide) (by decide) (by decide) r l).trans ?_
  refine (canonO_skip _ 0 0 0 512 _ _ (by decide) (by decide) (by decide) r l).trans ?_
  refine (canonO_skip _ 0 0 0 256 _ _ (by decide) (by decide) (by decide) r l).trans ?_
  refine (canonO_hit _ 0 0 _ _ r l).trans ?_
  rw [o31_apply, in31]
  rfl
/-- The backward output at step 2 and head 3. -/
theorem M13_2_3 (r : Fin 64) (l : Fin 256) : View.canon (Val := Elt Ideal) (M13 P) (ix2 (row (64 + r.val)) (vcol (768 + l.val))) = OB P 2 3 r l := by
  unfold M13
  refine (canonO_skip _ 64 768 0 768 _ _ (by decide) (by decide) (by decide) r l).trans ?_
  refine (canonO_skip _ 64 768 0 512 _ _ (by decide) (by decide) (by decide) r l).trans ?_
  refine (canonO_skip _ 64 768 0 256 _ _ (by decide) (by decide) (by decide) r l).trans ?_
  refine (canonO_skip _ 64 768 0 0 _ _ (by decide) (by decide) (by decide) r l).trans ?_
  refine (canonO_hit _ 64 768 _ _ r l).trans ?_
  rw [o26_apply, in26]
  rfl
/-- The backward output at step 2 and head 2. -/
theorem M13_2_2 (r : Fin 64) (l : Fin 256) : View.canon (Val := Elt Ideal) (M13 P) (ix2 (row (64 + r.val)) (vcol (512 + l.val))) = OB P 2 2 r l := by
  unfold M13
  refine (canonO_skip _ 64 512 0 768 _ _ (by decide) (by decide) (by decide) r l).trans ?_
  refine (canonO_skip _ 64 512 0 512 _ _ (by decide) (by decide) (by decide) r l).trans ?_
  refine (canonO_skip _ 64 512 0 256 _ _ (by decide) (by decide) (by decide) r l).trans ?_
  refine (canonO_skip _ 64 512 0 0 _ _ (by decide) (by decide) (by decide) r l).trans ?_
  refine (canonO_skip _ 64 512 64 768 _ _ (by decide) (by decide) (by decide) r l).trans ?_
  refine (canonO_hit _ 64 512 _ _ r l).trans ?_
  rw [o25_apply, in25]
  rfl
/-- The backward output at step 2 and head 1. -/
theorem M13_2_1 (r : Fin 64) (l : Fin 256) : View.canon (Val := Elt Ideal) (M13 P) (ix2 (row (64 + r.val)) (vcol (256 + l.val))) = OB P 2 1 r l := by
  unfold M13
  refine (canonO_skip _ 64 256 0 768 _ _ (by decide) (by decide) (by decide) r l).trans ?_
  refine (canonO_skip _ 64 256 0 512 _ _ (by decide) (by decide) (by decide) r l).trans ?_
  refine (canonO_skip _ 64 256 0 256 _ _ (by decide) (by decide) (by decide) r l).trans ?_
  refine (canonO_skip _ 64 256 0 0 _ _ (by decide) (by decide) (by decide) r l).trans ?_
  refine (canonO_skip _ 64 256 64 768 _ _ (by decide) (by decide) (by decide) r l).trans ?_
  refine (canonO_skip _ 64 256 64 512 _ _ (by decide) (by decide) (by decide) r l).trans ?_
  refine (canonO_hit _ 64 256 _ _ r l).trans ?_
  rw [o24_apply, in24]
  rfl
/-- The backward output at step 2 and head 0. -/
theorem M13_2_0 (r : Fin 64) (l : Fin 256) : View.canon (Val := Elt Ideal) (M13 P) (ix2 (row (64 + r.val)) (vcol (0 + l.val))) = OB P 2 0 r l := by
  unfold M13
  refine (canonO_skip _ 64 0 0 768 _ _ (by decide) (by decide) (by decide) r l).trans ?_
  refine (canonO_skip _ 64 0 0 512 _ _ (by decide) (by decide) (by decide) r l).trans ?_
  refine (canonO_skip _ 64 0 0 256 _ _ (by decide) (by decide) (by decide) r l).trans ?_
  refine (canonO_skip _ 64 0 0 0 _ _ (by decide) (by decide) (by decide) r l).trans ?_
  refine (canonO_skip _ 64 0 64 768 _ _ (by decide) (by decide) (by decide) r l).trans ?_
  refine (canonO_skip _ 64 0 64 512 _ _ (by decide) (by decide) (by decide) r l).trans ?_
  refine (canonO_skip _ 64 0 64 256 _ _ (by decide) (by decide) (by decide) r l).trans ?_
  refine (canonO_hit _ 64 0 _ _ r l).trans ?_
  rw [o23_apply, in23]
  rfl
/-- The backward output at step 1 and head 3. -/
theorem M13_1_3 (r : Fin 64) (l : Fin 256) : View.canon (Val := Elt Ideal) (M13 P) (ix2 (row (128 + r.val)) (vcol (768 + l.val))) = OB P 1 3 r l := by
  unfold M13
  refine (canonO_skip _ 128 768 0 768 _ _ (by decide) (by decide) (by decide) r l).trans ?_
  refine (canonO_skip _ 128 768 0 512 _ _ (by decide) (by decide) (by decide) r l).trans ?_
  refine (canonO_skip _ 128 768 0 256 _ _ (by decide) (by decide) (by decide) r l).trans ?_
  refine (canonO_skip _ 128 768 0 0 _ _ (by decide) (by decide) (by decide) r l).trans ?_
  refine (canonO_skip _ 128 768 64 768 _ _ (by decide) (by decide) (by decide) r l).trans ?_
  refine (canonO_skip _ 128 768 64 512 _ _ (by decide) (by decide) (by decide) r l).trans ?_
  refine (canonO_skip _ 128 768 64 256 _ _ (by decide) (by decide) (by decide) r l).trans ?_
  refine (canonO_skip _ 128 768 64 0 _ _ (by decide) (by decide) (by decide) r l).trans ?_
  refine (canonO_hit _ 128 768 _ _ r l).trans ?_
  rw [o18_apply, in18]
  rfl
/-- The backward output at step 1 and head 2. -/
theorem M13_1_2 (r : Fin 64) (l : Fin 256) : View.canon (Val := Elt Ideal) (M13 P) (ix2 (row (128 + r.val)) (vcol (512 + l.val))) = OB P 1 2 r l := by
  unfold M13
  refine (canonO_skip _ 128 512 0 768 _ _ (by decide) (by decide) (by decide) r l).trans ?_
  refine (canonO_skip _ 128 512 0 512 _ _ (by decide) (by decide) (by decide) r l).trans ?_
  refine (canonO_skip _ 128 512 0 256 _ _ (by decide) (by decide) (by decide) r l).trans ?_
  refine (canonO_skip _ 128 512 0 0 _ _ (by decide) (by decide) (by decide) r l).trans ?_
  refine (canonO_skip _ 128 512 64 768 _ _ (by decide) (by decide) (by decide) r l).trans ?_
  refine (canonO_skip _ 128 512 64 512 _ _ (by decide) (by decide) (by decide) r l).trans ?_
  refine (canonO_skip _ 128 512 64 256 _ _ (by decide) (by decide) (by decide) r l).trans ?_
  refine (canonO_skip _ 128 512 64 0 _ _ (by decide) (by decide) (by decide) r l).trans ?_
  refine (canonO_skip _ 128 512 128 768 _ _ (by decide) (by decide) (by decide) r l).trans ?_
  refine (canonO_hit _ 128 512 _ _ r l).trans ?_
  rw [o17_apply, in17]
  rfl
/-- The backward output at step 1 and head 1. -/
theorem M13_1_1 (r : Fin 64) (l : Fin 256) : View.canon (Val := Elt Ideal) (M13 P) (ix2 (row (128 + r.val)) (vcol (256 + l.val))) = OB P 1 1 r l := by
  unfold M13
  refine (canonO_skip _ 128 256 0 768 _ _ (by decide) (by decide) (by decide) r l).trans ?_
  refine (canonO_skip _ 128 256 0 512 _ _ (by decide) (by decide) (by decide) r l).trans ?_
  refine (canonO_skip _ 128 256 0 256 _ _ (by decide) (by decide) (by decide) r l).trans ?_
  refine (canonO_skip _ 128 256 0 0 _ _ (by decide) (by decide) (by decide) r l).trans ?_
  refine (canonO_skip _ 128 256 64 768 _ _ (by decide) (by decide) (by decide) r l).trans ?_
  refine (canonO_skip _ 128 256 64 512 _ _ (by decide) (by decide) (by decide) r l).trans ?_
  refine (canonO_skip _ 128 256 64 256 _ _ (by decide) (by decide) (by decide) r l).trans ?_
  refine (canonO_skip _ 128 256 64 0 _ _ (by decide) (by decide) (by decide) r l).trans ?_
  refine (canonO_skip _ 128 256 128 768 _ _ (by decide) (by decide) (by decide) r l).trans ?_
  refine (canonO_skip _ 128 256 128 512 _ _ (by decide) (by decide) (by decide) r l).trans ?_
  refine (canonO_hit _ 128 256 _ _ r l).trans ?_
  rw [o16_apply, in16]
  rfl
/-- The backward output at step 1 and head 0. -/
theorem M13_1_0 (r : Fin 64) (l : Fin 256) : View.canon (Val := Elt Ideal) (M13 P) (ix2 (row (128 + r.val)) (vcol (0 + l.val))) = OB P 1 0 r l := by
  unfold M13
  refine (canonO_skip _ 128 0 0 768 _ _ (by decide) (by decide) (by decide) r l).trans ?_
  refine (canonO_skip _ 128 0 0 512 _ _ (by decide) (by decide) (by decide) r l).trans ?_
  refine (canonO_skip _ 128 0 0 256 _ _ (by decide) (by decide) (by decide) r l).trans ?_
  refine (canonO_skip _ 128 0 0 0 _ _ (by decide) (by decide) (by decide) r l).trans ?_
  refine (canonO_skip _ 128 0 64 768 _ _ (by decide) (by decide) (by decide) r l).trans ?_
  refine (canonO_skip _ 128 0 64 512 _ _ (by decide) (by decide) (by decide) r l).trans ?_
  refine (canonO_skip _ 128 0 64 256 _ _ (by decide) (by decide) (by decide) r l).trans ?_
  refine (canonO_skip _ 128 0 64 0 _ _ (by decide) (by decide) (by decide) r l).trans ?_
  refine (canonO_skip _ 128 0 128 768 _ _ (by decide) (by decide) (by decide) r l).trans ?_
  refine (canonO_skip _ 128 0 128 512 _ _ (by decide) (by decide) (by decide) r l).trans ?_
  refine (canonO_skip _ 128 0 128 256 _ _ (by decide) (by decide) (by decide) r l).trans ?_
  refine (canonO_hit _ 128 0 _ _ r l).trans ?_
  rw [o15_apply, in15]
  rfl
/-- The backward output at step 0 and head 3. -/
theorem M13_0_3 (r : Fin 64) (l : Fin 256) : View.canon (Val := Elt Ideal) (M13 P) (ix2 (row (192 + r.val)) (vcol (768 + l.val))) = OB P 0 3 r l := by
  unfold M13
  refine (canonO_skip _ 192 768 0 768 _ _ (by decide) (by decide) (by decide) r l).trans ?_
  refine (canonO_skip _ 192 768 0 512 _ _ (by decide) (by decide) (by decide) r l).trans ?_
  refine (canonO_skip _ 192 768 0 256 _ _ (by decide) (by decide) (by decide) r l).trans ?_
  refine (canonO_skip _ 192 768 0 0 _ _ (by decide) (by decide) (by decide) r l).trans ?_
  refine (canonO_skip _ 192 768 64 768 _ _ (by decide) (by decide) (by decide) r l).trans ?_
  refine (canonO_skip _ 192 768 64 512 _ _ (by decide) (by decide) (by decide) r l).trans ?_
  refine (canonO_skip _ 192 768 64 256 _ _ (by decide) (by decide) (by decide) r l).trans ?_
  refine (canonO_skip _ 192 768 64 0 _ _ (by decide) (by decide) (by decide) r l).trans ?_
  refine (canonO_skip _ 192 768 128 768 _ _ (by decide) (by decide) (by decide) r l).trans ?_
  refine (canonO_skip _ 192 768 128 512 _ _ (by decide) (by decide) (by decide) r l).trans ?_
  refine (canonO_skip _ 192 768 128 256 _ _ (by decide) (by decide) (by decide) r l).trans ?_
  refine (canonO_skip _ 192 768 128 0 _ _ (by decide) (by decide) (by decide) r l).trans ?_
  refine (canonO_hit _ 192 768 _ _ r l).trans ?_
  rw [o10_apply, in10]
  rfl
/-- The backward output at step 0 and head 2. -/
theorem M13_0_2 (r : Fin 64) (l : Fin 256) : View.canon (Val := Elt Ideal) (M13 P) (ix2 (row (192 + r.val)) (vcol (512 + l.val))) = OB P 0 2 r l := by
  unfold M13
  refine (canonO_skip _ 192 512 0 768 _ _ (by decide) (by decide) (by decide) r l).trans ?_
  refine (canonO_skip _ 192 512 0 512 _ _ (by decide) (by decide) (by decide) r l).trans ?_
  refine (canonO_skip _ 192 512 0 256 _ _ (by decide) (by decide) (by decide) r l).trans ?_
  refine (canonO_skip _ 192 512 0 0 _ _ (by decide) (by decide) (by decide) r l).trans ?_
  refine (canonO_skip _ 192 512 64 768 _ _ (by decide) (by decide) (by decide) r l).trans ?_
  refine (canonO_skip _ 192 512 64 512 _ _ (by decide) (by decide) (by decide) r l).trans ?_
  refine (canonO_skip _ 192 512 64 256 _ _ (by decide) (by decide) (by decide) r l).trans ?_
  refine (canonO_skip _ 192 512 64 0 _ _ (by decide) (by decide) (by decide) r l).trans ?_
  refine (canonO_skip _ 192 512 128 768 _ _ (by decide) (by decide) (by decide) r l).trans ?_
  refine (canonO_skip _ 192 512 128 512 _ _ (by decide) (by decide) (by decide) r l).trans ?_
  refine (canonO_skip _ 192 512 128 256 _ _ (by decide) (by decide) (by decide) r l).trans ?_
  refine (canonO_skip _ 192 512 128 0 _ _ (by decide) (by decide) (by decide) r l).trans ?_
  refine (canonO_skip _ 192 512 192 768 _ _ (by decide) (by decide) (by decide) r l).trans ?_
  refine (canonO_hit _ 192 512 _ _ r l).trans ?_
  rw [o9_apply, in9]
  rfl
/-- The backward output at step 0 and head 1. -/
theorem M13_0_1 (r : Fin 64) (l : Fin 256) : View.canon (Val := Elt Ideal) (M13 P) (ix2 (row (192 + r.val)) (vcol (256 + l.val))) = OB P 0 1 r l := by
  unfold M13
  refine (canonO_skip _ 192 256 0 768 _ _ (by decide) (by decide) (by decide) r l).trans ?_
  refine (canonO_skip _ 192 256 0 512 _ _ (by decide) (by decide) (by decide) r l).trans ?_
  refine (canonO_skip _ 192 256 0 256 _ _ (by decide) (by decide) (by decide) r l).trans ?_
  refine (canonO_skip _ 192 256 0 0 _ _ (by decide) (by decide) (by decide) r l).trans ?_
  refine (canonO_skip _ 192 256 64 768 _ _ (by decide) (by decide) (by decide) r l).trans ?_
  refine (canonO_skip _ 192 256 64 512 _ _ (by decide) (by decide) (by decide) r l).trans ?_
  refine (canonO_skip _ 192 256 64 256 _ _ (by decide) (by decide) (by decide) r l).trans ?_
  refine (canonO_skip _ 192 256 64 0 _ _ (by decide) (by decide) (by decide) r l).trans ?_
  refine (canonO_skip _ 192 256 128 768 _ _ (by decide) (by decide) (by decide) r l).trans ?_
  refine (canonO_skip _ 192 256 128 512 _ _ (by decide) (by decide) (by decide) r l).trans ?_
  refine (canonO_skip _ 192 256 128 256 _ _ (by decide) (by decide) (by decide) r l).trans ?_
  refine (canonO_skip _ 192 256 128 0 _ _ (by decide) (by decide) (by decide) r l).trans ?_
  refine (canonO_skip _ 192 256 192 768 _ _ (by decide) (by decide) (by decide) r l).trans ?_
  refine (canonO_skip _ 192 256 192 512 _ _ (by decide) (by decide) (by decide) r l).trans ?_
  refine (canonO_hit _ 192 256 _ _ r l).trans ?_
  rw [o8_apply, in8]
  rfl
/-- The backward output at step 0 and head 0. -/
theorem M13_0_0 (r : Fin 64) (l : Fin 256) : View.canon (Val := Elt Ideal) (M13 P) (ix2 (row (192 + r.val)) (vcol (0 + l.val))) = OB P 0 0 r l := by
  unfold M13
  refine (canonO_skip _ 192 0 0 768 _ _ (by decide) (by decide) (by decide) r l).trans ?_
  refine (canonO_skip _ 192 0 0 512 _ _ (by decide) (by decide) (by decide) r l).trans ?_
  refine (canonO_skip _ 192 0 0 256 _ _ (by decide) (by decide) (by decide) r l).trans ?_
  refine (canonO_skip _ 192 0 0 0 _ _ (by decide) (by decide) (by decide) r l).trans ?_
  refine (canonO_skip _ 192 0 64 768 _ _ (by decide) (by decide) (by decide) r l).trans ?_
  refine (canonO_skip _ 192 0 64 512 _ _ (by decide) (by decide) (by decide) r l).trans ?_
  refine (canonO_skip _ 192 0 64 256 _ _ (by decide) (by decide) (by decide) r l).trans ?_
  refine (canonO_skip _ 192 0 64 0 _ _ (by decide) (by decide) (by decide) r l).trans ?_
  refine (canonO_skip _ 192 0 128 768 _ _ (by decide) (by decide) (by decide) r l).trans ?_
  refine (canonO_skip _ 192 0 128 512 _ _ (by decide) (by decide) (by decide) r l).trans ?_
  refine (canonO_skip _ 192 0 128 256 _ _ (by decide) (by decide) (by decide) r l).trans ?_
  refine (canonO_skip _ 192 0 128 0 _ _ (by decide) (by decide) (by decide) r l).trans ?_
  refine (canonO_skip _ 192 0 192 768 _ _ (by decide) (by decide) (by decide) r l).trans ?_
  refine (canonO_skip _ 192 0 192 512 _ _ (by decide) (by decide) (by decide) r l).trans ?_
  refine (canonO_skip _ 192 0 192 256 _ _ (by decide) (by decide) (by decide) r l).trans ?_
  refine (canonO_hit _ 192 0 _ _ r l).trans ?_
  rw [o7_apply, in7]
  rfl

/-- The backward output at every step and head. -/
theorem M13_apply : ∀ (t h : Fin 4) (r : Fin 64) (l : Fin 256), View.canon (Val := Elt Ideal) (M13 P) (ix2 (row (64 * (3 - t.val) + r.val)) (vcol (256 * h.val + l.val))) = OB P t.val h.val r l
  | ⟨0, _⟩, ⟨0, _⟩, r, l => M13_0_0 P r l
  | ⟨0, _⟩, ⟨1, _⟩, r, l => M13_0_1 P r l
  | ⟨0, _⟩, ⟨2, _⟩, r, l => M13_0_2 P r l
  | ⟨0, _⟩, ⟨3, _⟩, r, l => M13_0_3 P r l
  | ⟨1, _⟩, ⟨0, _⟩, r, l => M13_1_0 P r l
  | ⟨1, _⟩, ⟨1, _⟩, r, l => M13_1_1 P r l
  | ⟨1, _⟩, ⟨2, _⟩, r, l => M13_1_2 P r l
  | ⟨1, _⟩, ⟨3, _⟩, r, l => M13_1_3 P r l
  | ⟨2, _⟩, ⟨0, _⟩, r, l => M13_2_0 P r l
  | ⟨2, _⟩, ⟨1, _⟩, r, l => M13_2_1 P r l
  | ⟨2, _⟩, ⟨2, _⟩, r, l => M13_2_2 P r l
  | ⟨2, _⟩, ⟨3, _⟩, r, l => M13_2_3 P r l
  | ⟨3, _⟩, ⟨0, _⟩, r, l => M13_3_0 P r l
  | ⟨3, _⟩, ⟨1, _⟩, r, l => M13_3_1 P r l
  | ⟨3, _⟩, ⟨2, _⟩, r, l => M13_3_2 P r l
  | ⟨3, _⟩, ⟨3, _⟩, r, l => M13_3_3 P r l

/-- The last states of the forward direction. -/
theorem finF : ∀ (h : Fin 4) (d : Fin 128) (l : Fin 256), P.arg17.view.readCov (Val := Elt Ideal) (H34 P) (Rect.unit (s := S2x4x128x256) ![0, 0, 0, 0] S1x4x128x256.size inb_S2x4x128x256_S1x4x128x256_0_0_0_0).toLoadRect (ix4 0 h d l) = SF P h.val 4 d l
  | ⟨0, _⟩, d, l => (rc_half P.arg17.view (H34 P) 0 0 (by decide) inb_S2x4x128x256_S1x4x128x256_0_0_0_0 inb_S2x4x128x256_S1x1x128x256_0_0_0_0 d l).trans (congrFun (congrFun (in35 P) d) l)
  | ⟨1, _⟩, d, l => (rc_half P.arg17.view (H34 P) 0 1 (by decide) inb_S2x4x128x256_S1x4x128x256_0_0_0_0 inb_S2x4x128x256_S1x1x128x256_0_1_0_0 d l).trans (congrFun (congrFun (in36 P) d) l)
  | ⟨2, _⟩, d, l => (rc_half P.arg17.view (H34 P) 0 2 (by decide) inb_S2x4x128x256_S1x4x128x256_0_0_0_0 inb_S2x4x128x256_S1x1x128x256_0_2_0_0 d l).trans (congrFun (congrFun (in37 P) d) l)
  | ⟨3, _⟩, d, l => (rc_half P.arg17.view (H34 P) 0 3 (by decide) inb_S2x4x128x256_S1x4x128x256_0_0_0_0 inb_S2x4x128x256_S1x1x128x256_0_3_0_0 d l).trans (congrFun (congrFun (in38 P) d) l)
/-- The last states of the backward direction. -/
theorem finB : ∀ (h : Fin 4) (d : Fin 128) (l : Fin 256), P.arg17.view.readCov (Val := Elt Ideal) (H34 P) (Rect.unit (s := S2x4x128x256) ![1, 0, 0, 0] S1x4x128x256.size inb_S2x4x128x256_S1x4x128x256_1_0_0_0).toLoadRect (ix4 0 h d l) = SB P h.val 4 d l
  | ⟨0, _⟩, d, l => (rc_half P.arg17.view (H34 P) 1 0 (by decide) inb_S2x4x128x256_S1x4x128x256_1_0_0_0 inb_S2x4x128x256_S1x1x128x256_1_0_0_0 d l).trans (congrFun (congrFun (in39 P) d) l)
  | ⟨1, _⟩, d, l => (rc_half P.arg17.view (H34 P) 1 1 (by decide) inb_S2x4x128x256_S1x4x128x256_1_0_0_0 inb_S2x4x128x256_S1x1x128x256_1_1_0_0 d l).trans (congrFun (congrFun (in40 P) d) l)
  | ⟨2, _⟩, d, l => (rc_half P.arg17.view (H34 P) 1 2 (by decide) inb_S2x4x128x256_S1x4x128x256_1_0_0_0 inb_S2x4x128x256_S1x1x128x256_1_2_0_0 d l).trans (congrFun (congrFun (in41 P) d) l)
  | ⟨3, _⟩, d, l => (rc_half P.arg17.view (H34 P) 1 3 (by decide) inb_S2x4x128x256_S1x4x128x256_1_0_0_0 inb_S2x4x128x256_S1x1x128x256_1_3_0_0 d l).trans (congrFun (congrFun (in42 P) d) l)

end

section
variable (c : Dev nD) (i : grid0.Coords) (arg1 : Memref sig .tc .vmem S256x2048 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x2048 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S128x512 .bf16) (harg9 : arg9.IsWhole) (arg10 : Memref sig .tc .vmem S1x512 .f32) (harg10 : arg10.IsWhole) (arg11 : Memref sig .tc .vmem S4x128x256 .f32) (harg11 : arg11.IsWhole) (arg12 : Memref sig .tc .vmem S4x128x256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S4x128x256 .f32) (harg15 : arg15.IsWhole) (arg16 : Memref sig .tc .vmem S4x128x256 .f32) (harg16 : arg16.IsWhole) (arg17 : Memref sig .tc .vmem S2x4x128x256 .f32) (harg17 : arg17.IsWhole) (arg18 : Memref sig .tc .vmem S2x256x512 .f32) (harg18 : arg18.IsWhole) (hc0 : cond0_0 i) (hc1 : cond0_1 i)
    (x0 : Vec Ideal S256x2048 .bf16) (x1 : Vec Ideal S256x128 .bf16) (x2 : Vec Ideal S256x128 .bf16) (x3 : Vec Ideal S256x2048 .bf16) (x4 : Vec Ideal S256x128 .bf16) (x5 : Vec Ideal S256x128 .bf16) (x6 : Vec Ideal S128x512 .bf16) (x7 : Vec Ideal S1x512 .f32) (x8 : Vec Ideal S128x512 .bf16) (x9 : Vec Ideal S1x512 .f32) (x10 : Vec Ideal S4x128x256 .f32) (x11 : Vec Ideal S4x128x256 .f32)

/-- The stores that fill the forward output. -/
theorem pieces12 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).1 = M12 ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ := rfl

/-- The forward output block. -/
theorem block12 (t h : Fin 4) (r : Fin 64) (l : Fin 256) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 (ix2 (row (64 * t.val + r.val)) (vcol (256 * h.val + l.val))) = OF ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ t.val h.val r l := by
  unfold out0_A_12
  rw [View.read_writes_junk_eq_canon, pieces12]
  exact M12_apply ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ t h r l

/-- The stores that fill the backward output. -/
theorem pieces13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.1 = M13 ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ := rfl

/-- The backward output block. -/
theorem block13 (t h : Fin 4) (r : Fin 64) (l : Fin 256) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 (ix2 (row (64 * (3 - t.val) + r.val)) (vcol (256 * h.val + l.val))) = OB ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ t.val h.val r l := by
  unfold out0_A_13
  rw [View.read_writes_junk_eq_canon, pieces13]
  exact M13_apply ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ t h r l

/-- The stores that fill the forward last state. -/
theorem pieces14 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.1 = [⟨Rect.unit (s := S4x128x256) ![0, 0, 0] S4x128x256.size inb_S4x128x256_S4x128x256_0_0_0, k0_pay2 (arg17.view.readCov (Val := Elt Ideal) (H34 ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩) (Rect.unit (s := S2x4x128x256) ![0, 0, 0, 0] S1x4x128x256.size inb_S2x4x128x256_S1x4x128x256_0_0_0_0).toLoadRect)⟩] := rfl

/-- The forward last state block. -/
theorem block14 (h : Fin 4) (d : Fin 128) (l : Fin 256) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 (ix3 h d l) = SF ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ h.val 4 d l := by
  unfold out0_A_14
  rw [View.read_writes_junk_eq_canon, pieces14]
  exact (canonS _ _ _).trans ((pay2_apply _ h d l).trans (finF ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ h d l))

/-- The stores that fill the backward last state. -/
theorem pieces15 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1 = [⟨Rect.unit (s := S4x128x256) ![0, 0, 0] S4x128x256.size inb_S4x128x256_S4x128x256_0_0_0, k0_pay3 (arg17.view.readCov (Val := Elt Ideal) (H34 ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩) (Rect.unit (s := S2x4x128x256) ![1, 0, 0, 0] S1x4x128x256.size inb_S2x4x128x256_S1x4x128x256_1_0_0_0).toLoadRect)⟩] := rfl

/-- The backward last state block. -/
theorem block15 (h : Fin 4) (d : Fin 128) (l : Fin 256) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 (ix3 h d l) = SB ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ h.val 4 d l := by
  unfold out0_A_15
  rw [View.read_writes_junk_eq_canon, pieces15]
  exact (canonS _ _ _).trans ((pay3_apply _ h d l).trans (finB ⟨c, arg1, harg1, arg2, harg2, arg4, harg4, arg5, harg5, arg7, harg7, arg8, harg8, arg9, harg9, arg10, harg10, arg11, harg11, arg12, harg12, arg17, harg17, arg18, harg18, x0, x1, x3, x4, x6, x7, x8, x9, x10, x11⟩ h d l))

end
end Cert.GlaIdeal.Hand
-- ==== Proof.GlaRes.lean ====
module

public import proofs.«01_k».proof.Proof.GlaScanF
public import proofs.«01_k».proof.Proof.GlaScanB
public import proofs.«01_k».proof.Proof.GlaRows
public import proofs.«01_k».proof.Proof.GlaOut

/-! The reference's results, and what its scans take in, by row. Going backwards a row is counted from the end. -/

@[expose] public section
set_option maxRecDepth 16384
noncomputable section
open Idealize.ShloMosaic Idealize.ShloMosaic.Pointwise Idealize.ShloMosaic.TcCoe

namespace Cert.GlaRefIdeal.Hand
open Cert.GlaRefIdeal Cert.GlaRefIdeal.Gen Cert.GlaRefIdeal.Read
open Cert.GlaIdeal.Hand (row col wide scale gate vcol)

variable (x0 : (⟨S256x2048, .bf16⟩ : BufTy).Contents (Elt Ideal)) (x1 : (⟨S256x128, .bf16⟩ : BufTy).Contents (Elt Ideal)) (x2 : (⟨S1x16x512, .f32⟩ : BufTy).Contents (Elt Ideal)) (x3 : (⟨S1x512, .f32⟩ : BufTy).Contents (Elt Ideal)) (x4 : (⟨S1x16x512, .f32⟩ : BufTy).Contents (Elt Ideal)) (x5 : (⟨S1x512, .f32⟩ : BufTy).Contents (Elt Ideal)) (x6 : (⟨S4x128x256, .f32⟩ : BufTy).Contents (Elt Ideal)) (x7 : (⟨S4x128x256, .f32⟩ : BufTy).Contents (Elt Ideal))

/-- The row of chunk `t`'s row `i`, going forwards and going backwards. -/
def fwd (t : Fin 4) (i : Fin 64) : Fin 256 := ⟨64 * t.val + i.val, by omega⟩
/-- The row that the reversed order meets at a step and a place. -/
def bwd (t : Fin 4) (i : Fin 64) : Fin 256 := row (64 * (3 - t.val) + (Fin.rev i).val)

/-- That row counts from the end. -/
theorem bwd_val (t : Fin 4) (i : Fin 64) : (bwd t i).val = 255 - (64 * t.val + i.val) := by
  show (64 * (3 - t.val) + (64 - (i.val + 1))) % 256 = _
  omega

/-- Reversing the rows of an array with heads 128 wide. -/
theorem rev128 (X : FVec Ideal S1x256x4x128 .f32) (t : Fin 4) (i : Fin 64) (h : Fin 4) (d : Fin 128) :
    Host.reverse [1] X (ix4 0 (fwd t i) h d) = X (ix4 0 (bwd t i) h d) := by
  show X _ = X _
  congr 1
  funext a
  have hb := bwd_val t i
  fin_cases a
  · rfl
  · apply Fin.ext
    refine Eq.trans ?_ hb.symm
    show 256 - (64 * t.val + i.val + 1) = _
    omega
  · rfl
  · rfl

/-- Reversing the rows of an array with heads 256 wide. -/
theorem rev256 (X : FVec Ideal S1x256x4x256 .f32) (t : Fin 4) (i : Fin 64) (h : Fin 4) (l : Fin 256) :
    Host.reverse [1] X (ix4 0 (fwd t i) h l) = X (ix4 0 (bwd t i) h l) := by
  show X _ = X _
  congr 1
  funext a
  have hb := bwd_val t i
  fin_cases a
  · rfl
  · apply Fin.ext
    refine Eq.trans ?_ hb.symm
    show 256 - (64 * t.val + i.val + 1) = _
    omega
  · rfl
  · rfl

/-- Reversing the rows of an array with heads 256 wide, the other way round. -/
theorem rev256' (X : FVec Ideal S1x256x4x256 .f32) (t : Fin 4) (i : Fin 64) (h : Fin 4) (l : Fin 256) :
    Host.reverse [1] X (ix4 0 (bwd t i) h l) = X (ix4 0 (fwd t i) h l) := by
  show X _ = X _
  congr 1
  funext a
  have hb := bwd_val t i
  fin_cases a
  · rfl
  · apply Fin.ext
    show 256 - ((bwd t i).val + 1) = 64 * t.val + i.val
    omega
  · rfl
  · rfl

/-- The queries of a chunk, forward. -/
theorem qF (h t : Fin 4) (i : Fin 64) (d : Fin 128) : (chF x0 x1 x2 x3 x6).q h t i d = (x0 (ix2 (fwd t i) (wide (128 * h.val + d.val))) : EReal) * scale := by
  show val_main_v36 (F := Ideal) x0 (ix5 0 h t i d) = _
  have e : ∀ r : Fin 256, r.val = 64 * t.val + i.val → idx_main_v35 (idx_main_v36 (ix5 0 h t i d)) = ix4 0 r h d := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v36_apply, val_main_v35_apply, e (fwd t i) rfl]
  exact q_row x0 _ _ _

/-- The keys of a chunk, forward. -/
theorem kF (h t : Fin 4) (i : Fin 64) (d : Fin 128) : (chF x0 x1 x2 x3 x6).k h t i d = x0 (ix2 (fwd t i) (wide (512 + 128 * h.val + d.val))) := by
  show val_main_v38 (F := Ideal) x0 (ix5 0 h t i d) = _
  have e : ∀ r : Fin 256, r.val = 64 * t.val + i.val → idx_main_v37 (idx_main_v38 (ix5 0 h t i d)) = ix4 0 r h d := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v38_apply, val_main_v37_apply, e (fwd t i) rfl]
  exact k_row x0 _ _ _

/-- The values of a chunk, forward. -/
theorem vF (h t : Fin 4) (i : Fin 64) (l : Fin 256) : (chF x0 x1 x2 x3 x6).v h t i l = x0 (ix2 (fwd t i) (wide (1024 + 256 * h.val + l.val))) := by
  show val_main_v40 (F := Ideal) x0 (ix5 0 h t i l) = _
  have e : ∀ r : Fin 256, r.val = 64 * t.val + i.val → idx_main_v39 (idx_main_v40 (ix5 0 h t i l)) = ix4 0 r h l := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v40_apply, val_main_v39_apply, e (fwd t i) rfl]
  exact v_row x0 _ _ _

/-- The gates of a chunk, forward. -/
theorem gF (h t : Fin 4) (i : Fin 64) (d : Fin 128) : (chF x0 x1 x2 x3 x6).g h t i d = gate (lgtF x1 x2 x3 (fwd t i) (col (128 * h.val + d.val))) := by
  show val_main_v42 (F := Ideal) x1 x2 x3 (ix5 0 h t i d) = _
  have e : ∀ r : Fin 256, r.val = 64 * t.val + i.val → idx_main_v41 (idx_main_v42 (ix5 0 h t i d)) = ix4 0 r h d := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v42_apply, val_main_v41_apply, e (fwd t i) rfl]
  exact gF_row x1 x2 x3 _ _ _

/-- The output going forwards. -/
theorem outF (h t : Fin 4) (i : Fin 64) (l : Fin 256) : val_main_v181 (F := Ideal) x0 x1 x2 x3 x6 (ix2 (fwd t i) (vcol (256 * h.val + l.val))) = outc (chF x0 x1 x2 x3 x6) h t (st (chF x0 x1 x2 x3 x6) h t.val) i l := by
  have hv : (vcol (256 * h.val + l.val)).val = 256 * h.val + l.val := by
    show (256 * h.val + l.val) % 1024 = _
    omega
  have e : idx_main_v176 (idx_main_v177 (ix2 (fwd t i) (vcol (256 * h.val + l.val)))) = ix4 0 (fwd t i) h l := by
    generalize vcol (256 * h.val + l.val) = w at hv
    generalize fwd t i = r
    funext a; fin_cases a <;> (apply Fin.ext; first | rfl | (simp only [ix2, ix3, ix4, ix5]; omega) | (dsimp [ix2, ix3, ix4, ix5]; omega) | (dsimp [ix2, ix3, ix4, ix5, fwd]; omega))
  rw [val_main_v181_apply, val_main_v177_apply, val_main_v176_apply, e]
  exact v102F x0 x1 x2 x3 x6 h t i l

/-- The last state. -/
theorem lastF (h : Fin 4) (d : Fin 128) (l : Fin 256) : val_main_v183 (F := Ideal) x0 x1 x2 x3 x6 (ix3 h d l) = st (chF x0 x1 x2 x3 x6) h 4 d l := by
  have e : idx_main_v183 (ix3 h d l) = ix4 0 h d l := by
    funext a; fin_cases a <;> (apply Fin.ext; first | rfl | (simp only [ix2, ix3, ix4, ix5]; omega) | (dsimp [ix2, ix3, ix4, ix5]; omega) | (dsimp [ix2, ix3, ix4, ix5, fwd]; omega))
  rw [val_main_v183_apply, e]
  exact v93F x0 x1 x2 x3 x6 h d l

/-- The queries of a chunk, backward. -/
theorem qB (h t : Fin 4) (i : Fin 64) (d : Fin 128) : (chB x0 x1 x4 x5 x7).q h t i d = (x0 (ix2 (bwd t i) (wide (128 * h.val + d.val))) : EReal) * scale := by
  show val_main_v109 (F := Ideal) x0 (ix5 0 h t i d) = _
  have e : ∀ r : Fin 256, r.val = 64 * t.val + i.val → idx_main_v108 (idx_main_v109 (ix5 0 h t i d)) = ix4 0 r h d := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v109_apply, val_main_v108_apply, e (fwd t i) rfl]
  unfold val_main_v103
  exact (rev128 _ t i h d).trans (q_row x0 _ _ _)

/-- The keys of a chunk, backward. -/
theorem kB (h t : Fin 4) (i : Fin 64) (d : Fin 128) : (chB x0 x1 x4 x5 x7).k h t i d = x0 (ix2 (bwd t i) (wide (512 + 128 * h.val + d.val))) := by
  show val_main_v111 (F := Ideal) x0 (ix5 0 h t i d) = _
  have e : ∀ r : Fin 256, r.val = 64 * t.val + i.val → idx_main_v110 (idx_main_v111 (ix5 0 h t i d)) = ix4 0 r h d := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v111_apply, val_main_v110_apply, e (fwd t i) rfl]
  unfold val_main_v104
  exact (rev128 _ t i h d).trans (k_row x0 _ _ _)

/-- The values of a chunk, backward. -/
theorem vB (h t : Fin 4) (i : Fin 64) (l : Fin 256) : (chB x0 x1 x4 x5 x7).v h t i l = x0 (ix2 (bwd t i) (wide (1024 + 256 * h.val + l.val))) := by
  show val_main_v113 (F := Ideal) x0 (ix5 0 h t i l) = _
  have e : ∀ r : Fin 256, r.val = 64 * t.val + i.val → idx_main_v112 (idx_main_v113 (ix5 0 h t i l)) = ix4 0 r h l := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v113_apply, val_main_v112_apply, e (fwd t i) rfl]
  unfold val_main_v105
  exact (rev256 _ t i h l).trans (v_row x0 _ _ _)

/-- The gates of a chunk, backward. -/
theorem gB (h t : Fin 4) (i : Fin 64) (d : Fin 128) : (chB x0 x1 x4 x5 x7).g h t i d = gate (lgtB x1 x4 x5 (bwd t i) (col (128 * h.val + d.val))) := by
  show val_main_v115 (F := Ideal) x1 x4 x5 (ix5 0 h t i d) = _
  have e : ∀ r : Fin 256, r.val = 64 * t.val + i.val → idx_main_v114 (idx_main_v115 (ix5 0 h t i d)) = ix4 0 r h d := by
    intro r hr
    funext a; fin_cases a <;> (apply Fin.ext; first | rfl | (simp only [ix2, ix3, ix4, ix5]; omega) | (dsimp [ix2, ix3, ix4, ix5]; omega) | (dsimp [ix2, ix3, ix4, ix5, fwd]; omega))
  rw [val_main_v115_apply, val_main_v114_apply, e (fwd t i) rfl]
  unfold val_main_v106
  exact (rev128 _ t i h d).trans (gB_row x1 x4 x5 _ _ _)

/-- The output going backwards. -/
theorem outB (h t : Fin 4) (i : Fin 64) (l : Fin 256) : val_main_v182 (F := Ideal) x0 x1 x4 x5 x7 (ix2 (bwd t i) (vcol (256 * h.val + l.val))) = outc (chB x0 x1 x4 x5 x7) h t (st (chB x0 x1 x4 x5 x7) h t.val) i l := by
  have hv : (vcol (256 * h.val + l.val)).val = 256 * h.val + l.val := by
    show (256 * h.val + l.val) % 1024 = _
    omega
  have e : idx_main_v179 (idx_main_v180 (ix2 (bwd t i) (vcol (256 * h.val + l.val)))) = ix4 0 (bwd t i) h l := by
    generalize vcol (256 * h.val + l.val) = w at hv
    generalize bwd t i = r
    funext a; fin_cases a <;> (apply Fin.ext; first | rfl | (simp only [ix2, ix3, ix4, ix5]; omega) | (dsimp [ix2, ix3, ix4, ix5]; omega) | (dsimp [ix2, ix3, ix4, ix5, fwd]; omega))
  rw [val_main_v182_apply, val_main_v180_apply, val_main_v179_apply, e]
  unfold val_main_v178
  exact (rev256' _ t i h l).trans (v102B x0 x1 x4 x5 x7 h t i l)

/-- The last state. -/
theorem lastB (h : Fin 4) (d : Fin 128) (l : Fin 256) : val_main_v184 (F := Ideal) x0 x1 x4 x5 x7 (ix3 h d l) = st (chB x0 x1 x4 x5 x7) h 4 d l := by
  have e : idx_main_v184 (ix3 h d l) = ix4 0 h d l := by
    funext a; fin_cases a <;> (apply Fin.ext; first | rfl | (simp only [ix2, ix3, ix4, ix5]; omega) | (dsimp [ix2, ix3, ix4, ix5]; omega) | (dsimp [ix2, ix3, ix4, ix5, fwd]; omega))
  rw [val_main_v184_apply, e]
  exact v93B x0 x1 x4 x5 x7 h d l
end Cert.GlaRefIdeal.Hand
-- ==== Proof.GlaEq.lean ====
module

public import proofs.«01_k».proof.Proof.GlaChunk
public import proofs.«01_k».proof.Proof.GlaGate

/-! A step of the kernel's recurrence is a step of the reference's: the kernel keeps the running sums of the decays in
units of the logarithm of two, and going backwards it keeps the rows of a chunk in their places and turns the test round. -/

@[expose] public section
noncomputable section
open Idealize.ShloMosaic Idealize.ShloMosaic.Pointwise

namespace Cert.GlaRefIdeal.Hand
open Cert.GlaIdeal.Hand

variable (C : Ch) (X : Vec Ideal Cert.GlaIdeal.S256x2048 .bf16) (M : Vec Ideal Cert.GlaIdeal.S1x256x512 .f32) (h t : Fin 4) (b : ℕ) (π : Fin 64 ≃ Fin 64)

/-- What a chunk of the kernel's rows holds of a chunk of the reference's: row `i` there is row `π i` here. -/
structure Same : Prop where
  q : ∀ i d, C.q h t i d = X (ix2 (row (b + (π i).val)) (wide (128 * h.val + d.val))) * scale
  k : ∀ i d, C.k h t i d = X (ix2 (row (b + (π i).val)) (wide (512 + 128 * h.val + d.val)))
  v : ∀ i l, C.v h t i l = X (ix2 (row (b + (π i).val)) (wide (1024 + 256 * h.val + l.val)))
  m : ∀ i (d : Fin 128), M (ix3 0 (row (b + (π i).val)) (col (128 * h.val + d.val))) = cum C h t i d * (((Real.log 2)⁻¹ : ℝ) : EReal)

variable {C X M h t b π}

/-- The next state of a kernel step is the one of the chunk. -/
theorem next_eq (H : Same C X M h t b π) (o : ℕ) (ho : o = (π 63).val) (S : Fin 128 → Fin 256 → EReal) (d : Fin 128) (l : Fin 256) :
    stepSt X M b o h.val S d l = next C h t S d l := by
  subst ho
  unfold stepSt next
  rw [H.m, exp2_scaled, ← Equiv.sum_comp π]
  refine congrArg₂ (· + ·) rfl (Finset.sum_congr rfl fun j _ => ?_)
  rw [H.m, sub_scaled _ _ (inv_pos.2 (Real.log_pos (by norm_num))), exp2_scaled, H.k, H.v]

/-- The output of a kernel step is the one of the chunk. -/
theorem out_eq (H : Same C X M h t b π) (rev : Bool) (hr : ∀ i j : Fin 64, sees rev (π i) (π j) = true ↔ j.val ≤ i.val)
    (S : Fin 128 → Fin 256 → EReal) (i : Fin 64) (l : Fin 256) :
    stepOut rev X M b h.val S (π i) l = outc C h t S i l := by
  unfold stepOut outc
  rw [← Equiv.sum_comp π]
  refine congrArg₂ (· + ·) (Finset.sum_congr rfl fun j _ => ?_) (Finset.sum_congr rfl fun d _ => ?_)
  · rw [H.v]
    refine congrArg (· * _) ?_
    have e : (∑ d : Fin 128, (X (ix2 (row (b + (π i).val)) (wide (128 * h.val + d.val))) * scale * Ideal.exp2 (M (ix3 0 (row (b + (π i).val)) (col (128 * h.val + d.val)))))
        * (X (ix2 (row (b + (π j).val)) (wide (512 + 128 * h.val + d.val))) * Ideal.exp2 (-(M (ix3 0 (row (b + (π j).val)) (col (128 * h.val + d.val)))))))
        = ∑ d : Fin 128, C.q h t i d * Ideal.exp (cum C h t i d) * (C.k h t j d * Ideal.exp (-cum C h t j d)) := by
      refine Finset.sum_congr rfl fun d _ => ?_
      rw [H.m, H.m, exp2_scaled, neg_scaled, exp2_scaled, H.q, H.k]
    by_cases hj : j.val ≤ i.val
    · rw [if_pos hj, if_pos ((hr i j).2 hj), e]
    · rw [if_neg hj, if_neg fun hs => hj ((hr i j).1 hs)]
  · rw [H.m, exp2_scaled, H.q]

end Cert.GlaRefIdeal.Hand
-- ==== Proof.GlaCum.lean ====
module

public import proofs.«01_k».proof.Proof.GlaNames
public import proofs.«01_k».proof.Proof.GlaGate

/-! The running sums of the decays' logarithms that the kernel keeps, read at a row of a chunk. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

/-- The kernel's test that two rows are of one chunk. -/
noncomputable def rowChunk : IVec S256x256 32 := kernelRun0_A.sl.v1484
/-- The same test's other side. -/
noncomputable def colChunk : IVec S256x256 32 := select (andi kernelRun0_A.sl.v1500 kernelRun0_A.sl.v1504) (subi (divsi kernelRun0_A.sl.v1460 kernelRun0_A.sl.v1461) kernelRun0_A.sl.v1475) (divsi kernelRun0_A.sl.v1460 kernelRun0_A.sl.v1461)
/-- The rows a row sums over, going forwards and going backwards. -/
noncomputable def triF : IVec S256x256 1 := andi (cmpi .eq rowChunk colChunk) (cmpi .sle kernelRun0_A.sl.v1460 kernelRun0_A.sl.v1459)
/-- The mask of the backward running sum. -/
noncomputable def triB : IVec S256x256 1 := andi (cmpi .eq rowChunk colChunk) (cmpi .sge kernelRun0_A.sl.v1460 kernelRun0_A.sl.v1459)

/-- The number of the chunk of a row. -/
theorem rowChunk_apply (r j : Fin 256) : rowChunk (ix2 r j) = BitVec.ofNat 32 (r.val / 64) := by
  revert r
  have h : ∀ r : Fin 256, rowChunk (ix2 r j) = rowChunk (ix2 r 0) := fun r => rfl
  simp only [h]
  decide +kernel
/-- The number of the chunk of a column. -/
theorem colChunk_apply (r j : Fin 256) : colChunk (ix2 r j) = BitVec.ofNat 32 (j.val / 64) := by
  revert j
  have h : ∀ j : Fin 256, colChunk (ix2 r j) = colChunk (ix2 0 j) := fun r => rfl
  simp only [h]
  decide +kernel

/-- Small numbers are equal as words when they are equal. -/
theorem bv_eq {a b : ℕ} (ha : a < 256) (hb : b < 256) : (BitVec.ofNat 32 a = BitVec.ofNat 32 b) ↔ a = b := by
  rw [← BitVec.toNat_inj, BitVec.toNat_ofNat, BitVec.toNat_ofNat]
  omega
/-- Small numbers are ordered as words as they are as numbers. -/
theorem bv_sle {a b : ℕ} (ha : a < 256) (hb : b < 256) : (BitVec.ofNat 32 a).sle (BitVec.ofNat 32 b) = decide (a ≤ b) := by
  have e : ∀ n < 256, (BitVec.ofNat 32 n).toInt = (n : Int) := fun n hn => by
    rw [BitVec.toInt_eq_toNat_of_lt (by rw [BitVec.toNat_ofNat]; omega), BitVec.toNat_ofNat, Nat.mod_eq_of_lt (by omega)]
  rw [BitVec.sle, e a ha, e b hb]
  simp

/-- The row number at an index. -/
theorem rowOf_apply (r x : Fin 256) : kernelRun0_A.sl.v1459 (ix2 r x) = BitVec.ofNat 32 r.val := by
  show BitVec.ofNat 32 (0 * 256 + r.val) = _
  rw [Nat.zero_mul, zero_add]
/-- The column number at an index. -/
theorem colOf_apply (r x : Fin 256) : kernelRun0_A.sl.v1460 (ix2 r x) = BitVec.ofNat 32 x.val := by
  show BitVec.ofNat 32 (0 * 256 + x.val) = _
  rw [Nat.zero_mul, zero_add]

/-- The forward mask holds on earlier rows of the same chunk. -/
theorem triF_apply (r x : Fin 256) (a b : EReal) :
    Scalar.select (triF (ix2 r x)) a b = if x.val / 64 = r.val / 64 ∧ x.val ≤ r.val then a else b := by
  have h : triF (ix2 r x) = BitVec.ofBool (rowChunk (ix2 r x) == colChunk (ix2 r x)) &&& BitVec.ofBool ((kernelRun0_A.sl.v1460 (ix2 r x)).sle (kernelRun0_A.sl.v1459 (ix2 r x))) := rfl
  rw [h, rowChunk_apply, colChunk_apply, rowOf_apply, colOf_apply, bv_sle x.isLt r.isLt]
  have e : (BitVec.ofNat 32 (r.val / 64) == BitVec.ofNat 32 (x.val / 64)) = decide (x.val / 64 = r.val / 64) := by
    rw [beq_eq_decide]
    exact Bool.decide_congr ((bv_eq (by omega) (by omega)).trans eq_comm)
  rw [e]
  by_cases h1 : x.val / 64 = r.val / 64 <;> by_cases h2 : x.val ≤ r.val <;> simp [h1, h2, Scalar.select]

/-- The backward mask holds on later rows of the same chunk. -/
theorem triB_apply (r x : Fin 256) (a b : EReal) :
    Scalar.select (triB (ix2 r x)) a b = if x.val / 64 = r.val / 64 ∧ r.val ≤ x.val then a else b := by
  have h : triB (ix2 r x) = BitVec.ofBool (rowChunk (ix2 r x) == colChunk (ix2 r x)) &&& BitVec.ofBool ((kernelRun0_A.sl.v1459 (ix2 r x)).sle (kernelRun0_A.sl.v1460 (ix2 r x))) := rfl
  rw [h, rowChunk_apply, colChunk_apply, rowOf_apply, colOf_apply, bv_sle r.isLt x.isLt]
  have e : (BitVec.ofNat 32 (r.val / 64) == BitVec.ofNat 32 (x.val / 64)) = decide (x.val / 64 = r.val / 64) := by
    rw [beq_eq_decide]
    exact Bool.decide_congr ((bv_eq (by omega) (by omega)).trans eq_comm)
  rw [e]
  by_cases h1 : x.val / 64 = r.val / 64 <;> by_cases h2 : r.val ≤ x.val <;> simp [h1, h2, Scalar.select]

/-- The logit of the decay at row `r` and column `l`. -/
def logit (L : Vec Ideal S256x128 .bf16) (W : Vec Ideal S128x512 .bf16) (B : Vec Ideal S1x512 .f32) (r : Fin 256) (l : Fin 512) : EReal :=
  (∑ x : Fin 128, L (ix2 r x) * W (ix2 x l)) + B (ix2 0 l)

/-- The gate block at an index. -/
theorem pay14_apply (L : Vec Ideal S256x128 .bf16) (W : Vec Ideal S128x512 .bf16) (B : Vec Ideal S1x512 .f32) (r : Fin 256) (l : Fin 512) :
    k0_pay14 (F := Ideal) L W B (ix2 r l) = gate (logit L W B r l) := by
  rw [← gate_kernel]
  pointwise [k0_pay14]
  rfl

/-- The named constant is one over the logarithm of two. -/
theorem kappa : (Named.named (F := Ideal) κ "log2_e" (φ := .f32) 0x3FB8AA3B#32 : EReal) = (((Real.log 2)⁻¹ : ℝ) : EReal) :=
  IdealRules.named_const.ideal_named_scalar _ _ _ _ rfl

/-- The kernel's running sum, under a mask. -/
def cumOf (m : IVec S256x256 1) (A B : FVec Ideal S256x512 .bf16) : Vec Ideal S1x256x512 .f32 :=
  shapeCast S1x256x512 (mulf (F := Ideal) (addf
      (matmul dot_S256x256_S256x512_S256x512_1_0_0_1_n_n none (truncf .bf16 (select m (broadcast S256x256 (Scalar.ofBits .f32 0x3F800000#32)) (broadcast S256x256 (Scalar.ofBits .f32 0x00000000#32))) bitsLt_bf16_f32) A (constant S256x512 .f32 0x00000000#32))
      (matmul dot_S256x256_S256x512_S256x512_1_0_0_1_n_n none (truncf .bf16 (select m (broadcast S256x256 (Scalar.ofBits .f32 0x3F800000#32)) (broadcast S256x256 (Scalar.ofBits .f32 0x00000000#32))) bitsLt_bf16_f32) B (constant S256x512 .f32 0x00000000#32)))
      (broadcast S256x512 (Named.named (F := Ideal) κ "log2_e" (φ := .f32) 0x3FB8AA3B#32))) shapeCasts_S256x512_S1x256x512

/-- The running sum is a sum of gates over one chunk, in units of the logarithm of two. -/
theorem cumOf_apply (m : IVec S256x256 1) (L : Vec Ideal S256x128 .bf16) (W : Vec Ideal S128x512 .bf16) (B : Vec Ideal S1x512 .f32) (r : Fin 256) (l : Fin 512)
    (p : Fin 256 → Prop) [DecidablePred p]
    (hm : ∀ (x : Fin 256) (a b : EReal), Scalar.select (m (ix2 r x)) a b = if p x then a else b) :
    cumOf m (k0_pay15 L W B) (k0_pay16 L W B) (ix3 0 r l) = (∑ x : Fin 256, if p x then gate (logit L W B x l) else 0) * (((Real.log 2)⁻¹ : ℝ) : EReal) := by
  rw [← hi_lo p (fun x => gate (logit L W B x l)) (fun x => gate_ne_top _), ← kappa]
  have hA : ∀ x : Fin 256, (k0_pay15 L W B : FVec Ideal S256x512 .bf16) (ix2 x l) = gate (logit L W B x l) := fun x => pay14_apply L W B x l
  have hB : ∀ x : Fin 256, (k0_pay16 L W B : FVec Ideal S256x512 .bf16) (ix2 x l) = gate (logit L W B x l) - gate (logit L W B x l) :=
    fun x => congrArg (fun v : EReal => v - v) (pay14_apply L W B x l)
  generalize (k0_pay15 L W B : FVec Ideal S256x512 .bf16) = A at hA ⊢
  generalize (k0_pay16 L W B : FVec Ideal S256x512 .bf16) = A' at hB ⊢
  pointwise [cumOf]
  simp only [hm, hA, hB]

/-- Reading the whole block of gate inputs gives the block. -/
theorem rL (M : Memref sig .tc .vmem S256x128 .bf16) (hM : M.IsWhole) (X : Vec Ideal S256x128 .bf16) :
    (View.readAt (Elt Ideal) M.view (Rect.unit (s := S256x128) ![0, 0] S256x128.size inb_S256x128_S256x128_0_0).toLoadRect (hM.unread X) : Vec Ideal S256x128 .bf16) = X := by
  funext j
  refine (hM.readAt_unread X _ j).trans (congrArg X ?_)
  funext a
  match a with
  | ⟨0, _⟩ => apply Fin.ext; show 0 + 1 * (j 0).val = (j 0).val; omega
  | ⟨1, _⟩ => apply Fin.ext; show 0 + 1 * (j 1).val = (j 1).val; omega
/-- Reading the whole block of gate weights gives the block. -/
theorem rW (M : Memref sig .tc .vmem S128x512 .bf16) (hM : M.IsWhole) (X : Vec Ideal S128x512 .bf16) :
    (View.readAt (Elt Ideal) M.view (Rect.unit (s := S128x512) ![0, 0] S128x512.size inb_S128x512_S128x512_0_0).toLoadRect (hM.unread X) : Vec Ideal S128x512 .bf16) = X := by
  funext j
  refine (hM.readAt_unread X _ j).trans (congrArg X ?_)
  funext a
  match a with
  | ⟨0, _⟩ => apply Fin.ext; show 0 + 1 * (j 0).val = (j 0).val; omega
  | ⟨1, _⟩ => apply Fin.ext; show 0 + 1 * (j 1).val = (j 1).val; omega
/-- Reading the whole bias gives the bias. -/
theorem rB (M : Memref sig .tc .vmem S1x512 .f32) (hM : M.IsWhole) (X : Vec Ideal S1x512 .f32) :
    (View.readAt (Elt Ideal) M.view (Rect.unit (s := S1x512) ![0, 0] S1x512.size inb_S1x512_S1x512_0_0).toLoadRect (hM.unread X) : Vec Ideal S1x512 .f32) = X := by
  funext j
  refine (hM.readAt_unread X _ j).trans (congrArg X ?_)
  funext a
  match a with
  | ⟨0, _⟩ => apply Fin.ext; show 0 + 1 * (j 0).val = (j 0).val; omega
  | ⟨1, _⟩ => apply Fin.ext; show 0 + 1 * (j 1).val = (j 1).val; omega

variable (P : Pt)

/-- The high part of the forward gates. -/
theorem v1455_eq : kernelRun0_A.sl.v1455 P.c P.arg2 P.harg2 P.arg7 P.harg7 P.arg8 P.harg8 P.x1 P.x6 P.x7 = k0_pay15 P.x1 P.x6 P.x7 := by
  have e : kernelRun0_A.sl.v1455 P.c P.arg2 P.harg2 P.arg7 P.harg7 P.arg8 P.harg8 P.x1 P.x6 P.x7
    = k0_pay15 (View.readAt (Elt Ideal) P.arg2.view (Rect.unit (s := S256x128) ![0, 0] S256x128.size inb_S256x128_S256x128_0_0).toLoadRect (P.harg2.unread P.x1))
      (View.readAt (Elt Ideal) P.arg7.view (Rect.unit (s := S128x512) ![0, 0] S128x512.size inb_S128x512_S128x512_0_0).toLoadRect (P.harg7.unread P.x6))
      (View.readAt (Elt Ideal) P.arg8.view (Rect.unit (s := S1x512) ![0, 0] S1x512.size inb_S1x512_S1x512_0_0).toLoadRect (P.harg8.unread P.x7)) := rfl
  rw [e, rL P.arg2 P.harg2, rW P.arg7 P.harg7, rB P.arg8 P.harg8]
/-- The low part of the forward gates. -/
theorem v1458_eq : kernelRun0_A.sl.v1458 P.c P.arg2 P.harg2 P.arg7 P.harg7 P.arg8 P.harg8 P.x1 P.x6 P.x7 = k0_pay16 P.x1 P.x6 P.x7 := by
  have e : kernelRun0_A.sl.v1458 P.c P.arg2 P.harg2 P.arg7 P.harg7 P.arg8 P.harg8 P.x1 P.x6 P.x7
    = k0_pay16 (View.readAt (Elt Ideal) P.arg2.view (Rect.unit (s := S256x128) ![0, 0] S256x128.size inb_S256x128_S256x128_0_0).toLoadRect (P.harg2.unread P.x1))
      (View.readAt (Elt Ideal) P.arg7.view (Rect.unit (s := S128x512) ![0, 0] S128x512.size inb_S128x512_S128x512_0_0).toLoadRect (P.harg7.unread P.x6))
      (View.readAt (Elt Ideal) P.arg8.view (Rect.unit (s := S1x512) ![0, 0] S1x512.size inb_S1x512_S1x512_0_0).toLoadRect (P.harg8.unread P.x7)) := rfl
  rw [e, rL P.arg2 P.harg2, rW P.arg7 P.harg7, rB P.arg8 P.harg8]
/-- The high part of the backward gates. -/
theorem r_eq : kernelRun0_A.sl.r P.c P.arg5 P.harg5 P.arg9 P.harg9 P.arg10 P.harg10 P.x4 P.x8 P.x9 = k0_pay15 P.x4 P.x8 P.x9 := by
  unfold kernelRun0_A.sl.r
  rw [rL P.arg5 P.harg5, rW P.arg9 P.harg9, rB P.arg10 P.harg10]
/-- The low part of the backward gates. -/
theorem r1_eq : kernelRun0_A.sl.r_1 P.c P.arg5 P.harg5 P.arg9 P.harg9 P.arg10 P.harg10 P.x4 P.x8 P.x9 = k0_pay16 P.x4 P.x8 P.x9 := by
  unfold kernelRun0_A.sl.r_1
  rw [rL P.arg5 P.harg5, rW P.arg9 P.harg9, rB P.arg10 P.harg10]

/-- The forward running sum from its two parts. -/
theorem cumF_of : cumF P = cumOf triF (k0_pay15 P.x1 P.x6 P.x7) (k0_pay16 P.x1 P.x6 P.x7) := by
  unfold cumF
  rw [v1455_eq, v1458_eq]
  rfl
/-- The backward running sum from its two parts. -/
theorem cumB_of : cumB P = cumOf triB (k0_pay15 P.x4 P.x8 P.x9) (k0_pay16 P.x4 P.x8 P.x9) := by
  unfold cumB
  rw [r_eq, r1_eq]
  rfl

/-- Going forwards, a row of a chunk sums the decays of the chunk's rows up to it. -/
theorem cumF_apply (t : Fin 4) (i : Fin 64) (l : Fin 512) :
    cumF P (ix3 0 (row (64 * t.val + i.val)) l)
      = (∑ j : Fin 64, if j.val ≤ i.val then gate (logit P.x1 P.x6 P.x7 (row (64 * t.val + j.val)) l) else 0) * (((Real.log 2)⁻¹ : ℝ) : EReal) := by
  have hi : (row (64 * t.val + i.val)).val = 64 * t.val + i.val := by
    show (64 * t.val + i.val) % 256 = _
    omega
  rw [cumF_of, cumOf_apply triF _ _ _ _ _ _ (fun x a b => triF_apply _ x a b)]
  congr 1
  have e : (row (64 * t.val + i.val)).val / 64 = t.val := by omega
  rw [e, sum_chunk t (fun x => x.val ≤ (row (64 * t.val + i.val)).val) (fun x => gate (logit P.x1 P.x6 P.x7 x l))]
  refine Finset.sum_congr rfl fun j _ => if_congr ?_ rfl rfl
  have hj : (row (64 * t.val + j.val)).val = 64 * t.val + j.val := by
    show (64 * t.val + j.val) % 256 = _
    omega
  rw [hi, hj]
  omega

/-- Going backwards, a row of a chunk sums the decays of the chunk's rows from it on. -/
theorem cumB_apply (t : Fin 4) (i : Fin 64) (l : Fin 512) :
    cumB P (ix3 0 (row (64 * t.val + i.val)) l)
      = (∑ j : Fin 64, if i.val ≤ j.val then gate (logit P.x4 P.x8 P.x9 (row (64 * t.val + j.val)) l) else 0) * (((Real.log 2)⁻¹ : ℝ) : EReal) := by
  have hi : (row (64 * t.val + i.val)).val = 64 * t.val + i.val := by
    show (64 * t.val + i.val) % 256 = _
    omega
  rw [cumB_of, cumOf_apply triB _ _ _ _ _ _ (fun x a b => triB_apply _ x a b)]
  congr 1
  have e : (row (64 * t.val + i.val)).val / 64 = t.val := by omega
  rw [e, sum_chunk t (fun x => (row (64 * t.val + i.val)).val ≤ x.val) (fun x => gate (logit P.x4 P.x8 P.x9 x l))]
  refine Finset.sum_congr rfl fun j _ => if_congr ?_ rfl rfl
  have hj : (row (64 * t.val + j.val)).val = 64 * t.val + j.val := by
    show (64 * t.val + j.val) % 256 = _
    omega
  rw [hi, hj]
  omega

end Cert.GlaIdeal.Hand
-- ==== Proof.GlaPad.lean ====
module

public import proofs.«01_k».proof.Proof.GlaStep
public import Idealize.ShloMosaic.Lib.Routing.OpsOne

/-! The gate's weight padded with rows of zeros: what an entry reads, and what a sum over the padded rows is. -/

@[expose] public section
set_option maxRecDepth 16384
noncomputable section
open Idealize.ShloMosaic Idealize.ShloMosaic.Pointwise Idealize.ShloMosaic.TcCoe

namespace Cert.GlaIdeal.Hand
open Cert.GlaIdeal

/-- Row `a` of the weight lands `k` rows lower. -/
theorem pad_lands (idx : IVec S1 32) (k : ℕ) (hidx : (idx (ix1 0)).toInt = (k : Int)) (a : Fin 16) (b : Fin 512) (r : Fin 128) (l : Fin 512) :
    ScatterDims.resultIdx? scatter_S128x512_S1_S16x512_01_n_0_0 (ix2 a b) idx = some (ix2 r l) ↔ r.val = k + a.val ∧ l = b := by
  have hwin0 : ScatterDims.window scatter_S128x512_S1_S16x512_01_n_0_0 (ix2 a b) 0 = a.val := rfl
  have hwin1 : ScatterDims.window scatter_S128x512_S1_S16x512_01_n_0_0 (ix2 a b) 1 = b.val := rfl
  have hstart1 : ScatterDims.start scatter_S128x512_S1_S16x512_01_n_0_0 (ix2 a b) idx 1 = 0 := rfl
  have hm : (0 : Fin 2) ∈ scatter_S128x512_S1_S16x512_01_n_0_0.scatterDimsToOperandDims := by decide
  have hstart0 : ScatterDims.start scatter_S128x512_S1_S16x512_01_n_0_0 (ix2 a b) idx 0 = (k : Int) := by
    unfold ScatterDims.start
    rw [dif_pos hm]
    have hsi : ScatterDims.siIdx scatter_S128x512_S1_S16x512_01_n_0_0 (ix2 a b) ⟨_, List.idxOf_lt_length_iff.2 hm⟩ = ix1 (0 : Fin 1) := by
      funext b'
      match b' with
      | ⟨0, _⟩ => exact Subsingleton.elim (α := Fin 1) _ _
    rw [hsi, hidx]
  refine (Routing.resultIdx?_ix2 (R := 128) (C := 512) scatter_S128x512_S1_S16x512_01_n_0_0 (ix2 a b) idx r l).trans ?_
  rw [hstart0, hwin0, hstart1, hwin1, Fin.ext_iff]
  omega

/-- A padded array at an index inside the original. -/
theorem pad_hit (x0 : Vec Ideal S128x512 .f32) (idx : IVec S1 32) (W : Vec Ideal S16x512 .f32) (k : ℕ)
    (hidx : (idx (ix1 0)).toInt = (k : Int)) (a : Fin 16) (r : Fin 128) (hr : r.val = k + a.val) (l : Fin 512) :
    Host.scatter scatter_S128x512_S1_S16x512_01_n_0_0 (fun _ b => b) x0 idx W (ix2 r l) = W (ix2 a l) := by
  refine Routing.scatter_set_hit _ x0 idx W _ _ (fun j hj => ?_) (ix2 a l) ((pad_lands idx k hidx a l r l).2 ⟨hr, rfl⟩)
  rw [eq_ix2 j] at hj ⊢
  obtain ⟨h1, h2⟩ := (pad_lands idx k hidx (j 0) (j 1) r l).1 hj
  have : j 0 = a := Fin.ext (by omega)
  rw [this, h2]

/-- A padded array at an index outside the original. -/
theorem pad_miss (x0 : Vec Ideal S128x512 .f32) (idx : IVec S1 32) (W : Vec Ideal S16x512 .f32) (k : ℕ)
    (hidx : (idx (ix1 0)).toInt = (k : Int)) (r : Fin 128) (hr : ∀ a : Fin 16, r.val ≠ k + a.val) (l : Fin 512) :
    Host.scatter scatter_S128x512_S1_S16x512_01_n_0_0 (fun _ b => b) x0 idx W (ix2 r l) = x0 (ix2 r l) := by
  refine Routing.scatter_set_miss _ x0 idx W _ (fun j hj => ?_)
  rw [eq_ix2 j] at hj
  exact hr (j 0) ((pad_lands idx k hidx (j 0) (j 1) r l).1 hj).1

/-- A product with the padded weight is one with the weight. -/
theorem pad_sum (x0 : Vec Ideal S128x512 .f32) (h0 : ∀ i, x0 i = 0) (idx : IVec S1 32) (W : Vec Ideal S16x512 .f32) (k : ℕ) (hk : k + 16 ≤ 128)
    (hidx : (idx (ix1 0)).toInt = (k : Int)) (f : Fin 128 → EReal) (l : Fin 512) :
    (∑ x : Fin 128, f x * Host.scatter scatter_S128x512_S1_S16x512_01_n_0_0 (fun _ b => b) x0 idx W (ix2 x l))
      = ∑ a : Fin 16, f ⟨k + a.val, by omega⟩ * W (ix2 a l) := by
  refine (Finset.sum_of_injOn (fun a : Fin 16 => (⟨k + a.val, by omega⟩ : Fin 128)) ?_ (fun _ _ => Finset.mem_coe.2 (Finset.mem_univ _)) ?_ ?_).symm
  · intro a _ b _ h
    have := congrArg Fin.val h
    exact Fin.ext (by simp only at this; omega)
  · intro x _ hx
    rw [pad_miss x0 idx W k hidx x (fun a ha => hx ⟨a, Finset.mem_coe.2 (Finset.mem_univ _), Fin.ext ha.symm⟩) l, h0, mul_zero]
  · intro a _
    rw [pad_hit x0 idx W k hidx a _ rfl l]

end Cert.GlaIdeal.Hand
-- ==== Proof.GlaArray.lean ====
module

public import proofs.«01_k».proof.Proof.GlaOut
public import proofs.«01_k».proof.Proof.GlaCum
public import proofs.«01_k».proof.Proof.GlaPad
public import proofs.«01_k».proof.Proof.Gen.GlaIdeal.Value

/-! The arrays of the call of the gated linear attention: what its blocks read of the arguments, and what the results' arrays hold. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (m : (ℓ : Loc nD τ sig) → Buf (Elt Ideal) ℓ) (c : Dev nD)

/-- The arguments, as arrays of extended reals. -/
abbrev aX : Vec Ideal S256x2048 .bf16 := m ((c : Thread nD τ).loc main_arg0)
/-- The array of the low-rank gate inputs. -/
abbrev aL : Vec Ideal S256x128 .bf16 := m ((c : Thread nD τ).loc main_arg1)
/-- The array of the forward gate weights. -/
abbrev aWf : Vec Ideal S1x16x512 .f32 := m ((c : Thread nD τ).loc main_arg2)
/-- The array of the forward gate bias. -/
abbrev aBf : Vec Ideal S1x512 .f32 := m ((c : Thread nD τ).loc main_arg3)
/-- The array of the backward gate weights. -/
abbrev aWb : Vec Ideal S1x16x512 .f32 := m ((c : Thread nD τ).loc main_arg4)
/-- The array of the backward gate bias. -/
abbrev aBb : Vec Ideal S1x512 .f32 := m ((c : Thread nD τ).loc main_arg5)
/-- The array of the forward initial state. -/
abbrev aSf : Vec Ideal S4x128x256 .f32 := m ((c : Thread nD τ).loc main_arg6)
/-- The array of the backward initial state. -/
abbrev aSb : Vec Ideal S4x128x256 .f32 := m ((c : Thread nD τ).loc main_arg7)

/-- The grid's point. -/
def pt : Fin cfg0.N := ⟨0, lt_of_lt_of_eq Nat.one_pos N_0.symm⟩

variable (t : Fin cfg0.N)

/-- The index of argument 0 of the kernel, over the grid. -/
theorem idx0 : ∀ t : Fin cfg0.N, win0_0.index t (0 : Fin 2) = 0 ∧ win0_0.index t (1 : Fin 2) = 0 := (by decide +kernel : ∀ t : Fin grid0.N, _)
/-- Argument 0 is taken from the whole of its array. -/
theorem emb0 (y : S256x2048.Idx) : ((cfg0.win 0).blk t).view.emb y = y := by
  obtain ⟨e0, e1⟩ := idx0 t
  funext a
  match a with
  | ⟨0, _⟩ => apply Fin.ext; show win0_0.index t (0 : Fin 2) * 256 + 1 * (y 0).val = (y 0).val; omega
  | ⟨1, _⟩ => apply Fin.ext; show win0_0.index t (1 : Fin 2) * 2048 + 1 * (y 1).val = (y 1).val; omega
/-- The block of argument 0, from its array. -/
theorem iblk0 : (iblk m c 0 t : Vec Ideal S256x2048 .bf16) = V m c main_arg0 := by
  funext y
  exact congrArg (V m c main_arg0 : Vec Ideal S256x2048 .bf16) (emb0 t y)

/-- The index of argument 1 of the kernel, over the grid. -/
theorem idx1 : ∀ t : Fin cfg0.N, win0_1.index t (0 : Fin 2) = 0 ∧ win0_1.index t (1 : Fin 2) = 0 := (by decide +kernel : ∀ t : Fin grid0.N, _)
/-- Argument 1 is taken from the whole of its array. -/
theorem emb1 (y : S256x128.Idx) : ((cfg0.win 1).blk t).view.emb y = y := by
  obtain ⟨e0, e1⟩ := idx1 t
  funext a
  match a with
  | ⟨0, _⟩ => apply Fin.ext; show win0_1.index t (0 : Fin 2) * 256 + 1 * (y 0).val = (y 0).val; omega
  | ⟨1, _⟩ => apply Fin.ext; show win0_1.index t (1 : Fin 2) * 128 + 1 * (y 1).val = (y 1).val; omega
/-- The block of argument 1, from its array. -/
theorem iblk1 : (iblk m c 1 t : Vec Ideal S256x128 .bf16) = V m c main_arg1 := by
  funext y
  exact congrArg (V m c main_arg1 : Vec Ideal S256x128 .bf16) (emb1 t y)

/-- The index of argument 3 of the kernel, over the grid. -/
theorem idx3 : ∀ t : Fin cfg0.N, win0_3.index t (0 : Fin 2) = 0 ∧ win0_3.index t (1 : Fin 2) = 0 := (by decide +kernel : ∀ t : Fin grid0.N, _)
/-- Argument 3 is taken from the whole of its array. -/
theorem emb3 (y : S256x2048.Idx) : ((cfg0.win 3).blk t).view.emb y = y := by
  obtain ⟨e0, e1⟩ := idx3 t
  funext a
  match a with
  | ⟨0, _⟩ => apply Fin.ext; show win0_3.index t (0 : Fin 2) * 256 + 1 * (y 0).val = (y 0).val; omega
  | ⟨1, _⟩ => apply Fin.ext; show win0_3.index t (1 : Fin 2) * 2048 + 1 * (y 1).val = (y 1).val; omega
/-- The block of argument 3, from its array. -/
theorem iblk3 : (iblk m c 3 t : Vec Ideal S256x2048 .bf16) = V m c main_arg0 := by
  funext y
  exact congrArg (V m c main_arg0 : Vec Ideal S256x2048 .bf16) (emb3 t y)

/-- The index of argument 4 of the kernel, over the grid. -/
theorem idx4 : ∀ t : Fin cfg0.N, win0_4.index t (0 : Fin 2) = 0 ∧ win0_4.index t (1 : Fin 2) = 0 := (by decide +kernel : ∀ t : Fin grid0.N, _)
/-- Argument 4 is taken from the whole of its array. -/
theorem emb4 (y : S256x128.Idx) : ((cfg0.win 4).blk t).view.emb y = y := by
  obtain ⟨e0, e1⟩ := idx4 t
  funext a
  match a with
  | ⟨0, _⟩ => apply Fin.ext; show win0_4.index t (0 : Fin 2) * 256 + 1 * (y 0).val = (y 0).val; omega
  | ⟨1, _⟩ => apply Fin.ext; show win0_4.index t (1 : Fin 2) * 128 + 1 * (y 1).val = (y 1).val; omega
/-- The block of argument 4, from its array. -/
theorem iblk4 : (iblk m c 4 t : Vec Ideal S256x128 .bf16) = V m c main_arg1 := by
  funext y
  exact congrArg (V m c main_arg1 : Vec Ideal S256x128 .bf16) (emb4 t y)

/-- The index of argument 6 of the kernel, over the grid. -/
theorem idx6 : ∀ t : Fin cfg0.N, win0_6.index t (0 : Fin 2) = 0 ∧ win0_6.index t (1 : Fin 2) = 0 := (by decide +kernel : ∀ t : Fin grid0.N, _)
/-- Argument 6 is taken from the whole of its array. -/
theorem emb6 (y : S128x512.Idx) : ((cfg0.win 6).blk t).view.emb y = y := by
  obtain ⟨e0, e1⟩ := idx6 t
  funext a
  match a with
  | ⟨0, _⟩ => apply Fin.ext; show win0_6.index t (0 : Fin 2) * 128 + 1 * (y 0).val = (y 0).val; omega
  | ⟨1, _⟩ => apply Fin.ext; show win0_6.index t (1 : Fin 2) * 512 + 1 * (y 1).val = (y 1).val; omega
/-- The block of argument 6, from its array. -/
theorem iblk6 : (iblk m c 6 t : Vec Ideal S128x512 .bf16) = V m c main_v4 := by
  funext y
  exact congrArg (V m c main_v4 : Vec Ideal S128x512 .bf16) (emb6 t y)

/-- The index of argument 7 of the kernel, over the grid. -/
theorem idx7 : ∀ t : Fin cfg0.N, win0_7.index t (0 : Fin 2) = 0 ∧ win0_7.index t (1 : Fin 2) = 0 := (by decide +kernel : ∀ t : Fin grid0.N, _)
/-- Argument 7 is taken from the whole of its array. -/
theorem emb7 (y : S1x512.Idx) : ((cfg0.win 7).blk t).view.emb y = y := by
  obtain ⟨e0, e1⟩ := idx7 t
  funext a
  match a with
  | ⟨0, _⟩ => apply Fin.ext; show win0_7.index t (0 : Fin 2) * 1 + 1 * (y 0).val = (y 0).val; omega
  | ⟨1, _⟩ => apply Fin.ext; show win0_7.index t (1 : Fin 2) * 512 + 1 * (y 1).val = (y 1).val; omega
/-- The block of argument 7, from its array. -/
theorem iblk7 : (iblk m c 7 t : Vec Ideal S1x512 .f32) = V m c main_arg3 := by
  funext y
  exact congrArg (V m c main_arg3 : Vec Ideal S1x512 .f32) (emb7 t y)

/-- The index of argument 8 of the kernel, over the grid. -/
theorem idx8 : ∀ t : Fin cfg0.N, win0_8.index t (0 : Fin 2) = 0 ∧ win0_8.index t (1 : Fin 2) = 0 := (by decide +kernel : ∀ t : Fin grid0.N, _)
/-- Argument 8 is taken from the whole of its array. -/
theorem emb8 (y : S128x512.Idx) : ((cfg0.win 8).blk t).view.emb y = y := by
  obtain ⟨e0, e1⟩ := idx8 t
  funext a
  match a with
  | ⟨0, _⟩ => apply Fin.ext; show win0_8.index t (0 : Fin 2) * 128 + 1 * (y 0).val = (y 0).val; omega
  | ⟨1, _⟩ => apply Fin.ext; show win0_8.index t (1 : Fin 2) * 512 + 1 * (y 1).val = (y 1).val; omega
/-- The block of argument 8, from its array. -/
theorem iblk8 : (iblk m c 8 t : Vec Ideal S128x512 .bf16) = V m c main_v9 := by
  funext y
  exact congrArg (V m c main_v9 : Vec Ideal S128x512 .bf16) (emb8 t y)

/-- The index of argument 9 of the kernel, over the grid. -/
theorem idx9 : ∀ t : Fin cfg0.N, win0_9.index t (0 : Fin 2) = 0 ∧ win0_9.index t (1 : Fin 2) = 0 := (by decide +kernel : ∀ t : Fin grid0.N, _)
/-- Argument 9 is taken from the whole of its array. -/
theorem emb9 (y : S1x512.Idx) : ((cfg0.win 9).blk t).view.emb y = y := by
  obtain ⟨e0, e1⟩ := idx9 t
  funext a
  match a with
  | ⟨0, _⟩ => apply Fin.ext; show win0_9.index t (0 : Fin 2) * 1 + 1 * (y 0).val = (y 0).val; omega
  | ⟨1, _⟩ => apply Fin.ext; show win0_9.index t (1 : Fin 2) * 512 + 1 * (y 1).val = (y 1).val; omega
/-- The block of argument 9, from its array. -/
theorem iblk9 : (iblk m c 9 t : Vec Ideal S1x512 .f32) = V m c main_arg5 := by
  funext y
  exact congrArg (V m c main_arg5 : Vec Ideal S1x512 .f32) (emb9 t y)

/-- The index of argument 10 of the kernel, over the grid. -/
theorem idx10 : ∀ t : Fin cfg0.N, win0_10.index t (0 : Fin 3) = 0 ∧ win0_10.index t (1 : Fin 3) = 0 ∧ win0_10.index t (2 : Fin 3) = 0 := (by decide +kernel : ∀ t : Fin grid0.N, _)
/-- Argument 10 is taken from the whole of its array. -/
theorem emb10 (y : S4x128x256.Idx) : ((cfg0.win 10).blk t).view.emb y = y := by
  obtain ⟨e0, e1, e2⟩ := idx10 t
  funext a
  match a with
  | ⟨0, _⟩ => apply Fin.ext; show win0_10.index t (0 : Fin 3) * 4 + 1 * (y 0).val = (y 0).val; omega
  | ⟨1, _⟩ => apply Fin.ext; show win0_10.index t (1 : Fin 3) * 128 + 1 * (y 1).val = (y 1).val; omega
  | ⟨2, _⟩ => apply Fin.ext; show win0_10.index t (2 : Fin 3) * 256 + 1 * (y 2).val = (y 2).val; omega
/-- The block of argument 10, from its array. -/
theorem iblk10 : (iblk m c 10 t : Vec Ideal S4x128x256 .f32) = V m c main_arg6 := by
  funext y
  exact congrArg (V m c main_arg6 : Vec Ideal S4x128x256 .f32) (emb10 t y)

/-- The index of argument 11 of the kernel, over the grid. -/
theorem idx11 : ∀ t : Fin cfg0.N, win0_11.index t (0 : Fin 3) = 0 ∧ win0_11.index t (1 : Fin 3) = 0 ∧ win0_11.index t (2 : Fin 3) = 0 := (by decide +kernel : ∀ t : Fin grid0.N, _)
/-- Argument 11 is taken from the whole of its array. -/
theorem emb11 (y : S4x128x256.Idx) : ((cfg0.win 11).blk t).view.emb y = y := by
  obtain ⟨e0, e1, e2⟩ := idx11 t
  funext a
  match a with
  | ⟨0, _⟩ => apply Fin.ext; show win0_11.index t (0 : Fin 3) * 4 + 1 * (y 0).val = (y 0).val; omega
  | ⟨1, _⟩ => apply Fin.ext; show win0_11.index t (1 : Fin 3) * 128 + 1 * (y 1).val = (y 1).val; omega
  | ⟨2, _⟩ => apply Fin.ext; show win0_11.index t (2 : Fin 3) * 256 + 1 * (y 2).val = (y 2).val; omega
/-- The block of argument 11, from its array. -/
theorem iblk11 : (iblk m c 11 t : Vec Ideal S4x128x256 .f32) = V m c main_arg7 := by
  funext y
  exact congrArg (V m c main_arg7 : Vec Ideal S4x128x256 .f32) (emb11 t y)

/-- The index of argument 12 of the kernel, over the grid. -/
theorem idx12 : ∀ t : Fin cfg0.N, win0_12.index t (0 : Fin 2) = 0 ∧ win0_12.index t (1 : Fin 2) = 0 := (by decide +kernel : ∀ t : Fin grid0.N, _)
/-- Argument 12 is taken from the whole of its array. -/
theorem emb12 (y : S256x1024.Idx) : ((cfg0.win 12).blk t).view.emb y = y := by
  obtain ⟨e0, e1⟩ := idx12 t
  funext a
  match a with
  | ⟨0, _⟩ => apply Fin.ext; show win0_12.index t (0 : Fin 2) * 256 + 1 * (y 0).val = (y 0).val; omega
  | ⟨1, _⟩ => apply Fin.ext; show win0_12.index t (1 : Fin 2) * 1024 + 1 * (y 1).val = (y 1).val; omega
/-- Result 12 is written from its block. -/
theorem flush12 : ∀ t : Fin cfg0.N, (cfg0.win 12).flush t = true := (by decide +kernel : ∀ t : Fin grid0.N, win0_12.flush t = true)
/-- A result's array, at the end. -/
theorem arr12 (y : S256x1024.Idx) : ((dats m 0 c).arrAt 12 cfg0.N : Vec Ideal S256x1024 .bf16) y = (outsAt0 m c t).1 y := by
  have e := congrFun ((Cert.GlaIdeal.Value.blocks12 m c t (flush12 t)).trans (Cert.GlaIdeal.Value.flushed12 m c t)) y
  refine (congrArg ((dats m 0 c).arrAt 12 cfg0.N : Vec Ideal S256x1024 .bf16) (emb12 t y)).symm.trans (e.trans ?_)
  show (outsAt0 m c t).1 ((cfg0.win 12).xinj (grid0.coords t) y) = _
  congr 1

/-- The index of argument 13 of the kernel, over the grid. -/
theorem idx13 : ∀ t : Fin cfg0.N, win0_13.index t (0 : Fin 2) = 0 ∧ win0_13.index t (1 : Fin 2) = 0 := (by decide +kernel : ∀ t : Fin grid0.N, _)
/-- Argument 13 is taken from the whole of its array. -/
theorem emb13 (y : S256x1024.Idx) : ((cfg0.win 13).blk t).view.emb y = y := by
  obtain ⟨e0, e1⟩ := idx13 t
  funext a
  match a with
  | ⟨0, _⟩ => apply Fin.ext; show win0_13.index t (0 : Fin 2) * 256 + 1 * (y 0).val = (y 0).val; omega
  | ⟨1, _⟩ => apply Fin.ext; show win0_13.index t (1 : Fin 2) * 1024 + 1 * (y 1).val = (y 1).val; omega
/-- Result 13 is written from its block. -/
theorem flush13 : ∀ t : Fin cfg0.N, (cfg0.win 13).flush t = true := (by decide +kernel : ∀ t : Fin grid0.N, win0_13.flush t = true)
/-- A result's array, at the end. -/
theorem arr13 (y : S256x1024.Idx) : ((dats m 0 c).arrAt 13 cfg0.N : Vec Ideal S256x1024 .bf16) y = (outsAt0 m c t).2.1 y := by
  have e := congrFun ((Cert.GlaIdeal.Value.blocks13 m c t (flush13 t)).trans (Cert.GlaIdeal.Value.flushed13 m c t)) y
  refine (congrArg ((dats m 0 c).arrAt 13 cfg0.N : Vec Ideal S256x1024 .bf16) (emb13 t y)).symm.trans (e.trans ?_)
  show (outsAt0 m c t).2.1 ((cfg0.win 13).xinj (grid0.coords t) y) = _
  congr 1

/-- The index of argument 14 of the kernel, over the grid. -/
theorem idx14 : ∀ t : Fin cfg0.N, win0_14.index t (0 : Fin 3) = 0 ∧ win0_14.index t (1 : Fin 3) = 0 ∧ win0_14.index t (2 : Fin 3) = 0 := (by decide +kernel : ∀ t : Fin grid0.N, _)
/-- Argument 14 is taken from the whole of its array. -/
theorem emb14 (y : S4x128x256.Idx) : ((cfg0.win 14).blk t).view.emb y = y := by
  obtain ⟨e0, e1, e2⟩ := idx14 t
  funext a
  match a with
  | ⟨0, _⟩ => apply Fin.ext; show win0_14.index t (0 : Fin 3) * 4 + 1 * (y 0).val = (y 0).val; omega
  | ⟨1, _⟩ => apply Fin.ext; show win0_14.index t (1 : Fin 3) * 128 + 1 * (y 1).val = (y 1).val; omega
  | ⟨2, _⟩ => apply Fin.ext; show win0_14.index t (2 : Fin 3) * 256 + 1 * (y 2).val = (y 2).val; omega
/-- Result 14 is written from its block. -/
theorem flush14 : ∀ t : Fin cfg0.N, (cfg0.win 14).flush t = true := (by decide +kernel : ∀ t : Fin grid0.N, win0_14.flush t = true)
/-- A result's array, at the end. -/
theorem arr14 (y : S4x128x256.Idx) : ((dats m 0 c).arrAt 14 cfg0.N : Vec Ideal S4x128x256 .f32) y = (outsAt0 m c t).2.2.1 y := by
  have e := congrFun ((Cert.GlaIdeal.Value.blocks14 m c t (flush14 t)).trans (Cert.GlaIdeal.Value.flushed14 m c t)) y
  refine (congrArg ((dats m 0 c).arrAt 14 cfg0.N : Vec Ideal S4x128x256 .f32) (emb14 t y)).symm.trans (e.trans ?_)
  show (outsAt0 m c t).2.2.1 ((cfg0.win 14).xinj (grid0.coords t) y) = _
  congr 1

/-- The index of argument 15 of the kernel, over the grid. -/
theorem idx15 : ∀ t : Fin cfg0.N, win0_15.index t (0 : Fin 3) = 0 ∧ win0_15.index t (1 : Fin 3) = 0 ∧ win0_15.index t (2 : Fin 3) = 0 := (by decide +kernel : ∀ t : Fin grid0.N, _)
/-- Argument 15 is taken from the whole of its array. -/
theorem emb15 (y : S4x128x256.Idx) : ((cfg0.win 15).blk t).view.emb y = y := by
  obtain ⟨e0, e1, e2⟩ := idx15 t
  funext a
  match a with
  | ⟨0, _⟩ => apply Fin.ext; show win0_15.index t (0 : Fin 3) * 4 + 1 * (y 0).val = (y 0).val; omega
  | ⟨1, _⟩ => apply Fin.ext; show win0_15.index t (1 : Fin 3) * 128 + 1 * (y 1).val = (y 1).val; omega
  | ⟨2, _⟩ => apply Fin.ext; show win0_15.index t (2 : Fin 3) * 256 + 1 * (y 2).val = (y 2).val; omega
/-- Result 15 is written from its block. -/
theorem flush15 : ∀ t : Fin cfg0.N, (cfg0.win 15).flush t = true := (by decide +kernel : ∀ t : Fin grid0.N, win0_15.flush t = true)
/-- A result's array, at the end. -/
theorem arr15 (y : S4x128x256.Idx) : ((dats m 0 c).arrAt 15 cfg0.N : Vec Ideal S4x128x256 .f32) y = (outsAt0 m c t).2.2.2 y := by
  have e := congrFun ((Cert.GlaIdeal.Value.blocks15 m c t (flush15 t)).trans (Cert.GlaIdeal.Value.flushed15 m c t)) y
  refine (congrArg ((dats m 0 c).arrAt 15 cfg0.N : Vec Ideal S4x128x256 .f32) (emb15 t y)).symm.trans (e.trans ?_)
  show (outsAt0 m c t).2.2.2 ((cfg0.win 15).xinj (grid0.coords t) y) = _
  congr 1

end Cert.GlaIdeal.Hand
-- ==== Proof.GlaLogit.lean ====
module

public import proofs.«01_k».proof.Proof.GlaArray

/-! The logits of the kernel: its weights are padded with zeros to the low rank's width, so only the sixteen columns of the
direction enter the sum. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (m : (ℓ : Loc nD τ sig) → Buf (Elt Ideal) ℓ) (c : Dev nD)

/-- The zeros a weight is padded with. -/
def zeros : Vec Ideal S128x512 .f32 := broadcastInDim S128x512 ![] bcast_S_S128x512 (constant (F := Ideal) S_ .f32 0x00000000#32)
/-- The padding is zero. -/
theorem zeros_apply (i : S128x512.Idx) : zeros i = 0 := by
  show Ideal.ofBits .f32 0x00000000#32 = 0
  simp [Ideal.ofBits, Ideal.ieee]

/-- Narrowing changes no exact value. -/
theorem truncf_id (X : FVec Ideal S128x512 .f32) (i : S128x512.Idx) : (truncf .bf16 X bitsLt_bf16_f32 : FVec Ideal S128x512 .bf16) i = X i := rfl

/-- A weight, its unit axis dropped. -/
def flat (W : Vec Ideal S1x16x512 .f32) : Vec Ideal S16x512 .f32 := shapeCast S16x512 W shapeCasts_S1x16x512_S16x512
/-- A bias laid out as one row. -/
theorem flat_apply (W : Vec Ideal S1x16x512 .f32) (a : Fin 16) (l : Fin 512) : flat W (ix2 a l) = W (ix3 0 a l) := by
  unfold flat
  pointwise

/-- A weight, padded. -/
def padF : FVec Ideal S128x512 .bf16 := truncf .bf16 (Host.scatter scatter_S128x512_S1_S16x512_01_n_0_0 (fun _ b => b) zeros (broadcastInDim S1 ![] bcast_S_S1 (constantI S_ 32 0#32)) (flat (aWf m c))) bitsLt_bf16_f32
/-- The padded forward gate weights. -/
theorem V_v4 (x : Fin 128) (l : Fin 512) : (V m c main_v4 : Vec Ideal S128x512 .bf16) (ix2 x l)
    = Host.scatter scatter_S128x512_S1_S16x512_01_n_0_0 (fun _ b => b) zeros (broadcastInDim S1 ![] bcast_S_S1 (constantI S_ 32 0#32)) (flat (aWf m c)) (ix2 x l) := by
  have e : (V m c main_v4 : Vec Ideal S128x512 .bf16) = padF m c := by
    simp only [V, hostOps0]
    after_results_simp
    rfl
  rw [e]
  unfold padF
  exact truncf_id _ _

/-- A weight, padded. -/
def padB : FVec Ideal S128x512 .bf16 := truncf .bf16 (Host.scatter scatter_S128x512_S1_S16x512_01_n_0_0 (fun _ b => b) zeros (broadcastInDim S1 ![] bcast_S_S1 (constantI S_ 32 16#32)) (flat (aWb m c))) bitsLt_bf16_f32
/-- The padded backward gate weights. -/
theorem V_v9 (x : Fin 128) (l : Fin 512) : (V m c main_v9 : Vec Ideal S128x512 .bf16) (ix2 x l)
    = Host.scatter scatter_S128x512_S1_S16x512_01_n_0_0 (fun _ b => b) zeros (broadcastInDim S1 ![] bcast_S_S1 (constantI S_ 32 16#32)) (flat (aWb m c)) (ix2 x l) := by
  have e : (V m c main_v9 : Vec Ideal S128x512 .bf16) = padB m c := by
    simp only [V, hostOps0]
    after_results_simp
    rfl
  rw [e]
  unfold padB
  exact truncf_id _ _

/-- The logit of a row going forwards. -/
theorem logitF (L : Vec Ideal S256x128 .bf16) (B : Vec Ideal S1x512 .f32) (r : Fin 256) (l : Fin 512) :
    logit L (V m c main_v4) B r l = (∑ k : Fin 16, L (ix2 r ⟨k.val, by omega⟩) * aWf m c (ix3 0 k l)) + B (ix2 0 l) := by
  unfold logit
  refine congrArg (· + B (ix2 0 l)) ?_
  have e : (∑ x : Fin 128, L (ix2 r x) * (V m c main_v4 : Vec Ideal S128x512 .bf16) (ix2 x l))
      = ∑ x : Fin 128, L (ix2 r x) * Host.scatter scatter_S128x512_S1_S16x512_01_n_0_0 (fun _ b => b) zeros (broadcastInDim S1 ![] bcast_S_S1 (constantI S_ 32 0#32)) (flat (aWf m c)) (ix2 x l) :=
    Finset.sum_congr rfl fun x _ => by rw [V_v4]
  refine e.trans ((pad_sum zeros zeros_apply _ (flat (aWf m c)) 0 (by norm_num) rfl (fun x => L (ix2 r x)) l).trans (Finset.sum_congr rfl fun a _ => ?_))
  rw [flat_apply]
  have ea : (⟨0 + a.val, by omega⟩ : Fin 128) = ⟨a.val, by omega⟩ := Fin.ext (Nat.zero_add _)
  rw [ea]

/-- The logit of a row going backwards. -/
theorem logitB (L : Vec Ideal S256x128 .bf16) (B : Vec Ideal S1x512 .f32) (r : Fin 256) (l : Fin 512) :
    logit L (V m c main_v9) B r l = (∑ k : Fin 16, L (ix2 r ⟨16 + k.val, by omega⟩) * aWb m c (ix3 0 k l)) + B (ix2 0 l) := by
  unfold logit
  refine congrArg (· + B (ix2 0 l)) ?_
  have e : (∑ x : Fin 128, L (ix2 r x) * (V m c main_v9 : Vec Ideal S128x512 .bf16) (ix2 x l))
      = ∑ x : Fin 128, L (ix2 r x) * Host.scatter scatter_S128x512_S1_S16x512_01_n_0_0 (fun _ b => b) zeros (broadcastInDim S1 ![] bcast_S_S1 (constantI S_ 32 16#32)) (flat (aWb m c)) (ix2 x l) :=
    Finset.sum_congr rfl fun x _ => by rw [V_v9]
  refine e.trans ((pad_sum zeros zeros_apply _ (flat (aWb m c)) 16 (by norm_num) rfl (fun x => L (ix2 r x)) l).trans (Finset.sum_congr rfl fun a _ => ?_))
  rw [flat_apply]

end Cert.GlaIdeal.Hand
-- ==== Proof.GlaFinal.lean ====
module

public import proofs.«01_k».proof.Proof.GlaArray

/-! The results' arrays at the end, by the recurrence. -/

@[expose] public section
set_option maxRecDepth 16384
noncomputable section
open Idealize.ShloMosaic Idealize.ShloMosaic.Pointwise Idealize.ShloMosaic.TcCoe

namespace Cert.GlaIdeal.Hand
open Cert.GlaIdeal Cert.GlaIdeal.Gen

variable (m : (ℓ : Loc nD τ sig) → Buf (Elt Ideal) ℓ) (c : Dev nD)

variable (t : Fin cfg0.N)

/-- The buffers of the grid's point and what its blocks hold. -/
def ptOf : Pt := ⟨c, ms0_0 t, hs0_0 t, ms0_1 t, hs0_1 t, ms0_3 t, hs0_3 t, ms0_4 t, hs0_4 t, ms0_6 t, hs0_6 t, ms0_7 t, hs0_7 t, ms0_8 t, hs0_8 t, ms0_9 t, hs0_9 t, ms0_10 t, hs0_10 t, ms0_11 t, hs0_11 t, scM0_0, Memref.isWhole_whole _, scM0_1, Memref.isWhole_whole _,
  iblk m c 0 t, iblk m c 1 t, iblk m c 3 t, iblk m c 4 t, iblk m c 6 t, iblk m c 7 t, iblk m c 8 t, iblk m c 9 t, iblk m c 10 t, iblk m c 11 t⟩

/-- The array that result 12 of the kernel ends with. -/
theorem res12 (u h : Fin 4) (r : Fin 64) (l : Fin 256) :
    ((dats m 0 c).arrAt 12 cfg0.N : Vec Ideal S256x1024 .bf16) (ix2 (row (64 * u.val + r.val)) (vcol (256 * h.val + l.val))) = OF (ptOf m c t) u.val h.val r l := by
  refine (arr12 m c t _).trans ?_
  unfold outsAt0 ptOf
  dsimp only
  exact block12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u h r l
/-- The array that result 13 of the kernel ends with. -/
theorem res13 (u h : Fin 4) (r : Fin 64) (l : Fin 256) :
    ((dats m 0 c).arrAt 13 cfg0.N : Vec Ideal S256x1024 .bf16) (ix2 (row (64 * (3 - u.val) + r.val)) (vcol (256 * h.val + l.val))) = OB (ptOf m c t) u.val h.val r l := by
  refine (arr13 m c t _).trans ?_
  unfold outsAt0 ptOf
  dsimp only
  exact block13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u h r l
/-- The array that result 14 of the kernel ends with. -/
theorem res14 (h : Fin 4) (d : Fin 128) (l : Fin 256) :
    ((dats m 0 c).arrAt 14 cfg0.N : Vec Ideal S4x128x256 .f32) (ix3 h d l) = SF (ptOf m c t) h.val 4 d l := by
  refine (arr14 m c t _).trans ?_
  unfold outsAt0 ptOf
  dsimp only
  exact block14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h d l
/-- The array that result 15 of the kernel ends with. -/
theorem res15 (h : Fin 4) (d : Fin 128) (l : Fin 256) :
    ((dats m 0 c).arrAt 15 cfg0.N : Vec Ideal S4x128x256 .f32) (ix3 h d l) = SB (ptOf m c t) h.val 4 d l := by
  refine (arr15 m c t _).trans ?_
  unfold outsAt0 ptOf
  dsimp only
  exact block15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h d l

end Cert.GlaIdeal.Hand
-- ==== Proof.GlaMatch.lean ====
module

public import proofs.«01_k».proof.Proof.GlaRes
public import proofs.«01_k».proof.Proof.GlaEq
public import proofs.«01_k».proof.Proof.GlaLogit
public import proofs.«01_k».proof.Proof.GlaFinal

/-! The kernel's recurrences, over the arguments, are the reference's. -/

@[expose] public section
set_option maxRecDepth 16384
noncomputable section
open Idealize.ShloMosaic Idealize.ShloMosaic.Pointwise Idealize.ShloMosaic.TcCoe

namespace Cert.GlaRefIdeal.Hand
open Cert.GlaIdeal.Hand Cert.GlaIdeal.Gen

variable (m : (ℓ : Loc Cert.GlaIdeal.nD Cert.GlaIdeal.τ Cert.GlaIdeal.sig) → Buf (Elt Ideal) ℓ) (c : Dev Cert.GlaIdeal.nD) (t : Fin Cert.GlaIdeal.cfg0.N)

/-- The scans' inputs, from the arguments. -/
abbrev cF : Ch := chF (aX m c) (aL m c) (aWf m c) (aBf m c) (aSf m c)
/-- The chunk decays of the backward direction, read with the rows in place. -/
abbrev cB : Ch := chB (aX m c) (aL m c) (aWb m c) (aBb m c) (aSb m c)

/-- The block of argument 0, from the argument of the layer. -/
theorem x0_eq : (ptOf m c t).x0 = aX m c := (iblk0 m c t).trans (V_main_arg0 m c)
/-- The block of argument 1, from the argument of the layer. -/
theorem x1_eq : (ptOf m c t).x1 = aL m c := (iblk1 m c t).trans (V_main_arg1 m c)
/-- The block of argument 3, from the argument of the layer. -/
theorem x3_eq : (ptOf m c t).x3 = aX m c := (iblk3 m c t).trans (V_main_arg0 m c)
/-- The block of argument 4, from the argument of the layer. -/
theorem x4_eq : (ptOf m c t).x4 = aL m c := (iblk4 m c t).trans (V_main_arg1 m c)
/-- The block of argument 6, from the argument of the layer. -/
theorem x6_eq : (ptOf m c t).x6 = V m c Cert.GlaIdeal.main_v4 := by
  unfold ptOf
  dsimp only
  exact iblk6 m c t
/-- The block of argument 7, from the argument of the layer. -/
theorem x7_eq : (ptOf m c t).x7 = aBf m c := (iblk7 m c t).trans (V_main_arg3 m c)
/-- The block of argument 8, from the argument of the layer. -/
theorem x8_eq : (ptOf m c t).x8 = V m c Cert.GlaIdeal.main_v9 := by
  unfold ptOf
  dsimp only
  exact iblk8 m c t
/-- The block of argument 9, from the argument of the layer. -/
theorem x9_eq : (ptOf m c t).x9 = aBb m c := (iblk9 m c t).trans (V_main_arg5 m c)
/-- The block of argument 10, from the argument of the layer. -/
theorem x10_eq : (ptOf m c t).x10 = aSf m c := (iblk10 m c t).trans (V_main_arg6 m c)
/-- The block of argument 11, from the argument of the layer. -/
theorem x11_eq : (ptOf m c t).x11 = aSb m c := (iblk11 m c t).trans (V_main_arg7 m c)

/-- A row from its step and its place in the step. -/
theorem fwd_eq (u : Fin 4) (i : Fin 64) : row (64 * u.val + i.val) = fwd u i := by
  apply Fin.ext
  show (64 * u.val + i.val) % 256 = 64 * u.val + i.val
  omega

/-- A chunk going forwards. -/
theorem sameF (h u : Fin 4) : Same (cF m c) (ptOf m c t).x0 (cumF (ptOf m c t)) h u (64 * u.val) (Equiv.refl _) where
  q i d := by
    rw [x0_eq]
    exact (qF _ _ _ _ _ h u i d).trans (by rw [← fwd_eq]; rfl)
  k i d := by
    rw [x0_eq]
    exact (kF _ _ _ _ _ h u i d).trans (by rw [← fwd_eq]; rfl)
  v i l := by
    rw [x0_eq]
    exact (vF _ _ _ _ _ h u i l).trans (by rw [← fwd_eq]; rfl)
  m i d := by
    refine (cumF_apply (ptOf m c t) u i (col (128 * h.val + d.val))).trans (congrArg (· * _) ?_)
    unfold cum
    refine Finset.sum_congr rfl fun j _ => ?_
    rw [x1_eq, x6_eq, x7_eq, logitF, fwd_eq, gF]
    rfl

/-- A chunk going backwards: its rows are turned round. -/
theorem sameB (h u : Fin 4) : Same (cB m c) (ptOf m c t).x3 (cumB (ptOf m c t)) h u (64 * (3 - u.val)) Fin.revPerm where
  q i d := by
    rw [x3_eq]
    exact qB _ _ _ _ _ h u i d
  k i d := by
    rw [x3_eq]
    exact kB _ _ _ _ _ h u i d
  v i l := by
    rw [x3_eq]
    exact vB _ _ _ _ _ h u i l
  m i d := by
    have hu : 3 - u.val = (Fin.rev u).val := by rw [Fin.val_rev]; omega
    have e := cumB_apply (ptOf m c t) (Fin.rev u) (Fin.rev i) (col (128 * h.val + d.val))
    rw [← hu] at e
    refine e.trans (congrArg (· * _) ?_)
    unfold cum
    rw [← Equiv.sum_comp Fin.revPerm]
    refine Finset.sum_congr rfl fun j _ => ?_
    rw [x4_eq, x8_eq, x9_eq, logitB, gB]
    have hc : ((Fin.rev i).val ≤ (Fin.revPerm j).val) = (j.val ≤ i.val) := by
      rw [Fin.revPerm_apply, Fin.val_rev, Fin.val_rev]
      exact propext (by omega)
    simp only [hc]
    rfl

/-- The states are the same, chunk after chunk. -/
theorem SF_eq (h : Fin 4) (n : ℕ) (hn : n ≤ 4) : SF (ptOf m c t) h.val n = st (cF m c) h n := by
  induction n with
  | zero =>
    funext d l
    show (ptOf m c t).x10 (ix3 ⟨h.val % 4, _⟩ d l) = aSf m c (ix3 h d l)
    rw [x10_eq]
    congr 1
    funext a
    match a with
    | ⟨0, _⟩ => exact Fin.ext (Nat.mod_eq_of_lt h.isLt)
    | ⟨1, _⟩ => rfl
    | ⟨2, _⟩ => rfl
  | succ n ih =>
    have hu : (⟨n % 4, Nat.mod_lt _ (by norm_num)⟩ : Fin 4).val = n := Nat.mod_eq_of_lt (by omega)
    funext d l
    show stepSt _ _ (64 * n) 63 h.val (SF (ptOf m c t) h.val n) d l = next (cF m c) h ⟨n % 4, _⟩ (st (cF m c) h n) d l
    rw [ih (by omega), ← next_eq (sameF m c t h ⟨n % 4, Nat.mod_lt _ (by norm_num)⟩) 63 rfl, hu]

/-- The backward state of the kernel is the one of the reference. -/
theorem SB_eq (h : Fin 4) (n : ℕ) (hn : n ≤ 4) : SB (ptOf m c t) h.val n = st (cB m c) h n := by
  induction n with
  | zero =>
    funext d l
    show (ptOf m c t).x11 (ix3 ⟨h.val % 4, _⟩ d l) = aSb m c (ix3 h d l)
    rw [x11_eq]
    congr 1
    funext a
    match a with
    | ⟨0, _⟩ => exact Fin.ext (Nat.mod_eq_of_lt h.isLt)
    | ⟨1, _⟩ => rfl
    | ⟨2, _⟩ => rfl
  | succ n ih =>
    have hu : (⟨n % 4, Nat.mod_lt _ (by norm_num)⟩ : Fin 4).val = n := Nat.mod_eq_of_lt (by omega)
    funext d l
    show stepSt _ _ (64 * (3 - n)) 0 h.val (SB (ptOf m c t) h.val n) d l = next (cB m c) h ⟨n % 4, _⟩ (st (cB m c) h n) d l
    rw [ih (by omega), ← next_eq (sameB m c t h ⟨n % 4, Nat.mod_lt _ (by norm_num)⟩) 0 rfl, hu]

/-- The forward output of the kernel is the one of the reference. -/
theorem OF_eq (u h : Fin 4) (i : Fin 64) (l : Fin 256) : OF (ptOf m c t) u.val h.val i l = outc (cF m c) h u (st (cF m c) h u.val) i l := by
  unfold OF
  rw [SF_eq m c t h _ (by omega)]
  exact out_eq (sameF m c t h u) false (fun i j => by simp [sees]) _ i l

/-- The backward output of the kernel is the one of the reference. -/
theorem OB_eq (u h : Fin 4) (i : Fin 64) (l : Fin 256) : OB (ptOf m c t) u.val h.val (Fin.rev i) l = outc (cB m c) h u (st (cB m c) h u.val) i l := by
  unfold OB
  rw [SB_eq m c t h _ (by omega)]
  exact out_eq (sameB m c t h u) true (fun i j => by
    simp only [sees, if_true, decide_eq_true_eq, Fin.revPerm_apply, Fin.val_rev]
    omega) _ i l

end Cert.GlaRefIdeal.Hand
-- ==== Proof.GlaClaims.lean ====
module

public import proofs.«01_k».proof.Defs
public import proofs.«01_k».proof.Proof.Gen.Gla.Frame
public import proofs.«01_k».proof.Proof.Gen.GlaIdeal.Value
public import proofs.«01_k».proof.Proof.Gen.GlaRefIdeal.Run
public import proofs.«01_k».proof.Proof.GlaMatch
public import Idealize.ShloMosaic.Lib.Quiescent

/-! The claims about the call of the gated linear attention. -/

@[expose] public section
noncomputable section
open Idealize.ShloMosaic Idealize.ShloMosaic.Pointwise Idealize.ShloMosaic.TcCoe Idealize.SL.Sem

namespace Cert.Proof.GlaClaims
open Cert.GlaIdeal.Hand Cert.GlaRefIdeal.Hand Cert.GlaRefIdeal.Read

/-- The kernel ends, with its arguments unchanged and its counters at zero. -/
theorem frame_p : Cert.quiescent_Gla := fun m ρ _ => Cert.Gla.Gen.frame m ρ
/-- So does its idealized text. -/
theorem frame_pi : Cert.quiescent_GlaIdeal := fun m ρ _ => Cert.GlaIdeal.Gen.frame m ρ
/-- The reference ends, with its arguments unchanged and its counters at zero. -/
theorem frame_ri : Cert.quiescent_GlaRefIdeal := fun m ρ _ =>
  (θ_run Cert.GlaRefIdeal.defs _ _).mono (fun r h => ⟨fun c => (h c).2.2.2.2, sem_eq_zero_of_no_sems (by decide) r.2⟩)
    (Cert.GlaRefIdeal.Value.run (F := Ideal) m ρ)
/-- The named constant is the real it names: the reciprocal of the logarithm of two. -/
theorem preserves : Cert.preserves_Gla_GlaIdeal :=
  IdealRules.named_const.statement Cert.GlaIdeal.κ "log2_e" .f32 0x3FB8AA3B#32 (((Real.log 2)⁻¹ : ℝ) : EReal) rfl

/-- Where an index of an output lies: its chunk, row, head and column. -/
theorem split (y : Cert.GlaIdeal.S256x1024.Idx) : ∃ (u h : Fin 4) (i : Fin 64) (l : Fin 256), y = ix2 (row (64 * u.val + i.val)) (vcol (256 * h.val + l.val)) := by
  have h0 : (y 0).val < 256 := (y 0).isLt
  have h1 : (y 1).val < 1024 := (y 1).isLt
  refine ⟨⟨(y 0).val / 64, by omega⟩, ⟨(y 1).val / 256, by omega⟩, ⟨(y 0).val % 64, by omega⟩, ⟨(y 1).val % 256, by omega⟩, ?_⟩
  funext a
  match a with
  | ⟨0, _⟩ => apply Fin.ext; show (y 0).val = (64 * ((y 0).val / 64) + (y 0).val % 64) % 256; omega
  | ⟨1, _⟩ => apply Fin.ext; show (y 1).val = (256 * ((y 1).val / 256) + (y 1).val % 256) % 1024; omega

/-- An index of an output, split into its step counted from the end, its head, its row and its column. -/
theorem split' (y : Cert.GlaIdeal.S256x1024.Idx) : ∃ (u h : Fin 4) (i : Fin 64) (l : Fin 256), y = ix2 (row (64 * (3 - u.val) + (Fin.rev i).val)) (vcol (256 * h.val + l.val)) := by
  obtain ⟨u, h, i, l, e⟩ := split y
  refine ⟨Fin.rev u, h, Fin.rev i, l, e.trans ?_⟩
  rw [Fin.rev_rev]
  have hu : 3 - (Fin.rev u).val = u.val := by rw [Fin.val_rev]; omega
  rw [hu]

variable (m : (ℓ : Loc Cert.GlaIdeal.nD Cert.GlaIdeal.τ Cert.GlaIdeal.sig) → Buf (Elt Ideal) ℓ) (c : Dev Cert.GlaIdeal.nD)

/-- The output going forwards. -/
theorem result0 : val_main_v181 (F := Ideal) (aX m c) (aL m c) (aWf m c) (aBf m c) (aSf m c) = (Cert.GlaIdeal.Gen.dats m 0 c).arrAt 12 Cert.GlaIdeal.cfg0.N := by
  funext y
  obtain ⟨u, h, i, l, rfl⟩ := split y
  refine Eq.trans ?_ (((res12 m c pt u h i l).trans (OF_eq m c pt u h i l)).symm)
  rw [fwd_eq]
  exact outF _ _ _ _ _ h u i l

/-- The output going backwards. -/
theorem result1 : val_main_v182 (F := Ideal) (aX m c) (aL m c) (aWb m c) (aBb m c) (aSb m c) = (Cert.GlaIdeal.Gen.dats m 0 c).arrAt 13 Cert.GlaIdeal.cfg0.N := by
  funext y
  obtain ⟨u, h, i, l, rfl⟩ := split' y
  refine Eq.trans ?_ (((res13 m c pt u h (Fin.rev i) l).trans (OB_eq m c pt u h i l)).symm)
  exact outB _ _ _ _ _ h u i l

/-- A triple index is the index of its three parts. -/
theorem ix3_eta (y : Cert.GlaIdeal.S4x128x256.Idx) : y = ix3 (y 0) (y 1) (y 2) := by
  funext a
  match a with
  | ⟨0, _⟩ => rfl
  | ⟨1, _⟩ => rfl
  | ⟨2, _⟩ => rfl

/-- The last states. -/
theorem result2 : val_main_v183 (F := Ideal) (aX m c) (aL m c) (aWf m c) (aBf m c) (aSf m c) = (Cert.GlaIdeal.Gen.dats m 0 c).arrAt 14 Cert.GlaIdeal.cfg0.N := by
  funext y
  rw [ix3_eta y]
  exact (lastF _ _ _ _ _ (y 0) (y 1) (y 2)).trans (((res14 m c pt (y 0) (y 1) (y 2)).trans (congrFun (congrFun (SF_eq m c pt (y 0) 4 le_rfl) (y 1)) (y 2))).symm)

/-- The last state of the backward direction agrees. -/
theorem result3 : val_main_v184 (F := Ideal) (aX m c) (aL m c) (aWb m c) (aBb m c) (aSb m c) = (Cert.GlaIdeal.Gen.dats m 0 c).arrAt 15 Cert.GlaIdeal.cfg0.N := by
  funext y
  rw [ix3_eta y]
  exact (lastB _ _ _ _ _ (y 0) (y 1) (y 2)).trans (((res15 m c pt (y 0) (y 1) (y 2)).trans (congrFun (congrFun (SB_eq m c pt (y 0) 4 le_rfl) (y 1)) (y 2))).symm)

/-- Over the extended reals the kernel's four results are the reference's. -/
theorem algebraic : Cert.algebraic_GlaIdeal_GlaRefIdeal := by
  intro m ρ m' ρ' _ hagree
  refine ⟨fun c => (Cert.GlaIdeal.Gen.dats m 0 c).arrAt 12 Cert.GlaIdeal.cfg0.N, fun c => (Cert.GlaIdeal.Gen.dats m 0 c).arrAt 13 Cert.GlaIdeal.cfg0.N,
    fun c => (Cert.GlaIdeal.Gen.dats m 0 c).arrAt 14 Cert.GlaIdeal.cfg0.N, fun c => (Cert.GlaIdeal.Gen.dats m 0 c).arrAt 15 Cert.GlaIdeal.cfg0.N,
    Cert.GlaIdeal.Value.run_blocks (F := Ideal) m ρ, ?_⟩
  refine (θ_run Cert.GlaRefIdeal.defs _ _).mono ?_ (Cert.GlaRefIdeal.Value.run (F := Ideal) m' ρ')
  intro r h c
  obtain ⟨r0, r1, r2, r3, kept⟩ := h c
  obtain ⟨h0, h1, h2, h3, h4, h5, h6, h7⟩ := hagree c
  refine ⟨r0.trans ?_, r1.trans ?_, r2.trans ?_, r3.trans ?_, kept⟩
  · rw [Cert.GlaRefIdeal.Read.val_main_v181_eq]
    change val_main_v181 (F := Ideal) (m' ((c.tc : Thread Cert.GlaRefIdeal.nD Cert.GlaRefIdeal.τ).loc Cert.GlaRefIdeal.main_arg0)) (m' ((c.tc : Thread Cert.GlaRefIdeal.nD Cert.GlaRefIdeal.τ).loc Cert.GlaRefIdeal.main_arg1)) (m' ((c.tc : Thread Cert.GlaRefIdeal.nD Cert.GlaRefIdeal.τ).loc Cert.GlaRefIdeal.main_arg2)) (m' ((c.tc : Thread Cert.GlaRefIdeal.nD Cert.GlaRefIdeal.τ).loc Cert.GlaRefIdeal.main_arg3)) (m' ((c.tc : Thread Cert.GlaRefIdeal.nD Cert.GlaRefIdeal.τ).loc Cert.GlaRefIdeal.main_arg6)) = _
    rw [h0, h1, h2, h3, h6]
    exact result0 m c
  · rw [Cert.GlaRefIdeal.Read.val_main_v182_eq]
    change val_main_v182 (F := Ideal) (m' ((c.tc : Thread Cert.GlaRefIdeal.nD Cert.GlaRefIdeal.τ).loc Cert.GlaRefIdeal.main_arg0)) (m' ((c.tc : Thread Cert.GlaRefIdeal.nD Cert.GlaRefIdeal.τ).loc Cert.GlaRefIdeal.main_arg1)) (m' ((c.tc : Thread Cert.GlaRefIdeal.nD Cert.GlaRefIdeal.τ).loc Cert.GlaRefIdeal.main_arg4)) (m' ((c.tc : Thread Cert.GlaRefIdeal.nD Cert.GlaRefIdeal.τ).loc Cert.GlaRefIdeal.main_arg5)) (m' ((c.tc : Thread Cert.GlaRefIdeal.nD Cert.GlaRefIdeal.τ).loc Cert.GlaRefIdeal.main_arg7)) = _
    rw [h0, h1, h4, h5, h7]
    exact result1 m c
  · rw [Cert.GlaRefIdeal.Read.val_main_v183_eq]
    change val_main_v183 (F := Ideal) (m' ((c.tc : Thread Cert.GlaRefIdeal.nD Cert.GlaRefIdeal.τ).loc Cert.GlaRefIdeal.main_arg0)) (m' ((c.tc : Thread Cert.GlaRefIdeal.nD Cert.GlaRefIdeal.τ).loc Cert.GlaRefIdeal.main_arg1)) (m' ((c.tc : Thread Cert.GlaRefIdeal.nD Cert.GlaRefIdeal.τ).loc Cert.GlaRefIdeal.main_arg2)) (m' ((c.tc : Thread Cert.GlaRefIdeal.nD Cert.GlaRefIdeal.τ).loc Cert.GlaRefIdeal.main_arg3)) (m' ((c.tc : Thread Cert.GlaRefIdeal.nD Cert.GlaRefIdeal.τ).loc Cert.GlaRefIdeal.main_arg6)) = _
    rw [h0, h1, h2, h3, h6]
    exact result2 m c
  · rw [Cert.GlaRefIdeal.Read.val_main_v184_eq]
    change val_main_v184 (F := Ideal) (m' ((c.tc : Thread Cert.GlaRefIdeal.nD Cert.GlaRefIdeal.τ).loc Cert.GlaRefIdeal.main_arg0)) (m' ((c.tc : Thread Cert.GlaRefIdeal.nD Cert.GlaRefIdeal.τ).loc Cert.GlaRefIdeal.main_arg1)) (m' ((c.tc : Thread Cert.GlaRefIdeal.nD Cert.GlaRefIdeal.τ).loc Cert.GlaRefIdeal.main_arg4)) (m' ((c.tc : Thread Cert.GlaRefIdeal.nD Cert.GlaRefIdeal.τ).loc Cert.GlaRefIdeal.main_arg5)) (m' ((c.tc : Thread Cert.GlaRefIdeal.nD Cert.GlaRefIdeal.τ).loc Cert.GlaRefIdeal.main_arg7)) = _
    rw [h0, h1, h4, h5, h7]
    exact result3 m c

end Cert.Proof.GlaClaims
-- ==== Proof.FfnRows.lean ====
module

public import proofs.«01_k».proof.Proof.Gen.FfnIdeal.Value
public import Idealize.ShloMosaic.Lib.Pointwise
public import Idealize.ShloMosaic.Lib.WholeRead
public import Idealize.ShloMosaic.Lib.Pipeline.ReadBack
public import Idealize.ShloMosaic.Lib.Pipeline.ValueKit

/-! The rows of the feed-forward call: what a block holds once its sixty-four stripes of sixteen rows are written, for the
modulated norm at the start and for the final norm at the end, and what one step adds to the block. -/

@[expose] public section
set_option maxRecDepth 16384
noncomputable section
open Idealize.ShloMosaic Idealize.ShloMosaic.Pointwise

namespace Cert.FfnIdeal.Hand
open Cert.FfnIdeal Cert.FfnIdeal.Gen

/-- The reciprocal root of the mean square of row `r`, with the norm's small constant. -/
def inv (X : Vec Ideal S1024x2048 .f32) (r : Fin 1024) : EReal :=
  Ideal.rsqrt (Ideal.div (∑ k : Fin 2048, X (ix2 r k) * X (ix2 r k)) (Ideal.ofBits .f32 0x45000000#32) + Ideal.ofBits .f32 0x358637BD#32)

/-- The modulated norm of a block's rows: the row over its root mean square, times the gain, plus the shift. -/
def normMod (X : Vec Ideal S1024x2048 .f32) (sh g : Fin 2048 → EReal) : Vec Ideal S1024x2048 .bf16 :=
  fun i => X i * inv X (i 0) * g (i 1) + sh (i 1)

/-- The final norm of a block's rows. -/
def normFin (X : Vec Ideal S1024x2048 .f32) (g : Fin 2048 → EReal) : Vec Ideal S1024x2048 .f32 :=
  fun i => X i * inv X (i 0) * g (i 1)

/-- The gated product of the hidden units of one step, at row `r` and unit `j`. -/
def act (H : Vec Ideal S1024x2048 .bf16) (wg wu : Vec Ideal S2048x512 .bf16) (r : Fin 1024) (j : Fin 512) : EReal :=
  (∑ k : Fin 2048, H (ix2 r k) * wg (ix2 k j)) * Ideal.logistic (∑ k : Fin 2048, H (ix2 r k) * wg (ix2 k j))
    * ∑ k : Fin 2048, H (ix2 r k) * wu (ix2 k j)

/-- The first row of a block of eight. -/
def row8 (X : Vec Ideal S8x2048 .f32) : Fin 2048 → EReal := fun l => X (ix2 0 l)
/-- The row of a block of one. -/
def row1 (X : Vec Ideal S1x2048 .f32) : Fin 2048 → EReal := fun l => X (ix2 0 l)
/-- The modulated gain: the norm's gain times one plus the scale. -/
def gain (X : Vec Ideal S1x2048 .f32) (S : Vec Ideal S8x2048 .f32) : Fin 2048 → EReal :=
  fun l => X (ix2 0 l) * (Ideal.ofBits .f32 0x3F800000#32 + S (ix2 0 l))

/-- One step adds to the block the gate times the step's part of the product. -/
def step (o : Vec Ideal S1024x2048 .f32) (gt : Fin 2048 → EReal) (H : Vec Ideal S1024x2048 .bf16) (wg wu : Vec Ideal S2048x512 .bf16)
    (wd : Vec Ideal S512x2048 .bf16) : Vec Ideal S1024x2048 .f32 :=
  fun i => o i + gt (i 1) * ∑ j : Fin 512, act H wg wu (i 0) j * wd (ix2 j (i 1))

/-- The stored value of one step, read at an index. -/
theorem pay2_eq (H : Vec Ideal S1024x2048 .bf16) (wg wu : Vec Ideal S2048x512 .bf16) (wd : Vec Ideal S512x2048 .bf16)
    (o : Vec Ideal S1024x2048 .f32) (gt : Vec Ideal S1x2048 .f32) :
    k0_pay2 H wg wu wd o gt = step o (fun l => gt (ix2 0 l)) H wg wu wd := by
  funext i
  obtain ⟨r, l, rfl⟩ : ∃ r l, i = ix2 r l := ⟨i 0, i 1, eq_ix2 i⟩
  pointwise [k0_pay2, step, act]

/-- One entry of a stripe of the modulated norm. -/
theorem stripe_apply (sh : Vec Ideal S1x2048 .f32) (g : FVec Ideal S1x2048 .f32) (x : Vec Ideal S16x2048 .f32) (r : Fin 16) (l : Fin 2048) :
    k0_pay7 sh g x (ix2 r l) = x (ix2 r l) * Ideal.rsqrt (Ideal.div (∑ k : Fin 2048, x (ix2 r k) * x (ix2 r k)) (Ideal.ofBits .f32 0x45000000#32)
      + Ideal.ofBits .f32 0x358637BD#32) * g (ix2 0 l) + sh (ix2 0 l) := by
  pointwise [k0_pay7]

/-- One entry of a stripe of the final norm. -/
theorem stripeFin_apply (g : FVec Ideal S1x2048 .f32) (x : Vec Ideal S16x2048 .f32) (r : Fin 16) (l : Fin 2048) :
    k0_pay192 g x (ix2 r l) = x (ix2 r l) * Ideal.rsqrt (Ideal.div (∑ k : Fin 2048, x (ix2 r k) * x (ix2 r k)) (Ideal.ofBits .f32 0x45000000#32)
      + Ideal.ofBits .f32 0x358637BD#32) * g (ix2 0 l) := by
  pointwise [k0_pay192]

/-- The place in the block of entry `(r, l)` of the stripe that begins at row `off`. -/
theorem emb_stripe (off : ℕ) (h : ∀ a, (![off, 0] : Fin S1024x2048.rank → ℕ) a + S16x2048.size a ≤ S1024x2048.size a) (r : Fin 16) (l : Fin 2048)
    (hr : off + r.val < 1024) :
    (Rect.unit (s := S1024x2048) ![off, 0] S16x2048.size h).emb (ix2 r l) = (ix2 (⟨off + r.val, hr⟩ : Fin 1024) l : S1024x2048.Idx) := by
  funext a
  match a with
  | ⟨0, _⟩ => apply Fin.ext; show off + 1 * r.val = off + r.val; omega
  | ⟨1, _⟩ => apply Fin.ext; show 0 + 1 * l.val = l.val; omega

/-- An index off the stripe that begins at row `off`. -/
theorem not_mem_stripe (off : ℕ) (h : ∀ a, (![off, 0] : Fin S1024x2048.rank → ℕ) a + S16x2048.size a ≤ S1024x2048.size a) (y : S1024x2048.Idx)
    (hy : (y 0).val < off ∨ off + 16 ≤ (y 0).val) : y ∉ (Rect.unit (s := S1024x2048) ![off, 0] S16x2048.size h).set := by
  rw [Rect.mem_set_unit]
  intro hh
  have h0 : off ≤ (y 0).val ∧ (y 0).val < off + 16 := hh 0
  omega

/-- An index on the stripe that begins at row `off` is the place of one of the stripe's entries. -/
theorem mem_stripe (off : ℕ) (h : ∀ a, (![off, 0] : Fin S1024x2048.rank → ℕ) a + S16x2048.size a ≤ S1024x2048.size a) (y : S1024x2048.Idx)
    (h1 : off ≤ (y 0).val) (h2 : (y 0).val < off + 16) :
    ∃ (r : Fin 16) (l : Fin 2048), y = (Rect.unit (s := S1024x2048) ![off, 0] S16x2048.size h).emb (ix2 r l) := by
  refine ⟨⟨(y 0).val - off, by omega⟩, y 1, ?_⟩
  have e : (y 0).val < 1024 := (y 0).isLt
  refine (eq_ix2 y).trans (Eq.trans ?_ (emb_stripe off h _ _ (by show off + ((y 0).val - off) < 1024; omega)).symm)
  refine congrArg (fun q : Fin 1024 => (ix2 q (y 1) : S1024x2048.Idx)) (Fin.ext ?_)
  show (y 0).val = off + ((y 0).val - off)
  omega

/-- The writes `L` have filled the rows below `n` with `G`. -/
def Filled {φ : EltTy} (G : Vec Ideal S1024x2048 φ) (n : ℕ) (L : List (View.Piece (Elt Ideal) S1024x2048 φ)) : Prop :=
  ∀ y : S1024x2048.Idx, (y 0).val < n → View.canon L y = G y

/-- Nothing is filled at first. -/
theorem filled_zero {φ : EltTy} (G : Vec Ideal S1024x2048 φ) (L : List (View.Piece (Elt Ideal) S1024x2048 φ)) : Filled G 0 L :=
  fun _ h => absurd h (Nat.not_lt_zero _)

/-- One more stripe that holds its rows of `G`. -/
theorem filled_step {φ : EltTy} {G : Vec Ideal S1024x2048 φ} (off n : ℕ)
    (h : ∀ a, (![off, 0] : Fin S1024x2048.rank → ℕ) a + S16x2048.size a ≤ S1024x2048.size a)
    (w : S16x2048.Idx → Elt Ideal φ) (L : List (View.Piece (Elt Ideal) S1024x2048 φ)) (hn : n = off + 16)
    (hw : ∀ x, w x = G ((Rect.unit (s := S1024x2048) ![off, 0] S16x2048.size h).emb x)) (hL : Filled G off L) :
    Filled G n (⟨Rect.unit (s := S1024x2048) ![off, 0] S16x2048.size h, w⟩ :: L) := by
  subst hn
  intro y hy
  by_cases hc : (y 0).val < off
  · rw [View.canon_cons_of_not_mem ⟨Rect.unit (s := S1024x2048) ![off, 0] S16x2048.size h, w⟩ L (not_mem_stripe off h y (.inl hc))]
    exact hL y hc
  · have hc' : off ≤ (y 0).val := Nat.le_of_not_lt hc
    have hh := mem_stripe off h y hc' hy
    clear hc hc' hy
    obtain ⟨r, l, e⟩ := hh
    rw [e]
    exact (View.canon_cons_emb _ _ _ _).trans (hw _)

/-- The first `n` rows are those of `G`, the others still those of `o`. -/
def Half (G o : Vec Ideal S1024x2048 .f32) (n : ℕ) (L : List (View.Piece (Elt Ideal) S1024x2048 .f32)) : Prop :=
  ∀ y : S1024x2048.Idx, View.canon L y = if (y 0).val < n then G y else o y

/-- A stripe of the modulated norm computed from the block's rows. -/
theorem stripe_eq (X : Vec Ideal S1024x2048 .f32) (sh : Vec Ideal S1x2048 .f32) (g : FVec Ideal S1x2048 .f32) (off : ℕ)
    (h : ∀ a, (![off, 0] : Fin S1024x2048.rank → ℕ) a + S16x2048.size a ≤ S1024x2048.size a)
    (xs : Vec Ideal S16x2048 .f32) (hxs : ∀ j, xs j = X ((Rect.unit (s := S1024x2048) ![off, 0] S16x2048.size h).emb j)) (x : S16x2048.Idx) :
    k0_pay7 sh g xs x = normMod X (fun l => sh (ix2 0 l)) (fun l => g (ix2 0 l)) ((Rect.unit (s := S1024x2048) ![off, 0] S16x2048.size h).emb x) := by
  obtain ⟨r, l, rfl⟩ : ∃ r l, x = ix2 r l := ⟨x 0, x 1, eq_ix2 x⟩
  have h0 : off + 16 ≤ 1024 := h 0
  have hr : off + r.val < 1024 := by have := r.isLt; omega
  rw [stripe_apply]
  simp only [hxs, emb_stripe off h r _ hr]
  rfl

/-- A stripe of the final norm computed from the block's rows. -/
theorem stripeFin_eq (X : Vec Ideal S1024x2048 .f32) (g : FVec Ideal S1x2048 .f32) (off : ℕ)
    (h : ∀ a, (![off, 0] : Fin S1024x2048.rank → ℕ) a + S16x2048.size a ≤ S1024x2048.size a)
    (xs : Vec Ideal S16x2048 .f32) (hxs : ∀ j, xs j = X ((Rect.unit (s := S1024x2048) ![off, 0] S16x2048.size h).emb j)) (x : S16x2048.Idx) :
    k0_pay192 g xs x = normFin X (fun l => g (ix2 0 l)) ((Rect.unit (s := S1024x2048) ![off, 0] S16x2048.size h).emb x) := by
  obtain ⟨r, l, rfl⟩ : ∃ r l, x = ix2 r l := ⟨x 0, x 1, eq_ix2 x⟩
  have h0 : off + 16 ≤ 1024 := h 0
  have hr : off + r.val < 1024 := by have := r.isLt; omega
  rw [stripeFin_apply]
  simp only [hxs, emb_stripe off h r _ hr]
  rfl

/-- The first store of the whole block begins the final norm. -/
theorem half_zero (G o : Vec Ideal S1024x2048 .f32) (L : List (View.Piece (Elt Ideal) S1024x2048 .f32)) (hL : View.canon L = o) : Half G o 0 L :=
  fun y => by rw [hL, if_neg (Nat.not_lt_zero _)]

/-- One more stripe of the final norm, computed from the rows that the block still holds. -/
theorem half_step (o : Vec Ideal S1024x2048 .f32) (g : FVec Ideal S1x2048 .f32) {sig : RefSig} {κ : Kind} {sp : Space}
    (v : View sig κ sp S1024x2048 .f32) (off n : ℕ) (h : ∀ a, (![off, 0] : Fin S1024x2048.rank → ℕ) a + S16x2048.size a ≤ S1024x2048.size a)
    (w : S16x2048.Idx → Elt Ideal .f32) (L : List (View.Piece (Elt Ideal) S1024x2048 .f32)) (hn : n = off + 16)
    (hw : w = k0_pay192 g (v.readCov L (Rect.unit (s := S1024x2048) ![off, 0] S16x2048.size h).toLoadRect))
    (hL : Half (normFin o (fun l => g (ix2 0 l))) o off L) :
    Half (normFin o (fun l => g (ix2 0 l))) o n (⟨Rect.unit (s := S1024x2048) ![off, 0] S16x2048.size h, w⟩ :: L) := by
  subst hn
  have h0 : off + 16 ≤ 1024 := h 0
  intro y
  by_cases hc : (y 0).val < off
  · rw [View.canon_cons_of_not_mem ⟨Rect.unit (s := S1024x2048) ![off, 0] S16x2048.size h, w⟩ L (not_mem_stripe off h y (.inl hc)), hL y, if_pos hc, if_pos (by omega)]
  by_cases hd : off + 16 ≤ (y 0).val
  · rw [View.canon_cons_of_not_mem ⟨Rect.unit (s := S1024x2048) ![off, 0] S16x2048.size h, w⟩ L (not_mem_stripe off h y (.inr hd)), hL y, if_neg hc, if_neg (by omega)]
  · have hc' : off ≤ (y 0).val := Nat.le_of_not_lt hc
    have hd' : (y 0).val < off + 16 := Nat.lt_of_not_le hd
    rw [if_pos hd']
    have hh := mem_stripe off h y hc' hd'
    clear hc hc' hd hd'
    obtain ⟨r, l, e⟩ := hh
    rw [e, View.canon_cons_emb, hw]
    refine stripeFin_eq o g off h _ (fun j => ?_) _
    rw [View.readCov_eq_canon']
    refine (hL _).trans (if_neg ?_)
    obtain ⟨r', l', rfl⟩ : ∃ r l, j = ix2 r l := ⟨j 0, j 1, eq_ix2 j⟩
    show ¬(off + 1 * r'.val < off)
    omega

end Cert.FfnIdeal.Hand
-- ==== Proof.FfnCases.lean ====
module

public import proofs.«01_k».proof.Proof.FfnRows

/-! What one grid point of the feed-forward call leaves in its block and in the scratch that carries the modulated norm. -/

@[expose] public section
set_option maxRecDepth 16384
noncomputable section
open Idealize.ShloMosaic Idealize.ShloMosaic.Pointwise Idealize.ShloMosaic.TcCoe

namespace Cert.FfnIdeal.Hand
open Cert.FfnIdeal Cert.FfnIdeal.Gen

/-- A load of a whole memref that holds `X` is `X`. -/
theorem readAt_whole {sig : RefSig} {κ : Kind} {sp : Space} {S : Shape} {e : EltTy} {M : Memref sig κ sp S e} (hM : M.IsWhole)
    (X : Vec Ideal S e) {off : Fin S.rank → ℕ} (inb : ∀ a, off a + S.size a ≤ S.size a) (h : ∀ a, off a = 0) :
    View.readAt (Elt Ideal) M.view (Rect.unit off S.size inb).toLoadRect (hM.unread X) = X := by
  have hz : off = fun _ => 0 := funext h
  subst hz
  funext j
  refine (hM.readAt_unread X _ j).trans (congrArg X ?_)
  funext a
  apply Fin.ext
  show 0 + 1 * (j a).val = (j a).val
  omega

/-- A load of the first row of a memref of eight rows that holds `X`. -/
theorem readAt_row {sig : RefSig} {κ : Kind} {sp : Space} {M : Memref sig κ sp S8x2048 .f32} (hM : M.IsWhole) (X : Vec Ideal S8x2048 .f32)
    (inb : ∀ a, (![0, 0] : Fin S8x2048.rank → ℕ) a + S1x2048.size a ≤ S8x2048.size a) (l : Fin 2048) :
    View.readAt (Elt Ideal) M.view (Rect.unit (s := S8x2048) ![0, 0] S1x2048.size inb).toLoadRect (hM.unread X) (ix2 0 l) = X (ix2 0 l) := by
  refine (hM.readAt_unread X _ _).trans (congrArg X ?_)
  funext a
  match a with
  | ⟨0, _⟩ => rfl
  | ⟨1, _⟩ => apply Fin.ext; show 0 + 1 * l.val = l.val; omega

/-- The row of gains: the norm's gain times one plus the scale. -/
theorem pay3_apply (a b : Vec Ideal S1x2048 .f32) (l : Fin 2048) :
    k0_pay3 a b (ix2 0 l) = a (ix2 0 l) * (Ideal.ofBits .f32 0x3F800000#32 + b (ix2 0 l)) := by
  pointwise [k0_pay3]

/-- At the first step of a block the sixty-four stripes of the scratch hold the modulated norm of the block's rows. -/
theorem scratch_filled     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) :
    Filled (normMod x0 (fun l => View.readAt (Elt Ideal) arg4.view (Rect.unit (s := S8x2048) ![0, 0] S1x2048.size inb_S8x2048_S1x2048_0_0).toLoadRect (harg4.unread x2) (ix2 0 l))
      (fun l => k0_pay3 (View.readAt (Elt Ideal) arg3.view (Rect.unit (s := S1x2048) ![0, 0] S1x2048.size inb_S1x2048_S1x2048_0_0).toLoadRect (harg3.unread x1))
        (View.readAt (Elt Ideal) arg5.view (Rect.unit (s := S8x2048) ![0, 0] S1x2048.size inb_S8x2048_S1x2048_0_0).toLoadRect (harg5.unread x3)) (ix2 0 l))) 1024
      (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 := by
  refine filled_step 1008 1024 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 1008 _ _ (fun j => harg2.readAt_unread x0 (Rect.unit (s := S1024x2048) ![1008, 0] S16x2048.size inb_S1024x2048_S16x2048_1008_0).toLoadRect j) x) ?_
  refine filled_step 992 1008 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 992 _ _ (fun j => harg2.readAt_unread x0 (Rect.unit (s := S1024x2048) ![992, 0] S16x2048.size inb_S1024x2048_S16x2048_992_0).toLoadRect j) x) ?_
  refine filled_step 976 992 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 976 _ _ (fun j => harg2.readAt_unread x0 (Rect.unit (s := S1024x2048) ![976, 0] S16x2048.size inb_S1024x2048_S16x2048_976_0).toLoadRect j) x) ?_
  refine filled_step 960 976 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 960 _ _ (fun j => harg2.readAt_unread x0 (Rect.unit (s := S1024x2048) ![960, 0] S16x2048.size inb_S1024x2048_S16x2048_960_0).toLoadRect j) x) ?_
  refine filled_step 944 960 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 944 _ _ (fun j => harg2.readAt_unread x0 (Rect.unit (s := S1024x2048) ![944, 0] S16x2048.size inb_S1024x2048_S16x2048_944_0).toLoadRect j) x) ?_
  refine filled_step 928 944 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 928 _ _ (fun j => harg2.readAt_unread x0 (Rect.unit (s := S1024x2048) ![928, 0] S16x2048.size inb_S1024x2048_S16x2048_928_0).toLoadRect j) x) ?_
  refine filled_step 912 928 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 912 _ _ (fun j => harg2.readAt_unread x0 (Rect.unit (s := S1024x2048) ![912, 0] S16x2048.size inb_S1024x2048_S16x2048_912_0).toLoadRect j) x) ?_
  refine filled_step 896 912 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 896 _ _ (fun j => harg2.readAt_unread x0 (Rect.unit (s := S1024x2048) ![896, 0] S16x2048.size inb_S1024x2048_S16x2048_896_0).toLoadRect j) x) ?_
  refine filled_step 880 896 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 880 _ _ (fun j => harg2.readAt_unread x0 (Rect.unit (s := S1024x2048) ![880, 0] S16x2048.size inb_S1024x2048_S16x2048_880_0).toLoadRect j) x) ?_
  refine filled_step 864 880 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 864 _ _ (fun j => harg2.readAt_unread x0 (Rect.unit (s := S1024x2048) ![864, 0] S16x2048.size inb_S1024x2048_S16x2048_864_0).toLoadRect j) x) ?_
  refine filled_step 848 864 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 848 _ _ (fun j => harg2.readAt_unread x0 (Rect.unit (s := S1024x2048) ![848, 0] S16x2048.size inb_S1024x2048_S16x2048_848_0).toLoadRect j) x) ?_
  refine filled_step 832 848 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 832 _ _ (fun j => harg2.readAt_unread x0 (Rect.unit (s := S1024x2048) ![832, 0] S16x2048.size inb_S1024x2048_S16x2048_832_0).toLoadRect j) x) ?_
  refine filled_step 816 832 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 816 _ _ (fun j => harg2.readAt_unread x0 (Rect.unit (s := S1024x2048) ![816, 0] S16x2048.size inb_S1024x2048_S16x2048_816_0).toLoadRect j) x) ?_
  refine filled_step 800 816 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 800 _ _ (fun j => harg2.readAt_unread x0 (Rect.unit (s := S1024x2048) ![800, 0] S16x2048.size inb_S1024x2048_S16x2048_800_0).toLoadRect j) x) ?_
  refine filled_step 784 800 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 784 _ _ (fun j => harg2.readAt_unread x0 (Rect.unit (s := S1024x2048) ![784, 0] S16x2048.size inb_S1024x2048_S16x2048_784_0).toLoadRect j) x) ?_
  refine filled_step 768 784 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 768 _ _ (fun j => harg2.readAt_unread x0 (Rect.unit (s := S1024x2048) ![768, 0] S16x2048.size inb_S1024x2048_S16x2048_768_0).toLoadRect j) x) ?_
  refine filled_step 752 768 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 752 _ _ (fun j => harg2.readAt_unread x0 (Rect.unit (s := S1024x2048) ![752, 0] S16x2048.size inb_S1024x2048_S16x2048_752_0).toLoadRect j) x) ?_
  refine filled_step 736 752 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 736 _ _ (fun j => harg2.readAt_unread x0 (Rect.unit (s := S1024x2048) ![736, 0] S16x2048.size inb_S1024x2048_S16x2048_736_0).toLoadRect j) x) ?_
  refine filled_step 720 736 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 720 _ _ (fun j => harg2.readAt_unread x0 (Rect.unit (s := S1024x2048) ![720, 0] S16x2048.size inb_S1024x2048_S16x2048_720_0).toLoadRect j) x) ?_
  refine filled_step 704 720 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 704 _ _ (fun j => harg2.readAt_unread x0 (Rect.unit (s := S1024x2048) ![704, 0] S16x2048.size inb_S1024x2048_S16x2048_704_0).toLoadRect j) x) ?_
  refine filled_step 688 704 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 688 _ _ (fun j => harg2.readAt_unread x0 (Rect.unit (s := S1024x2048) ![688, 0] S16x2048.size inb_S1024x2048_S16x2048_688_0).toLoadRect j) x) ?_
  refine filled_step 672 688 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 672 _ _ (fun j => harg2.readAt_unread x0 (Rect.unit (s := S1024x2048) ![672, 0] S16x2048.size inb_S1024x2048_S16x2048_672_0).toLoadRect j) x) ?_
  refine filled_step 656 672 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 656 _ _ (fun j => harg2.readAt_unread x0 (Rect.unit (s := S1024x2048) ![656, 0] S16x2048.size inb_S1024x2048_S16x2048_656_0).toLoadRect j) x) ?_
  refine filled_step 640 656 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 640 _ _ (fun j => harg2.readAt_unread x0 (Rect.unit (s := S1024x2048) ![640, 0] S16x2048.size inb_S1024x2048_S16x2048_640_0).toLoadRect j) x) ?_
  refine filled_step 624 640 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 624 _ _ (fun j => harg2.readAt_unread x0 (Rect.unit (s := S1024x2048) ![624, 0] S16x2048.size inb_S1024x2048_S16x2048_624_0).toLoadRect j) x) ?_
  refine filled_step 608 624 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 608 _ _ (fun j => harg2.readAt_unread x0 (Rect.unit (s := S1024x2048) ![608, 0] S16x2048.size inb_S1024x2048_S16x2048_608_0).toLoadRect j) x) ?_
  refine filled_step 592 608 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 592 _ _ (fun j => harg2.readAt_unread x0 (Rect.unit (s := S1024x2048) ![592, 0] S16x2048.size inb_S1024x2048_S16x2048_592_0).toLoadRect j) x) ?_
  refine filled_step 576 592 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 576 _ _ (fun j => harg2.readAt_unread x0 (Rect.unit (s := S1024x2048) ![576, 0] S16x2048.size inb_S1024x2048_S16x2048_576_0).toLoadRect j) x) ?_
  refine filled_step 560 576 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 560 _ _ (fun j => harg2.readAt_unread x0 (Rect.unit (s := S1024x2048) ![560, 0] S16x2048.size inb_S1024x2048_S16x2048_560_0).toLoadRect j) x) ?_
  refine filled_step 544 560 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 544 _ _ (fun j => harg2.readAt_unread x0 (Rect.unit (s := S1024x2048) ![544, 0] S16x2048.size inb_S1024x2048_S16x2048_544_0).toLoadRect j) x) ?_
  refine filled_step 528 544 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 528 _ _ (fun j => harg2.readAt_unread x0 (Rect.unit (s := S1024x2048) ![528, 0] S16x2048.size inb_S1024x2048_S16x2048_528_0).toLoadRect j) x) ?_
  refine filled_step 512 528 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 512 _ _ (fun j => harg2.readAt_unread x0 (Rect.unit (s := S1024x2048) ![512, 0] S16x2048.size inb_S1024x2048_S16x2048_512_0).toLoadRect j) x) ?_
  refine filled_step 496 512 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 496 _ _ (fun j => harg2.readAt_unread x0 (Rect.unit (s := S1024x2048) ![496, 0] S16x2048.size inb_S1024x2048_S16x2048_496_0).toLoadRect j) x) ?_
  refine filled_step 480 496 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 480 _ _ (fun j => harg2.readAt_unread x0 (Rect.unit (s := S1024x2048) ![480, 0] S16x2048.size inb_S1024x2048_S16x2048_480_0).toLoadRect j) x) ?_
  refine filled_step 464 480 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 464 _ _ (fun j => harg2.readAt_unread x0 (Rect.unit (s := S1024x2048) ![464, 0] S16x2048.size inb_S1024x2048_S16x2048_464_0).toLoadRect j) x) ?_
  refine filled_step 448 464 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 448 _ _ (fun j => harg2.readAt_unread x0 (Rect.unit (s := S1024x2048) ![448, 0] S16x2048.size inb_S1024x2048_S16x2048_448_0).toLoadRect j) x) ?_
  refine filled_step 432 448 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 432 _ _ (fun j => harg2.readAt_unread x0 (Rect.unit (s := S1024x2048) ![432, 0] S16x2048.size inb_S1024x2048_S16x2048_432_0).toLoadRect j) x) ?_
  refine filled_step 416 432 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 416 _ _ (fun j => harg2.readAt_unread x0 (Rect.unit (s := S1024x2048) ![416, 0] S16x2048.size inb_S1024x2048_S16x2048_416_0).toLoadRect j) x) ?_
  refine filled_step 400 416 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 400 _ _ (fun j => harg2.readAt_unread x0 (Rect.unit (s := S1024x2048) ![400, 0] S16x2048.size inb_S1024x2048_S16x2048_400_0).toLoadRect j) x) ?_
  refine filled_step 384 400 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 384 _ _ (fun j => harg2.readAt_unread x0 (Rect.unit (s := S1024x2048) ![384, 0] S16x2048.size inb_S1024x2048_S16x2048_384_0).toLoadRect j) x) ?_
  refine filled_step 368 384 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 368 _ _ (fun j => harg2.readAt_unread x0 (Rect.unit (s := S1024x2048) ![368, 0] S16x2048.size inb_S1024x2048_S16x2048_368_0).toLoadRect j) x) ?_
  refine filled_step 352 368 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 352 _ _ (fun j => harg2.readAt_unread x0 (Rect.unit (s := S1024x2048) ![352, 0] S16x2048.size inb_S1024x2048_S16x2048_352_0).toLoadRect j) x) ?_
  refine filled_step 336 352 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 336 _ _ (fun j => harg2.readAt_unread x0 (Rect.unit (s := S1024x2048) ![336, 0] S16x2048.size inb_S1024x2048_S16x2048_336_0).toLoadRect j) x) ?_
  refine filled_step 320 336 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 320 _ _ (fun j => harg2.readAt_unread x0 (Rect.unit (s := S1024x2048) ![320, 0] S16x2048.size inb_S1024x2048_S16x2048_320_0).toLoadRect j) x) ?_
  refine filled_step 304 320 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 304 _ _ (fun j => harg2.readAt_unread x0 (Rect.unit (s := S1024x2048) ![304, 0] S16x2048.size inb_S1024x2048_S16x2048_304_0).toLoadRect j) x) ?_
  refine filled_step 288 304 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 288 _ _ (fun j => harg2.readAt_unread x0 (Rect.unit (s := S1024x2048) ![288, 0] S16x2048.size inb_S1024x2048_S16x2048_288_0).toLoadRect j) x) ?_
  refine filled_step 272 288 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 272 _ _ (fun j => harg2.readAt_unread x0 (Rect.unit (s := S1024x2048) ![272, 0] S16x2048.size inb_S1024x2048_S16x2048_272_0).toLoadRect j) x) ?_
  refine filled_step 256 272 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 256 _ _ (fun j => harg2.readAt_unread x0 (Rect.unit (s := S1024x2048) ![256, 0] S16x2048.size inb_S1024x2048_S16x2048_256_0).toLoadRect j) x) ?_
  refine filled_step 240 256 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 240 _ _ (fun j => harg2.readAt_unread x0 (Rect.unit (s := S1024x2048) ![240, 0] S16x2048.size inb_S1024x2048_S16x2048_240_0).toLoadRect j) x) ?_
  refine filled_step 224 240 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 224 _ _ (fun j => harg2.readAt_unread x0 (Rect.unit (s := S1024x2048) ![224, 0] S16x2048.size inb_S1024x2048_S16x2048_224_0).toLoadRect j) x) ?_
  refine filled_step 208 224 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 208 _ _ (fun j => harg2.readAt_unread x0 (Rect.unit (s := S1024x2048) ![208, 0] S16x2048.size inb_S1024x2048_S16x2048_208_0).toLoadRect j) x) ?_
  refine filled_step 192 208 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 192 _ _ (fun j => harg2.readAt_unread x0 (Rect.unit (s := S1024x2048) ![192, 0] S16x2048.size inb_S1024x2048_S16x2048_192_0).toLoadRect j) x) ?_
  refine filled_step 176 192 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 176 _ _ (fun j => harg2.readAt_unread x0 (Rect.unit (s := S1024x2048) ![176, 0] S16x2048.size inb_S1024x2048_S16x2048_176_0).toLoadRect j) x) ?_
  refine filled_step 160 176 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 160 _ _ (fun j => harg2.readAt_unread x0 (Rect.unit (s := S1024x2048) ![160, 0] S16x2048.size inb_S1024x2048_S16x2048_160_0).toLoadRect j) x) ?_
  refine filled_step 144 160 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 144 _ _ (fun j => harg2.readAt_unread x0 (Rect.unit (s := S1024x2048) ![144, 0] S16x2048.size inb_S1024x2048_S16x2048_144_0).toLoadRect j) x) ?_
  refine filled_step 128 144 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 128 _ _ (fun j => harg2.readAt_unread x0 (Rect.unit (s := S1024x2048) ![128, 0] S16x2048.size inb_S1024x2048_S16x2048_128_0).toLoadRect j) x) ?_
  refine filled_step 112 128 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 112 _ _ (fun j => harg2.readAt_unread x0 (Rect.unit (s := S1024x2048) ![112, 0] S16x2048.size inb_S1024x2048_S16x2048_112_0).toLoadRect j) x) ?_
  refine filled_step 96 112 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 96 _ _ (fun j => harg2.readAt_unread x0 (Rect.unit (s := S1024x2048) ![96, 0] S16x2048.size inb_S1024x2048_S16x2048_96_0).toLoadRect j) x) ?_
  refine filled_step 80 96 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 80 _ _ (fun j => harg2.readAt_unread x0 (Rect.unit (s := S1024x2048) ![80, 0] S16x2048.size inb_S1024x2048_S16x2048_80_0).toLoadRect j) x) ?_
  refine filled_step 64 80 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 64 _ _ (fun j => harg2.readAt_unread x0 (Rect.unit (s := S1024x2048) ![64, 0] S16x2048.size inb_S1024x2048_S16x2048_64_0).toLoadRect j) x) ?_
  refine filled_step 48 64 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 48 _ _ (fun j => harg2.readAt_unread x0 (Rect.unit (s := S1024x2048) ![48, 0] S16x2048.size inb_S1024x2048_S16x2048_48_0).toLoadRect j) x) ?_
  refine filled_step 32 48 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 32 _ _ (fun j => harg2.readAt_unread x0 (Rect.unit (s := S1024x2048) ![32, 0] S16x2048.size inb_S1024x2048_S16x2048_32_0).toLoadRect j) x) ?_
  refine filled_step 16 32 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 16 _ _ (fun j => harg2.readAt_unread x0 (Rect.unit (s := S1024x2048) ![16, 0] S16x2048.size inb_S1024x2048_S16x2048_16_0).toLoadRect j) x) ?_
  refine filled_step 0 16 _ _ _ rfl (fun x => stripe_eq x0 (View.readAt (Elt Ideal) arg4.view (Rect.unit (s := S8x2048) ![0, 0] S1x2048.size inb_S8x2048_S1x2048_0_0).toLoadRect (harg4.unread x2)) (k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3))) 0 _ _ (fun j => harg2.readAt_unread x0 (Rect.unit (s := S1024x2048) ![0, 0] S16x2048.size inb_S1024x2048_S16x2048_0_0).toLoadRect j) x) ?_
  exact filled_zero _ _

/-- The scratch is filled with the modulated norm, its parameters read off the input blocks. -/
theorem scratch_filled'     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) :
    Filled (normMod x0 (row8 x2) (gain x1 x3)) 1024 (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 := by
  have e1 : (fun l : Fin 2048 => (View.readAt (Elt Ideal) arg4.view (Rect.unit (s := S8x2048) ![0, 0] S1x2048.size inb_S8x2048_S1x2048_0_0).toLoadRect (harg4.unread x2)) (ix2 0 l)) = row8 x2 := funext fun l => readAt_row harg4 x2 _ l
  have e3 : (fun l : Fin 2048 => k0_pay3 (View.readAt (Elt Ideal) arg3.view (Rect.unit (s := S1x2048) ![0, 0] S1x2048.size inb_S1x2048_S1x2048_0_0).toLoadRect (harg3.unread x1)) (View.readAt (Elt Ideal) arg5.view (Rect.unit (s := S8x2048) ![0, 0] S1x2048.size inb_S8x2048_S1x2048_0_0).toLoadRect (harg5.unread x3)) (ix2 0 l))
      = gain x1 x3 := funext fun l => by
    rw [pay3_apply, readAt_whole harg3 x1 _ (by decide)]
    exact congrArg (fun t => x1 (ix2 0 l) * (Ideal.ofBits .f32 0x3F800000#32 + t)) (readAt_row harg5 x3 _ l)
  have h := scratch_filled c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
  intro y hy
  refine (h y hy).trans ?_
  exact congrFun (congr (congrArg (normMod x0) e1) e3) y

/-- What point A leaves in the scratch: the modulated norm of the block's rows. -/
theorem scratch_A     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = (normMod x0 (row8 x2) (gain x1 x3)) := by
  unfold sout0_A_0
  rw [View.read_writes_junk_eq_canon]
  funext y
  exact scratch_filled' c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y (y 0).isLt

/-- Before the first step's store the block holds the rows of the input. -/
theorem rows_filled     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) :
    Filled x0 1024 (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1.tail := by
  refine filled_step 1008 1024 _ _ _ rfl (fun x => harg2.readAt_unread x0 (Rect.unit (s := S1024x2048) ![1008, 0] S16x2048.size inb_S1024x2048_S16x2048_1008_0).toLoadRect x) ?_
  refine filled_step 992 1008 _ _ _ rfl (fun x => harg2.readAt_unread x0 (Rect.unit (s := S1024x2048) ![992, 0] S16x2048.size inb_S1024x2048_S16x2048_992_0).toLoadRect x) ?_
  refine filled_step 976 992 _ _ _ rfl (fun x => harg2.readAt_unread x0 (Rect.unit (s := S1024x2048) ![976, 0] S16x2048.size inb_S1024x2048_S16x2048_976_0).toLoadRect x) ?_
  refine filled_step 960 976 _ _ _ rfl (fun x => harg2.readAt_unread x0 (Rect.unit (s := S1024x2048) ![960, 0] S16x2048.size inb_S1024x2048_S16x2048_960_0).toLoadRect x) ?_
  refine filled_step 944 960 _ _ _ rfl (fun x => harg2.readAt_unread x0 (Rect.unit (s := S1024x2048) ![944, 0] S16x2048.size inb_S1024x2048_S16x2048_944_0).toLoadRect x) ?_
  refine filled_step 928 944 _ _ _ rfl (fun x => harg2.readAt_unread x0 (Rect.unit (s := S1024x2048) ![928, 0] S16x2048.size inb_S1024x2048_S16x2048_928_0).toLoadRect x) ?_
  refine filled_step 912 928 _ _ _ rfl (fun x => harg2.readAt_unread x0 (Rect.unit (s := S1024x2048) ![912, 0] S16x2048.size inb_S1024x2048_S16x2048_912_0).toLoadRect x) ?_
  refine filled_step 896 912 _ _ _ rfl (fun x => harg2.readAt_unread x0 (Rect.unit (s := S1024x2048) ![896, 0] S16x2048.size inb_S1024x2048_S16x2048_896_0).toLoadRect x) ?_
  refine filled_step 880 896 _ _ _ rfl (fun x => harg2.readAt_unread x0 (Rect.unit (s := S1024x2048) ![880, 0] S16x2048.size inb_S1024x2048_S16x2048_880_0).toLoadRect x) ?_
  refine filled_step 864 880 _ _ _ rfl (fun x => harg2.readAt_unread x0 (Rect.unit (s := S1024x2048) ![864, 0] S16x2048.size inb_S1024x2048_S16x2048_864_0).toLoadRect x) ?_
  refine filled_step 848 864 _ _ _ rfl (fun x => harg2.readAt_unread x0 (Rect.unit (s := S1024x2048) ![848, 0] S16x2048.size inb_S1024x2048_S16x2048_848_0).toLoadRect x) ?_
  refine filled_step 832 848 _ _ _ rfl (fun x => harg2.readAt_unread x0 (Rect.unit (s := S1024x2048) ![832, 0] S16x2048.size inb_S1024x2048_S16x2048_832_0).toLoadRect x) ?_
  refine filled_step 816 832 _ _ _ rfl (fun x => harg2.readAt_unread x0 (Rect.unit (s := S1024x2048) ![816, 0] S16x2048.size inb_S1024x2048_S16x2048_816_0).toLoadRect x) ?_
  refine filled_step 800 816 _ _ _ rfl (fun x => harg2.readAt_unread x0 (Rect.unit (s := S1024x2048) ![800, 0] S16x2048.size inb_S1024x2048_S16x2048_800_0).toLoadRect x) ?_
  refine filled_step 784 800 _ _ _ rfl (fun x => harg2.readAt_unread x0 (Rect.unit (s := S1024x2048) ![784, 0] S16x2048.size inb_S1024x2048_S16x2048_784_0).toLoadRect x) ?_
  refine filled_step 768 784 _ _ _ rfl (fun x => harg2.readAt_unread x0 (Rect.unit (s := S1024x2048) ![768, 0] S16x2048.size inb_S1024x2048_S16x2048_768_0).toLoadRect x) ?_
  refine filled_step 752 768 _ _ _ rfl (fun x => harg2.readAt_unread x0 (Rect.unit (s := S1024x2048) ![752, 0] S16x2048.size inb_S1024x2048_S16x2048_752_0).toLoadRect x) ?_
  refine filled_step 736 752 _ _ _ rfl (fun x => harg2.readAt_unread x0 (Rect.unit (s := S1024x2048) ![736, 0] S16x2048.size inb_S1024x2048_S16x2048_736_0).toLoadRect x) ?_
  refine filled_step 720 736 _ _ _ rfl (fun x => harg2.readAt_unread x0 (Rect.unit (s := S1024x2048) ![720, 0] S16x2048.size inb_S1024x2048_S16x2048_720_0).toLoadRect x) ?_
  refine filled_step 704 720 _ _ _ rfl (fun x => harg2.readAt_unread x0 (Rect.unit (s := S1024x2048) ![704, 0] S16x2048.size inb_S1024x2048_S16x2048_704_0).toLoadRect x) ?_
  refine filled_step 688 704 _ _ _ rfl (fun x => harg2.readAt_unread x0 (Rect.unit (s := S1024x2048) ![688, 0] S16x2048.size inb_S1024x2048_S16x2048_688_0).toLoadRect x) ?_
  refine filled_step 672 688 _ _ _ rfl (fun x => harg2.readAt_unread x0 (Rect.unit (s := S1024x2048) ![672, 0] S16x2048.size inb_S1024x2048_S16x2048_672_0).toLoadRect x) ?_
  refine filled_step 656 672 _ _ _ rfl (fun x => harg2.readAt_unread x0 (Rect.unit (s := S1024x2048) ![656, 0] S16x2048.size inb_S1024x2048_S16x2048_656_0).toLoadRect x) ?_
  refine filled_step 640 656 _ _ _ rfl (fun x => harg2.readAt_unread x0 (Rect.unit (s := S1024x2048) ![640, 0] S16x2048.size inb_S1024x2048_S16x2048_640_0).toLoadRect x) ?_
  refine filled_step 624 640 _ _ _ rfl (fun x => harg2.readAt_unread x0 (Rect.unit (s := S1024x2048) ![624, 0] S16x2048.size inb_S1024x2048_S16x2048_624_0).toLoadRect x) ?_
  refine filled_step 608 624 _ _ _ rfl (fun x => harg2.readAt_unread x0 (Rect.unit (s := S1024x2048) ![608, 0] S16x2048.size inb_S1024x2048_S16x2048_608_0).toLoadRect x) ?_
  refine filled_step 592 608 _ _ _ rfl (fun x => harg2.readAt_unread x0 (Rect.unit (s := S1024x2048) ![592, 0] S16x2048.size inb_S1024x2048_S16x2048_592_0).toLoadRect x) ?_
  refine filled_step 576 592 _ _ _ rfl (fun x => harg2.readAt_unread x0 (Rect.unit (s := S1024x2048) ![576, 0] S16x2048.size inb_S1024x2048_S16x2048_576_0).toLoadRect x) ?_
  refine filled_step 560 576 _ _ _ rfl (fun x => harg2.readAt_unread x0 (Rect.unit (s := S1024x2048) ![560, 0] S16x2048.size inb_S1024x2048_S16x2048_560_0).toLoadRect x) ?_
  refine filled_step 544 560 _ _ _ rfl (fun x => harg2.readAt_unread x0 (Rect.unit (s := S1024x2048) ![544, 0] S16x2048.size inb_S1024x2048_S16x2048_544_0).toLoadRect x) ?_
  refine filled_step 528 544 _ _ _ rfl (fun x => harg2.readAt_unread x0 (Rect.unit (s := S1024x2048) ![528, 0] S16x2048.size inb_S1024x2048_S16x2048_528_0).toLoadRect x) ?_
  refine filled_step 512 528 _ _ _ rfl (fun x => harg2.readAt_unread x0 (Rect.unit (s := S1024x2048) ![512, 0] S16x2048.size inb_S1024x2048_S16x2048_512_0).toLoadRect x) ?_
  refine filled_step 496 512 _ _ _ rfl (fun x => harg2.readAt_unread x0 (Rect.unit (s := S1024x2048) ![496, 0] S16x2048.size inb_S1024x2048_S16x2048_496_0).toLoadRect x) ?_
  refine filled_step 480 496 _ _ _ rfl (fun x => harg2.readAt_unread x0 (Rect.unit (s := S1024x2048) ![480, 0] S16x2048.size inb_S1024x2048_S16x2048_480_0).toLoadRect x) ?_
  refine filled_step 464 480 _ _ _ rfl (fun x => harg2.readAt_unread x0 (Rect.unit (s := S1024x2048) ![464, 0] S16x2048.size inb_S1024x2048_S16x2048_464_0).toLoadRect x) ?_
  refine filled_step 448 464 _ _ _ rfl (fun x => harg2.readAt_unread x0 (Rect.unit (s := S1024x2048) ![448, 0] S16x2048.size inb_S1024x2048_S16x2048_448_0).toLoadRect x) ?_
  refine filled_step 432 448 _ _ _ rfl (fun x => harg2.readAt_unread x0 (Rect.unit (s := S1024x2048) ![432, 0] S16x2048.size inb_S1024x2048_S16x2048_432_0).toLoadRect x) ?_
  refine filled_step 416 432 _ _ _ rfl (fun x => harg2.readAt_unread x0 (Rect.unit (s := S1024x2048) ![416, 0] S16x2048.size inb_S1024x2048_S16x2048_416_0).toLoadRect x) ?_
  refine filled_step 400 416 _ _ _ rfl (fun x => harg2.readAt_unread x0 (Rect.unit (s := S1024x2048) ![400, 0] S16x2048.size inb_S1024x2048_S16x2048_400_0).toLoadRect x) ?_
  refine filled_step 384 400 _ _ _ rfl (fun x => harg2.readAt_unread x0 (Rect.unit (s := S1024x2048) ![384, 0] S16x2048.size inb_S1024x2048_S16x2048_384_0).toLoadRect x) ?_
  refine filled_step 368 384 _ _ _ rfl (fun x => harg2.readAt_unread x0 (Rect.unit (s := S1024x2048) ![368, 0] S16x2048.size inb_S1024x2048_S16x2048_368_0).toLoadRect x) ?_
  refine filled_step 352 368 _ _ _ rfl (fun x => harg2.readAt_unread x0 (Rect.unit (s := S1024x2048) ![352, 0] S16x2048.size inb_S1024x2048_S16x2048_352_0).toLoadRect x) ?_
  refine filled_step 336 352 _ _ _ rfl (fun x => harg2.readAt_unread x0 (Rect.unit (s := S1024x2048) ![336, 0] S16x2048.size inb_S1024x2048_S16x2048_336_0).toLoadRect x) ?_
  refine filled_step 320 336 _ _ _ rfl (fun x => harg2.readAt_unread x0 (Rect.unit (s := S1024x2048) ![320, 0] S16x2048.size inb_S1024x2048_S16x2048_320_0).toLoadRect x) ?_
  refine filled_step 304 320 _ _ _ rfl (fun x => harg2.readAt_unread x0 (Rect.unit (s := S1024x2048) ![304, 0] S16x2048.size inb_S1024x2048_S16x2048_304_0).toLoadRect x) ?_
  refine filled_step 288 304 _ _ _ rfl (fun x => harg2.readAt_unread x0 (Rect.unit (s := S1024x2048) ![288, 0] S16x2048.size inb_S1024x2048_S16x2048_288_0).toLoadRect x) ?_
  refine filled_step 272 288 _ _ _ rfl (fun x => harg2.readAt_unread x0 (Rect.unit (s := S1024x2048) ![272, 0] S16x2048.size inb_S1024x2048_S16x2048_272_0).toLoadRect x) ?_
  refine filled_step 256 272 _ _ _ rfl (fun x => harg2.readAt_unread x0 (Rect.unit (s := S1024x2048) ![256, 0] S16x2048.size inb_S1024x2048_S16x2048_256_0).toLoadRect x) ?_
  refine filled_step 240 256 _ _ _ rfl (fun x => harg2.readAt_unread x0 (Rect.unit (s := S1024x2048) ![240, 0] S16x2048.size inb_S1024x2048_S16x2048_240_0).toLoadRect x) ?_
  refine filled_step 224 240 _ _ _ rfl (fun x => harg2.readAt_unread x0 (Rect.unit (s := S1024x2048) ![224, 0] S16x2048.size inb_S1024x2048_S16x2048_224_0).toLoadRect x) ?_
  refine filled_step 208 224 _ _ _ rfl (fun x => harg2.readAt_unread x0 (Rect.unit (s := S1024x2048) ![208, 0] S16x2048.size inb_S1024x2048_S16x2048_208_0).toLoadRect x) ?_
  refine filled_step 192 208 _ _ _ rfl (fun x => harg2.readAt_unread x0 (Rect.unit (s := S1024x2048) ![192, 0] S16x2048.size inb_S1024x2048_S16x2048_192_0).toLoadRect x) ?_
  refine filled_step 176 192 _ _ _ rfl (fun x => harg2.readAt_unread x0 (Rect.unit (s := S1024x2048) ![176, 0] S16x2048.size inb_S1024x2048_S16x2048_176_0).toLoadRect x) ?_
  refine filled_step 160 176 _ _ _ rfl (fun x => harg2.readAt_unread x0 (Rect.unit (s := S1024x2048) ![160, 0] S16x2048.size inb_S1024x2048_S16x2048_160_0).toLoadRect x) ?_
  refine filled_step 144 160 _ _ _ rfl (fun x => harg2.readAt_unread x0 (Rect.unit (s := S1024x2048) ![144, 0] S16x2048.size inb_S1024x2048_S16x2048_144_0).toLoadRect x) ?_
  refine filled_step 128 144 _ _ _ rfl (fun x => harg2.readAt_unread x0 (Rect.unit (s := S1024x2048) ![128, 0] S16x2048.size inb_S1024x2048_S16x2048_128_0).toLoadRect x) ?_
  refine filled_step 112 128 _ _ _ rfl (fun x => harg2.readAt_unread x0 (Rect.unit (s := S1024x2048) ![112, 0] S16x2048.size inb_S1024x2048_S16x2048_112_0).toLoadRect x) ?_
  refine filled_step 96 112 _ _ _ rfl (fun x => harg2.readAt_unread x0 (Rect.unit (s := S1024x2048) ![96, 0] S16x2048.size inb_S1024x2048_S16x2048_96_0).toLoadRect x) ?_
  refine filled_step 80 96 _ _ _ rfl (fun x => harg2.readAt_unread x0 (Rect.unit (s := S1024x2048) ![80, 0] S16x2048.size inb_S1024x2048_S16x2048_80_0).toLoadRect x) ?_
  refine filled_step 64 80 _ _ _ rfl (fun x => harg2.readAt_unread x0 (Rect.unit (s := S1024x2048) ![64, 0] S16x2048.size inb_S1024x2048_S16x2048_64_0).toLoadRect x) ?_
  refine filled_step 48 64 _ _ _ rfl (fun x => harg2.readAt_unread x0 (Rect.unit (s := S1024x2048) ![48, 0] S16x2048.size inb_S1024x2048_S16x2048_48_0).toLoadRect x) ?_
  refine filled_step 32 48 _ _ _ rfl (fun x => harg2.readAt_unread x0 (Rect.unit (s := S1024x2048) ![32, 0] S16x2048.size inb_S1024x2048_S16x2048_32_0).toLoadRect x) ?_
  refine filled_step 16 32 _ _ _ rfl (fun x => harg2.readAt_unread x0 (Rect.unit (s := S1024x2048) ![16, 0] S16x2048.size inb_S1024x2048_S16x2048_16_0).toLoadRect x) ?_
  refine filled_step 0 16 _ _ _ rfl (fun x => harg2.readAt_unread x0 (Rect.unit (s := S1024x2048) ![0, 0] S16x2048.size inb_S1024x2048_S16x2048_0_0).toLoadRect x) ?_
  exact filled_zero _ _

/-- The whole block read back after writes that fill it. -/
theorem readCov_filled {sig : RefSig} {κ : Kind} {sp : Space} {φ : EltTy} (v : View sig κ sp S1024x2048 φ) (G : Vec Ideal S1024x2048 φ)
    (L : List (View.Piece (Elt Ideal) S1024x2048 φ)) (hL : Filled G 1024 L)
    (inb : ∀ a, (![0, 0] : Fin S1024x2048.rank → ℕ) a + S1024x2048.size a ≤ S1024x2048.size a) :
    v.readCov L (Rect.unit (s := S1024x2048) ![0, 0] S1024x2048.size inb).toLoadRect = G := by
  rw [View.readCov_eq_canon']
  have e : View.canon L = G := funext fun y => hL y (y 0).isLt
  rw [e]
  exact View.ld_unit_lit' inb G (by decide)

/-- What point A leaves in the block: the first step over the input's rows. -/
theorem out_A     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : cond0_0 i) (hc1 : ¬cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) :
    out0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = step x0 (row8 x4) (normMod x0 (row8 x2) (gain x1 x3)) x5 x6 x7 := by
  unfold out0_A_9
  rw [View.read_writes_junk_eq_canon]
  refine (View.canon_cons_unit_lit' (S := S1024x2048) (off := ![0, 0]) inb_S1024x2048_S1024x2048_0_0 _ _ (by decide)).trans ?_
  refine (pay2_eq _ _ _ _ _ _).trans ?_
  have e1 := readCov_filled arg12.view _ _ (scratch_filled' c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) inb_S1024x2048_S1024x2048_0_0
  have e2 := readCov_filled arg11.view _ _ (rows_filled c i arg2 harg2 arg3 harg3 arg4 harg4 arg5 harg5 arg6 harg6 arg7 harg7 arg8 harg8 arg9 harg9 arg10 harg10 arg11 harg11 arg12 harg12 hc0 hc1 x0 x1 x2 x3 x4 x5 x6 x7 x8) inb_S1024x2048_S1024x2048_0_0
  have e5 := readAt_whole harg7 x5 inb_S2048x512_S2048x512_0_0 (by decide)
  have e6 := readAt_whole harg8 x6 inb_S2048x512_S2048x512_0_0 (by decide)
  have e7 := readAt_whole harg9 x7 inb_S512x2048_S512x2048_0_0 (by decide)
  have e4 : (fun l => View.readAt (Elt Ideal) arg6.view (Rect.unit (s := S8x2048) ![0, 0] S1x2048.size inb_S8x2048_S1x2048_0_0).toLoadRect (harg6.unread x4) (ix2 0 l))
      = row8 x4 := funext fun l => readAt_row harg6 x4 _ l
  exact congr (congr (congr (congr (congr (congrArg step e2) e4) e1) e5) e6) e7

/-- What a middle point leaves in the block: one more step. -/
theorem out_B     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : ¬cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) (xo9 : Vec Ideal S1024x2048 .f32) (xs0 : Vec Ideal S1024x2048 .bf16) :
    out0_B_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = step xo9 (row8 x4) xs0 x5 x6 x7 := by
  unfold out0_B_9
  rw [View.read_writes_junk_eq_canon]
  refine (View.canon_cons_unit_lit' (S := S1024x2048) (off := ![0, 0]) inb_S1024x2048_S1024x2048_0_0 _ _ (by decide)).trans ?_
  refine (pay2_eq _ _ _ _ _ _).trans ?_
  have e1 := readAt_whole harg12 xs0 inb_S1024x2048_S1024x2048_0_0 (by decide)
  have e2 := readAt_whole harg11 xo9 inb_S1024x2048_S1024x2048_0_0 (by decide)
  have e5 := readAt_whole harg7 x5 inb_S2048x512_S2048x512_0_0 (by decide)
  have e6 := readAt_whole harg8 x6 inb_S2048x512_S2048x512_0_0 (by decide)
  have e7 := readAt_whole harg9 x7 inb_S512x2048_S512x2048_0_0 (by decide)
  have e4 : (fun l => View.readAt (Elt Ideal) arg6.view (Rect.unit (s := S8x2048) ![0, 0] S1x2048.size inb_S8x2048_S1x2048_0_0).toLoadRect (harg6.unread x4) (ix2 0 l))
      = row8 x4 := funext fun l => readAt_row harg6 x4 _ l
  exact congr (congr (congr (congr (congr (congrArg step e2) e4) e1) e5) e6) e7

/-- At the last step of a block the sixty-four stripes of the final norm go over the block one after another. -/
theorem final_half     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) (xo9 : Vec Ideal S1024x2048 .f32) (xs0 : Vec Ideal S1024x2048 .bf16) :
    Half (normFin (step xo9 (row8 x4) xs0 x5 x6 x7) (fun l => (k0_pay95 (View.readAt (Elt Ideal) arg10.view (Rect.unit (s := S1x2048) ![0, 0] S1x2048.size inb_S1x2048_S1x2048_0_0).toLoadRect (harg10.unread x8))) (ix2 0 l)))
      (step xo9 (row8 x4) xs0 x5 x6 x7) 1024 (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0).1 := by
  refine half_step _ (k0_pay95 (View.readAt (Elt Ideal) arg10.view (Rect.unit (s := S1x2048) ![0, 0] S1x2048.size inb_S1x2048_S1x2048_0_0).toLoadRect (harg10.unread x8))) arg11.view 1008 1024 inb_S1024x2048_S16x2048_1008_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 992 1008 inb_S1024x2048_S16x2048_992_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 976 992 inb_S1024x2048_S16x2048_976_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 960 976 inb_S1024x2048_S16x2048_960_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 944 960 inb_S1024x2048_S16x2048_944_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 928 944 inb_S1024x2048_S16x2048_928_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 912 928 inb_S1024x2048_S16x2048_912_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 896 912 inb_S1024x2048_S16x2048_896_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 880 896 inb_S1024x2048_S16x2048_880_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 864 880 inb_S1024x2048_S16x2048_864_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 848 864 inb_S1024x2048_S16x2048_848_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 832 848 inb_S1024x2048_S16x2048_832_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 816 832 inb_S1024x2048_S16x2048_816_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 800 816 inb_S1024x2048_S16x2048_800_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 784 800 inb_S1024x2048_S16x2048_784_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 768 784 inb_S1024x2048_S16x2048_768_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 752 768 inb_S1024x2048_S16x2048_752_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 736 752 inb_S1024x2048_S16x2048_736_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 720 736 inb_S1024x2048_S16x2048_720_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 704 720 inb_S1024x2048_S16x2048_704_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 688 704 inb_S1024x2048_S16x2048_688_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 672 688 inb_S1024x2048_S16x2048_672_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 656 672 inb_S1024x2048_S16x2048_656_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 640 656 inb_S1024x2048_S16x2048_640_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 624 640 inb_S1024x2048_S16x2048_624_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 608 624 inb_S1024x2048_S16x2048_608_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 592 608 inb_S1024x2048_S16x2048_592_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 576 592 inb_S1024x2048_S16x2048_576_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 560 576 inb_S1024x2048_S16x2048_560_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 544 560 inb_S1024x2048_S16x2048_544_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 528 544 inb_S1024x2048_S16x2048_528_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 512 528 inb_S1024x2048_S16x2048_512_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 496 512 inb_S1024x2048_S16x2048_496_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 480 496 inb_S1024x2048_S16x2048_480_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 464 480 inb_S1024x2048_S16x2048_464_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 448 464 inb_S1024x2048_S16x2048_448_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 432 448 inb_S1024x2048_S16x2048_432_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 416 432 inb_S1024x2048_S16x2048_416_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 400 416 inb_S1024x2048_S16x2048_400_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 384 400 inb_S1024x2048_S16x2048_384_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 368 384 inb_S1024x2048_S16x2048_368_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 352 368 inb_S1024x2048_S16x2048_352_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 336 352 inb_S1024x2048_S16x2048_336_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 320 336 inb_S1024x2048_S16x2048_320_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 304 320 inb_S1024x2048_S16x2048_304_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 288 304 inb_S1024x2048_S16x2048_288_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 272 288 inb_S1024x2048_S16x2048_272_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 256 272 inb_S1024x2048_S16x2048_256_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 240 256 inb_S1024x2048_S16x2048_240_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 224 240 inb_S1024x2048_S16x2048_224_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 208 224 inb_S1024x2048_S16x2048_208_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 192 208 inb_S1024x2048_S16x2048_192_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 176 192 inb_S1024x2048_S16x2048_176_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 160 176 inb_S1024x2048_S16x2048_160_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 144 160 inb_S1024x2048_S16x2048_144_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 128 144 inb_S1024x2048_S16x2048_128_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 112 128 inb_S1024x2048_S16x2048_112_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 96 112 inb_S1024x2048_S16x2048_96_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 80 96 inb_S1024x2048_S16x2048_80_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 64 80 inb_S1024x2048_S16x2048_64_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 48 64 inb_S1024x2048_S16x2048_48_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 32 48 inb_S1024x2048_S16x2048_32_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 16 32 inb_S1024x2048_S16x2048_16_0 _ _ rfl rfl ?_
  refine half_step _ (k0_pay95 (View.readAt (Elt Ideal) arg10.view (Rect.unit (s := S1x2048) ![0, 0] S1x2048.size inb_S1x2048_S1x2048_0_0).toLoadRect (harg10.unread x8))) arg11.view 0 16 inb_S1024x2048_S16x2048_0_0 _ _ rfl rfl ?_
  refine half_zero _ _ _ ?_
  refine (View.canon_cons_unit_lit' (S := S1024x2048) (off := ![0, 0]) inb_S1024x2048_S1024x2048_0_0 _ _ (by decide)).trans ?_
  refine (pay2_eq _ _ _ _ _ _).trans ?_
  have e1 := readAt_whole harg12 xs0 inb_S1024x2048_S1024x2048_0_0 (by decide)
  have e2 := readAt_whole harg11 xo9 inb_S1024x2048_S1024x2048_0_0 (by decide)
  have e5 := readAt_whole harg7 x5 inb_S2048x512_S2048x512_0_0 (by decide)
  have e6 := readAt_whole harg8 x6 inb_S2048x512_S2048x512_0_0 (by decide)
  have e7 := readAt_whole harg9 x7 inb_S512x2048_S512x2048_0_0 (by decide)
  have e4 : (fun l => View.readAt (Elt Ideal) arg6.view (Rect.unit (s := S8x2048) ![0, 0] S1x2048.size inb_S8x2048_S1x2048_0_0).toLoadRect (harg6.unread x4) (ix2 0 l))
      = row8 x4 := funext fun l => readAt_row harg6 x4 _ l
  exact congr (congr (congr (congr (congr (congrArg step e2) e4) e1) e5) e6) e7

/-- What the last point leaves in the block: the final norm of the last step's rows. -/
theorem out_C     (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole) (hc0 : ¬cond0_0 i) (hc1 : cond0_1 i) (x0 : Vec Ideal S1024x2048 .f32) (x1 : Vec Ideal S1x2048 .f32) (x2 : Vec Ideal S8x2048 .f32) (x3 : Vec Ideal S8x2048 .f32) (x4 : Vec Ideal S8x2048 .f32) (x5 : Vec Ideal S2048x512 .bf16) (x6 : Vec Ideal S2048x512 .bf16) (x7 : Vec Ideal S512x2048 .bf16) (x8 : Vec Ideal S1x2048 .f32) (xo9 : Vec Ideal S1024x2048 .f32) (xs0 : Vec Ideal S1024x2048 .bf16) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = normFin (step xo9 (row8 x4) xs0 x5 x6 x7) (row1 x8) := by
  unfold out0_C_9
  rw [View.read_writes_junk_eq_canon]
  funext y
  refine (final_half c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 y).trans ((if_pos (y 0).isLt).trans ?_)
  have e : k0_pay95 (View.readAt (Elt Ideal) arg10.view (Rect.unit (s := S1x2048) ![0, 0] S1x2048.size inb_S1x2048_S1x2048_0_0).toLoadRect (harg10.unread x8)) = x8 := by
    rw [readAt_whole harg10 x8 _ (by decide)]
    exact shapeCast_self _ _
  rw [e]
  rfl

end Cert.FfnIdeal.Hand
-- ==== Proof.FfnArray.lean ====
module

public import proofs.«01_k».proof.Proof.FfnCases

/-! The arrays of the feed-forward call: what its blocks read of the arguments, and what the result's array holds at the end. -/

@[expose] public section
set_option maxRecDepth 16384
noncomputable section
open Idealize.ShloMosaic Idealize.ShloMosaic.Pointwise Idealize.ShloMosaic.TcCoe

namespace Cert.FfnIdeal.Hand
open Cert.FfnIdeal Cert.FfnIdeal.Gen

variable (m : (ℓ : Loc nD τ sig) → Buf (Elt Ideal) ℓ) (c : Dev nD)

/-- The arguments, as arrays of extended reals. -/
abbrev aX : Vec Ideal S8192x2048 .f32 := m ((c : Thread nD τ).loc main_arg0)
abbrev aG : Vec Ideal S1x2048 .f32 := m ((c : Thread nD τ).loc main_arg1)
abbrev aM : Vec Ideal S8x8192 .f32 := m ((c : Thread nD τ).loc main_arg2)
abbrev aWg : Vec Ideal S2048x5632 .bf16 := m ((c : Thread nD τ).loc main_arg3)
abbrev aWu : Vec Ideal S2048x5632 .bf16 := m ((c : Thread nD τ).loc main_arg4)
abbrev aWd : Vec Ideal S5632x2048 .bf16 := m ((c : Thread nD τ).loc main_arg5)
abbrev aF : Vec Ideal S2048 .f32 := m ((c : Thread nD τ).loc main_arg6)

/-- The printed index maps over the grid. -/
theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 1 := (by decide +kernel : ∀ t : Fin grid0.N, _)
theorem idx3 : ∀ t : Fin cfg0.N, win0_3.index t (0 : Fin 2) = 0 ∧ win0_3.index t (1 : Fin 2) = 2 := (by decide +kernel : ∀ t : Fin grid0.N, _)
theorem idx4 : ∀ t : Fin cfg0.N, win0_4.index t (0 : Fin 2) = 0 ∧ win0_4.index t (1 : Fin 2) = 3 := (by decide +kernel : ∀ t : Fin grid0.N, _)
theorem idx5 : ∀ t : Fin cfg0.N, win0_5.index t (0 : Fin 2) = 0 ∧ win0_5.index t (1 : Fin 2) = t.val % 11 := (by decide +kernel : ∀ t : Fin grid0.N, _)
theorem idx6 : ∀ t : Fin cfg0.N, win0_6.index t (0 : Fin 2) = 0 ∧ win0_6.index t (1 : Fin 2) = t.val % 11 := (by decide +kernel : ∀ t : Fin grid0.N, _)
theorem idx7 : ∀ t : Fin cfg0.N, win0_7.index t (0 : Fin 2) = t.val % 11 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)

/-- The gain's row as the call finds it. -/
theorem V_v1 (l : Fin 2048) : (V m c main_v1 : Vec Ideal S1x2048 .f32) (ix2 0 l) = aG m c (ix2 0 l) := by
  have e : (V m c main_v1 : Vec Ideal S1x2048 .f32) = broadcastInDim S1x2048 ![1] bcast_S2048_S1x2048_1 (shapeCast S2048 (aG m c) shapeCasts_S1x2048_S2048) := by
    simp only [V, hostOps0]
    after_results_simp
    rfl
  rw [e]
  pointwise

/-- The final gain's row as the call finds it. -/
theorem V_v2 (l : Fin 2048) : (V m c main_v2 : Vec Ideal S1x2048 .f32) (ix2 0 l) = aF m c (ix1 l) := by
  have e : (V m c main_v2 : Vec Ideal S1x2048 .f32) = broadcastInDim S1x2048 ![1] bcast_S2048_S1x2048_1 (aF m c) := by
    simp only [V, hostOps0]
    after_results_simp
  rw [e]
  pointwise

/-- Row `r` of block `a` of the array's rows. -/
def rowOf (a : ℕ) (r : Fin 1024) : Fin 8192 := ⟨(1024 * a + r.val) % 8192, Nat.mod_lt _ (by decide)⟩
/-- Hidden unit `k` of step `j`. -/
def unitOf (j : ℕ) (k : Fin 512) : Fin 5632 := ⟨(512 * j + k.val) % 5632, Nat.mod_lt _ (by decide)⟩

/-- The rows of block `a` of the input. -/
def xb (a : ℕ) : Vec Ideal S1024x2048 .f32 := fun y => aX m c (ix2 (rowOf a (y 0)) (y 1))
/-- Step `j`'s columns of the two input weights and rows of the output weight. -/
def wgb (j : ℕ) : Vec Ideal S2048x512 .bf16 := fun y => aWg m c (ix2 (y 0) (unitOf j (y 1)))
def wub (j : ℕ) : Vec Ideal S2048x512 .bf16 := fun y => aWu m c (ix2 (y 0) (unitOf j (y 1)))
def wdb (j : ℕ) : Vec Ideal S512x2048 .bf16 := fun y => aWd m c (ix2 (unitOf j (y 0)) (y 1))
/-- Column `l` of part `p` of the modulation. -/
def modOf (p : ℕ) (l : Fin 2048) : Fin 8192 := ⟨(2048 * p + l.val) % 8192, Nat.mod_lt _ (by decide)⟩
/-- The modulated norm of block `a`. -/
def hb (a : ℕ) : Vec Ideal S1024x2048 .bf16 :=
  normMod (xb m c a) (fun l => aM m c (ix2 0 (modOf 1 l)))
    (fun l => aG m c (ix2 0 l) * (Ideal.ofBits .f32 0x3F800000#32 + aM m c (ix2 0 (modOf 2 l))))

/-- The block after step `n`. -/
def acc (a : ℕ) : ℕ → Vec Ideal S1024x2048 .f32
  | 0 => step (xb m c a) (fun l => aM m c (ix2 0 (modOf 3 l))) (hb m c a) (wgb m c 0) (wub m c 0) (wdb m c 0)
  | n + 1 => step (acc a n) (fun l => aM m c (ix2 0 (modOf 3 l))) (hb m c a) (wgb m c (n + 1)) (wub m c (n + 1)) (wdb m c (n + 1))

variable (t : Fin cfg0.N)

theorem iblk0 : (iblk m c 0 t : Vec Ideal S1024x2048 .f32) = xb m c (t.val / 11) := by
  funext y
  refine (congrFun (V_main_arg0 m c) (((cfg0.win 0).blk t).view.emb y)).trans (congrArg (aX m c) ?_)
  have ht : t.val < 88 := lt_of_lt_of_eq t.isLt N_0
  have hy : (y 0).val < 1024 := (y 0).isLt
  obtain ⟨e0, e1⟩ := idx0 t
  funext a
  match a with
  | ⟨0, _⟩ => apply Fin.ext; show win0_0.index t (0 : Fin 2) * 1024 + 1 * (y 0).val = (1024 * (t.val / 11) + (y 0).val) % 8192; omega
  | ⟨1, _⟩ => apply Fin.ext; show win0_0.index t (1 : Fin 2) * 2048 + 1 * (y 1).val = (y 1).val; omega

theorem iblk1 (l : Fin 2048) : (iblk m c 1 t : Vec Ideal S1x2048 .f32) (ix2 0 l) = aG m c (ix2 0 l) := by
  refine Eq.trans ?_ (V_v1 m c l)
  refine congrArg (V m c main_v1 : Vec Ideal S1x2048 .f32) (?_ : ((cfg0.win 1).blk t).view.emb (ix2 0 l : S1x2048.Idx) = ix2 0 l)
  obtain ⟨e0, e1⟩ := idx1 t
  funext a
  match a with
  | ⟨0, _⟩ => apply Fin.ext; show win0_1.index t (0 : Fin 2) * 1 + 1 * 0 = 0; omega
  | ⟨1, _⟩ => apply Fin.ext; show win0_1.index t (1 : Fin 2) * 2048 + 1 * l.val = l.val; omega

theorem iblk8 (l : Fin 2048) : (iblk m c 8 t : Vec Ideal S1x2048 .f32) (ix2 0 l) = aF m c (ix1 l) := by
  refine Eq.trans ?_ (V_v2 m c l)
  refine congrArg (V m c main_v2 : Vec Ideal S1x2048 .f32) (?_ : ((cfg0.win 8).blk t).view.emb (ix2 0 l : S1x2048.Idx) = ix2 0 l)
  obtain ⟨e0, e1⟩ := idx8 t
  funext a
  match a with
  | ⟨0, _⟩ => apply Fin.ext; show win0_8.index t (0 : Fin 2) * 1 + 1 * 0 = 0; omega
  | ⟨1, _⟩ => apply Fin.ext; show win0_8.index t (1 : Fin 2) * 2048 + 1 * l.val = l.val; omega

theorem iblk2 (l : Fin 2048) : (iblk m c 2 t : Vec Ideal S8x2048 .f32) (ix2 0 l) = aM m c (ix2 0 (modOf 1 l)) := by
  refine (congrFun (V_main_arg2 m c) (((cfg0.win 2).blk t).view.emb (ix2 0 l : S8x2048.Idx))).trans (congrArg (aM m c) ?_)
  have hl : l.val < 2048 := l.isLt
  obtain ⟨e0, e1⟩ := idx2 t
  funext a
  match a with
  | ⟨0, _⟩ => apply Fin.ext; show win0_2.index t (0 : Fin 2) * 8 + 1 * 0 = 0; omega
  | ⟨1, _⟩ => apply Fin.ext; show win0_2.index t (1 : Fin 2) * 2048 + 1 * l.val = (2048 * 1 + l.val) % 8192; omega

theorem iblk3 (l : Fin 2048) : (iblk m c 3 t : Vec Ideal S8x2048 .f32) (ix2 0 l) = aM m c (ix2 0 (modOf 2 l)) := by
  refine (congrFun (V_main_arg2 m c) (((cfg0.win 3).blk t).view.emb (ix2 0 l : S8x2048.Idx))).trans (congrArg (aM m c) ?_)
  have hl : l.val < 2048 := l.isLt
  obtain ⟨e0, e1⟩ := idx3 t
  funext a
  match a with
  | ⟨0, _⟩ => apply Fin.ext; show win0_3.index t (0 : Fin 2) * 8 + 1 * 0 = 0; omega
  | ⟨1, _⟩ => apply Fin.ext; show win0_3.index t (1 : Fin 2) * 2048 + 1 * l.val = (2048 * 2 + l.val) % 8192; omega

theorem iblk4 (l : Fin 2048) : (iblk m c 4 t : Vec Ideal S8x2048 .f32) (ix2 0 l) = aM m c (ix2 0 (modOf 3 l)) := by
  refine (congrFun (V_main_arg2 m c) (((cfg0.win 4).blk t).view.emb (ix2 0 l : S8x2048.Idx))).trans (congrArg (aM m c) ?_)
  have hl : l.val < 2048 := l.isLt
  obtain ⟨e0, e1⟩ := idx4 t
  funext a
  match a with
  | ⟨0, _⟩ => apply Fin.ext; show win0_4.index t (0 : Fin 2) * 8 + 1 * 0 = 0; omega
  | ⟨1, _⟩ => apply Fin.ext; show win0_4.index t (1 : Fin 2) * 2048 + 1 * l.val = (2048 * 3 + l.val) % 8192; omega

theorem iblk5 : (iblk m c 5 t : Vec Ideal S2048x512 .bf16) = wgb m c (t.val % 11) := by
  funext y
  refine (congrFun (V_main_arg3 m c) (((cfg0.win 5).blk t).view.emb y)).trans (congrArg (aWg m c) ?_)
  have hy : (y 1).val < 512 := (y 1).isLt
  obtain ⟨e0, e1⟩ := idx5 t
  funext a
  match a with
  | ⟨0, _⟩ => apply Fin.ext; show win0_5.index t (0 : Fin 2) * 2048 + 1 * (y 0).val = (y 0).val; omega
  | ⟨1, _⟩ => apply Fin.ext; show win0_5.index t (1 : Fin 2) * 512 + 1 * (y 1).val = (512 * (t.val % 11) + (y 1).val) % 5632; omega

theorem iblk6 : (iblk m c 6 t : Vec Ideal S2048x512 .bf16) = wub m c (t.val % 11) := by
  funext y
  refine (congrFun (V_main_arg4 m c) (((cfg0.win 6).blk t).view.emb y)).trans (congrArg (aWu m c) ?_)
  have hy : (y 1).val < 512 := (y 1).isLt
  obtain ⟨e0, e1⟩ := idx6 t
  funext a
  match a with
  | ⟨0, _⟩ => apply Fin.ext; show win0_6.index t (0 : Fin 2) * 2048 + 1 * (y 0).val = (y 0).val; omega
  | ⟨1, _⟩ => apply Fin.ext; show win0_6.index t (1 : Fin 2) * 512 + 1 * (y 1).val = (512 * (t.val % 11) + (y 1).val) % 5632; omega

theorem iblk7 : (iblk m c 7 t : Vec Ideal S512x2048 .bf16) = wdb m c (t.val % 11) := by
  funext y
  refine (congrFun (V_main_arg5 m c) (((cfg0.win 7).blk t).view.emb y)).trans (congrArg (aWd m c) ?_)
  have hy : (y 0).val < 512 := (y 0).isLt
  obtain ⟨e0, e1⟩ := idx7 t
  funext a
  match a with
  | ⟨0, _⟩ => apply Fin.ext; show win0_7.index t (0 : Fin 2) * 512 + 1 * (y 0).val = (512 * (t.val % 11) + (y 0).val) % 5632; omega
  | ⟨1, _⟩ => apply Fin.ext; show win0_7.index t (1 : Fin 2) * 2048 + 1 * (y 1).val = (y 1).val; omega

theorem step_congr {o o' : Vec Ideal S1024x2048 .f32} {g g' : Fin 2048 → EReal} {H H' : Vec Ideal S1024x2048 .bf16} {a a' b b' : Vec Ideal S2048x512 .bf16}
    {d d' : Vec Ideal S512x2048 .bf16} (ho : o = o') (hg : g = g') (hH : H = H') (ha : a = a') (hb : b = b') (hd : d = d') :
    step o g H a b d = step o' g' H' a' b' d' := by subst ho hg hH ha hb hd; rfl

/-- The modulated norm's gain row, from the point's input blocks. -/
theorem gain_blk : gain (iblk m c 1 t) (iblk m c 3 t)
     = (fun l => aG m c (ix2 0 l) * (Ideal.ofBits .f32 0x3F800000#32 + aM m c (ix2 0 (modOf 2 l)))) := funext fun l =>
  congr (congrArg (fun a b : EReal => a * (Ideal.ofBits .f32 0x3F800000#32 + b)) (iblk1 m c t l)) (iblk3 m c t l)

/-- The norm of the block as the point's input blocks give it. -/
theorem norm_blk : normMod (iblk m c 0 t) (row8 (iblk m c 2 t)) (gain (iblk m c 1 t) (iblk m c 3 t)) = hb m c (t.val / 11) :=
  congr (congr (congrArg normMod (iblk0 m c t)) (funext fun l => iblk2 m c t l)) (gain_blk m c t)

theorem gate_blk : row8 (iblk m c 4 t) = (fun l => aM m c (ix2 0 (modOf 3 l))) := funext fun l => iblk4 m c t l
theorem fin_blk : row1 (iblk m c 8 t) = (fun l => aF m c (ix1 l)) := funext fun l => iblk8 m c t l

/-- A first point: the scratch and the block over the input's rows. -/
theorem pt_A (h0 : t.val % 11 = 0) (h1 : ¬t.val % 11 = 10) : (outsAt0 m c t.val t.isLt).2 = hb m c (t.val / 11)
    ∧ (outsAt0 m c t.val t.isLt).1 = step (xb m c (t.val / 11)) (fun l => aM m c (ix2 0 (modOf 3 l))) (hb m c (t.val / 11))
        (wgb m c (t.val % 11)) (wub m c (t.val % 11)) (wdb m c (t.val % 11)) := by
  rw [outsAt0_A m c t h0 h1]
  dsimp only
  rw [scratch_A, out_A]
  refine ⟨norm_blk m c t, ?_⟩
  exact step_congr (iblk0 m c t) (gate_blk m c t) (norm_blk m c t) (iblk5 m c t) (iblk6 m c t) (iblk7 m c t)

/-- A middle point: one more step over what the point before left. -/
theorem pt_B (h0 : ¬t.val % 11 = 0) (h1 : ¬t.val % 11 = 10) (o : Vec Ideal S1024x2048 .f32) (H : Vec Ideal S1024x2048 .bf16)
    (ho : (outsAt0 m c (t.val - 1) (Nat.lt_of_le_of_lt (Nat.sub_le _ _) t.isLt)).1 = o)
    (hH : (outsAt0 m c (t.val - 1) (Nat.lt_of_le_of_lt (Nat.sub_le _ _) t.isLt)).2 = H) : (outsAt0 m c t.val t.isLt).2 = H
    ∧ (outsAt0 m c t.val t.isLt).1 = step o (fun l => aM m c (ix2 0 (modOf 3 l))) H (wgb m c (t.val % 11)) (wub m c (t.val % 11)) (wdb m c (t.val % 11)) := by
  rw [outsAt0_B m c t h0 h1]
  dsimp only
  rw [out_B]
  refine ⟨hH, ?_⟩
  exact step_congr ho (gate_blk m c t) hH (iblk5 m c t) (iblk6 m c t) (iblk7 m c t)

/-- A last point: one more step, then the final norm. -/
theorem pt_C (h0 : ¬t.val % 11 = 0) (h1 : t.val % 11 = 10) (o : Vec Ideal S1024x2048 .f32) (H : Vec Ideal S1024x2048 .bf16)
    (ho : (outsAt0 m c (t.val - 1) (Nat.lt_of_le_of_lt (Nat.sub_le _ _) t.isLt)).1 = o)
    (hH : (outsAt0 m c (t.val - 1) (Nat.lt_of_le_of_lt (Nat.sub_le _ _) t.isLt)).2 = H) : (outsAt0 m c t.val t.isLt).2 = H
    ∧ (outsAt0 m c t.val t.isLt).1 = normFin (step o (fun l => aM m c (ix2 0 (modOf 3 l))) H (wgb m c (t.val % 11)) (wub m c (t.val % 11)) (wdb m c (t.val % 11)))
        (fun l => aF m c (ix1 l)) := by
  rw [outsAt0_C m c t h0 h1]
  dsimp only
  rw [out_C]
  refine ⟨hH, ?_⟩
  exact congr (congrArg normFin (step_congr ho (gate_blk m c t) hH (iblk5 m c t) (iblk6 m c t) (iblk7 m c t))) (fin_blk m c t)

/-- What every point leaves: the scratch holds its block's modulated norm, the block the sum so far, and after the last
step the final norm of the sum. -/
theorem outs_eq (n : ℕ) : ∀ hn : n < cfg0.N, (outsAt0 m c n hn).2 = hb m c (n / 11)
    ∧ (outsAt0 m c n hn).1 = if n % 11 = 10 then normFin (acc m c (n / 11) 10) (fun l => aF m c (ix1 l)) else acc m c (n / 11) (n % 11) := by
  induction n with
  | zero =>
    intro hn
    exact pt_A m c ⟨0, hn⟩ (Nat.zero_mod 11) (by show ¬ 0 % 11 = 10; decide)
  | succ n ih =>
    intro hn
    obtain ⟨ih2, ih1⟩ := ih (Nat.lt_of_succ_lt hn)
    by_cases h0 : (n + 1) % 11 = 0
    · have h1 : ¬ (n + 1) % 11 = 10 := by omega
      have e := pt_A m c ⟨n + 1, hn⟩ h0 h1
      rw [if_neg h1]
      dsimp only at e
      rw [h0] at e ⊢
      exact e
    · have hd : (n + 1) / 11 = n / 11 := by omega
      have hm : (n + 1) % 11 = n % 11 + 1 := by omega
      have hc : ¬ n % 11 = 10 := by omega
      rw [if_neg hc] at ih1
      by_cases h1 : (n + 1) % 11 = 10
      · have e := pt_C m c ⟨n + 1, hn⟩ h0 h1 _ _ ih1 ih2
        have hn9 : n % 11 = 9 := by omega
        dsimp only at e
        rw [if_pos h1, hd]
        rw [h1, hn9] at e
        exact e
      · have e := pt_B m c ⟨n + 1, hn⟩ h0 h1 _ _ ih1 ih2
        dsimp only at e
        rw [if_neg h1, hd, hm]
        rw [hm] at e
        exact e

/-- The result's array. -/
theorem G9_eq (i : S8192x2048.Idx) :
    (Cert.FfnIdeal.Value.G9 m c : Vec Ideal S8192x2048 .f32) i
      = normFin (acc m c ((i 0).val / 1024) 10) (fun l => aF m c (ix1 l)) (ix2 ⟨(i 0).val % 1024, Nat.mod_lt _ (by decide)⟩ (i 1)) := by
  have h0 : (i 0).val < 8192 := (i 0).isLt
  have h1 : (i 1).val < 2048 := (i 1).isLt
  have hp : Cert.FfnIdeal.Value.pt9Of i = 11 * ((i 0).val / 1024) + 10 := by
    show 11 * (1 * ((i 0).val / 1024 - 0) + 1 * ((i 1).val / 2048 - 0)) + 10 = _
    omega
  have hlt : Cert.FfnIdeal.Value.pt9Of i < cfg0.N := by rw [hp]; exact lt_of_lt_of_eq (by omega) N_0.symm
  unfold Cert.FfnIdeal.Value.G9
  rw [dif_pos hlt, ← Cert.FfnIdeal.Value.outsAt0_sweep m c _ hlt, (outs_eq m c _ hlt).2, if_pos (by rw [hp]; omega)]
  have hd : Cert.FfnIdeal.Value.pt9Of i / 11 = (i 0).val / 1024 := by rw [hp]; omega
  rw [hd]
  refine congrArg (normFin (acc m c ((i 0).val / 1024) 10) (fun l => aF m c (ix1 l))) ?_
  funext a
  match a with
  | ⟨0, _⟩ => rfl
  | ⟨1, _⟩ => apply Fin.ext; show (i 1).val % 2048 = (i 1).val; omega

/-- The block after step `n`, as one sum. -/
theorem acc_eq (a n : ℕ) (i : S1024x2048.Idx) : acc m c a n i = xb m c a i
    + ∑ j ∈ Finset.range (n + 1), aM m c (ix2 0 (modOf 3 (i 1))) * ∑ k : Fin 512, act (hb m c a) (wgb m c j) (wub m c j) (i 0) k * wdb m c j (ix2 k (i 1)) := by
  induction n with
  | zero => simp only [Nat.zero_add, Finset.sum_range_one]; rfl
  | succ n ih =>
    rw [Finset.sum_range_succ, ← add_assoc, ← ih]
    rfl

end Cert.FfnIdeal.Hand
-- ==== Proof.FfnRef.lean ====
module

public import proofs.«01_k».proof.Proof.Gen.FfnRefIdeal.Read
public import Idealize.ShloMosaic.Lib.Pointwise

/-! The reference of the feed-forward call, read at an index. -/

@[expose] public section
set_option maxRecDepth 16384
noncomputable section
open Idealize.ShloMosaic Idealize.ShloMosaic.Pointwise Idealize.ShloMosaic.TcCoe

namespace Cert.FfnRefIdeal.Hand
open Cert.FfnRefIdeal Cert.FfnRefIdeal.Read

variable (x0 : Vec Ideal S8192x2048 .f32) (x1 : Vec Ideal S1x2048 .f32) (x2 : Vec Ideal S8x8192 .f32) (x3 x4 : Vec Ideal S2048x5632 .bf16) (x5 : Vec Ideal S5632x2048 .bf16) (x6 : Vec Ideal S2048 .f32)

/-- The reciprocal root mean square of row `n`. -/
def rinv (X : Fin 8192 → Fin 2048 → EReal) (n : Fin 8192) : EReal :=
  Ideal.rsqrt (Ideal.div (∑ k : Fin 2048, X n k * X n k) (Ideal.ofBits .f32 0x45000000#32) + Ideal.ofBits .f32 0x358637BD#32)

theorem v14_eq (n : Fin 8192) : val_main_v14 (F := Ideal) x0 (ix2 n 0) = rinv (fun n l => x0 (ix2 n l)) n := by
  pointwise [val_main_v7, val_main_v8, val_main_v9, val_main_v10, val_main_v11, val_main_v12, val_main_v13, val_main_v14, val_main_cst, val_main_cst_0, val_main_cst_1, rinv]

theorem v27_eq (n : Fin 8192) (l : Fin 2048) : val_main_v27 (F := Ideal) x0 x1 x2 (ix2 n l)
    = x0 (ix2 n l) * rinv (fun n l => x0 (ix2 n l)) n * x1 (ix2 0 l) * (Ideal.ofBits .f32 0x3F800000#32 + x2 (ix2 0 ⟨4096 + l.val, by omega⟩))
      + x2 (ix2 0 ⟨2048 + l.val, by omega⟩) := by
  have h := v14_eq x0 n
  generalize hv : val_main_v14 (F := Ideal) x0 = y at h
  pointwise [val_main_v27, val_main_v26, val_main_v25, val_main_v24, val_main_v23, val_main_v22, val_main_v21, val_main_v20, val_main_v19, val_main_v18, val_main_v17, val_main_v16, val_main_v15, val_main_v0, val_main_v1, val_main_v2, val_main_v3, val_main_v4, val_main_v5, val_main_v6, val_main_cst_2, hv]
  rw [← h]

/-- The gated activations from the modulated rows `y`. -/
def ract (y : Vec Ideal S8192x2048 .f32) (x3 x4 : Vec Ideal S2048x5632 .bf16) (n : Fin 8192) (j : Fin 5632) : EReal :=
  (∑ k : Fin 2048, y (ix2 n k) * x3 (ix2 k j)) * Ideal.logistic (∑ k : Fin 2048, y (ix2 n k) * x3 (ix2 k j)) * ∑ k : Fin 2048, y (ix2 n k) * x4 (ix2 k j)

theorem v34_eq (n : Fin 8192) (j : Fin 5632) : val_main_v34 (F := Ideal) x0 x1 x2 x3 x4 (ix2 n j)
    = ract (val_main_v27 (F := Ideal) x0 x1 x2) x3 x4 n j := by
  generalize hv : val_main_v27 (F := Ideal) x0 x1 x2 = y
  pointwise [val_main_v34, val_main_v33, val_main_v32, val_main_v31, val_main_v30, val_main_v29, val_main_v28, val_main_call0_v0, val_main_call0_v1, val_main_call0_v2, val_main_call0_v3, val_main_call0_v4, val_main_call0_v5, val_main_call0_cst, val_main_call0_cst_0, hv, ract, Ideal.logistic]

theorem v39_eq (n : Fin 8192) (l : Fin 2048) : val_main_v39 (F := Ideal) x0 x1 x2 x3 x4 x5 (ix2 n l)
    = x0 (ix2 n l) + x2 (ix2 0 ⟨6144 + l.val, by omega⟩)
      * ∑ j : Fin 5632, ract (val_main_v27 (F := Ideal) x0 x1 x2) x3 x4 n j * x5 (ix2 j l) := by
  have h := v34_eq x0 x1 x2 x3 x4 n
  generalize val_main_v27 (F := Ideal) x0 x1 x2 = z at h
  generalize hv : val_main_v34 (F := Ideal) x0 x1 x2 x3 x4 = y at h
  pointwise [val_main_v39, val_main_v38, val_main_v37, val_main_v36, val_main_v35, val_main_v30, val_main_v4, val_main_v5, hv, h]

theorem v52_eq (n : Fin 8192) (l : Fin 2048) : val_main_v52 (F := Ideal) x0 x1 x2 x3 x4 x5 x6 (ix2 n l)
    = val_main_v39 (F := Ideal) x0 x1 x2 x3 x4 x5 (ix2 n l)
      * rinv (fun n l => val_main_v39 (F := Ideal) x0 x1 x2 x3 x4 x5 (ix2 n l)) n * x6 (ix1 l) := by
  generalize hv : val_main_v39 (F := Ideal) x0 x1 x2 x3 x4 x5 = y
  pointwise [val_main_v52, val_main_v51, val_main_v50, val_main_v49, val_main_v48, val_main_v47, val_main_v46, val_main_v45, val_main_v44, val_main_v43, val_main_v42, val_main_v41, val_main_v40, val_main_cst_3, val_main_cst_4, val_main_cst_5, hv, rinv]

end Cert.FfnRefIdeal.Hand
-- ==== Proof.FfnEq.lean ====
module

public import proofs.«01_k».proof.Proof.FfnArray
public import proofs.«01_k».proof.Proof.FfnRef
public import proofs.«01_k».proof.Proof.Gen.Pre_finite
public import proofs.«01_k».proof.Defs

/-! The feed-forward call's result is the reference's: the tiles' sums, each scaled by the output gate, add up to the
scaled sum over all hidden units, because with finite weights and modulation every term is a real number. -/

@[expose] public section
set_option maxRecDepth 16384
noncomputable section
open Idealize.ShloMosaic Idealize.ShloMosaic.Pointwise Idealize.ShloMosaic.TcCoe

namespace Cert.FfnEq

/-- A value that is a real number. -/
def IsReal (x : EReal) : Prop := ∃ r : ℝ, (r : EReal) = x

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.logistic {x : EReal} (hx : IsReal x) : IsReal (Ideal.logistic x) := by
  obtain ⟨a, rfl⟩ := hx; exact ⟨_, (Ideal.logistic_coe (r := a)).symm⟩

/-- A value whose absolute value lies below infinity is a real number. -/
theorem isReal_of_abs_lt {x : EReal} (h : max x (-x) < ⊤) : IsReal x := by
  induction x using EReal.rec with
  | bot => simp at h
  | coe r => exact ⟨r, rfl⟩
  | top => simp at h

theorem bits_2048 : Ideal.ofBits .f32 0x45000000#32 = ((2048 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem bits_one : IsReal (Ideal.ofBits .f32 0x3F800000#32) := ⟨1, by rw [Ideal.ofBits_one_f32]; rfl⟩

theorem bits_inf : Ideal.ofBits .f32 0x7F800000#32 = ⊤ := by
  simp [Ideal.ofBits, Ideal.ieee]

theorem sq_nonneg (x : EReal) : 0 ≤ x * x := by
  induction x using EReal.rec with
  | bot => simp
  | coe r => rw [← EReal.coe_mul]; exact_mod_cast mul_self_nonneg r
  | top => simp

/-- A row over its root mean square is real, whatever the row. -/
theorem normed_real {n : ℕ} (x : Fin n → EReal) (l : Fin n) :
    IsReal (x l * Ideal.rsqrt (Ideal.div (∑ k, x k * x k) (Ideal.ofBits .f32 0x45000000#32) + Ideal.ofBits .f32 0x358637BD#32)) := by
  obtain ⟨e, he, hb⟩ := bits_eps
  rw [bits_2048, hb, Ideal.div_coe (by norm_num)]
  by_cases h : ∀ k, IsReal (x k)
  · choose f hf using h
    have hx : x = fun k => (f k : EReal) := funext fun k => (hf k).symm
    subst hx
    simp only [← EReal.coe_mul, ← coe_sum, ← EReal.coe_add]
    have hp : 0 < (∑ k, f k * f k) * (1 / 2048) + e :=
      add_pos_of_nonneg_of_pos (mul_nonneg (Finset.sum_nonneg fun k _ => mul_self_nonneg (f k)) (by norm_num)) he
    rw [Ideal.rsqrt_coe, if_neg (not_lt.2 hp.le), if_neg hp.ne', ← EReal.coe_mul]
    exact ⟨_, rfl⟩
  · obtain ⟨k, hk⟩ := not_forall.1 h
    have hkk : x k * x k = ⊤ := by
      generalize x k = y at hk
      induction y using EReal.rec with
      | bot => simp
      | coe r => exact absurd ⟨r, rfl⟩ hk
      | top => simp
    have hs : ∑ k, x k * x k = ⊤ := by
      have := Finset.single_le_sum (f := fun k => x k * x k) (fun i _ => sq_nonneg (x i)) (Finset.mem_univ k)
      rw [hkk] at this
      exact top_le_iff.1 this
    rw [hs, EReal.top_mul_coe_of_pos (by norm_num), EReal.top_add_coe, Ideal.rsqrt_top, mul_zero]
    exact ⟨0, rfl⟩

/-- A real factor, taken inside every tile of a sum of real terms, may be taken outside the whole sum. -/
theorem tiles {g : EReal} (hg : IsReal g) {f : Fin 5632 → EReal} (hf : ∀ j, IsReal (f j)) :
    ∑ j ∈ Finset.range 11, g * ∑ k : Fin 512, f (FfnIdeal.Hand.unitOf j k) = g * ∑ j, f j := by
  obtain ⟨γ, rfl⟩ := hg
  choose φ hφ using hf
  have hx : f = fun k => (φ k : EReal) := funext fun k => (hφ k).symm
  subst hx
  simp only [← coe_sum, ← EReal.coe_mul]
  congr 1
  rw [← Finset.mul_sum, Finset.sum_range]
  congr 1
  refine Fin.sum_mul_add_congr (S := 11) (n := 512) fun s k hl => ?_
  congr 1
  apply Fin.ext
  show (512 * s.val + k.val) % 5632 = s.val * 512 + k.val
  omega

open Cert.FfnIdeal.Hand Cert.FfnRefIdeal.Hand Cert.FfnRefIdeal.Read

/-- The finiteness test of an array says that its entries are real. -/
theorem real_of_test {s : Shape} {x : FVec Ideal s .f32} {b : FVec Ideal s .f32} (hb : ∀ i, b i = Ideal.ofBits .f32 0x7F800000#32)
    (h : cmpf .olt (Host.absf x) b = fun _ => 1#1) (i : s.Idx) : IsReal (x i) := by
  have h1 := congrFun h i
  have h2 : Ideal.cmp .olt (max (x i) (-(x i))) (b i) = 1#1 := h1
  rw [hb, bits_inf] at h2
  refine isReal_of_abs_lt ?_
  by_contra hn
  simp [Ideal.cmp, hn] at h2

/-- The modulation's columns the finiteness test looks at. -/
def mPart (M : FVec Ideal Cert.Pre_finite.S8x8192 .f32) : FVec Ideal Cert.Pre_finite.S6144 .f32 :=
  shapeCast Cert.Pre_finite.S6144 (extractStridedSlice Cert.Pre_finite.S1x6144 ![0, 2048] M Cert.Pre_finite.Gen.slices_S8x8192_S1x6144_0_2048) Cert.Pre_finite.Gen.shapeCasts_S1x6144_S6144

section
variable (m : (ℓ : Loc FfnIdeal.nD FfnIdeal.τ FfnIdeal.sig) → Buf (Elt Ideal) ℓ) (c : Dev FfnIdeal.nD) (hp : Cert.Pre_FfnIdeal_finite m)
include hp

theorem real_g (l : Fin 2048) : IsReal (aG m c (ix2 0 l)) := real_of_test (fun _ => rfl) (hp c).1 (ix2 0 l)
theorem real_wg (i) : IsReal (aWg m c i) := real_of_test (x := aWg m c) (fun _ => rfl) (hp c).2.2.1 i
theorem real_wu (i) : IsReal (aWu m c i) := real_of_test (x := aWu m c) (fun _ => rfl) (hp c).2.2.2.1 i
theorem real_wd (i) : IsReal (aWd m c i) := real_of_test (x := aWd m c) (fun _ => rfl) (hp c).2.2.2.2 i
omit hp in
theorem mPart_eq (l : Fin 8192) (hl : 2048 ≤ l.val) : mPart (aM m c) (ix1 ⟨l.val - 2048, by omega⟩) = aM m c (ix2 0 l) := by
  pointwise [mPart]
  congr 2
  apply Fin.ext
  show 2048 + (l.val - 2048) = l.val
  omega
theorem real_m (l : Fin 8192) (hl : 2048 ≤ l.val) : IsReal (aM m c (ix2 0 l)) := by
  rw [← mPart_eq m c l hl]
  exact real_of_test (x := mPart (aM m c)) (fun _ => rfl) (hp c).2.1 _

/-- The reference's arrays of this memory. -/
abbrev rh : Vec Ideal FfnIdeal.S8192x2048 .f32 := val_main_v27 (F := Ideal) (aX m c) (aG m c) (aM m c)

omit hp in
theorem rh_eq (n : Fin 8192) (l : Fin 2048) : rh m c (ix2 n l)
    = aX m c (ix2 n l) * rinv (fun n l => aX m c (ix2 n l)) n * (aG m c (ix2 0 l) * (Ideal.ofBits .f32 0x3F800000#32 + aM m c (ix2 0 (modOf 2 l))))
      + aM m c (ix2 0 (modOf 1 l)) := by
  rw [rh, v27_eq, mul_assoc (_ * _) (aG m c _)]
  have e1 : modOf 1 l = ⟨2048 + l.val, by omega⟩ := Fin.ext (by show (2048 * 1 + l.val) % 8192 = _; simp only; omega)
  have e2 : modOf 2 l = ⟨4096 + l.val, by omega⟩ := Fin.ext (by show (2048 * 2 + l.val) % 8192 = _; simp only; omega)
  rw [e1, e2]

theorem rh_real (n : Fin 8192) (l : Fin 2048) : IsReal (rh m c (ix2 n l)) := by
  rw [rh_eq]
  refine ((normed_real (fun l => aX m c (ix2 n l)) l).mul ((real_g m c hp l).mul (bits_one.add (real_m m c hp _ ?_)))).add (real_m m c hp _ ?_)
  · show 2048 ≤ (2048 * 2 + l.val) % 8192; omega
  · show 2048 ≤ (2048 * 1 + l.val) % 8192; omega

theorem ract_real (n : Fin 8192) (j : Fin 5632) : IsReal (ract (rh m c) (aWg m c) (aWu m c) n j) := by
  have h1 : IsReal (∑ k : Fin 2048, rh m c (ix2 n k) * aWg m c (ix2 k j)) := .sum _ fun k => (rh_real m c hp n k).mul (real_wg m c hp _)
  have h2 : IsReal (∑ k : Fin 2048, rh m c (ix2 n k) * aWu m c (ix2 k j)) := .sum _ fun k => (rh_real m c hp n k).mul (real_wu m c hp _)
  exact (h1.mul h1.logistic).mul h2

omit hp in
/-- The modulated rows of a block are the reference's. -/
theorem hb_eq (a : ℕ) (r : Fin 1024) (l : Fin 2048) : hb m c a (ix2 r l) = rh m c (ix2 (rowOf a r) l) := by
  rw [rh_eq]; rfl

omit hp in
theorem act_eq (a j : ℕ) (r : Fin 1024) (k : Fin 512) :
    act (hb m c a) (wgb m c j) (wub m c j) r k = ract (rh m c) (aWg m c) (aWu m c) (rowOf a r) (unitOf j k) := by
  unfold act ract
  simp only [hb_eq]
  rfl

/-- A finished block holds the reference's rows before the final norm. -/
theorem acc_ref (a : ℕ) (r : Fin 1024) (l : Fin 2048) :
    acc m c a 10 (ix2 r l) = val_main_v39 (F := Ideal) (aX m c) (aG m c) (aM m c) (aWg m c) (aWu m c) (aWd m c) (ix2 (rowOf a r) l) := by
  have e3 : modOf 3 l = ⟨6144 + l.val, by omega⟩ := Fin.ext (by show (2048 * 3 + l.val) % 8192 = _; simp only; omega)
  rw [acc_eq, v39_eq, ← e3]
  have h := tiles (g := aM m c (ix2 0 (modOf 3 l))) (f := fun j => ract (rh m c) (aWg m c) (aWu m c) (rowOf a r) j * aWd m c (ix2 j l))
    (real_m m c hp _ (by show 2048 ≤ (2048 * 3 + l.val) % 8192; omega)) (fun j => (ract_real m c hp _ j).mul (real_wd m c hp _))
  refine congrArg₂ (· + ·) rfl (Eq.trans ?_ h)
  refine Finset.sum_congr rfl fun j _ => ?_
  refine congrArg₂ (· * ·) rfl (Finset.sum_congr rfl fun k _ => ?_)
  exact congrArg₂ (· * ·) (act_eq m c a j r k) rfl

/-- THE EQUATION: the kernel's result is the reference's. -/
theorem result_eq : (Cert.FfnIdeal.Value.G9 m c : Vec Ideal FfnIdeal.S8192x2048 .f32)
    = val_main_v52 (F := Ideal) (aX m c) (aG m c) (aM m c) (aWg m c) (aWu m c) (aWd m c) (aF m c) := by
  funext i
  obtain ⟨n, l, rfl⟩ : ∃ n l, i = ix2 n l := ⟨i 0, i 1, eq_ix2 i⟩
  rw [G9_eq, v52_eq]
  have hr : rowOf (n.val / 1024) ⟨n.val % 1024, Nat.mod_lt _ (by decide)⟩ = n :=
    Fin.ext (by show (1024 * (n.val / 1024) + n.val % 1024) % 8192 = n.val; omega)
  have ha : ∀ l, acc m c (n.val / 1024) 10 (ix2 ⟨n.val % 1024, Nat.mod_lt _ (by decide)⟩ l)
      = val_main_v39 (F := Ideal) (aX m c) (aG m c) (aM m c) (aWg m c) (aWu m c) (aWd m c) (ix2 n l) := fun l => by
    rw [acc_ref m c hp, hr]
  show acc m c (n.val / 1024) 10 (ix2 ⟨n.val % 1024, Nat.mod_lt _ (by decide)⟩ l) * FfnIdeal.Hand.inv (acc m c (n.val / 1024) 10) ⟨n.val % 1024, Nat.mod_lt _ (by decide)⟩ * aF m c (ix1 l) = _
  unfold FfnIdeal.Hand.inv rinv
  simp only [ha]

end

end Cert.FfnEq
-- ==== Proof.FfnClaims.lean ====
module

public import proofs.«01_k».proof.Proof.FfnEq
public import proofs.«01_k».proof.Proof.Gen.Ffn.Frame
public import Idealize.ShloMosaic.Lib.Quiescent

/-! The claims about the feed-forward call. -/

@[expose] public section
noncomputable section
open Idealize.ShloMosaic Idealize.ShloMosaic.TcCoe Idealize.SL.Sem

namespace Cert.Proof.FfnClaims

/-- The kernel ends, with its arguments unchanged and its counters at zero. -/
theorem frame_p : Cert.quiescent_Ffn := fun m ρ _ => Cert.Ffn.Gen.frame m ρ
/-- So does its idealized text. -/
theorem frame_pi : Cert.quiescent_FfnIdeal := fun m ρ _ => Cert.FfnIdeal.Gen.frame m ρ
/-- So it does from the memories of the precondition. -/
theorem frame_pi_pre : Cert.quiescent_FfnIdeal_pre_finite := fun m ρ _ => Cert.FfnIdeal.Gen.frame m ρ
/-- The reference ends, with its arguments unchanged and its counters at zero. -/
theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)
/-- So it does from the memories of the precondition. -/
theorem frame_ri_pre : Cert.quiescent_FfnRefIdeal_pre_finite := fun m ρ _ => frame_ri m ρ trivial
/-- The idealized text is the kernel's. -/
theorem preserves : Cert.preserves_Ffn_FfnIdeal := trivial

/-- From arguments that agree, with finite weights and modulation, the kernel and the reference end with equal results. -/
theorem algebraic : Cert.algebraic_FfnIdeal_FfnRefIdeal_pre_finite := by
  intro m ρ m' ρ' hp hagree
  refine ⟨_, Cert.FfnIdeal.Value.run (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4, h5, h6⟩ := hagree c
  rw [Cert.FfnRefIdeal.Read.val_main_v52_eq, h0, h1, h2, h3, h4, h5, h6]
  exact (Cert.FfnEq.result_eq m c hp).symm

end Cert.Proof.FfnClaims
-- ==== Proof.InpArray.lean ====
module

public import proofs.«01_k».proof.Proof.Gen.InpIdeal.Value
public import Idealize.ShloMosaic.Lib.Pointwise
public import Idealize.ShloMosaic.Lib.WholeRead
public import Idealize.ShloMosaic.Lib.Pipeline.ReadBack
public import Idealize.ShloMosaic.Lib.Pipeline.ValueKit

/-! The projection of the context rows: what a step stores, what its blocks read of the arguments, and what the result's array
holds at the end. -/

@[expose] public section
set_option maxRecDepth 16384
noncomputable section
open Idealize.ShloMosaic Idealize.ShloMosaic.Pointwise Idealize.ShloMosaic.TcCoe

namespace Cert.InpIdeal.Hand
open Cert.InpIdeal Cert.InpIdeal.Gen

/-- A load of the whole of a memref that holds `X`. -/
theorem readAt_whole {sig : RefSig} {κ : Kind} {sp : Space} {S : Shape} {e : EltTy} {M : Memref sig κ sp S e} (hM : M.IsWhole)
    (X : Vec Ideal S e) {off : Fin S.rank → ℕ} (inb : ∀ a, off a + S.size a ≤ S.size a) (h : ∀ a, off a = 0) :
    View.readAt (Elt Ideal) M.view (Rect.unit off S.size inb).toLoadRect (hM.unread X) = X := by
  have hz : off = fun _ => 0 := funext h
  subst hz
  funext j
  refine (hM.readAt_unread X _ j).trans (congrArg X ?_)
  funext a
  apply Fin.ext
  show 0 + 1 * (j a).val = (j a).val
  omega

/-- The place in the block of entry `(r, l)` of the stripe that begins at row `off`. -/
theorem emb_stripe (off : ℕ) (h : ∀ a, (![off, 0] : Fin S1024x2048.rank → ℕ) a + S256x2048.size a ≤ S1024x2048.size a) (r : Fin 256) (l : Fin 2048)
    (hr : off + r.val < 1024) :
    (Rect.unit (s := S1024x2048) ![off, 0] S256x2048.size h).emb (ix2 r l) = (ix2 (⟨off + r.val, hr⟩ : Fin 1024) l : S1024x2048.Idx) := by
  funext a
  match a with
  | ⟨0, _⟩ => apply Fin.ext; show off + 1 * r.val = off + r.val; omega
  | ⟨1, _⟩ => apply Fin.ext; show 0 + 1 * l.val = l.val; omega

/-- An index off the stripe that begins at row `off`. -/
theorem not_mem_stripe (off : ℕ) (h : ∀ a, (![off, 0] : Fin S1024x2048.rank → ℕ) a + S256x2048.size a ≤ S1024x2048.size a) (y : S1024x2048.Idx)
    (hy : (y 0).val < off ∨ off + 256 ≤ (y 0).val) : y ∉ (Rect.unit (s := S1024x2048) ![off, 0] S256x2048.size h).set := by
  rw [Rect.mem_set_unit]
  intro hh
  have h0 : off ≤ (y 0).val ∧ (y 0).val < off + 256 := hh 0
  omega

/-- An index on the stripe that begins at row `off` is the place of one of the stripe's entries. -/
theorem mem_stripe (off : ℕ) (h : ∀ a, (![off, 0] : Fin S1024x2048.rank → ℕ) a + S256x2048.size a ≤ S1024x2048.size a) (y : S1024x2048.Idx)
    (h1 : off ≤ (y 0).val) (h2 : (y 0).val < off + 256) :
    ∃ (r : Fin 256) (l : Fin 2048), y = (Rect.unit (s := S1024x2048) ![off, 0] S256x2048.size h).emb (ix2 r l) := by
  refine ⟨⟨(y 0).val - off, by omega⟩, y 1, ?_⟩
  have e : (y 0).val < 1024 := (y 0).isLt
  refine (eq_ix2 y).trans (Eq.trans ?_ (emb_stripe off h _ _ (by show off + ((y 0).val - off) < 1024; omega)).symm)
  refine congrArg (fun q : Fin 1024 => (ix2 q (y 1) : S1024x2048.Idx)) (Fin.ext ?_)
  show (y 0).val = off + ((y 0).val - off)
  omega

/-- The writes `L` have filled the rows below `n` with `G`. -/
def Filled {φ : EltTy} (G : Vec Ideal S1024x2048 φ) (n : ℕ) (L : List (View.Piece (Elt Ideal) S1024x2048 φ)) : Prop :=
  ∀ y : S1024x2048.Idx, (y 0).val < n → View.canon L y = G y

/-- Nothing is filled at first. -/
theorem filled_zero {φ : EltTy} (G : Vec Ideal S1024x2048 φ) (L : List (View.Piece (Elt Ideal) S1024x2048 φ)) : Filled G 0 L :=
  fun _ h => absurd h (Nat.not_lt_zero _)

/-- One more stripe that holds its rows of `G`. -/
theorem filled_step {φ : EltTy} {G : Vec Ideal S1024x2048 φ} (off n : ℕ)
    (h : ∀ a, (![off, 0] : Fin S1024x2048.rank → ℕ) a + S256x2048.size a ≤ S1024x2048.size a)
    (w : S256x2048.Idx → Elt Ideal φ) (L : List (View.Piece (Elt Ideal) S1024x2048 φ)) (hn : n = off + 256)
    (hw : ∀ x, w x = G ((Rect.unit (s := S1024x2048) ![off, 0] S256x2048.size h).emb x)) (hL : Filled G off L) :
    Filled G n (⟨Rect.unit (s := S1024x2048) ![off, 0] S256x2048.size h, w⟩ :: L) := by
  subst hn
  intro y hy
  by_cases hc : (y 0).val < off
  · rw [View.canon_cons_of_not_mem ⟨Rect.unit (s := S1024x2048) ![off, 0] S256x2048.size h, w⟩ L (not_mem_stripe off h y (.inl hc))]
    exact hL y hc
  · have hc' : off ≤ (y 0).val := Nat.le_of_not_lt hc
    have hh := mem_stripe off h y hc' hy
    clear hc hc' hy
    obtain ⟨r, l, e⟩ := hh
    rw [e]
    exact (View.canon_cons_emb _ _ _ _).trans (hw _)

/-- A load of a whole block that the writes have filled. -/
theorem readCov_filled {sig : RefSig} {κ : Kind} {sp : Space} {φ : EltTy} (v : View sig κ sp S1024x2048 φ) (G : Vec Ideal S1024x2048 φ)
    (L : List (View.Piece (Elt Ideal) S1024x2048 φ)) (hL : Filled G 1024 L)
    (inb : ∀ a, (![0, 0] : Fin S1024x2048.rank → ℕ) a + S1024x2048.size a ≤ S1024x2048.size a) :
    v.readCov L (Rect.unit (s := S1024x2048) ![0, 0] S1024x2048.size inb).toLoadRect = G := by
  rw [View.readCov_eq_canon']
  have e : View.canon L = G := funext fun y => hL y (y 0).isLt
  rw [e]
  exact View.ld_unit_lit' inb G (by decide)

/-- A stripe of the weight is stored as it was loaded. -/
theorem pay1_apply (w : Vec Ideal S256x2048 .f32) (x : S256x2048.Idx) : k0_pay1 w x = w x := by
  obtain ⟨r, l, rfl⟩ : ∃ r l, x = ix2 r l := ⟨x 0, x 1, eq_ix2 x⟩
  pointwise [k0_pay1]
/-- A stripe of the weight is stored as it was loaded. -/
theorem pay2_apply (w : Vec Ideal S256x2048 .f32) (x : S256x2048.Idx) : k0_pay2 w x = w x := by
  obtain ⟨r, l, rfl⟩ : ∃ r l, x = ix2 r l := ⟨x 0, x 1, eq_ix2 x⟩
  pointwise [k0_pay2]
/-- A stripe of the weight is stored as it was loaded. -/
theorem pay3_apply (w : Vec Ideal S256x2048 .f32) (x : S256x2048.Idx) : k0_pay3 w x = w x := by
  obtain ⟨r, l, rfl⟩ : ∃ r l, x = ix2 r l := ⟨x 0, x 1, eq_ix2 x⟩
  pointwise [k0_pay3]
/-- A stripe of the weight is stored as it was loaded. -/
theorem pay4_apply (w : Vec Ideal S256x2048 .f32) (x : S256x2048.Idx) : k0_pay4 w x = w x := by
  obtain ⟨r, l, rfl⟩ : ∃ r l, x = ix2 r l := ⟨x 0, x 1, eq_ix2 x⟩
  pointwise [k0_pay4]

/-- The product of the rows of one array with the rows of another. -/
def rowsBy (H : Vec Ideal S256x2048 .bf16) (W : Vec Ideal S1024x2048 .f32) : Vec Ideal S256x1024 .bf16 :=
  fun i => ∑ k : Fin 2048, H (ix2 (i 0) k) * W (ix2 (i 1) k)

/-- The value a step stores. -/
theorem pay10_eq (H : Vec Ideal S256x2048 .bf16) (W : Vec Ideal S1024x2048 .bf16) : k0_pay10 H W = rowsBy H W := by
  funext i
  obtain ⟨r, l, rfl⟩ : ∃ r l, i = ix2 r l := ⟨i 0, i 1, eq_ix2 i⟩
  pointwise [k0_pay10, rowsBy]

/-- The four stripes fill the scratch with the weight's block. -/
theorem scratch_filled (c : Dev nD) (i : grid0.Coords) (arg2 : Memref sig .tc .vmem S256x2048 .bf16) (harg2 : arg2.IsWhole) (arg3 : Memref sig .tc .vmem S1024x2048 .f32) (harg3 : arg3.IsWhole) (arg4 : Memref sig .tc .vmem S32x2048 .f32) (harg4 : arg4.IsWhole) (arg5 : Memref sig .tc .vmem S256x1024 .bf16) (harg5 : arg5.IsWhole) (arg6 : Memref sig .tc .vmem S1024x2048 .bf16) (harg6 : arg6.IsWhole) (hc0 : cond0_0 i) (hc1 : cond0_1 i) (hc2 : ¬cond0_2 i)
       (x0 : Vec Ideal S256x2048 .bf16) (x1 : Vec Ideal S1024x2048 .f32) (x2 : Vec Ideal S32x2048 .f32) :
    Filled (φ := .bf16) x1 1024 (kernelRun0_A (F := Ideal) c i arg2 harg2 arg3 harg3 arg4 harg4 arg5 harg5 arg6 harg6 hc0 hc1 hc2 x0 x1 x2).2.1 := by
  refine filled_step 768 1024 _ _ _ rfl (fun x => (pay4_apply _ x).trans (harg3.readAt_unread x1 (Rect.unit (s := S1024x2048) ![768, 0] S256x2048.size inb_S1024x2048_S256x2048_768_0).toLoadRect x)) ?_
  refine filled_step 512 768 _ _ _ rfl (fun x => (pay3_apply _ x).trans (harg3.readAt_unread x1 (Rect.unit (s := S1024x2048) ![512, 0] S256x2048.size inb_S1024x2048_S256x2048_512_0).toLoadRect x)) ?_
  refine filled_step 256 512 _ _ _ rfl (fun x => (pay2_apply _ x).trans (harg3.readAt_unread x1 (Rect.unit (s := S1024x2048) ![256, 0] S256x2048.size inb_S1024x2048_S256x2048_256_0).toLoadRect x)) ?_
  refine filled_step 0 256 _ _ _ rfl (fun x => (pay1_apply _ x).trans (harg3.readAt_unread x1 (Rect.unit (s := S1024x2048) ![0, 0] S256x2048.size inb_S1024x2048_S256x2048_0_0).toLoadRect x)) ?_
  exact filled_zero _ _

/-- What a step leaves in its output block. -/
theorem out_A (c : Dev nD) (i : grid0.Coords) (arg2 : Memref sig .tc .vmem S256x2048 .bf16) (harg2 : arg2.IsWhole) (arg3 : Memref sig .tc .vmem S1024x2048 .f32) (harg3 : arg3.IsWhole) (arg4 : Memref sig .tc .vmem S32x2048 .f32) (harg4 : arg4.IsWhole) (arg5 : Memref sig .tc .vmem S256x1024 .bf16) (harg5 : arg5.IsWhole) (arg6 : Memref sig .tc .vmem S1024x2048 .bf16) (harg6 : arg6.IsWhole) (hc0 : cond0_0 i) (hc1 : cond0_1 i) (hc2 : ¬cond0_2 i)
       (x0 : Vec Ideal S256x2048 .bf16) (x1 : Vec Ideal S1024x2048 .f32) (x2 : Vec Ideal S32x2048 .f32) :
    out0_A_3 (F := Ideal) c i arg2 harg2 arg3 harg3 arg4 harg4 arg5 harg5 arg6 harg6 hc0 hc1 hc2 x0 x1 x2 = rowsBy x0 x1 := by
  unfold out0_A_3
  rw [View.read_writes_junk_eq_canon]
  refine (View.canon_cons_unit_lit' (S := S256x1024) (off := ![0, 0]) inb_S256x1024_S256x1024_0_0 _ _ (by decide)).trans ?_
  refine (pay10_eq _ _).trans ?_
  have e0 := readAt_whole harg2 x0 inb_S256x2048_S256x2048_0_0 (by decide)
  have e1 := readCov_filled arg6.view _ _ (scratch_filled c i arg2 harg2 arg3 harg3 arg4 harg4 arg5 harg5 arg6 harg6 hc0 hc1 hc2 x0 x1 x2) inb_S1024x2048_S1024x2048_0_0
  exact congr (congrArg rowsBy e0) e1

variable (m : (ℓ : Loc nD τ sig) → Buf (Elt Ideal) ℓ) (c : Dev nD)

/-- The rows that the call projects. -/
abbrev aH : Vec Ideal S256x2048 .bf16 := m ((c : Thread nD τ).loc main_arg0)
/-- The weight as it is given. -/
abbrev aW : Vec Ideal S1x2048x6176 .f32 := m ((c : Thread nD τ).loc main_arg1)

/-- Row `l` of the transposed weight as the call finds it. -/
theorem V_v1 (l : Fin 6176) (k : Fin 2048) : (V m c main_v1 : Vec Ideal S6176x2048 .f32) (ix2 l k) = aW m c (ix3 0 k l) := by
  have e : (V m c main_v1 : Vec Ideal S6176x2048 .f32)
      = transpose S6176x2048 [1, 0] (shapeCast S2048x6176 (aW m c) shapeCasts_S1x2048x6176_S2048x6176) transposes_S2048x6176_S6176x2048_1_0 := by
    simp only [V, hostOps0]
    after_results_simp
    rfl
  rw [e]
  pointwise

/-- The printed index maps over the grid. -/
theorem idx0 : ∀ t : Fin cfg0.N, win0_0.index t (0 : Fin 2) = 0 ∧ win0_0.index t (1 : Fin 2) = 0 := (by decide +kernel : ∀ t : Fin grid0.N, _)
/-- The weight's block is the step's. -/
theorem idx1 : ∀ t : Fin cfg0.N, win0_1.index t (0 : Fin 2) = t.val ∧ win0_1.index t (1 : Fin 2) = 0 := (by decide +kernel : ∀ t : Fin grid0.N, _)
/-- The result's block is the step's. -/
theorem idx3 : ∀ t : Fin cfg0.N, win0_3.index t (0 : Fin 2) = 0 ∧ win0_3.index t (1 : Fin 2) = t.val := (by decide +kernel : ∀ t : Fin grid0.N, _)
/-- Every step writes its block of the result. -/
theorem flush3 : ∀ t : Fin cfg0.N, (cfg0.win 3).flush t = true := (by decide +kernel : ∀ t : Fin grid0.N, win0_3.flush t = true)

variable (t : Fin cfg0.N)

/-- Every step reads the whole of the rows. -/
theorem iblk0 : (iblk m c 0 t : Vec Ideal S256x2048 .bf16) = aH m c := by
  funext y
  refine (congrFun (V_main_arg0 m c) (((cfg0.win 0).blk t).view.emb y)).trans (congrArg (aH m c) ?_)
  obtain ⟨e0, e1⟩ := idx0 t
  funext a
  match a with
  | ⟨0, _⟩ => apply Fin.ext; show win0_0.index t (0 : Fin 2) * 256 + 1 * (y 0).val = (y 0).val; omega
  | ⟨1, _⟩ => apply Fin.ext; show win0_0.index t (1 : Fin 2) * 2048 + 1 * (y 1).val = (y 1).val; omega

/-- The weight's column that step `t` reads in its row `r`. -/
def colOf (t : ℕ) (r : Fin 1024) : Fin 6176 := ⟨(1024 * t + r.val) % 6176, Nat.mod_lt _ (by decide)⟩

/-- A step's block of the weight. -/
theorem wblk (r : Fin 1024) (k : Fin 2048) : (X0_1 m c t : Vec Ideal S1024x2048 .f32) (ix2 r k) = aW m c (ix3 0 k (colOf t.val r)) := by
  refine Eq.trans ?_ (V_v1 m c (colOf t.val r) k)
  unfold X0_1 Pipeline.Window.fill
  refine (dif_pos (moved0_1 t (ix2 r k : S1024x2048.Idx))).trans ?_
  refine congrArg (V m c main_v1 : Vec Ideal S6176x2048 .f32) ?_
  have ht : t.val < 2 := lt_of_lt_of_eq t.isLt N_0
  have hr : r.val < 1024 := r.isLt
  obtain ⟨e0, e1⟩ := idx1 t
  funext a
  match a with
  | ⟨0, _⟩ => apply Fin.ext; show win0_1.index t (0 : Fin 2) * 1024 + 1 * r.val = (1024 * t.val + r.val) % 6176; omega
  | ⟨1, _⟩ => apply Fin.ext; show win0_1.index t (1 : Fin 2) * 2048 + 1 * k.val = k.val; omega

/-- What a step leaves in its output block, from the arguments. -/
theorem outs (r : Fin 256) (l : Fin 1024) : (outsAt0 m c t : Vec Ideal S256x1024 .bf16) (ix2 r l)
    = ∑ k : Fin 2048, aH m c (ix2 r k) * aW m c (ix3 0 k (colOf t.val l)) := by
  unfold outsAt0
  refine (congrFun (out_A ..) (ix2 r l)).trans ?_
  refine Finset.sum_congr rfl fun k _ => ?_
  exact congr (congrArg HMul.hMul (congrFun (iblk0 m c t) (ix2 r k))) (wblk m c t l k)

/-- The result's array at the end. -/
theorem result (r : Fin 256) (j : Fin 2048) : ((dats m 0 c).arrAt 3 cfg0.N : Vec Ideal S256x2048 .bf16) (ix2 r j)
    = ∑ k : Fin 2048, aH m c (ix2 r k) * aW m c (ix3 0 k (⟨j.val, lt_trans j.isLt (by decide)⟩ : Fin 6176)) := by
  have hj : j.val < 2048 := j.isLt
  have ht : j.val / 1024 < 2 := by omega
  obtain ⟨t, et⟩ : ∃ t : Fin cfg0.N, t.val = j.val / 1024 := ⟨⟨j.val / 1024, lt_of_lt_of_eq ht N_0.symm⟩, rfl⟩
  have hl : j.val % 1024 < 1024 := Nat.mod_lt _ (by decide)
  have e := congrFun ((Cert.InpIdeal.Value.blocks3 m c t (flush3 t)).trans (Cert.InpIdeal.Value.flushed3 m c t)) (ix2 r (⟨j.val % 1024, hl⟩ : Fin 1024) : S256x1024.Idx)
  have ee : ((cfg0.win 3).blk t).view.emb (ix2 r (⟨j.val % 1024, hl⟩ : Fin 1024) : S256x1024.Idx) = (ix2 r j : S256x2048.Idx) := by
    obtain ⟨e0, e1⟩ := idx3 t
    funext a
    match a with
    | ⟨0, _⟩ => apply Fin.ext; show win0_3.index t (0 : Fin 2) * 256 + 1 * r.val = r.val; omega
    | ⟨1, _⟩ => apply Fin.ext; show win0_3.index t (1 : Fin 2) * 1024 + 1 * (j.val % 1024) = j.val; omega
  refine (congrArg ((dats m 0 c).arrAt 3 cfg0.N : Vec Ideal S256x2048 .bf16) ee).symm.trans (e.trans ?_)
  refine Eq.trans ?_ ((outs m c t r ⟨j.val % 1024, hl⟩).trans ?_)
  · show (outsAt0 m c t : Vec Ideal S256x1024 .bf16) ((cfg0.win 3).xinj (grid0.coords t) (ix2 r (⟨j.val % 1024, hl⟩ : Fin 1024) : S256x1024.Idx)) = _
    congr 1
  · refine Finset.sum_congr rfl fun k _ => congrArg (fun q : Fin 6176 => aH m c (ix2 r k) * aW m c (ix3 0 k q)) (Fin.ext ?_)
    show (1024 * t.val + j.val % 1024) % 6176 = j.val
    omega

end Cert.InpIdeal.Hand
-- ==== Proof.InpClaims.lean ====
module

public import proofs.«01_k».proof.Defs
public import proofs.«01_k».proof.Proof.InpArray
public import proofs.«01_k».proof.Proof.Gen.InpIdeal.Frame
public import proofs.«01_k».proof.Proof.Gen.Inp.Frame
public import proofs.«01_k».proof.Proof.Gen.InpRefIdeal.Read
public import Idealize.ShloMosaic.Lib.Quiescent

/-! The claims about the projection of the context rows. -/

@[expose] public section
noncomputable section
open Idealize.ShloMosaic Idealize.ShloMosaic.Pointwise Idealize.ShloMosaic.TcCoe Idealize.SL.Sem

namespace Cert.Proof.InpClaims
open Cert.InpIdeal.Hand Cert.InpRefIdeal.Read

/-- The kernel ends, with its arguments unchanged and its counters at zero. -/
theorem frame_p : Cert.quiescent_Inp := fun m ρ _ => Cert.Inp.Gen.frame m ρ
/-- So does its idealized text. -/
theorem frame_pi : Cert.quiescent_InpIdeal := fun m ρ _ => Cert.InpIdeal.Gen.frame m ρ
/-- The reference ends, with its arguments unchanged and its counters at zero. -/
theorem frame_ri : Cert.quiescent_InpRefIdeal := fun m ρ _ =>
  (θ_run Cert.InpRefIdeal.defs _ _).mono (fun r h => ⟨fun c => (h c).2, sem_eq_zero_of_no_sems (by decide) r.2⟩)
    (Cert.InpRefIdeal.Value.run (F := Ideal) m ρ)
/-- The idealized text is the kernel's. -/
theorem preserves : Cert.preserves_Inp_InpIdeal := trivial

/-- The reference's result at row `r` and column `j`. -/
theorem ref_apply (H : Vec Ideal Cert.InpIdeal.S256x2048 .bf16) (W : Vec Ideal Cert.InpIdeal.S1x2048x6176 .f32) (r : Fin 256) (j : Fin 2048) :
    val_main_v4 (F := Ideal) H W (ix2 r j)
      = ∑ k : Fin 2048, H (ix2 r k) * W (ix3 0 k (⟨j.val, lt_trans j.isLt (by decide)⟩ : Fin 6176)) := by
  refine (val_main_v3_apply (F := Ideal) H W (ix2 r j)).trans ((val_main_v2_apply H W _).trans ?_)
  refine Finset.sum_congr rfl fun k _ => ?_
  refine congr (congrArg HMul.hMul ?_) ?_
  · refine congrArg H ?_
    funext a
    match a with
    | ⟨0, _⟩ => rfl
    | ⟨1, _⟩ => rfl
  · refine (val_main_v1_apply (F := Ideal) W _).trans (congrArg W ?_)
    have hj : j.val < 2048 := j.isLt
    have hk : k.val < 2048 := k.isLt
    funext a
    match a with
    | ⟨0, _⟩ => rfl
    | ⟨1, _⟩ => apply Fin.ext; show (k.val * 6176 + j.val) / 6176 % 2048 = k.val; omega
    | ⟨2, _⟩ => apply Fin.ext; show (k.val * 6176 + j.val) % 6176 = j.val; omega

/-- From arguments that agree, the kernel and the reference end with equal results. -/
theorem algebraic : Cert.algebraic_InpIdeal_InpRefIdeal := by
  intro m ρ m' ρ' _ hagree
  refine ⟨fun c => (Cert.InpIdeal.Gen.dats m 0 c).arrAt 3 Cert.InpIdeal.cfg0.N, Cert.InpIdeal.Value.run_blocks (F := Ideal) m ρ, ?_⟩
  refine (θ_run Cert.InpRefIdeal.defs _ _).mono (fun _ h c => ⟨(h c).1.trans ?_, (h c).2⟩)
    (Cert.InpRefIdeal.Value.run (F := Ideal) m' ρ')
  obtain ⟨h0, h1⟩ := hagree c
  rw [Cert.InpRefIdeal.Read.val_main_v4_eq]
  change val_main_v4 (F := Ideal) (m' ((c.tc : Thread Cert.InpRefIdeal.nD Cert.InpRefIdeal.τ).loc Cert.InpRefIdeal.main_arg0)) (m' ((c.tc : Thread Cert.InpRefIdeal.nD Cert.InpRefIdeal.τ).loc Cert.InpRefIdeal.main_arg1)) = _
  rw [h0, h1]
  funext y
  obtain ⟨r, j, rfl⟩ : ∃ (r : Fin 256) (j : Fin 2048), y = ix2 r j := ⟨y 0, y 1, eq_ix2 y⟩
  exact (ref_apply (aH m c) (aW m c) r j).trans (result m c r j).symm

end Cert.Proof.InpClaims
-- ==== Proof.PreArray.lean ====
module

public import proofs.«01_k».proof.Proof.Gen.PreIdeal.Value
public import Idealize.ShloMosaic.Lib.Pointwise
public import Idealize.ShloMosaic.Lib.WholeRead
public import Idealize.ShloMosaic.Lib.Pipeline.ReadBack
public import Idealize.ShloMosaic.Lib.Pipeline.ValueKit

/-! The modulated norm of the context rows and their low-rank columns: what the call stores, what its blocks read of the
arguments, and what the results' arrays hold at the end. -/

@[expose] public section
set_option maxRecDepth 16384
noncomputable section
open Idealize.ShloMosaic Idealize.ShloMosaic.Pointwise Idealize.ShloMosaic.TcCoe

namespace Cert.PreIdeal.Hand
open Cert.PreIdeal Cert.PreIdeal.Gen

/-- The reciprocal root of the mean square of row `r`, with the norm's small constant. -/
def inv (X : Vec Ideal S256x2048 .f32) (r : Fin 256) : EReal :=
  Ideal.rsqrt (Ideal.div (∑ k : Fin 2048, X (ix2 r k) * X (ix2 r k)) (Ideal.ofBits .f32 0x45000000#32) + Ideal.ofBits .f32 0x358637BD#32)

/-- The modulated norm of the rows: the row over its root mean square, times the gain, plus the shift. -/
def normMod (X : Vec Ideal S256x2048 .f32) (sh g : Fin 2048 → EReal) : Vec Ideal S256x2048 .bf16 :=
  fun i => X i * inv X (i 0) * g (i 1) + sh (i 1)

/-- The second row of a block of eight. -/
def row8 (X : Vec Ideal S8x2048 .f32) : Fin 2048 → EReal := fun l => X (ix2 1 l)
/-- The modulated gain: the norm's gain times one plus the scale. -/
def gain (X : Vec Ideal S1x2048 .f32) (S : Vec Ideal S8x2048 .f32) : Fin 2048 → EReal :=
  fun l => X (ix2 0 l) * (Ideal.ofBits .f32 0x3F800000#32 + S (ix2 1 l))
/-- The product of the rows of one array with the rows of another. -/
def rowsBy (H : Vec Ideal S256x2048 .bf16) (W : Vec Ideal S128x2048 .f32) : Vec Ideal S256x128 .bf16 :=
  fun i => ∑ k : Fin 2048, H (ix2 (i 0) k) * W (ix2 (i 1) k)

/-- One entry of a stripe of the modulated norm. -/
theorem stripe_apply (sh : Vec Ideal S1x2048 .f32) (g : FVec Ideal S1x2048 .f32) (x : Vec Ideal S16x2048 .f32) (r : Fin 16) (l : Fin 2048) :
    k0_pay6 sh g x (ix2 r l) = x (ix2 r l) * Ideal.rsqrt (Ideal.div (∑ k : Fin 2048, x (ix2 r k) * x (ix2 r k)) (Ideal.ofBits .f32 0x45000000#32)
      + Ideal.ofBits .f32 0x358637BD#32) * g (ix2 0 l) + sh (ix2 0 l) := by
  pointwise [k0_pay6]

/-- The row of gains: the norm's gain times one plus the scale. -/
theorem pay2_apply (a b : Vec Ideal S1x2048 .f32) (l : Fin 2048) :
    k0_pay2 a b (ix2 0 l) = a (ix2 0 l) * (Ideal.ofBits .f32 0x3F800000#32 + b (ix2 0 l)) := by
  pointwise [k0_pay2]

/-- The stored low-rank columns. -/
theorem pay1_eq (H : Vec Ideal S256x2048 .bf16) (W : Vec Ideal S128x2048 .f32) : k0_pay1 (k0_pay24 H) W = rowsBy H W := by
  funext i
  obtain ⟨r, l, rfl⟩ : ∃ r l, i = ix2 r l := ⟨i 0, i 1, eq_ix2 i⟩
  pointwise [k0_pay1, k0_pay24, rowsBy]

/-- A load of the second row of a memref of eight rows that holds `X`. -/
theorem readAt_row {sig : RefSig} {κ : Kind} {sp : Space} {M : Memref sig κ sp S8x2048 .f32} (hM : M.IsWhole) (X : Vec Ideal S8x2048 .f32)
    (inb : ∀ a, (![1, 0] : Fin S8x2048.rank → ℕ) a + S1x2048.size a ≤ S8x2048.size a) (l : Fin 2048) :
    View.readAt (Elt Ideal) M.view (Rect.unit (s := S8x2048) ![1, 0] S1x2048.size inb).toLoadRect (hM.unread X) (ix2 0 l) = X (ix2 1 l) := by
  refine (hM.readAt_unread X _ _).trans (congrArg X ?_)
  funext a
  match a with
  | ⟨0, _⟩ => rfl
  | ⟨1, _⟩ => apply Fin.ext; show 0 + 1 * l.val = l.val; omega

/-- A load of the whole of a memref that holds `X`. -/
theorem readAt_whole {sig : RefSig} {κ : Kind} {sp : Space} {S : Shape} {e : EltTy} {M : Memref sig κ sp S e} (hM : M.IsWhole)
    (X : Vec Ideal S e) {off : Fin S.rank → ℕ} (inb : ∀ a, off a + S.size a ≤ S.size a) (h : ∀ a, off a = 0) :
    View.readAt (Elt Ideal) M.view (Rect.unit off S.size inb).toLoadRect (hM.unread X) = X := by
  have hz : off = fun _ => 0 := funext h
  subst hz
  funext j
  refine (hM.readAt_unread X _ j).trans (congrArg X ?_)
  funext a
  apply Fin.ext
  show 0 + 1 * (j a).val = (j a).val
  omega

/-- The place in the block of entry `(r, l)` of the stripe that begins at row `off`. -/
theorem emb_stripe (off : ℕ) (h : ∀ a, (![off, 0] : Fin S256x2048.rank → ℕ) a + S16x2048.size a ≤ S256x2048.size a) (r : Fin 16) (l : Fin 2048)
    (hr : off + r.val < 256) :
    (Rect.unit (s := S256x2048) ![off, 0] S16x2048.size h).emb (ix2 r l) = (ix2 (⟨off + r.val, hr⟩ : Fin 256) l : S256x2048.Idx) := by
  funext a
  match a with
  | ⟨0, _⟩ => apply Fin.ext; show off + 1 * r.val = off + r.val; omega
  | ⟨1, _⟩ => apply Fin.ext; show 0 + 1 * l.val = l.val; omega

/-- An index off the stripe that begins at row `off`. -/
theorem not_mem_stripe (off : ℕ) (h : ∀ a, (![off, 0] : Fin S256x2048.rank → ℕ) a + S16x2048.size a ≤ S256x2048.size a) (y : S256x2048.Idx)
    (hy : (y 0).val < off ∨ off + 16 ≤ (y 0).val) : y ∉ (Rect.unit (s := S256x2048) ![off, 0] S16x2048.size h).set := by
  rw [Rect.mem_set_unit]
  intro hh
  have h0 : off ≤ (y 0).val ∧ (y 0).val < off + 16 := hh 0
  omega

/-- An index on the stripe that begins at row `off` is the place of one of the stripe's entries. -/
theorem mem_stripe (off : ℕ) (h : ∀ a, (![off, 0] : Fin S256x2048.rank → ℕ) a + S16x2048.size a ≤ S256x2048.size a) (y : S256x2048.Idx)
    (h1 : off ≤ (y 0).val) (h2 : (y 0).val < off + 16) :
    ∃ (r : Fin 16) (l : Fin 2048), y = (Rect.unit (s := S256x2048) ![off, 0] S16x2048.size h).emb (ix2 r l) := by
  refine ⟨⟨(y 0).val - off, by omega⟩, y 1, ?_⟩
  have e : (y 0).val < 256 := (y 0).isLt
  refine (eq_ix2 y).trans (Eq.trans ?_ (emb_stripe off h _ _ (by show off + ((y 0).val - off) < 256; omega)).symm)
  refine congrArg (fun q : Fin 256 => (ix2 q (y 1) : S256x2048.Idx)) (Fin.ext ?_)
  show (y 0).val = off + ((y 0).val - off)
  omega

/-- The writes `L` have filled the rows below `n` with `G`. -/
def Filled {φ : EltTy} (G : Vec Ideal S256x2048 φ) (n : ℕ) (L : List (View.Piece (Elt Ideal) S256x2048 φ)) : Prop :=
  ∀ y : S256x2048.Idx, (y 0).val < n → View.canon L y = G y

/-- Nothing is filled at first. -/
theorem filled_zero {φ : EltTy} (G : Vec Ideal S256x2048 φ) (L : List (View.Piece (Elt Ideal) S256x2048 φ)) : Filled G 0 L :=
  fun _ h => absurd h (Nat.not_lt_zero _)

/-- One more stripe that holds its rows of `G`. -/
theorem filled_step {φ : EltTy} {G : Vec Ideal S256x2048 φ} (off n : ℕ)
    (h : ∀ a, (![off, 0] : Fin S256x2048.rank → ℕ) a + S16x2048.size a ≤ S256x2048.size a)
    (w : S16x2048.Idx → Elt Ideal φ) (L : List (View.Piece (Elt Ideal) S256x2048 φ)) (hn : n = off + 16)
    (hw : ∀ x, w x = G ((Rect.unit (s := S256x2048) ![off, 0] S16x2048.size h).emb x)) (hL : Filled G off L) :
    Filled G n (⟨Rect.unit (s := S256x2048) ![off, 0] S16x2048.size h, w⟩ :: L) := by
  subst hn
  intro y hy
  by_cases hc : (y 0).val < off
  · rw [View.canon_cons_of_not_mem ⟨Rect.unit (s := S256x2048) ![off, 0] S16x2048.size h, w⟩ L (not_mem_stripe off h y (.inl hc))]
    exact hL y hc
  · have hc' : off ≤ (y 0).val := Nat.le_of_not_lt hc
    have hh := mem_stripe off h y hc' hy
    clear hc hc' hy
    obtain ⟨r, l, e⟩ := hh
    rw [e]
    exact (View.canon_cons_emb _ _ _ _).trans (hw _)

/-- A stripe of the modulated norm computed from the block's rows. -/
theorem stripe_eq (X : Vec Ideal S256x2048 .f32) (sh : Vec Ideal S1x2048 .f32) (g : FVec Ideal S1x2048 .f32) (off : ℕ)
    (h : ∀ a, (![off, 0] : Fin S256x2048.rank → ℕ) a + S16x2048.size a ≤ S256x2048.size a)
    (xs : Vec Ideal S16x2048 .f32) (hxs : ∀ j, xs j = X ((Rect.unit (s := S256x2048) ![off, 0] S16x2048.size h).emb j)) (x : S16x2048.Idx) :
    k0_pay6 sh g xs x = normMod X (fun l => sh (ix2 0 l)) (fun l => g (ix2 0 l)) ((Rect.unit (s := S256x2048) ![off, 0] S16x2048.size h).emb x) := by
  obtain ⟨r, l, rfl⟩ : ∃ r l, x = ix2 r l := ⟨x 0, x 1, eq_ix2 x⟩
  have h0 : off + 16 ≤ 256 := h 0
  have hr : off + r.val < 256 := by have := r.isLt; omega
  rw [stripe_apply]
  simp only [hxs, emb_stripe off h r _ hr]
  rfl

/-- A load of a whole block that the writes have filled. -/
theorem readCov_filled {sig : RefSig} {κ : Kind} {sp : Space} {φ : EltTy} (v : View sig κ sp S256x2048 φ) (G : Vec Ideal S256x2048 φ)
    (L : List (View.Piece (Elt Ideal) S256x2048 φ)) (hL : Filled G 256 L)
    (inb : ∀ a, (![0, 0] : Fin S256x2048.rank → ℕ) a + S256x2048.size a ≤ S256x2048.size a) :
    v.readCov L (Rect.unit (s := S256x2048) ![0, 0] S256x2048.size inb).toLoadRect = G := by
  rw [View.readCov_eq_canon']
  have e : View.canon L = G := funext fun y => hL y (y 0).isLt
  rw [e]
  exact View.ld_unit_lit' inb G (by decide)

/-- The sixteen stripes hold the modulated norm of the rows. -/
theorem rows_filled' (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S128x2048 .f32) (harg5 : arg5.IsWhole) (arg6 : Memref sig .tc .vmem S256x2048 .bf16) (harg6 : arg6.IsWhole) (arg7 : Memref sig .tc .vmem S256x128 .bf16) (harg7 : arg7.IsWhole)
       (x0 : Vec Ideal S256x2048 .f32) (x1 : Vec Ideal S1x2048 .f32) (x2 : Vec Ideal S8x2048 .f32) (x3 : Vec Ideal S8x2048 .f32) (x4 : Vec Ideal S128x2048 .f32) :
    Filled (φ := .bf16) (normMod x0 (fun l => (View.readAt (Elt Ideal) arg3.view (Rect.unit (s := S8x2048) ![1, 0] S1x2048.size inb_S8x2048_S1x2048_1_0).toLoadRect (harg3.unread x2)) (ix2 0 l))
      (fun l => (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) (ix2 0 l))) 256 (kernelRun0_A (F := Ideal) c i arg1 harg1 arg2 harg2 arg3 harg3 arg4 harg4 arg5 harg5 arg6 harg6 arg7 harg7 x0 x1 x2 x3 x4).1 := by
  refine filled_step 240 256 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 240 _ _ (fun j => harg1.readAt_unread x0 (Rect.unit (s := S256x2048) ![240, 0] S16x2048.size inb_S256x2048_S16x2048_240_0).toLoadRect j) x) ?_
  refine filled_step 224 240 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 224 _ _ (fun j => harg1.readAt_unread x0 (Rect.unit (s := S256x2048) ![224, 0] S16x2048.size inb_S256x2048_S16x2048_224_0).toLoadRect j) x) ?_
  refine filled_step 208 224 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 208 _ _ (fun j => harg1.readAt_unread x0 (Rect.unit (s := S256x2048) ![208, 0] S16x2048.size inb_S256x2048_S16x2048_208_0).toLoadRect j) x) ?_
  refine filled_step 192 208 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 192 _ _ (fun j => harg1.readAt_unread x0 (Rect.unit (s := S256x2048) ![192, 0] S16x2048.size inb_S256x2048_S16x2048_192_0).toLoadRect j) x) ?_
  refine filled_step 176 192 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 176 _ _ (fun j => harg1.readAt_unread x0 (Rect.unit (s := S256x2048) ![176, 0] S16x2048.size inb_S256x2048_S16x2048_176_0).toLoadRect j) x) ?_
  refine filled_step 160 176 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 160 _ _ (fun j => harg1.readAt_unread x0 (Rect.unit (s := S256x2048) ![160, 0] S16x2048.size inb_S256x2048_S16x2048_160_0).toLoadRect j) x) ?_
  refine filled_step 144 160 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 144 _ _ (fun j => harg1.readAt_unread x0 (Rect.unit (s := S256x2048) ![144, 0] S16x2048.size inb_S256x2048_S16x2048_144_0).toLoadRect j) x) ?_
  refine filled_step 128 144 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 128 _ _ (fun j => harg1.readAt_unread x0 (Rect.unit (s := S256x2048) ![128, 0] S16x2048.size inb_S256x2048_S16x2048_128_0).toLoadRect j) x) ?_
  refine filled_step 112 128 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 112 _ _ (fun j => harg1.readAt_unread x0 (Rect.unit (s := S256x2048) ![112, 0] S16x2048.size inb_S256x2048_S16x2048_112_0).toLoadRect j) x) ?_
  refine filled_step 96 112 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 96 _ _ (fun j => harg1.readAt_unread x0 (Rect.unit (s := S256x2048) ![96, 0] S16x2048.size inb_S256x2048_S16x2048_96_0).toLoadRect j) x) ?_
  refine filled_step 80 96 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 80 _ _ (fun j => harg1.readAt_unread x0 (Rect.unit (s := S256x2048) ![80, 0] S16x2048.size inb_S256x2048_S16x2048_80_0).toLoadRect j) x) ?_
  refine filled_step 64 80 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 64 _ _ (fun j => harg1.readAt_unread x0 (Rect.unit (s := S256x2048) ![64, 0] S16x2048.size inb_S256x2048_S16x2048_64_0).toLoadRect j) x) ?_
  refine filled_step 48 64 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 48 _ _ (fun j => harg1.readAt_unread x0 (Rect.unit (s := S256x2048) ![48, 0] S16x2048.size inb_S256x2048_S16x2048_48_0).toLoadRect j) x) ?_
  refine filled_step 32 48 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 32 _ _ (fun j => harg1.readAt_unread x0 (Rect.unit (s := S256x2048) ![32, 0] S16x2048.size inb_S256x2048_S16x2048_32_0).toLoadRect j) x) ?_
  refine filled_step 16 32 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 16 _ _ (fun j => harg1.readAt_unread x0 (Rect.unit (s := S256x2048) ![16, 0] S16x2048.size inb_S256x2048_S16x2048_16_0).toLoadRect j) x) ?_
  refine filled_step 0 16 _ _ _ rfl (fun x => stripe_eq x0 (View.readAt (Elt Ideal) arg3.view (Rect.unit (s := S8x2048) ![1, 0] S1x2048.size inb_S8x2048_S1x2048_1_0).toLoadRect (harg3.unread x2)) (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) 0 _ _ (fun j => harg1.readAt_unread x0 (Rect.unit (s := S256x2048) ![0, 0] S16x2048.size inb_S256x2048_S16x2048_0_0).toLoadRect j) x) ?_
  exact filled_zero _ _

/-- The stripes hold the modulated norm, with the gain and the shift that the blocks hold. -/
theorem rows_filled (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S128x2048 .f32) (harg5 : arg5.IsWhole) (arg6 : Memref sig .tc .vmem S256x2048 .bf16) (harg6 : arg6.IsWhole) (arg7 : Memref sig .tc .vmem S256x128 .bf16) (harg7 : arg7.IsWhole)
       (x0 : Vec Ideal S256x2048 .f32) (x1 : Vec Ideal S1x2048 .f32) (x2 : Vec Ideal S8x2048 .f32) (x3 : Vec Ideal S8x2048 .f32) (x4 : Vec Ideal S128x2048 .f32) :
    Filled (φ := .bf16) (normMod x0 (row8 x2) (gain x1 x3)) 256 (kernelRun0_A (F := Ideal) c i arg1 harg1 arg2 harg2 arg3 harg3 arg4 harg4 arg5 harg5 arg6 harg6 arg7 harg7 x0 x1 x2 x3 x4).1 := by
  have e1 : (fun l : Fin 2048 => (View.readAt (Elt Ideal) arg3.view (Rect.unit (s := S8x2048) ![1, 0] S1x2048.size inb_S8x2048_S1x2048_1_0).toLoadRect (harg3.unread x2)) (ix2 0 l)) = row8 x2 := funext fun l => readAt_row harg3 x2 _ l
  have e3 : (fun l : Fin 2048 => (k0_pay2 (View.readAt (Elt Ideal) arg2.view (Rect.unit (s := S1x2048) ![0, 0] S1x2048.size inb_S1x2048_S1x2048_0_0).toLoadRect (harg2.unread x1)) (View.readAt (Elt Ideal) arg4.view (Rect.unit (s := S8x2048) ![1, 0] S1x2048.size inb_S8x2048_S1x2048_1_0).toLoadRect (harg4.unread x3))) (ix2 0 l)) = gain x1 x3 := funext fun l => by
    rw [pay2_apply, readAt_whole harg2 x1 _ (by decide)]
    exact congrArg (fun t => x1 (ix2 0 l) * (Ideal.ofBits .f32 0x3F800000#32 + t)) (readAt_row harg4 x3 _ l)
  have h := rows_filled' c i arg1 harg1 arg2 harg2 arg3 harg3 arg4 harg4 arg5 harg5 arg6 harg6 arg7 harg7 x0 x1 x2 x3 x4
  intro y hy
  refine (h y hy).trans ?_
  exact congrFun (congr (congrArg (normMod x0) e1) e3) y

/-- What the call leaves in the block of the norm. -/
theorem out_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S128x2048 .f32) (harg5 : arg5.IsWhole) (arg6 : Memref sig .tc .vmem S256x2048 .bf16) (harg6 : arg6.IsWhole) (arg7 : Memref sig .tc .vmem S256x128 .bf16) (harg7 : arg7.IsWhole)
       (x0 : Vec Ideal S256x2048 .f32) (x1 : Vec Ideal S1x2048 .f32) (x2 : Vec Ideal S8x2048 .f32) (x3 : Vec Ideal S8x2048 .f32) (x4 : Vec Ideal S128x2048 .f32) :
    out0_A_5 (F := Ideal) c i arg1 harg1 arg2 harg2 arg3 harg3 arg4 harg4 arg5 harg5 arg6 harg6 arg7 harg7 x0 x1 x2 x3 x4 = normMod x0 (row8 x2) (gain x1 x3) := by
  unfold out0_A_5
  rw [View.read_writes_junk_eq_canon]
  funext y
  exact rows_filled c i arg1 harg1 arg2 harg2 arg3 harg3 arg4 harg4 arg5 harg5 arg6 harg6 arg7 harg7 x0 x1 x2 x3 x4 y (y 0).isLt

/-- What the call leaves in the block of the low-rank columns. -/
theorem out_6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S128x2048 .f32) (harg5 : arg5.IsWhole) (arg6 : Memref sig .tc .vmem S256x2048 .bf16) (harg6 : arg6.IsWhole) (arg7 : Memref sig .tc .vmem S256x128 .bf16) (harg7 : arg7.IsWhole)
       (x0 : Vec Ideal S256x2048 .f32) (x1 : Vec Ideal S1x2048 .f32) (x2 : Vec Ideal S8x2048 .f32) (x3 : Vec Ideal S8x2048 .f32) (x4 : Vec Ideal S128x2048 .f32) :
    out0_A_6 (F := Ideal) c i arg1 harg1 arg2 harg2 arg3 harg3 arg4 harg4 arg5 harg5 arg6 harg6 arg7 harg7 x0 x1 x2 x3 x4 = rowsBy (normMod x0 (row8 x2) (gain x1 x3)) x4 := by
  unfold out0_A_6
  rw [View.read_writes_junk_eq_canon]
  refine (View.canon_cons_unit_lit' (S := S256x128) (off := ![0, 0]) inb_S256x128_S256x128_0_0 _ _ (by decide)).trans ?_
  refine (pay1_eq _ _).trans ?_
  have e0 := readCov_filled arg6.view _ _ (rows_filled c i arg1 harg1 arg2 harg2 arg3 harg3 arg4 harg4 arg5 harg5 arg6 harg6 arg7 harg7 x0 x1 x2 x3 x4) inb_S256x2048_S256x2048_0_0
  have e1 := readAt_whole harg5 x4 inb_S128x2048_S128x2048_0_0 (by decide)
  exact congr (congrArg rowsBy e0) e1

variable (m : (ℓ : Loc nD τ sig) → Buf (Elt Ideal) ℓ) (c : Dev nD)

/-- The context rows. -/
abbrev aX : Vec Ideal S256x2048 .f32 := m ((c : Thread nD τ).loc main_arg0)
/-- The norm's gain. -/
abbrev aG : Vec Ideal S1x2048 .f32 := m ((c : Thread nD τ).loc main_arg1)
/-- The modulation. -/
abbrev aM : Vec Ideal S8x4096 .f32 := m ((c : Thread nD τ).loc main_arg2)
/-- The weight as it is given. -/
abbrev aW : Vec Ideal S1x2048x6176 .f32 := m ((c : Thread nD τ).loc main_arg3)

/-- Row `l` of the transposed weight as the call finds it. -/
theorem V_v1 (l : Fin 6176) (k : Fin 2048) : (V m c main_v1 : Vec Ideal S6176x2048 .f32) (ix2 l k) = aW m c (ix3 0 k l) := by
  have e : (V m c main_v1 : Vec Ideal S6176x2048 .f32)
      = transpose S6176x2048 [1, 0] (shapeCast S2048x6176 (aW m c) shapeCasts_S1x2048x6176_S2048x6176) transposes_S2048x6176_S6176x2048_1_0 := by
    simp only [V, hostOps0]
    after_results_simp
    rfl
  rw [e]
  pointwise

/-- The gain's row as the call finds it. -/
theorem V_v3 (l : Fin 2048) : (V m c main_v3 : Vec Ideal S1x2048 .f32) (ix2 0 l) = aG m c (ix2 0 l) := by
  have e : (V m c main_v3 : Vec Ideal S1x2048 .f32) = broadcastInDim S1x2048 ![1] bcast_S2048_S1x2048_1 (shapeCast S2048 (aG m c) shapeCasts_S1x2048_S2048) := by
    simp only [V, hostOps0]
    after_results_simp
    rfl
  rw [e]
  pointwise

/-- The printed index map of operand 0 over the grid. -/
theorem idx0 : ∀ t : Fin cfg0.N, win0_0.index t (0 : Fin 2) = 0 ∧ win0_0.index t (1 : Fin 2) = 0 := (by decide +kernel : ∀ t : Fin grid0.N, _)
/-- The printed index map of operand 1 over the grid. -/
theorem idx1 : ∀ t : Fin cfg0.N, win0_1.index t (0 : Fin 2) = 0 ∧ win0_1.index t (1 : Fin 2) = 0 := (by decide +kernel : ∀ t : Fin grid0.N, _)
/-- The printed index map of operand 2 over the grid. -/
theorem idx2 : ∀ t : Fin cfg0.N, win0_2.index t (0 : Fin 2) = 0 ∧ win0_2.index t (1 : Fin 2) = 0 := (by decide +kernel : ∀ t : Fin grid0.N, _)
/-- The printed index map of operand 3 over the grid. -/
theorem idx3 : ∀ t : Fin cfg0.N, win0_3.index t (0 : Fin 2) = 0 ∧ win0_3.index t (1 : Fin 2) = 1 := (by decide +kernel : ∀ t : Fin grid0.N, _)
/-- The printed index map of operand 4 over the grid. -/
theorem idx4 : ∀ t : Fin cfg0.N, win0_4.index t (0 : Fin 2) = 24 ∧ win0_4.index t (1 : Fin 2) = 0 := (by decide +kernel : ∀ t : Fin grid0.N, _)
/-- The printed index map of operand 5 over the grid. -/
theorem idx5 : ∀ t : Fin cfg0.N, win0_5.index t (0 : Fin 2) = 0 ∧ win0_5.index t (1 : Fin 2) = 0 := (by decide +kernel : ∀ t : Fin grid0.N, _)
/-- The printed index map of operand 6 over the grid. -/
theorem idx6 : ∀ t : Fin cfg0.N, win0_6.index t (0 : Fin 2) = 0 ∧ win0_6.index t (1 : Fin 2) = 0 := (by decide +kernel : ∀ t : Fin grid0.N, _)
/-- The norm's block is written at the end. -/
theorem flush5 : ∀ t : Fin cfg0.N, (cfg0.win 5).flush t = true := (by decide +kernel : ∀ t : Fin grid0.N, win0_5.flush t = true)
/-- The block of the low-rank columns is written at the end. -/
theorem flush6 : ∀ t : Fin cfg0.N, (cfg0.win 6).flush t = true := (by decide +kernel : ∀ t : Fin grid0.N, win0_6.flush t = true)

variable (t : Fin cfg0.N)

/-- The call reads the whole of the rows. -/
theorem iblk0 : (iblk m c 0 t : Vec Ideal S256x2048 .f32) = aX m c := by
  funext y
  refine (congrFun (V_main_arg0 m c) (((cfg0.win 0).blk t).view.emb y)).trans (congrArg (aX m c) ?_)
  obtain ⟨e0, e1⟩ := idx0 t
  funext a
  match a with
  | ⟨0, _⟩ => apply Fin.ext; show win0_0.index t (0 : Fin 2) * 256 + 1 * (y 0).val = (y 0).val; omega
  | ⟨1, _⟩ => apply Fin.ext; show win0_0.index t (1 : Fin 2) * 2048 + 1 * (y 1).val = (y 1).val; omega

/-- The call reads the gain's row. -/
theorem iblk1 (l : Fin 2048) : (iblk m c 1 t : Vec Ideal S1x2048 .f32) (ix2 0 l) = aG m c (ix2 0 l) := by
  refine Eq.trans ?_ (V_v3 m c l)
  refine congrArg (V m c main_v3 : Vec Ideal S1x2048 .f32) (?_ : ((cfg0.win 1).blk t).view.emb (ix2 0 l : S1x2048.Idx) = ix2 0 l)
  obtain ⟨e0, e1⟩ := idx1 t
  funext a
  match a with
  | ⟨0, _⟩ => apply Fin.ext; show win0_1.index t (0 : Fin 2) * 1 + 1 * 0 = 0; omega
  | ⟨1, _⟩ => apply Fin.ext; show win0_1.index t (1 : Fin 2) * 2048 + 1 * l.val = l.val; omega

/-- Column `l` of part `p` of the modulation. -/
def modOf (p : ℕ) (l : Fin 2048) : Fin 4096 := ⟨(2048 * p + l.val) % 4096, Nat.mod_lt _ (by decide)⟩

/-- The call reads part 0 of the modulation's second row. -/
theorem iblk2 (l : Fin 2048) : (iblk m c 2 t : Vec Ideal S8x2048 .f32) (ix2 1 l) = aM m c (ix2 1 (modOf 0 l)) := by
  refine (congrFun (V_main_arg2 m c) (((cfg0.win 2).blk t).view.emb (ix2 1 l : S8x2048.Idx))).trans (congrArg (aM m c) ?_)
  have hl : l.val < 2048 := l.isLt
  obtain ⟨e0, e1⟩ := idx2 t
  funext a
  match a with
  | ⟨0, _⟩ => apply Fin.ext; show win0_2.index t (0 : Fin 2) * 8 + 1 * 1 = 1; omega
  | ⟨1, _⟩ => apply Fin.ext; show win0_2.index t (1 : Fin 2) * 2048 + 1 * l.val = (2048 * 0 + l.val) % 4096; omega

/-- The call reads part 1 of the modulation's second row. -/
theorem iblk3 (l : Fin 2048) : (iblk m c 3 t : Vec Ideal S8x2048 .f32) (ix2 1 l) = aM m c (ix2 1 (modOf 1 l)) := by
  refine (congrFun (V_main_arg2 m c) (((cfg0.win 3).blk t).view.emb (ix2 1 l : S8x2048.Idx))).trans (congrArg (aM m c) ?_)
  have hl : l.val < 2048 := l.isLt
  obtain ⟨e0, e1⟩ := idx3 t
  funext a
  match a with
  | ⟨0, _⟩ => apply Fin.ext; show win0_3.index t (0 : Fin 2) * 8 + 1 * 1 = 1; omega
  | ⟨1, _⟩ => apply Fin.ext; show win0_3.index t (1 : Fin 2) * 2048 + 1 * l.val = (2048 * 1 + l.val) % 4096; omega

/-- The weight's column of low-rank column `r`. -/
def colOf (r : Fin 128) : Fin 6176 := ⟨3072 + r.val, lt_of_lt_of_le (Nat.add_lt_add_left r.isLt 3072) (by decide)⟩

/-- The call's block of the weight. -/
theorem wblk (r : Fin 128) (k : Fin 2048) : (X0_4 m c t : Vec Ideal S128x2048 .f32) (ix2 r k) = aW m c (ix3 0 k (colOf r)) := by
  refine Eq.trans ?_ (V_v1 m c (colOf r) k)
  unfold X0_4 Pipeline.Window.fill
  refine (dif_pos (moved0_4 t (ix2 r k : S128x2048.Idx))).trans ?_
  refine congrArg (V m c main_v1 : Vec Ideal S6176x2048 .f32) ?_
  obtain ⟨e0, e1⟩ := idx4 t
  funext a
  match a with
  | ⟨0, _⟩ => apply Fin.ext; show win0_4.index t (0 : Fin 2) * 128 + 1 * r.val = 3072 + r.val; omega
  | ⟨1, _⟩ => apply Fin.ext; show win0_4.index t (1 : Fin 2) * 2048 + 1 * k.val = k.val; omega

/-- The modulated norm of the context, from the arguments. -/
def H : Vec Ideal S256x2048 .bf16 :=
  normMod (aX m c) (fun l => aM m c (ix2 1 (modOf 0 l))) (fun l => aG m c (ix2 0 l) * (Ideal.ofBits .f32 0x3F800000#32 + aM m c (ix2 1 (modOf 1 l))))

/-- The norm of the blocks is that of the arguments. -/
theorem norm_eq : normMod (iblk m c 0 t : Vec Ideal S256x2048 .f32) (row8 (iblk m c 2 t)) (gain (iblk m c 1 t) (iblk m c 3 t)) = H m c := by
  have e2 : row8 (iblk m c 2 t) = fun l => aM m c (ix2 1 (modOf 0 l)) := funext fun l => iblk2 m c t l
  have e3 : gain (iblk m c 1 t) (iblk m c 3 t) = fun l => aG m c (ix2 0 l) * (Ideal.ofBits .f32 0x3F800000#32 + aM m c (ix2 1 (modOf 1 l))) :=
    funext fun l => congrArg₂ (fun p q : EReal => p * (Ideal.ofBits .f32 0x3F800000#32 + q)) (iblk1 m c t l) (iblk3 m c t l)
  exact congr (congr (congrArg normMod (iblk0 m c t)) e2) e3

/-- What the call leaves in the block of the norm, from the arguments. -/
theorem outs5 : (outsAt0 m c t).1 = H m c := by
  unfold outsAt0
  dsimp only
  rw [out_5]
  exact norm_eq m c t

/-- What the call leaves in the block of the low-rank columns, from the arguments. -/
theorem outs6 (r : Fin 256) (l : Fin 128) : (outsAt0 m c t).2 (ix2 r l) = ∑ k : Fin 2048, H m c (ix2 r k) * aW m c (ix3 0 k (colOf l)) := by
  unfold outsAt0
  dsimp only
  rw [out_6]
  refine Finset.sum_congr rfl fun k _ => ?_
  exact congr (congrArg HMul.hMul (congrFun (norm_eq m c t) (ix2 r k))) (wblk m c t l k)

/-- The grid's point. -/
def pt : Fin cfg0.N := ⟨0, lt_of_lt_of_eq Nat.one_pos N_0.symm⟩

/-- The array of result 5 at the end is its block. -/
theorem arr5 (y : S256x2048.Idx) : ((dats m 0 c).arrAt 5 cfg0.N : Vec Ideal S256x2048 .bf16) y = (outsAt0 m c t).1 y := by
  have ee : ((cfg0.win 5).blk t).view.emb y = y := by
    obtain ⟨e0, e1⟩ := idx5 t
    funext a
    match a with
    | ⟨0, _⟩ => apply Fin.ext; show win0_5.index t (0 : Fin 2) * 256 + 1 * (y 0).val = (y 0).val; omega
    | ⟨1, _⟩ => apply Fin.ext; show win0_5.index t (1 : Fin 2) * 2048 + 1 * (y 1).val = (y 1).val; omega
  have e := congrFun ((Cert.PreIdeal.Value.blocks5 m c t (flush5 t)).trans (Cert.PreIdeal.Value.flushed5 m c t)) y
  refine (congrArg ((dats m 0 c).arrAt 5 cfg0.N : Vec Ideal S256x2048 .bf16) ee).symm.trans (e.trans ?_)
  show (outsAt0 m c t).1 ((cfg0.win 5).xinj (grid0.coords t) y) = _
  exact congrArg (outsAt0 m c t).1 (funext fun _ => Fin.ext rfl)

/-- The array of result 6 at the end is its block. -/
theorem arr6 (y : S256x128.Idx) : ((dats m 0 c).arrAt 6 cfg0.N : Vec Ideal S256x128 .bf16) y = (outsAt0 m c t).2 y := by
  have ee : ((cfg0.win 6).blk t).view.emb y = y := by
    obtain ⟨e0, e1⟩ := idx6 t
    funext a
    match a with
    | ⟨0, _⟩ => apply Fin.ext; show win0_6.index t (0 : Fin 2) * 256 + 1 * (y 0).val = (y 0).val; omega
    | ⟨1, _⟩ => apply Fin.ext; show win0_6.index t (1 : Fin 2) * 128 + 1 * (y 1).val = (y 1).val; omega
  have e := congrFun ((Cert.PreIdeal.Value.blocks6 m c t (flush6 t)).trans (Cert.PreIdeal.Value.flushed6 m c t)) y
  refine (congrArg ((dats m 0 c).arrAt 6 cfg0.N : Vec Ideal S256x128 .bf16) ee).symm.trans (e.trans ?_)
  show (outsAt0 m c t).2 ((cfg0.win 6).xinj (grid0.coords t) y) = _
  exact congrArg (outsAt0 m c t).2 (funext fun _ => Fin.ext rfl)

end Cert.PreIdeal.Hand
-- ==== Proof.PreClaims.lean ====
module

public import proofs.«01_k».proof.Defs
public import proofs.«01_k».proof.Proof.PreArray
public import proofs.«01_k».proof.Proof.Gen.PreIdeal.Frame
public import proofs.«01_k».proof.Proof.Gen.Pre.Frame
public import proofs.«01_k».proof.Proof.Gen.PreRefIdeal.Read
public import Idealize.ShloMosaic.Lib.Quiescent

/-! The claims about the modulated norm of the context rows. -/

@[expose] public section
set_option maxRecDepth 16384
noncomputable section
open Idealize.ShloMosaic Idealize.ShloMosaic.Pointwise Idealize.ShloMosaic.TcCoe Idealize.SL.Sem

namespace Cert.Proof.PreClaims
open Cert.PreIdeal.Hand Cert.PreRefIdeal.Read

/-- The kernel ends, with its arguments unchanged and its counters at zero. -/
theorem frame_p : Cert.quiescent_Pre := fun m ρ _ => Cert.Pre.Gen.frame m ρ
/-- So does its idealized text. -/
theorem frame_pi : Cert.quiescent_PreIdeal := fun m ρ _ => Cert.PreIdeal.Gen.frame m ρ
/-- The reference ends, with its arguments unchanged and its counters at zero. -/
theorem frame_ri : Cert.quiescent_PreRefIdeal := fun m ρ _ =>
  (θ_run Cert.PreRefIdeal.defs _ _).mono (fun r h => ⟨fun c => (h c).2.2, sem_eq_zero_of_no_sems (by decide) r.2⟩)
    (Cert.PreRefIdeal.Value.run (F := Ideal) m ρ)
/-- The idealized text is the kernel's. -/
theorem preserves : Cert.preserves_Pre_PreIdeal := trivial

section
variable (x0 : Vec Ideal Cert.PreIdeal.S256x2048 .f32) (x1 : Vec Ideal Cert.PreIdeal.S1x2048 .f32) (x2 : Vec Ideal Cert.PreIdeal.S8x4096 .f32)
  (x3 : Vec Ideal Cert.PreIdeal.S1x2048x6176 .f32)

/-- The reference's reciprocal root of a row's mean square. -/
theorem v8_eq (n : Fin 256) : val_main_v8 (F := Ideal) x0 (ix2 n 0) = Cert.PreIdeal.Hand.inv x0 n := by
  pointwise [val_main_v1, val_main_v2, val_main_v3, val_main_v4, val_main_v5, val_main_v6, val_main_v7, val_main_v8, val_main_cst, val_main_cst_0, val_main_cst_1, Cert.PreIdeal.Hand.inv]

/-- The reference's modulated norm at row `n` and column `l`. -/
theorem v26_eq (n : Fin 256) (l : Fin 2048) : val_main_v26 (F := Ideal) x0 x1 x2 (ix2 n l)
    = x0 (ix2 n l) * Cert.PreIdeal.Hand.inv x0 n * x1 (ix2 0 l) * (Ideal.ofBits .f32 0x3F800000#32 + x2 (ix2 1 ⟨2048 + l.val, by omega⟩))
      + x2 (ix2 1 ⟨l.val, by omega⟩) := by
  have h := v8_eq x0 n
  generalize hv : val_main_v8 (F := Ideal) x0 = y at h
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v0, val_main_cst_2, hv]
  rw [← h]

/-- The reference's low-rank columns at row `n` and column `j`. -/
theorem v31_eq (n : Fin 256) (j : Fin 128) : val_main_v31 (F := Ideal) x0 x1 x2 x3 (ix2 n j)
    = ∑ k : Fin 2048, val_main_v26 (F := Ideal) x0 x1 x2 (ix2 n k) * x3 (ix3 0 k (colOf j)) := by
  refine (val_main_v30_apply (F := Ideal) x0 x1 x2 x3 (ix2 n j)).trans ((val_main_v29_apply x0 x1 x2 x3 _).trans ?_)
  refine Finset.sum_congr rfl fun k _ => ?_
  refine congr (congrArg HMul.hMul ?_) ?_
  · refine congrArg (val_main_v26 (F := Ideal) x0 x1 x2) ?_
    funext a
    match a with
    | ⟨0, _⟩ => rfl
    | ⟨1, _⟩ => rfl
  · refine (val_main_v28_apply (F := Ideal) x3 _).trans (congrArg x3 ?_)
    have hj : j.val < 128 := j.isLt
    have hk : k.val < 2048 := k.isLt
    funext a
    match a with
    | ⟨0, _⟩ => rfl
    | ⟨1, _⟩ => apply Fin.ext; show (k.val * 6176 + (3072 + j.val)) / 6176 % 2048 = k.val; omega
    | ⟨2, _⟩ => apply Fin.ext; show (k.val * 6176 + (3072 + j.val)) % 6176 = 3072 + j.val; omega
end

variable (m : (ℓ : Loc Cert.PreIdeal.nD Cert.PreIdeal.τ Cert.PreIdeal.sig) → Buf (Elt Ideal) ℓ) (c : Dev Cert.PreIdeal.nD)

/-- The kernel's modulated norm is the reference's. -/
theorem H_eq (n : Fin 256) (l : Fin 2048) : val_main_v26 (F := Ideal) (aX m c) (aG m c) (aM m c) (ix2 n l) = H m c (ix2 n l) := by
  rw [v26_eq, mul_assoc (_ * _) (aG m c _)]
  have e0 : modOf 0 l = ⟨l.val, by omega⟩ := Fin.ext (by show (2048 * 0 + l.val) % 4096 = _; simp only; omega)
  have e1 : modOf 1 l = ⟨2048 + l.val, by omega⟩ := Fin.ext (by show (2048 * 1 + l.val) % 4096 = _; simp only; omega)
  rw [← e0, ← e1]
  rfl

/-- The first results agree. -/
theorem result0 : val_main_v26 (F := Ideal) (aX m c) (aG m c) (aM m c) = (Cert.PreIdeal.Gen.dats m 0 c).arrAt 5 Cert.PreIdeal.cfg0.N := by
  funext y
  obtain ⟨r, j, rfl⟩ : ∃ (r : Fin 256) (j : Fin 2048), y = ix2 r j := ⟨y 0, y 1, eq_ix2 y⟩
  exact (H_eq m c r j).trans ((arr5 m c pt (ix2 r j)).trans (congrFun (outs5 m c pt) (ix2 r j))).symm

/-- The second results agree. -/
theorem result1 : val_main_v31 (F := Ideal) (aX m c) (aG m c) (aM m c) (aW m c) = (Cert.PreIdeal.Gen.dats m 0 c).arrAt 6 Cert.PreIdeal.cfg0.N := by
  funext y
  obtain ⟨r, j, rfl⟩ : ∃ (r : Fin 256) (j : Fin 128), y = ix2 r j := ⟨y 0, y 1, eq_ix2 y⟩
  refine (v31_eq (aX m c) (aG m c) (aM m c) (aW m c) r j).trans (Eq.trans ?_ ((arr6 m c pt (ix2 r j)).trans (outs6 m c pt r j)).symm)
  exact Finset.sum_congr rfl fun k _ => congrArg (fun q : EReal => q * aW m c (ix3 0 k (colOf j))) (H_eq m c r k)

/-- From arguments that agree, the kernel and the reference end with equal results. -/
theorem algebraic : Cert.algebraic_PreIdeal_PreRefIdeal := by
  intro m ρ m' ρ' _ hagree
  refine ⟨fun c => (Cert.PreIdeal.Gen.dats m 0 c).arrAt 5 Cert.PreIdeal.cfg0.N, fun c => (Cert.PreIdeal.Gen.dats m 0 c).arrAt 6 Cert.PreIdeal.cfg0.N,
    Cert.PreIdeal.Value.run_blocks (F := Ideal) m ρ, ?_⟩
  refine (θ_run Cert.PreRefIdeal.defs _ _).mono ?_ (Cert.PreRefIdeal.Value.run (F := Ideal) m' ρ')
  intro r h c
  obtain ⟨r0, r1, kept⟩ := h c
  obtain ⟨h0, h1, h2, h3⟩ := hagree c
  refine ⟨r0.trans ?_, r1.trans ?_, kept⟩
  · rw [Cert.PreRefIdeal.Read.val_main_v26_eq]
    change val_main_v26 (F := Ideal) (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2)) = _
    rw [h0, h1, h2]
    exact result0 m c
  · rw [Cert.PreRefIdeal.Read.val_main_v31_eq]
    change val_main_v31 (F := Ideal) (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2)) (m' ((c.tc : Thread Cert.PreRefIdeal.nD Cert.PreRefIdeal.τ).loc Cert.PreRefIdeal.main_arg3)) = _
    rw [h0, h1, h2, h3]
    exact result1 m c

end Cert.Proof.PreClaims
-- ==== Proof.lean ====
module

public import proofs.«01_k».proof.Defs
public import proofs.«01_k».proof.Proof.GlaClaims
public import proofs.«01_k».proof.Proof.FfnClaims
public import proofs.«01_k».proof.Proof.InpClaims
public import proofs.«01_k».proof.Proof.PreClaims

@[expose] public section

noncomputable section

namespace Cert.Proof

/-- Everything claimed. -/
theorem claim : Cert.Claim :=
  ⟨Cert.Gla.Gen.facts, Cert.GlaIdeal.Gen.facts, Cert.GlaRefIdeal.Gen.facts, Cert.Ffn.Gen.facts, Cert.FfnIdeal.Gen.facts,
    Cert.FfnRefIdeal.Gen.facts, Cert.Inp.Gen.facts, Cert.InpIdeal.Gen.facts, Cert.InpRefIdeal.Gen.facts,
    Cert.Pre.Gen.facts, Cert.PreIdeal.Gen.facts, Cert.PreRefIdeal.Gen.facts, Cert.Pre_finite.Gen.facts,
    GlaClaims.frame_p, GlaClaims.frame_pi, GlaClaims.frame_ri, FfnClaims.frame_p, FfnClaims.frame_pi, FfnClaims.frame_pi_pre,
    FfnClaims.frame_ri, FfnClaims.frame_ri_pre, InpClaims.frame_p, InpClaims.frame_pi, InpClaims.frame_ri,
    PreClaims.frame_p, PreClaims.frame_pi, PreClaims.frame_ri, GlaClaims.preserves, GlaClaims.algebraic, FfnClaims.preserves, FfnClaims.algebraic,
    InpClaims.preserves, InpClaims.algebraic, PreClaims.preserves, PreClaims.algebraic⟩

end Cert.Proof

end
